-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ZKernel (m : (ℓ : Loc Cert.ZKernel.nD Cert.ZKernel.τ Cert.ZKernel.sig) → Buf (Elt Bits) ℓ) : Prop :=
  True

def Pre_ZKernelIdeal (m : (ℓ : Loc Cert.ZKernelIdeal.nD Cert.ZKernelIdeal.τ Cert.ZKernelIdeal.sig) → Buf (Elt Ideal) ℓ) : Prop :=
  True

def Pre_ZReferenceIdeal (m : (ℓ : Loc Cert.ZReferenceIdeal.nD Cert.ZReferenceIdeal.τ Cert.ZReferenceIdeal.sig) → Buf (Elt Ideal) ℓ) : Prop :=
  True

def Pre_XbcKernel (m : (ℓ : Loc Cert.XbcKernel.nD Cert.XbcKernel.τ Cert.XbcKernel.sig) → Buf (Elt Bits) ℓ) : Prop :=
  True

def Pre_XbcKernelIdeal (m : (ℓ : Loc Cert.XbcKernelIdeal.nD Cert.XbcKernelIdeal.τ Cert.XbcKernelIdeal.sig) → Buf (Elt Ideal) ℓ) : Prop :=
  True

def Pre_XbcReferenceIdeal (m : (ℓ : Loc Cert.XbcReferenceIdeal.nD Cert.XbcReferenceIdeal.τ Cert.XbcReferenceIdeal.sig) → Buf (Elt Ideal) ℓ) : Prop :=
  True

def Pre_GatesKernel (m : (ℓ : Loc Cert.GatesKernel.nD Cert.GatesKernel.τ Cert.GatesKernel.sig) → Buf (Elt Bits) ℓ) : Prop :=
  True

def Pre_GatesKernelIdeal (m : (ℓ : Loc Cert.GatesKernelIdeal.nD Cert.GatesKernelIdeal.τ Cert.GatesKernelIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_BranchKernel (m : (ℓ : Loc Cert.BranchKernel.nD Cert.BranchKernel.τ Cert.BranchKernel.sig) → Buf (Elt Bits) ℓ) : Prop :=
  True

def Pre_BranchKernelIdeal (m : (ℓ : Loc Cert.BranchKernelIdeal.nD Cert.BranchKernelIdeal.τ Cert.BranchKernelIdeal.sig) → Buf (Elt Ideal) ℓ) : Prop :=
  True

def Pre_BranchReferenceIdeal (m : (ℓ : Loc Cert.BranchReferenceIdeal.nD Cert.BranchReferenceIdeal.τ Cert.BranchReferenceIdeal.sig) → Buf (Elt Ideal) ℓ) : Prop :=
  True

def Pre_DtKernel (m : (ℓ : Loc Cert.DtKernel.nD Cert.DtKernel.τ Cert.DtKernel.sig) → Buf (Elt Bits) ℓ) : Prop :=
  True

def Pre_DtKernelIdeal (m : (ℓ : Loc Cert.DtKernelIdeal.nD Cert.DtKernelIdeal.τ Cert.DtKernelIdeal.sig) → Buf (Elt Ideal) ℓ) : Prop :=
  True

def Pre_DtReferenceIdeal (m : (ℓ : Loc Cert.DtReferenceIdeal.nD Cert.DtReferenceIdeal.τ Cert.DtReferenceIdeal.sig) → Buf (Elt Ideal) ℓ) : Prop :=
  True

def Pre_QkvKernel (m : (ℓ : Loc Cert.QkvKernel.nD Cert.QkvKernel.τ Cert.QkvKernel.sig) → Buf (Elt Bits) ℓ) : Prop :=
  True

def Pre_QkvKernelIdeal (m : (ℓ : Loc Cert.QkvKernelIdeal.nD Cert.QkvKernelIdeal.τ Cert.QkvKernelIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_LastKernel (m : (ℓ : Loc Cert.LastKernel.nD Cert.LastKernel.τ Cert.LastKernel.sig) → Buf (Elt Bits) ℓ) : Prop :=
  True

def Pre_LastKernelIdeal (m : (ℓ : Loc Cert.LastKernelIdeal.nD Cert.LastKernelIdeal.τ Cert.LastKernelIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_ExpertsKernel [hPre_experts_named : Cert.Pre_experts_named.Facts] (m : (ℓ : Loc Cert.ExpertsKernel.nD Cert.ExpertsKernel.τ Cert.ExpertsKernel.sig) → Buf (Elt Bits) ℓ) : Prop :=
  ∀ c : Dev Cert.ExpertsKernel.nD,
    (Cert.Pre_experts_named.fn (F := Bits) (m ((c.tc : Thread Cert.ExpertsKernel.nD Cert.ExpertsKernel.τ).loc Cert.ExpertsKernel.main_arg0)) (m ((c.tc : Thread Cert.ExpertsKernel.nD Cert.ExpertsKernel.τ).loc Cert.ExpertsKernel.main_arg1)) (m ((c.tc : Thread Cert.ExpertsKernel.nD Cert.ExpertsKernel.τ).loc Cert.ExpertsKernel.main_arg2)) (m ((c.tc : Thread Cert.ExpertsKernel.nD Cert.ExpertsKernel.τ).loc Cert.ExpertsKernel.main_arg3)) (m ((c.tc : Thread Cert.ExpertsKernel.nD Cert.ExpertsKernel.τ).loc Cert.ExpertsKernel.main_arg4)) (m ((c.tc : Thread Cert.ExpertsKernel.nD Cert.ExpertsKernel.τ).loc Cert.ExpertsKernel.main_arg5))) = (fun _ => 1#1)

def Pre_ExpertsKernelIdeal [hPre_experts_named : Cert.Pre_experts_named.Facts] (m : (ℓ : Loc Cert.ExpertsKernelIdeal.nD Cert.ExpertsKernelIdeal.τ Cert.ExpertsKernelIdeal.sig) → Buf (Elt Ideal) ℓ) : Prop :=
  ∀ c : Dev Cert.ExpertsKernelIdeal.nD,
    (Cert.Pre_experts_named.fn (F := Ideal) (m ((c.tc : Thread Cert.ExpertsKernelIdeal.nD Cert.ExpertsKernelIdeal.τ).loc Cert.ExpertsKernelIdeal.main_arg0)) (m ((c.tc : Thread Cert.ExpertsKernelIdeal.nD Cert.ExpertsKernelIdeal.τ).loc Cert.ExpertsKernelIdeal.main_arg1)) (m ((c.tc : Thread Cert.ExpertsKernelIdeal.nD Cert.ExpertsKernelIdeal.τ).loc Cert.ExpertsKernelIdeal.main_arg2)) (m ((c.tc : Thread Cert.ExpertsKernelIdeal.nD Cert.ExpertsKernelIdeal.τ).loc Cert.ExpertsKernelIdeal.main_arg3)) (m ((c.tc : Thread Cert.ExpertsKernelIdeal.nD Cert.ExpertsKernelIdeal.τ).loc Cert.ExpertsKernelIdeal.main_arg4)) (m ((c.tc : Thread Cert.ExpertsKernelIdeal.nD Cert.ExpertsKernelIdeal.τ).loc Cert.ExpertsKernelIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_experts_named [hPre_experts_named : Cert.Pre_experts_named.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_experts_named.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def Pre_CondKernel (m : (ℓ : Loc Cert.CondKernel.nD Cert.CondKernel.τ Cert.CondKernel.sig) → Buf (Elt Bits) ℓ) : Prop :=
  True

def Pre_CondKernelIdeal (m : (ℓ : Loc Cert.CondKernelIdeal.nD Cert.CondKernelIdeal.τ Cert.CondKernelIdeal.sig) → Buf (Elt Ideal) ℓ) : Prop :=
  True

def Pre_CondReferenceIdeal (m : (ℓ : Loc Cert.CondReferenceIdeal.nD Cert.CondReferenceIdeal.τ Cert.CondReferenceIdeal.sig) → Buf (Elt Ideal) ℓ) : Prop :=
  True

def Pre_RopeKernel (m : (ℓ : Loc Cert.RopeKernel.nD Cert.RopeKernel.τ Cert.RopeKernel.sig) → Buf (Elt Bits) ℓ) : Prop :=
  True

def Pre_RopeKernelIdeal (m : (ℓ : Loc Cert.RopeKernelIdeal.nD Cert.RopeKernelIdeal.τ Cert.RopeKernelIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ZKernel [hZKernel : Cert.ZKernel.Facts] : Prop :=
  ∀ (m : (ℓ : Loc Cert.ZKernel.nD Cert.ZKernel.τ Cert.ZKernel.sig) → Buf (Elt Bits) ℓ) (g : Dev Cert.ZKernel.nD → PrngReg), Pre_ZKernel m →
    θ_run (Cert.ZKernel.defs (F := Bits)) (onTc (τ := Cert.ZKernel.τ) (Cert.ZKernel.main (F := Bits))) ⟨m, fun _ => 0, g⟩ (fun r => (∀ c : Dev Cert.ZKernel.nD,
      r.2.mem ((c.tc : Thread Cert.ZKernel.nD Cert.ZKernel.τ).loc Cert.ZKernel.main_arg0) = m ((c.tc : Thread Cert.ZKernel.nD Cert.ZKernel.τ).loc Cert.ZKernel.main_arg0)
      ∧ r.2.mem ((c.tc : Thread Cert.ZKernel.nD Cert.ZKernel.τ).loc Cert.ZKernel.main_arg1) = m ((c.tc : Thread Cert.ZKernel.nD Cert.ZKernel.τ).loc Cert.ZKernel.main_arg1))
      ∧ r.2.sem = fun _ => 0)

def quiescent_ZKernelIdeal [hZKernelIdeal : Cert.ZKernelIdeal.Facts] : Prop :=
  ∀ (m : (ℓ : Loc Cert.ZKernelIdeal.nD Cert.ZKernelIdeal.τ Cert.ZKernelIdeal.sig) → Buf (Elt Ideal) ℓ) (g : Dev Cert.ZKernelIdeal.nD → PrngReg), Pre_ZKernelIdeal m →
    θ_run (Cert.ZKernelIdeal.defs (F := Ideal)) (onTc (τ := Cert.ZKernelIdeal.τ) (Cert.ZKernelIdeal.main (F := Ideal))) ⟨m, fun _ => 0, g⟩ (fun r => (∀ c : Dev Cert.ZKernelIdeal.nD,
      r.2.mem ((c.tc : Thread Cert.ZKernelIdeal.nD Cert.ZKernelIdeal.τ).loc Cert.ZKernelIdeal.main_arg0) = m ((c.tc : Thread Cert.ZKernelIdeal.nD Cert.ZKernelIdeal.τ).loc Cert.ZKernelIdeal.main_arg0)
      ∧ r.2.mem ((c.tc : Thread Cert.ZKernelIdeal.nD Cert.ZKernelIdeal.τ).loc Cert.ZKernelIdeal.main_arg1) = m ((c.tc : Thread Cert.ZKernelIdeal.nD Cert.ZKernelIdeal.τ).loc Cert.ZKernelIdeal.main_arg1))
      ∧ r.2.sem = fun _ => 0)

def quiescent_ZReferenceIdeal [hZReferenceIdeal : Cert.ZReferenceIdeal.Facts] : Prop :=
  ∀ (m : (ℓ : Loc Cert.ZReferenceIdeal.nD Cert.ZReferenceIdeal.τ Cert.ZReferenceIdeal.sig) → Buf (Elt Ideal) ℓ) (g : Dev Cert.ZReferenceIdeal.nD → PrngReg), Pre_ZReferenceIdeal m →
    θ_run (Cert.ZReferenceIdeal.defs (F := Ideal)) (onTc (τ := Cert.ZReferenceIdeal.τ) (Cert.ZReferenceIdeal.main (F := Ideal))) ⟨m, fun _ => 0, g⟩ (fun r => (∀ c : Dev Cert.ZReferenceIdeal.nD,
      r.2.mem ((c.tc : Thread Cert.ZReferenceIdeal.nD Cert.ZReferenceIdeal.τ).loc Cert.ZReferenceIdeal.main_arg0) = m ((c.tc : Thread Cert.ZReferenceIdeal.nD Cert.ZReferenceIdeal.τ).loc Cert.ZReferenceIdeal.main_arg0)
      ∧ r.2.mem ((c.tc : Thread Cert.ZReferenceIdeal.nD Cert.ZReferenceIdeal.τ).loc Cert.ZReferenceIdeal.main_arg1) = m ((c.tc : Thread Cert.ZReferenceIdeal.nD Cert.ZReferenceIdeal.τ).loc Cert.ZReferenceIdeal.main_arg1))
      ∧ r.2.sem = fun _ => 0)

def quiescent_XbcKernel [hXbcKernel : Cert.XbcKernel.Facts] : Prop :=
  ∀ (m : (ℓ : Loc Cert.XbcKernel.nD Cert.XbcKernel.τ Cert.XbcKernel.sig) → Buf (Elt Bits) ℓ) (g : Dev Cert.XbcKernel.nD → PrngReg), Pre_XbcKernel m →
    θ_run (Cert.XbcKernel.defs (F := Bits)) (onTc (τ := Cert.XbcKernel.τ) (Cert.XbcKernel.main (F := Bits))) ⟨m, fun _ => 0, g⟩ (fun r => (∀ c : Dev Cert.XbcKernel.nD,
      r.2.mem ((c.tc : Thread Cert.XbcKernel.nD Cert.XbcKernel.τ).loc Cert.XbcKernel.main_arg0) = m ((c.tc : Thread Cert.XbcKernel.nD Cert.XbcKernel.τ).loc Cert.XbcKernel.main_arg0)
      ∧ r.2.mem ((c.tc : Thread Cert.XbcKernel.nD Cert.XbcKernel.τ).loc Cert.XbcKernel.main_arg1) = m ((c.tc : Thread Cert.XbcKernel.nD Cert.XbcKernel.τ).loc Cert.XbcKernel.main_arg1))
      ∧ r.2.sem = fun _ => 0)

def quiescent_XbcKernelIdeal [hXbcKernelIdeal : Cert.XbcKernelIdeal.Facts] : Prop :=
  ∀ (m : (ℓ : Loc Cert.XbcKernelIdeal.nD Cert.XbcKernelIdeal.τ Cert.XbcKernelIdeal.sig) → Buf (Elt Ideal) ℓ) (g : Dev Cert.XbcKernelIdeal.nD → PrngReg), Pre_XbcKernelIdeal m →
    θ_run (Cert.XbcKernelIdeal.defs (F := Ideal)) (onTc (τ := Cert.XbcKernelIdeal.τ) (Cert.XbcKernelIdeal.main (F := Ideal))) ⟨m, fun _ => 0, g⟩ (fun r => (∀ c : Dev Cert.XbcKernelIdeal.nD,
      r.2.mem ((c.tc : Thread Cert.XbcKernelIdeal.nD Cert.XbcKernelIdeal.τ).loc Cert.XbcKernelIdeal.main_arg0) = m ((c.tc : Thread Cert.XbcKernelIdeal.nD Cert.XbcKernelIdeal.τ).loc Cert.XbcKernelIdeal.main_arg0)
      ∧ r.2.mem ((c.tc : Thread Cert.XbcKernelIdeal.nD Cert.XbcKernelIdeal.τ).loc Cert.XbcKernelIdeal.main_arg1) = m ((c.tc : Thread Cert.XbcKernelIdeal.nD Cert.XbcKernelIdeal.τ).loc Cert.XbcKernelIdeal.main_arg1))
      ∧ r.2.sem = fun _ => 0)

def quiescent_XbcReferenceIdeal [hXbcReferenceIdeal : Cert.XbcReferenceIdeal.Facts] : Prop :=
  ∀ (m : (ℓ : Loc Cert.XbcReferenceIdeal.nD Cert.XbcReferenceIdeal.τ Cert.XbcReferenceIdeal.sig) → Buf (Elt Ideal) ℓ) (g : Dev Cert.XbcReferenceIdeal.nD → PrngReg), Pre_XbcReferenceIdeal m →
    θ_run (Cert.XbcReferenceIdeal.defs (F := Ideal)) (onTc (τ := Cert.XbcReferenceIdeal.τ) (Cert.XbcReferenceIdeal.main (F := Ideal))) ⟨m, fun _ => 0, g⟩ (fun r => (∀ c : Dev Cert.XbcReferenceIdeal.nD,
      r.2.mem ((c.tc : Thread Cert.XbcReferenceIdeal.nD Cert.XbcReferenceIdeal.τ).loc Cert.XbcReferenceIdeal.main_arg0) = m ((c.tc : Thread Cert.XbcReferenceIdeal.nD Cert.XbcReferenceIdeal.τ).loc Cert.XbcReferenceIdeal.main_arg0)
      ∧ r.2.mem ((c.tc : Thread Cert.XbcReferenceIdeal.nD Cert.XbcReferenceIdeal.τ).loc Cert.XbcReferenceIdeal.main_arg1) = m ((c.tc : Thread Cert.XbcReferenceIdeal.nD Cert.XbcReferenceIdeal.τ).loc Cert.XbcReferenceIdeal.main_arg1))
      ∧ r.2.sem = fun _ => 0)

def quiescent_GatesKernel [hGatesKernel : Cert.GatesKernel.Facts] : Prop :=
  ∀ (m : (ℓ : Loc Cert.GatesKernel.nD Cert.GatesKernel.τ Cert.GatesKernel.sig) → Buf (Elt Bits) ℓ) (g : Dev Cert.GatesKernel.nD → PrngReg), Pre_GatesKernel m →
    θ_run (Cert.GatesKernel.defs (F := Bits)) (onTc (τ := Cert.GatesKernel.τ) (Cert.GatesKernel.main (F := Bits))) ⟨m, fun _ => 0, g⟩ (fun r => (∀ c : Dev Cert.GatesKernel.nD,
      r.2.mem ((c.tc : Thread Cert.GatesKernel.nD Cert.GatesKernel.τ).loc Cert.GatesKernel.main_arg0) = m ((c.tc : Thread Cert.GatesKernel.nD Cert.GatesKernel.τ).loc Cert.GatesKernel.main_arg0)
      ∧ r.2.mem ((c.tc : Thread Cert.GatesKernel.nD Cert.GatesKernel.τ).loc Cert.GatesKernel.main_arg1) = m ((c.tc : Thread Cert.GatesKernel.nD Cert.GatesKernel.τ).loc Cert.GatesKernel.main_arg1))
      ∧ r.2.sem = fun _ => 0)

def quiescent_GatesKernelIdeal [hGatesKernelIdeal : Cert.GatesKernelIdeal.Facts] : Prop :=
  ∀ (m : (ℓ : Loc Cert.GatesKernelIdeal.nD Cert.GatesKernelIdeal.τ Cert.GatesKernelIdeal.sig) → Buf (Elt Ideal) ℓ) (g : Dev Cert.GatesKernelIdeal.nD → PrngReg), Pre_GatesKernelIdeal m →
    θ_run (Cert.GatesKernelIdeal.defs (F := Ideal)) (onTc (τ := Cert.GatesKernelIdeal.τ) (Cert.GatesKernelIdeal.main (F := Ideal))) ⟨m, fun _ => 0, g⟩ (fun r => (∀ c : Dev Cert.GatesKernelIdeal.nD,
      r.2.mem ((c.tc : Thread Cert.GatesKernelIdeal.nD Cert.GatesKernelIdeal.τ).loc Cert.GatesKernelIdeal.main_arg0) = m ((c.tc : Thread Cert.GatesKernelIdeal.nD Cert.GatesKernelIdeal.τ).loc Cert.GatesKernelIdeal.main_arg0)
      ∧ r.2.mem ((c.tc : Thread Cert.GatesKernelIdeal.nD Cert.GatesKernelIdeal.τ).loc Cert.GatesKernelIdeal.main_arg1) = m ((c.tc : Thread Cert.GatesKernelIdeal.nD Cert.GatesKernelIdeal.τ).loc Cert.GatesKernelIdeal.main_arg1))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1))
      ∧ r.2.sem = fun _ => 0)

def quiescent_BranchKernel [hBranchKernel : Cert.BranchKernel.Facts] : Prop :=
  ∀ (m : (ℓ : Loc Cert.BranchKernel.nD Cert.BranchKernel.τ Cert.BranchKernel.sig) → Buf (Elt Bits) ℓ) (g : Dev Cert.BranchKernel.nD → PrngReg), Pre_BranchKernel m →
    θ_run (Cert.BranchKernel.defs (F := Bits)) (onTc (τ := Cert.BranchKernel.τ) (Cert.BranchKernel.main (F := Bits))) ⟨m, fun _ => 0, g⟩ (fun r => (∀ c : Dev Cert.BranchKernel.nD,
      r.2.mem ((c.tc : Thread Cert.BranchKernel.nD Cert.BranchKernel.τ).loc Cert.BranchKernel.main_arg0) = m ((c.tc : Thread Cert.BranchKernel.nD Cert.BranchKernel.τ).loc Cert.BranchKernel.main_arg0)
      ∧ r.2.mem ((c.tc : Thread Cert.BranchKernel.nD Cert.BranchKernel.τ).loc Cert.BranchKernel.main_arg1) = m ((c.tc : Thread Cert.BranchKernel.nD Cert.BranchKernel.τ).loc Cert.BranchKernel.main_arg1))
      ∧ r.2.sem = fun _ => 0)

def quiescent_BranchKernelIdeal [hBranchKernelIdeal : Cert.BranchKernelIdeal.Facts] : Prop :=
  ∀ (m : (ℓ : Loc Cert.BranchKernelIdeal.nD Cert.BranchKernelIdeal.τ Cert.BranchKernelIdeal.sig) → Buf (Elt Ideal) ℓ) (g : Dev Cert.BranchKernelIdeal.nD → PrngReg), Pre_BranchKernelIdeal m →
    θ_run (Cert.BranchKernelIdeal.defs (F := Ideal)) (onTc (τ := Cert.BranchKernelIdeal.τ) (Cert.BranchKernelIdeal.main (F := Ideal))) ⟨m, fun _ => 0, g⟩ (fun r => (∀ c : Dev Cert.BranchKernelIdeal.nD,
      r.2.mem ((c.tc : Thread Cert.BranchKernelIdeal.nD Cert.BranchKernelIdeal.τ).loc Cert.BranchKernelIdeal.main_arg0) = m ((c.tc : Thread Cert.BranchKernelIdeal.nD Cert.BranchKernelIdeal.τ).loc Cert.BranchKernelIdeal.main_arg0)
      ∧ r.2.mem ((c.tc : Thread Cert.BranchKernelIdeal.nD Cert.BranchKernelIdeal.τ).loc Cert.BranchKernelIdeal.main_arg1) = m ((c.tc : Thread Cert.BranchKernelIdeal.nD Cert.BranchKernelIdeal.τ).loc Cert.BranchKernelIdeal.main_arg1))
      ∧ r.2.sem = fun _ => 0)

def quiescent_BranchReferenceIdeal [hBranchReferenceIdeal : Cert.BranchReferenceIdeal.Facts] : Prop :=
  ∀ (m : (ℓ : Loc Cert.BranchReferenceIdeal.nD Cert.BranchReferenceIdeal.τ Cert.BranchReferenceIdeal.sig) → Buf (Elt Ideal) ℓ) (g : Dev Cert.BranchReferenceIdeal.nD → PrngReg), Pre_BranchReferenceIdeal m →
    θ_run (Cert.BranchReferenceIdeal.defs (F := Ideal)) (onTc (τ := Cert.BranchReferenceIdeal.τ) (Cert.BranchReferenceIdeal.main (F := Ideal))) ⟨m, fun _ => 0, g⟩ (fun r => (∀ c : Dev Cert.BranchReferenceIdeal.nD,
      r.2.mem ((c.tc : Thread Cert.BranchReferenceIdeal.nD Cert.BranchReferenceIdeal.τ).loc Cert.BranchReferenceIdeal.main_arg0) = m ((c.tc : Thread Cert.BranchReferenceIdeal.nD Cert.BranchReferenceIdeal.τ).loc Cert.BranchReferenceIdeal.main_arg0)
      ∧ r.2.mem ((c.tc : Thread Cert.BranchReferenceIdeal.nD Cert.BranchReferenceIdeal.τ).loc Cert.BranchReferenceIdeal.main_arg1) = m ((c.tc : Thread Cert.BranchReferenceIdeal.nD Cert.BranchReferenceIdeal.τ).loc Cert.BranchReferenceIdeal.main_arg1))
      ∧ r.2.sem = fun _ => 0)

def quiescent_DtKernel [hDtKernel : Cert.DtKernel.Facts] : Prop :=
  ∀ (m : (ℓ : Loc Cert.DtKernel.nD Cert.DtKernel.τ Cert.DtKernel.sig) → Buf (Elt Bits) ℓ) (g : Dev Cert.DtKernel.nD → PrngReg), Pre_DtKernel m →
    θ_run (Cert.DtKernel.defs (F := Bits)) (onTc (τ := Cert.DtKernel.τ) (Cert.DtKernel.main (F := Bits))) ⟨m, fun _ => 0, g⟩ (fun r => (∀ c : Dev Cert.DtKernel.nD,
      r.2.mem ((c.tc : Thread Cert.DtKernel.nD Cert.DtKernel.τ).loc Cert.DtKernel.main_arg0) = m ((c.tc : Thread Cert.DtKernel.nD Cert.DtKernel.τ).loc Cert.DtKernel.main_arg0)
      ∧ r.2.mem ((c.tc : Thread Cert.DtKernel.nD Cert.DtKernel.τ).loc Cert.DtKernel.main_arg1) = m ((c.tc : Thread Cert.DtKernel.nD Cert.DtKernel.τ).loc Cert.DtKernel.main_arg1))
      ∧ r.2.sem = fun _ => 0)

def quiescent_DtKernelIdeal [hDtKernelIdeal : Cert.DtKernelIdeal.Facts] : Prop :=
  ∀ (m : (ℓ : Loc Cert.DtKernelIdeal.nD Cert.DtKernelIdeal.τ Cert.DtKernelIdeal.sig) → Buf (Elt Ideal) ℓ) (g : Dev Cert.DtKernelIdeal.nD → PrngReg), Pre_DtKernelIdeal m →
    θ_run (Cert.DtKernelIdeal.defs (F := Ideal)) (onTc (τ := Cert.DtKernelIdeal.τ) (Cert.DtKernelIdeal.main (F := Ideal))) ⟨m, fun _ => 0, g⟩ (fun r => (∀ c : Dev Cert.DtKernelIdeal.nD,
      r.2.mem ((c.tc : Thread Cert.DtKernelIdeal.nD Cert.DtKernelIdeal.τ).loc Cert.DtKernelIdeal.main_arg0) = m ((c.tc : Thread Cert.DtKernelIdeal.nD Cert.DtKernelIdeal.τ).loc Cert.DtKernelIdeal.main_arg0)
      ∧ r.2.mem ((c.tc : Thread Cert.DtKernelIdeal.nD Cert.DtKernelIdeal.τ).loc Cert.DtKernelIdeal.main_arg1) = m ((c.tc : Thread Cert.DtKernelIdeal.nD Cert.DtKernelIdeal.τ).loc Cert.DtKernelIdeal.main_arg1))
      ∧ r.2.sem = fun _ => 0)

def quiescent_DtReferenceIdeal [hDtReferenceIdeal : Cert.DtReferenceIdeal.Facts] : Prop :=
  ∀ (m : (ℓ : Loc Cert.DtReferenceIdeal.nD Cert.DtReferenceIdeal.τ Cert.DtReferenceIdeal.sig) → Buf (Elt Ideal) ℓ) (g : Dev Cert.DtReferenceIdeal.nD → PrngReg), Pre_DtReferenceIdeal m →
    θ_run (Cert.DtReferenceIdeal.defs (F := Ideal)) (onTc (τ := Cert.DtReferenceIdeal.τ) (Cert.DtReferenceIdeal.main (F := Ideal))) ⟨m, fun _ => 0, g⟩ (fun r => (∀ c : Dev Cert.DtReferenceIdeal.nD,
      r.2.mem ((c.tc : Thread Cert.DtReferenceIdeal.nD Cert.DtReferenceIdeal.τ).loc Cert.DtReferenceIdeal.main_arg0) = m ((c.tc : Thread Cert.DtReferenceIdeal.nD Cert.DtReferenceIdeal.τ).loc Cert.DtReferenceIdeal.main_arg0)
      ∧ r.2.mem ((c.tc : Thread Cert.DtReferenceIdeal.nD Cert.DtReferenceIdeal.τ).loc Cert.DtReferenceIdeal.main_arg1) = m ((c.tc : Thread Cert.DtReferenceIdeal.nD Cert.DtReferenceIdeal.τ).loc Cert.DtReferenceIdeal.main_arg1))
      ∧ r.2.sem = fun _ => 0)

def quiescent_QkvKernel [hQkvKernel : Cert.QkvKernel.Facts] : Prop :=
  ∀ (m : (ℓ : Loc Cert.QkvKernel.nD Cert.QkvKernel.τ Cert.QkvKernel.sig) → Buf (Elt Bits) ℓ) (g : Dev Cert.QkvKernel.nD → PrngReg), Pre_QkvKernel m →
    θ_run (Cert.QkvKernel.defs (F := Bits)) (onTc (τ := Cert.QkvKernel.τ) (Cert.QkvKernel.main (F := Bits))) ⟨m, fun _ => 0, g⟩ (fun r => (∀ c : Dev Cert.QkvKernel.nD,
      r.2.mem ((c.tc : Thread Cert.QkvKernel.nD Cert.QkvKernel.τ).loc Cert.QkvKernel.main_arg0) = m ((c.tc : Thread Cert.QkvKernel.nD Cert.QkvKernel.τ).loc Cert.QkvKernel.main_arg0)
      ∧ r.2.mem ((c.tc : Thread Cert.QkvKernel.nD Cert.QkvKernel.τ).loc Cert.QkvKernel.main_arg1) = m ((c.tc : Thread Cert.QkvKernel.nD Cert.QkvKernel.τ).loc Cert.QkvKernel.main_arg1))
      ∧ r.2.sem = fun _ => 0)

def quiescent_QkvKernelIdeal [hQkvKernelIdeal : Cert.QkvKernelIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_LastKernel [hLastKernel : Cert.LastKernel.Facts] : Prop :=
  ∀ (m : (ℓ : Loc Cert.LastKernel.nD Cert.LastKernel.τ Cert.LastKernel.sig) → Buf (Elt Bits) ℓ) (g : Dev Cert.LastKernel.nD → PrngReg), Pre_LastKernel m →
    θ_run (Cert.LastKernel.defs (F := Bits)) (onTc (τ := Cert.LastKernel.τ) (Cert.LastKernel.main (F := Bits))) ⟨m, fun _ => 0, g⟩ (fun r => (∀ c : Dev Cert.LastKernel.nD,
      r.2.mem ((c.tc : Thread Cert.LastKernel.nD Cert.LastKernel.τ).loc Cert.LastKernel.main_arg0) = m ((c.tc : Thread Cert.LastKernel.nD Cert.LastKernel.τ).loc Cert.LastKernel.main_arg0)
      ∧ r.2.mem ((c.tc : Thread Cert.LastKernel.nD Cert.LastKernel.τ).loc Cert.LastKernel.main_arg1) = m ((c.tc : Thread Cert.LastKernel.nD Cert.LastKernel.τ).loc Cert.LastKernel.main_arg1))
      ∧ r.2.sem = fun _ => 0)

def quiescent_LastKernelIdeal [hLastKernelIdeal : Cert.LastKernelIdeal.Facts] : Prop :=
  ∀ (m : (ℓ : Loc Cert.LastKernelIdeal.nD Cert.LastKernelIdeal.τ Cert.LastKernelIdeal.sig) → Buf (Elt Ideal) ℓ) (g : Dev Cert.LastKernelIdeal.nD → PrngReg), Pre_LastKernelIdeal m →
    θ_run (Cert.LastKernelIdeal.defs (F := Ideal)) (onTc (τ := Cert.LastKernelIdeal.τ) (Cert.LastKernelIdeal.main (F := Ideal))) ⟨m, fun _ => 0, g⟩ (fun r => (∀ c : Dev Cert.LastKernelIdeal.nD,
      r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
      ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_ExpertsKernel [hExpertsKernel : Cert.ExpertsKernel.Facts] [hPre_experts_named : Cert.Pre_experts_named.Facts] : Prop :=
  ∀ (m : (ℓ : Loc Cert.ExpertsKernel.nD Cert.ExpertsKernel.τ Cert.ExpertsKernel.sig) → Buf (Elt Bits) ℓ) (g : Dev Cert.ExpertsKernel.nD → PrngReg), Pre_ExpertsKernel m →
    θ_run (Cert.ExpertsKernel.defs (F := Bits)) (onTc (τ := Cert.ExpertsKernel.τ) (Cert.ExpertsKernel.main (F := Bits))) ⟨m, fun _ => 0, g⟩ (fun r => (∀ c : Dev Cert.ExpertsKernel.nD,
      r.2.mem ((c.tc : Thread Cert.ExpertsKernel.nD Cert.ExpertsKernel.τ).loc Cert.ExpertsKernel.main_arg0) = m ((c.tc : Thread Cert.ExpertsKernel.nD Cert.ExpertsKernel.τ).loc Cert.ExpertsKernel.main_arg0)
      ∧ r.2.mem ((c.tc : Thread Cert.ExpertsKernel.nD Cert.ExpertsKernel.τ).loc Cert.ExpertsKernel.main_arg1) = m ((c.tc : Thread Cert.ExpertsKernel.nD Cert.ExpertsKernel.τ).loc Cert.ExpertsKernel.main_arg1)
      ∧ r.2.mem ((c.tc : Thread Cert.ExpertsKernel.nD Cert.ExpertsKernel.τ).loc Cert.ExpertsKernel.main_arg2) = m ((c.tc : Thread Cert.ExpertsKernel.nD Cert.ExpertsKernel.τ).loc Cert.ExpertsKernel.main_arg2)
      ∧ r.2.mem ((c.tc : Thread Cert.ExpertsKernel.nD Cert.ExpertsKernel.τ).loc Cert.ExpertsKernel.main_arg3) = m ((c.tc : Thread Cert.ExpertsKernel.nD Cert.ExpertsKernel.τ).loc Cert.ExpertsKernel.main_arg3)
      ∧ r.2.mem ((c.tc : Thread Cert.ExpertsKernel.nD Cert.ExpertsKernel.τ).loc Cert.ExpertsKernel.main_arg4) = m ((c.tc : Thread Cert.ExpertsKernel.nD Cert.ExpertsKernel.τ).loc Cert.ExpertsKernel.main_arg4)
      ∧ r.2.mem ((c.tc : Thread Cert.ExpertsKernel.nD Cert.ExpertsKernel.τ).loc Cert.ExpertsKernel.main_arg5) = m ((c.tc : Thread Cert.ExpertsKernel.nD Cert.ExpertsKernel.τ).loc Cert.ExpertsKernel.main_arg5))
      ∧ r.2.sem = fun _ => 0)

def quiescent_ExpertsKernelIdeal [hExpertsKernelIdeal : Cert.ExpertsKernelIdeal.Facts] [hPre_experts_named : Cert.Pre_experts_named.Facts] : Prop :=
  ∀ (m : (ℓ : Loc Cert.ExpertsKernelIdeal.nD Cert.ExpertsKernelIdeal.τ Cert.ExpertsKernelIdeal.sig) → Buf (Elt Ideal) ℓ) (g : Dev Cert.ExpertsKernelIdeal.nD → PrngReg), Pre_ExpertsKernelIdeal m →
    θ_run (Cert.ExpertsKernelIdeal.defs (F := Ideal)) (onTc (τ := Cert.ExpertsKernelIdeal.τ) (Cert.ExpertsKernelIdeal.main (F := Ideal))) ⟨m, fun _ => 0, g⟩ (fun r => (∀ c : Dev Cert.ExpertsKernelIdeal.nD,
      r.2.mem ((c.tc : Thread Cert.ExpertsKernelIdeal.nD Cert.ExpertsKernelIdeal.τ).loc Cert.ExpertsKernelIdeal.main_arg0) = m ((c.tc : Thread Cert.ExpertsKernelIdeal.nD Cert.ExpertsKernelIdeal.τ).loc Cert.ExpertsKernelIdeal.main_arg0)
      ∧ r.2.mem ((c.tc : Thread Cert.ExpertsKernelIdeal.nD Cert.ExpertsKernelIdeal.τ).loc Cert.ExpertsKernelIdeal.main_arg1) = m ((c.tc : Thread Cert.ExpertsKernelIdeal.nD Cert.ExpertsKernelIdeal.τ).loc Cert.ExpertsKernelIdeal.main_arg1)
      ∧ r.2.mem ((c.tc : Thread Cert.ExpertsKernelIdeal.nD Cert.ExpertsKernelIdeal.τ).loc Cert.ExpertsKernelIdeal.main_arg2) = m ((c.tc : Thread Cert.ExpertsKernelIdeal.nD Cert.ExpertsKernelIdeal.τ).loc Cert.ExpertsKernelIdeal.main_arg2)
      ∧ r.2.mem ((c.tc : Thread Cert.ExpertsKernelIdeal.nD Cert.ExpertsKernelIdeal.τ).loc Cert.ExpertsKernelIdeal.main_arg3) = m ((c.tc : Thread Cert.ExpertsKernelIdeal.nD Cert.ExpertsKernelIdeal.τ).loc Cert.ExpertsKernelIdeal.main_arg3)
      ∧ r.2.mem ((c.tc : Thread Cert.ExpertsKernelIdeal.nD Cert.ExpertsKernelIdeal.τ).loc Cert.ExpertsKernelIdeal.main_arg4) = m ((c.tc : Thread Cert.ExpertsKernelIdeal.nD Cert.ExpertsKernelIdeal.τ).loc Cert.ExpertsKernelIdeal.main_arg4)
      ∧ r.2.mem ((c.tc : Thread Cert.ExpertsKernelIdeal.nD Cert.ExpertsKernelIdeal.τ).loc Cert.ExpertsKernelIdeal.main_arg5) = m ((c.tc : Thread Cert.ExpertsKernelIdeal.nD Cert.ExpertsKernelIdeal.τ).loc Cert.ExpertsKernelIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_experts_named [hExpertsReferenceIdeal : Cert.ExpertsReferenceIdeal.Facts] [hPre_experts_named : Cert.Pre_experts_named.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_experts_named m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_CondKernel [hCondKernel : Cert.CondKernel.Facts] : Prop :=
  ∀ (m : (ℓ : Loc Cert.CondKernel.nD Cert.CondKernel.τ Cert.CondKernel.sig) → Buf (Elt Bits) ℓ) (g : Dev Cert.CondKernel.nD → PrngReg), Pre_CondKernel m →
    θ_run (Cert.CondKernel.defs (F := Bits)) (onTc (τ := Cert.CondKernel.τ) (Cert.CondKernel.main (F := Bits))) ⟨m, fun _ => 0, g⟩ (fun r => (∀ c : Dev Cert.CondKernel.nD,
      r.2.mem ((c.tc : Thread Cert.CondKernel.nD Cert.CondKernel.τ).loc Cert.CondKernel.main_arg0) = m ((c.tc : Thread Cert.CondKernel.nD Cert.CondKernel.τ).loc Cert.CondKernel.main_arg0)
      ∧ r.2.mem ((c.tc : Thread Cert.CondKernel.nD Cert.CondKernel.τ).loc Cert.CondKernel.main_arg1) = m ((c.tc : Thread Cert.CondKernel.nD Cert.CondKernel.τ).loc Cert.CondKernel.main_arg1)
      ∧ r.2.mem ((c.tc : Thread Cert.CondKernel.nD Cert.CondKernel.τ).loc Cert.CondKernel.main_arg2) = m ((c.tc : Thread Cert.CondKernel.nD Cert.CondKernel.τ).loc Cert.CondKernel.main_arg2))
      ∧ r.2.sem = fun _ => 0)

def quiescent_CondKernelIdeal [hCondKernelIdeal : Cert.CondKernelIdeal.Facts] : Prop :=
  ∀ (m : (ℓ : Loc Cert.CondKernelIdeal.nD Cert.CondKernelIdeal.τ Cert.CondKernelIdeal.sig) → Buf (Elt Ideal) ℓ) (g : Dev Cert.CondKernelIdeal.nD → PrngReg), Pre_CondKernelIdeal m →
    θ_run (Cert.CondKernelIdeal.defs (F := Ideal)) (onTc (τ := Cert.CondKernelIdeal.τ) (Cert.CondKernelIdeal.main (F := Ideal))) ⟨m, fun _ => 0, g⟩ (fun r => (∀ c : Dev Cert.CondKernelIdeal.nD,
      r.2.mem ((c.tc : Thread Cert.CondKernelIdeal.nD Cert.CondKernelIdeal.τ).loc Cert.CondKernelIdeal.main_arg0) = m ((c.tc : Thread Cert.CondKernelIdeal.nD Cert.CondKernelIdeal.τ).loc Cert.CondKernelIdeal.main_arg0)
      ∧ r.2.mem ((c.tc : Thread Cert.CondKernelIdeal.nD Cert.CondKernelIdeal.τ).loc Cert.CondKernelIdeal.main_arg1) = m ((c.tc : Thread Cert.CondKernelIdeal.nD Cert.CondKernelIdeal.τ).loc Cert.CondKernelIdeal.main_arg1)
      ∧ r.2.mem ((c.tc : Thread Cert.CondKernelIdeal.nD Cert.CondKernelIdeal.τ).loc Cert.CondKernelIdeal.main_arg2) = m ((c.tc : Thread Cert.CondKernelIdeal.nD Cert.CondKernelIdeal.τ).loc Cert.CondKernelIdeal.main_arg2))
      ∧ r.2.sem = fun _ => 0)

def quiescent_CondReferenceIdeal [hCondReferenceIdeal : Cert.CondReferenceIdeal.Facts] : Prop :=
  ∀ (m : (ℓ : Loc Cert.CondReferenceIdeal.nD Cert.CondReferenceIdeal.τ Cert.CondReferenceIdeal.sig) → Buf (Elt Ideal) ℓ) (g : Dev Cert.CondReferenceIdeal.nD → PrngReg), Pre_CondReferenceIdeal m →
    θ_run (Cert.CondReferenceIdeal.defs (F := Ideal)) (onTc (τ := Cert.CondReferenceIdeal.τ) (Cert.CondReferenceIdeal.main (F := Ideal))) ⟨m, fun _ => 0, g⟩ (fun r => (∀ c : Dev Cert.CondReferenceIdeal.nD,
      r.2.mem ((c.tc : Thread Cert.CondReferenceIdeal.nD Cert.CondReferenceIdeal.τ).loc Cert.CondReferenceIdeal.main_arg0) = m ((c.tc : Thread Cert.CondReferenceIdeal.nD Cert.CondReferenceIdeal.τ).loc Cert.CondReferenceIdeal.main_arg0)
      ∧ r.2.mem ((c.tc : Thread Cert.CondReferenceIdeal.nD Cert.CondReferenceIdeal.τ).loc Cert.CondReferenceIdeal.main_arg1) = m ((c.tc : Thread Cert.CondReferenceIdeal.nD Cert.CondReferenceIdeal.τ).loc Cert.CondReferenceIdeal.main_arg1)
      ∧ r.2.mem ((c.tc : Thread Cert.CondReferenceIdeal.nD Cert.CondReferenceIdeal.τ).loc Cert.CondReferenceIdeal.main_arg2) = m ((c.tc : Thread Cert.CondReferenceIdeal.nD Cert.CondReferenceIdeal.τ).loc Cert.CondReferenceIdeal.main_arg2))
      ∧ r.2.sem = fun _ => 0)

def quiescent_RopeKernel [hRopeKernel : Cert.RopeKernel.Facts] : Prop :=
  ∀ (m : (ℓ : Loc Cert.RopeKernel.nD Cert.RopeKernel.τ Cert.RopeKernel.sig) → Buf (Elt Bits) ℓ) (g : Dev Cert.RopeKernel.nD → PrngReg), Pre_RopeKernel m →
    θ_run (Cert.RopeKernel.defs (F := Bits)) (onTc (τ := Cert.RopeKernel.τ) (Cert.RopeKernel.main (F := Bits))) ⟨m, fun _ => 0, g⟩ (fun r => (∀ c : Dev Cert.RopeKernel.nD,
      r.2.mem ((c.tc : Thread Cert.RopeKernel.nD Cert.RopeKernel.τ).loc Cert.RopeKernel.main_arg0) = m ((c.tc : Thread Cert.RopeKernel.nD Cert.RopeKernel.τ).loc Cert.RopeKernel.main_arg0))
      ∧ r.2.sem = fun _ => 0)

def quiescent_RopeKernelIdeal [hRopeKernelIdeal : Cert.RopeKernelIdeal.Facts] : Prop :=
  ∀ (m : (ℓ : Loc Cert.RopeKernelIdeal.nD Cert.RopeKernelIdeal.τ Cert.RopeKernelIdeal.sig) → Buf (Elt Ideal) ℓ) (g : Dev Cert.RopeKernelIdeal.nD → PrngReg), Pre_RopeKernelIdeal m →
    θ_run (Cert.RopeKernelIdeal.defs (F := Ideal)) (onTc (τ := Cert.RopeKernelIdeal.τ) (Cert.RopeKernelIdeal.main (F := Ideal))) ⟨m, fun _ => 0, g⟩ (fun r => (∀ c : Dev Cert.RopeKernelIdeal.nD,
      r.2.mem ((c.tc : Thread Cert.RopeKernelIdeal.nD Cert.RopeKernelIdeal.τ).loc Cert.RopeKernelIdeal.main_arg0) = m ((c.tc : Thread Cert.RopeKernelIdeal.nD Cert.RopeKernelIdeal.τ).loc Cert.RopeKernelIdeal.main_arg0))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_ZKernel_ZKernelIdeal : Prop :=
  True

def algebraic_ZKernelIdeal_ZReferenceIdeal [hZKernelIdeal : Cert.ZKernelIdeal.Facts] [hZReferenceIdeal : Cert.ZReferenceIdeal.Facts] : Prop :=
  ∀ (m : (ℓ : Loc Cert.ZKernelIdeal.nD Cert.ZKernelIdeal.τ Cert.ZKernelIdeal.sig) → Buf (Elt Ideal) ℓ) (g : Dev Cert.ZKernelIdeal.nD → PrngReg)
    (m' : (ℓ : Loc Cert.ZReferenceIdeal.nD Cert.ZReferenceIdeal.τ Cert.ZReferenceIdeal.sig) → Buf (Elt Ideal) ℓ) (g' : Dev Cert.ZReferenceIdeal.nD → PrngReg), Pre_ZKernelIdeal m →
    (∀ c : Dev Cert.ZKernelIdeal.nD,
      m' ((c.tc : Thread Cert.ZReferenceIdeal.nD Cert.ZReferenceIdeal.τ).loc Cert.ZReferenceIdeal.main_arg0) = m ((c.tc : Thread Cert.ZKernelIdeal.nD Cert.ZKernelIdeal.τ).loc Cert.ZKernelIdeal.main_arg0)
      ∧ m' ((c.tc : Thread Cert.ZReferenceIdeal.nD Cert.ZReferenceIdeal.τ).loc Cert.ZReferenceIdeal.main_arg1) = m ((c.tc : Thread Cert.ZKernelIdeal.nD Cert.ZKernelIdeal.τ).loc Cert.ZKernelIdeal.main_arg1)) →
    ∃ (v0 : (c : Dev Cert.ZKernelIdeal.nD) → Buf (Elt Ideal) ((c.tc : Thread Cert.ZKernelIdeal.nD Cert.ZKernelIdeal.τ).loc Cert.ZKernelIdeal.main_v15)),
      θ_run (Cert.ZKernelIdeal.defs (F := Ideal)) (onTc (τ := Cert.ZKernelIdeal.τ) (Cert.ZKernelIdeal.main (F := Ideal))) ⟨m, fun _ => 0, g⟩ (fun r => ∀ c : Dev Cert.ZKernelIdeal.nD,
          r.2.mem ((c.tc : Thread Cert.ZKernelIdeal.nD Cert.ZKernelIdeal.τ).loc Cert.ZKernelIdeal.main_v15) = v0 c
          ∧ r.2.mem ((c.tc : Thread Cert.ZKernelIdeal.nD Cert.ZKernelIdeal.τ).loc Cert.ZKernelIdeal.main_arg0) = m ((c.tc : Thread Cert.ZKernelIdeal.nD Cert.ZKernelIdeal.τ).loc Cert.ZKernelIdeal.main_arg0)
          ∧ r.2.mem ((c.tc : Thread Cert.ZKernelIdeal.nD Cert.ZKernelIdeal.τ).loc Cert.ZKernelIdeal.main_arg1) = m ((c.tc : Thread Cert.ZKernelIdeal.nD Cert.ZKernelIdeal.τ).loc Cert.ZKernelIdeal.main_arg1))
      ∧ θ_run (Cert.ZReferenceIdeal.defs (F := Ideal)) (onTc (τ := Cert.ZReferenceIdeal.τ) (Cert.ZReferenceIdeal.main (F := Ideal))) ⟨m', fun _ => 0, g'⟩ (fun r => ∀ c : Dev Cert.ZReferenceIdeal.nD,
          r.2.mem ((c.tc : Thread Cert.ZReferenceIdeal.nD Cert.ZReferenceIdeal.τ).loc Cert.ZReferenceIdeal.main_v14) = v0 c
          ∧ r.2.mem ((c.tc : Thread Cert.ZReferenceIdeal.nD Cert.ZReferenceIdeal.τ).loc Cert.ZReferenceIdeal.main_arg0) = m' ((c.tc : Thread Cert.ZReferenceIdeal.nD Cert.ZReferenceIdeal.τ).loc Cert.ZReferenceIdeal.main_arg0)
          ∧ r.2.mem ((c.tc : Thread Cert.ZReferenceIdeal.nD Cert.ZReferenceIdeal.τ).loc Cert.ZReferenceIdeal.main_arg1) = m' ((c.tc : Thread Cert.ZReferenceIdeal.nD Cert.ZReferenceIdeal.τ).loc Cert.ZReferenceIdeal.main_arg1))

def preserves_XbcKernel_XbcKernelIdeal : Prop :=
  True

def algebraic_XbcKernelIdeal_XbcReferenceIdeal [hXbcKernelIdeal : Cert.XbcKernelIdeal.Facts] [hXbcReferenceIdeal : Cert.XbcReferenceIdeal.Facts] : Prop :=
  ∀ (m : (ℓ : Loc Cert.XbcKernelIdeal.nD Cert.XbcKernelIdeal.τ Cert.XbcKernelIdeal.sig) → Buf (Elt Ideal) ℓ) (g : Dev Cert.XbcKernelIdeal.nD → PrngReg)
    (m' : (ℓ : Loc Cert.XbcReferenceIdeal.nD Cert.XbcReferenceIdeal.τ Cert.XbcReferenceIdeal.sig) → Buf (Elt Ideal) ℓ) (g' : Dev Cert.XbcReferenceIdeal.nD → PrngReg), Pre_XbcKernelIdeal m →
    (∀ c : Dev Cert.XbcKernelIdeal.nD,
      m' ((c.tc : Thread Cert.XbcReferenceIdeal.nD Cert.XbcReferenceIdeal.τ).loc Cert.XbcReferenceIdeal.main_arg0) = m ((c.tc : Thread Cert.XbcKernelIdeal.nD Cert.XbcKernelIdeal.τ).loc Cert.XbcKernelIdeal.main_arg0)
      ∧ m' ((c.tc : Thread Cert.XbcReferenceIdeal.nD Cert.XbcReferenceIdeal.τ).loc Cert.XbcReferenceIdeal.main_arg1) = m ((c.tc : Thread Cert.XbcKernelIdeal.nD Cert.XbcKernelIdeal.τ).loc Cert.XbcKernelIdeal.main_arg1)) →
    ∃ (v0 : (c : Dev Cert.XbcKernelIdeal.nD) → Buf (Elt Ideal) ((c.tc : Thread Cert.XbcKernelIdeal.nD Cert.XbcKernelIdeal.τ).loc Cert.XbcKernelIdeal.main_v15)),
      θ_run (Cert.XbcKernelIdeal.defs (F := Ideal)) (onTc (τ := Cert.XbcKernelIdeal.τ) (Cert.XbcKernelIdeal.main (F := Ideal))) ⟨m, fun _ => 0, g⟩ (fun r => ∀ c : Dev Cert.XbcKernelIdeal.nD,
          r.2.mem ((c.tc : Thread Cert.XbcKernelIdeal.nD Cert.XbcKernelIdeal.τ).loc Cert.XbcKernelIdeal.main_v15) = v0 c
          ∧ r.2.mem ((c.tc : Thread Cert.XbcKernelIdeal.nD Cert.XbcKernelIdeal.τ).loc Cert.XbcKernelIdeal.main_arg0) = m ((c.tc : Thread Cert.XbcKernelIdeal.nD Cert.XbcKernelIdeal.τ).loc Cert.XbcKernelIdeal.main_arg0)
          ∧ r.2.mem ((c.tc : Thread Cert.XbcKernelIdeal.nD Cert.XbcKernelIdeal.τ).loc Cert.XbcKernelIdeal.main_arg1) = m ((c.tc : Thread Cert.XbcKernelIdeal.nD Cert.XbcKernelIdeal.τ).loc Cert.XbcKernelIdeal.main_arg1))
      ∧ θ_run (Cert.XbcReferenceIdeal.defs (F := Ideal)) (onTc (τ := Cert.XbcReferenceIdeal.τ) (Cert.XbcReferenceIdeal.main (F := Ideal))) ⟨m', fun _ => 0, g'⟩ (fun r => ∀ c : Dev Cert.XbcReferenceIdeal.nD,
          r.2.mem ((c.tc : Thread Cert.XbcReferenceIdeal.nD Cert.XbcReferenceIdeal.τ).loc Cert.XbcReferenceIdeal.main_v14) = v0 c
          ∧ r.2.mem ((c.tc : Thread Cert.XbcReferenceIdeal.nD Cert.XbcReferenceIdeal.τ).loc Cert.XbcReferenceIdeal.main_arg0) = m' ((c.tc : Thread Cert.XbcReferenceIdeal.nD Cert.XbcReferenceIdeal.τ).loc Cert.XbcReferenceIdeal.main_arg0)
          ∧ r.2.mem ((c.tc : Thread Cert.XbcReferenceIdeal.nD Cert.XbcReferenceIdeal.τ).loc Cert.XbcReferenceIdeal.main_arg1) = m' ((c.tc : Thread Cert.XbcReferenceIdeal.nD Cert.XbcReferenceIdeal.τ).loc Cert.XbcReferenceIdeal.main_arg1))

def preserves_GatesKernel_GatesKernelIdeal : Prop :=
  True

def algebraic_GatesKernelIdeal_GatesReferenceIdeal [hGatesKernelIdeal : Cert.GatesKernelIdeal.Facts] [hGatesReferenceIdeal : Cert.GatesReferenceIdeal.Facts] : Prop :=
  ∀ (m : (ℓ : Loc Cert.GatesKernelIdeal.nD Cert.GatesKernelIdeal.τ Cert.GatesKernelIdeal.sig) → Buf (Elt Ideal) ℓ) (g : Dev Cert.GatesKernelIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesKernelIdeal m →
    (∀ c : Dev Cert.GatesKernelIdeal.nD,
      m' ((c.tc : Thread Cert.GatesReferenceIdeal.nD Cert.GatesReferenceIdeal.τ).loc Cert.GatesReferenceIdeal.main_arg0) = m ((c.tc : Thread Cert.GatesKernelIdeal.nD Cert.GatesKernelIdeal.τ).loc Cert.GatesKernelIdeal.main_arg0)
      ∧ m' ((c.tc : Thread Cert.GatesReferenceIdeal.nD Cert.GatesReferenceIdeal.τ).loc Cert.GatesReferenceIdeal.main_arg1) = m ((c.tc : Thread Cert.GatesKernelIdeal.nD Cert.GatesKernelIdeal.τ).loc Cert.GatesKernelIdeal.main_arg1)) →
    ∃ (v0 : (c : Dev Cert.GatesKernelIdeal.nD) → Buf (Elt Ideal) ((c.tc : Thread Cert.GatesKernelIdeal.nD Cert.GatesKernelIdeal.τ).loc Cert.GatesKernelIdeal.main_v15)),
      θ_run (Cert.GatesKernelIdeal.defs (F := Ideal)) (onTc (τ := Cert.GatesKernelIdeal.τ) (Cert.GatesKernelIdeal.main (F := Ideal))) ⟨m, fun _ => 0, g⟩ (fun r => ∀ c : Dev Cert.GatesKernelIdeal.nD,
          r.2.mem ((c.tc : Thread Cert.GatesKernelIdeal.nD Cert.GatesKernelIdeal.τ).loc Cert.GatesKernelIdeal.main_v15) = v0 c
          ∧ r.2.mem ((c.tc : Thread Cert.GatesKernelIdeal.nD Cert.GatesKernelIdeal.τ).loc Cert.GatesKernelIdeal.main_arg0) = m ((c.tc : Thread Cert.GatesKernelIdeal.nD Cert.GatesKernelIdeal.τ).loc Cert.GatesKernelIdeal.main_arg0)
          ∧ r.2.mem ((c.tc : Thread Cert.GatesKernelIdeal.nD Cert.GatesKernelIdeal.τ).loc Cert.GatesKernelIdeal.main_arg1) = m ((c.tc : Thread Cert.GatesKernelIdeal.nD Cert.GatesKernelIdeal.τ).loc Cert.GatesKernelIdeal.main_arg1))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v14) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1))

def preserves_BranchKernel_BranchKernelIdeal : Prop :=
  True

def algebraic_BranchKernelIdeal_BranchReferenceIdeal [hBranchKernelIdeal : Cert.BranchKernelIdeal.Facts] [hBranchReferenceIdeal : Cert.BranchReferenceIdeal.Facts] : Prop :=
  ∀ (m : (ℓ : Loc Cert.BranchKernelIdeal.nD Cert.BranchKernelIdeal.τ Cert.BranchKernelIdeal.sig) → Buf (Elt Ideal) ℓ) (g : Dev Cert.BranchKernelIdeal.nD → PrngReg)
    (m' : (ℓ : Loc Cert.BranchReferenceIdeal.nD Cert.BranchReferenceIdeal.τ Cert.BranchReferenceIdeal.sig) → Buf (Elt Ideal) ℓ) (g' : Dev Cert.BranchReferenceIdeal.nD → PrngReg), Pre_BranchKernelIdeal m →
    (∀ c : Dev Cert.BranchKernelIdeal.nD,
      m' ((c.tc : Thread Cert.BranchReferenceIdeal.nD Cert.BranchReferenceIdeal.τ).loc Cert.BranchReferenceIdeal.main_arg0) = m ((c.tc : Thread Cert.BranchKernelIdeal.nD Cert.BranchKernelIdeal.τ).loc Cert.BranchKernelIdeal.main_arg0)
      ∧ m' ((c.tc : Thread Cert.BranchReferenceIdeal.nD Cert.BranchReferenceIdeal.τ).loc Cert.BranchReferenceIdeal.main_arg1) = m ((c.tc : Thread Cert.BranchKernelIdeal.nD Cert.BranchKernelIdeal.τ).loc Cert.BranchKernelIdeal.main_arg1)) →
    ∃ (v0 : (c : Dev Cert.BranchKernelIdeal.nD) → Buf (Elt Ideal) ((c.tc : Thread Cert.BranchKernelIdeal.nD Cert.BranchKernelIdeal.τ).loc Cert.BranchKernelIdeal.main_v15)),
      θ_run (Cert.BranchKernelIdeal.defs (F := Ideal)) (onTc (τ := Cert.BranchKernelIdeal.τ) (Cert.BranchKernelIdeal.main (F := Ideal))) ⟨m, fun _ => 0, g⟩ (fun r => ∀ c : Dev Cert.BranchKernelIdeal.nD,
          r.2.mem ((c.tc : Thread Cert.BranchKernelIdeal.nD Cert.BranchKernelIdeal.τ).loc Cert.BranchKernelIdeal.main_v15) = v0 c
          ∧ r.2.mem ((c.tc : Thread Cert.BranchKernelIdeal.nD Cert.BranchKernelIdeal.τ).loc Cert.BranchKernelIdeal.main_arg0) = m ((c.tc : Thread Cert.BranchKernelIdeal.nD Cert.BranchKernelIdeal.τ).loc Cert.BranchKernelIdeal.main_arg0)
          ∧ r.2.mem ((c.tc : Thread Cert.BranchKernelIdeal.nD Cert.BranchKernelIdeal.τ).loc Cert.BranchKernelIdeal.main_arg1) = m ((c.tc : Thread Cert.BranchKernelIdeal.nD Cert.BranchKernelIdeal.τ).loc Cert.BranchKernelIdeal.main_arg1))
      ∧ θ_run (Cert.BranchReferenceIdeal.defs (F := Ideal)) (onTc (τ := Cert.BranchReferenceIdeal.τ) (Cert.BranchReferenceIdeal.main (F := Ideal))) ⟨m', fun _ => 0, g'⟩ (fun r => ∀ c : Dev Cert.BranchReferenceIdeal.nD,
          r.2.mem ((c.tc : Thread Cert.BranchReferenceIdeal.nD Cert.BranchReferenceIdeal.τ).loc Cert.BranchReferenceIdeal.main_v15) = v0 c
          ∧ r.2.mem ((c.tc : Thread Cert.BranchReferenceIdeal.nD Cert.BranchReferenceIdeal.τ).loc Cert.BranchReferenceIdeal.main_arg0) = m' ((c.tc : Thread Cert.BranchReferenceIdeal.nD Cert.BranchReferenceIdeal.τ).loc Cert.BranchReferenceIdeal.main_arg0)
          ∧ r.2.mem ((c.tc : Thread Cert.BranchReferenceIdeal.nD Cert.BranchReferenceIdeal.τ).loc Cert.BranchReferenceIdeal.main_arg1) = m' ((c.tc : Thread Cert.BranchReferenceIdeal.nD Cert.BranchReferenceIdeal.τ).loc Cert.BranchReferenceIdeal.main_arg1))

def preserves_DtKernel_DtKernelIdeal : Prop :=
  True

def algebraic_DtKernelIdeal_DtReferenceIdeal [hDtKernelIdeal : Cert.DtKernelIdeal.Facts] [hDtReferenceIdeal : Cert.DtReferenceIdeal.Facts] : Prop :=
  ∀ (m : (ℓ : Loc Cert.DtKernelIdeal.nD Cert.DtKernelIdeal.τ Cert.DtKernelIdeal.sig) → Buf (Elt Ideal) ℓ) (g : Dev Cert.DtKernelIdeal.nD → PrngReg)
    (m' : (ℓ : Loc Cert.DtReferenceIdeal.nD Cert.DtReferenceIdeal.τ Cert.DtReferenceIdeal.sig) → Buf (Elt Ideal) ℓ) (g' : Dev Cert.DtReferenceIdeal.nD → PrngReg), Pre_DtKernelIdeal m →
    (∀ c : Dev Cert.DtKernelIdeal.nD,
      m' ((c.tc : Thread Cert.DtReferenceIdeal.nD Cert.DtReferenceIdeal.τ).loc Cert.DtReferenceIdeal.main_arg0) = m ((c.tc : Thread Cert.DtKernelIdeal.nD Cert.DtKernelIdeal.τ).loc Cert.DtKernelIdeal.main_arg0)
      ∧ m' ((c.tc : Thread Cert.DtReferenceIdeal.nD Cert.DtReferenceIdeal.τ).loc Cert.DtReferenceIdeal.main_arg1) = m ((c.tc : Thread Cert.DtKernelIdeal.nD Cert.DtKernelIdeal.τ).loc Cert.DtKernelIdeal.main_arg1)) →
    ∃ (v0 : (c : Dev Cert.DtKernelIdeal.nD) → Buf (Elt Ideal) ((c.tc : Thread Cert.DtKernelIdeal.nD Cert.DtKernelIdeal.τ).loc Cert.DtKernelIdeal.main_v15)),
      θ_run (Cert.DtKernelIdeal.defs (F := Ideal)) (onTc (τ := Cert.DtKernelIdeal.τ) (Cert.DtKernelIdeal.main (F := Ideal))) ⟨m, fun _ => 0, g⟩ (fun r => ∀ c : Dev Cert.DtKernelIdeal.nD,
          r.2.mem ((c.tc : Thread Cert.DtKernelIdeal.nD Cert.DtKernelIdeal.τ).loc Cert.DtKernelIdeal.main_v15) = v0 c
          ∧ r.2.mem ((c.tc : Thread Cert.DtKernelIdeal.nD Cert.DtKernelIdeal.τ).loc Cert.DtKernelIdeal.main_arg0) = m ((c.tc : Thread Cert.DtKernelIdeal.nD Cert.DtKernelIdeal.τ).loc Cert.DtKernelIdeal.main_arg0)
          ∧ r.2.mem ((c.tc : Thread Cert.DtKernelIdeal.nD Cert.DtKernelIdeal.τ).loc Cert.DtKernelIdeal.main_arg1) = m ((c.tc : Thread Cert.DtKernelIdeal.nD Cert.DtKernelIdeal.τ).loc Cert.DtKernelIdeal.main_arg1))
      ∧ θ_run (Cert.DtReferenceIdeal.defs (F := Ideal)) (onTc (τ := Cert.DtReferenceIdeal.τ) (Cert.DtReferenceIdeal.main (F := Ideal))) ⟨m', fun _ => 0, g'⟩ (fun r => ∀ c : Dev Cert.DtReferenceIdeal.nD,
          r.2.mem ((c.tc : Thread Cert.DtReferenceIdeal.nD Cert.DtReferenceIdeal.τ).loc Cert.DtReferenceIdeal.main_v14) = v0 c
          ∧ r.2.mem ((c.tc : Thread Cert.DtReferenceIdeal.nD Cert.DtReferenceIdeal.τ).loc Cert.DtReferenceIdeal.main_arg0) = m' ((c.tc : Thread Cert.DtReferenceIdeal.nD Cert.DtReferenceIdeal.τ).loc Cert.DtReferenceIdeal.main_arg0)
          ∧ r.2.mem ((c.tc : Thread Cert.DtReferenceIdeal.nD Cert.DtReferenceIdeal.τ).loc Cert.DtReferenceIdeal.main_arg1) = m' ((c.tc : Thread Cert.DtReferenceIdeal.nD Cert.DtReferenceIdeal.τ).loc Cert.DtReferenceIdeal.main_arg1))

def preserves_QkvKernel_QkvKernelIdeal : Prop :=
  True

def algebraic_QkvKernelIdeal_QkvReferenceIdeal [hQkvKernelIdeal : Cert.QkvKernelIdeal.Facts] [hQkvReferenceIdeal : Cert.QkvReferenceIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvKernelIdeal m →
    (∀ c : Dev Cert.QkvKernelIdeal.nD,
      m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)
      ∧ m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)) →
    ∃ (v0 : (c : Dev Cert.QkvKernelIdeal.nD) → Buf (Elt Ideal) ((c.tc : Thread Cert.QkvKernelIdeal.nD Cert.QkvKernelIdeal.τ).loc Cert.QkvKernelIdeal.main_v14)),
      θ_run (Cert.QkvKernelIdeal.defs (F := Ideal)) (onTc (τ := Cert.QkvKernelIdeal.τ) (Cert.QkvKernelIdeal.main (F := Ideal))) ⟨m, fun _ => 0, g⟩ (fun r => ∀ c : Dev Cert.QkvKernelIdeal.nD,
          r.2.mem ((c.tc : Thread Cert.QkvKernelIdeal.nD Cert.QkvKernelIdeal.τ).loc Cert.QkvKernelIdeal.main_v14) = v0 c
          ∧ r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
          ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v22) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)
      ∧ m' ((c.tc : Thread Cert.MergeReferenceIdeal.nD Cert.MergeReferenceIdeal.τ).loc Cert.MergeReferenceIdeal.main_arg9) = m ((c.tc : Thread Cert.MergeKernelIdeal.nD Cert.MergeKernelIdeal.τ).loc Cert.MergeKernelIdeal.main_arg9)) →
    ∃ (v0 : (c : Dev Cert.MergeKernelIdeal.nD) → Buf (Elt Ideal) ((c.tc : Thread Cert.MergeKernelIdeal.nD Cert.MergeKernelIdeal.τ).loc Cert.MergeKernelIdeal.main_v5)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v5) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v33) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def preserves_LastKernel_LastKernelIdeal : Prop :=
  True

def algebraic_LastKernelIdeal_LastReferenceIdeal [hLastKernelIdeal : Cert.LastKernelIdeal.Facts] [hLastReferenceIdeal : Cert.LastReferenceIdeal.Facts] : Prop :=
  ∀ (m : (ℓ : Loc Cert.LastKernelIdeal.nD Cert.LastKernelIdeal.τ Cert.LastKernelIdeal.sig) → Buf (Elt Ideal) ℓ) (g : Dev Cert.LastKernelIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastKernelIdeal m →
    (∀ c : Dev Cert.LastKernelIdeal.nD,
      m' ((c.tc : Thread Cert.LastReferenceIdeal.nD Cert.LastReferenceIdeal.τ).loc Cert.LastReferenceIdeal.main_arg0) = m ((c.tc : Thread Cert.LastKernelIdeal.nD Cert.LastKernelIdeal.τ).loc Cert.LastKernelIdeal.main_arg0)
      ∧ m' ((c.tc : Thread Cert.LastReferenceIdeal.nD Cert.LastReferenceIdeal.τ).loc Cert.LastReferenceIdeal.main_arg1) = m ((c.tc : Thread Cert.LastKernelIdeal.nD Cert.LastKernelIdeal.τ).loc Cert.LastKernelIdeal.main_arg1)) →
    ∃ (v0 : (c : Dev Cert.LastKernelIdeal.nD) → Buf (Elt Ideal) ((c.tc : Thread Cert.LastKernelIdeal.nD Cert.LastKernelIdeal.τ).loc Cert.LastKernelIdeal.main_v1)),
      θ_run (Cert.LastKernelIdeal.defs (F := Ideal)) (onTc (τ := Cert.LastKernelIdeal.τ) (Cert.LastKernelIdeal.main (F := Ideal))) ⟨m, fun _ => 0, g⟩ (fun r => ∀ c : Dev Cert.LastKernelIdeal.nD,
          r.2.mem ((c.tc : Thread Cert.LastKernelIdeal.nD Cert.LastKernelIdeal.τ).loc Cert.LastKernelIdeal.main_v1) = v0 c
          ∧ r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
          ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v12) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)) →
    ∃ (v0 : (c : Dev Cert.NormKernelIdeal.nD) → Buf (Elt Ideal) ((c.tc : Thread Cert.NormKernelIdeal.nD Cert.NormKernelIdeal.τ).loc Cert.NormKernelIdeal.main_v3)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v3) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v21) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_ExpertsKernel_ExpertsKernelIdeal : Prop :=
  True

def algebraic_ExpertsKernelIdeal_ExpertsReferenceIdeal [hExpertsKernelIdeal : Cert.ExpertsKernelIdeal.Facts] [hExpertsReferenceIdeal : Cert.ExpertsReferenceIdeal.Facts] [hPre_experts_named : Cert.Pre_experts_named.Facts] : Prop :=
  ∀ (m : (ℓ : Loc Cert.ExpertsKernelIdeal.nD Cert.ExpertsKernelIdeal.τ Cert.ExpertsKernelIdeal.sig) → Buf (Elt Ideal) ℓ) (g : Dev Cert.ExpertsKernelIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsKernelIdeal m →
    (∀ c : Dev Cert.ExpertsKernelIdeal.nD,
      m' ((c.tc : Thread Cert.ExpertsReferenceIdeal.nD Cert.ExpertsReferenceIdeal.τ).loc Cert.ExpertsReferenceIdeal.main_arg0) = m ((c.tc : Thread Cert.ExpertsKernelIdeal.nD Cert.ExpertsKernelIdeal.τ).loc Cert.ExpertsKernelIdeal.main_arg0)
      ∧ m' ((c.tc : Thread Cert.ExpertsReferenceIdeal.nD Cert.ExpertsReferenceIdeal.τ).loc Cert.ExpertsReferenceIdeal.main_arg1) = m ((c.tc : Thread Cert.ExpertsKernelIdeal.nD Cert.ExpertsKernelIdeal.τ).loc Cert.ExpertsKernelIdeal.main_arg1)
      ∧ m' ((c.tc : Thread Cert.ExpertsReferenceIdeal.nD Cert.ExpertsReferenceIdeal.τ).loc Cert.ExpertsReferenceIdeal.main_arg2) = m ((c.tc : Thread Cert.ExpertsKernelIdeal.nD Cert.ExpertsKernelIdeal.τ).loc Cert.ExpertsKernelIdeal.main_arg2)
      ∧ m' ((c.tc : Thread Cert.ExpertsReferenceIdeal.nD Cert.ExpertsReferenceIdeal.τ).loc Cert.ExpertsReferenceIdeal.main_arg3) = m ((c.tc : Thread Cert.ExpertsKernelIdeal.nD Cert.ExpertsKernelIdeal.τ).loc Cert.ExpertsKernelIdeal.main_arg3)
      ∧ m' ((c.tc : Thread Cert.ExpertsReferenceIdeal.nD Cert.ExpertsReferenceIdeal.τ).loc Cert.ExpertsReferenceIdeal.main_arg4) = m ((c.tc : Thread Cert.ExpertsKernelIdeal.nD Cert.ExpertsKernelIdeal.τ).loc Cert.ExpertsKernelIdeal.main_arg4)
      ∧ m' ((c.tc : Thread Cert.ExpertsReferenceIdeal.nD Cert.ExpertsReferenceIdeal.τ).loc Cert.ExpertsReferenceIdeal.main_arg5) = m ((c.tc : Thread Cert.ExpertsKernelIdeal.nD Cert.ExpertsKernelIdeal.τ).loc Cert.ExpertsKernelIdeal.main_arg5)) →
    ∃ (v0 : (c : Dev Cert.ExpertsKernelIdeal.nD) → Buf (Elt Ideal) ((c.tc : Thread Cert.ExpertsKernelIdeal.nD Cert.ExpertsKernelIdeal.τ).loc Cert.ExpertsKernelIdeal.main_v0)),
      θ_run (Cert.ExpertsKernelIdeal.defs (F := Ideal)) (onTc (τ := Cert.ExpertsKernelIdeal.τ) (Cert.ExpertsKernelIdeal.main (F := Ideal))) ⟨m, fun _ => 0, g⟩ (fun r => ∀ c : Dev Cert.ExpertsKernelIdeal.nD,
          r.2.mem ((c.tc : Thread Cert.ExpertsKernelIdeal.nD Cert.ExpertsKernelIdeal.τ).loc Cert.ExpertsKernelIdeal.main_v0) = v0 c
          ∧ r.2.mem ((c.tc : Thread Cert.ExpertsKernelIdeal.nD Cert.ExpertsKernelIdeal.τ).loc Cert.ExpertsKernelIdeal.main_arg0) = m ((c.tc : Thread Cert.ExpertsKernelIdeal.nD Cert.ExpertsKernelIdeal.τ).loc Cert.ExpertsKernelIdeal.main_arg0)
          ∧ r.2.mem ((c.tc : Thread Cert.ExpertsKernelIdeal.nD Cert.ExpertsKernelIdeal.τ).loc Cert.ExpertsKernelIdeal.main_arg1) = m ((c.tc : Thread Cert.ExpertsKernelIdeal.nD Cert.ExpertsKernelIdeal.τ).loc Cert.ExpertsKernelIdeal.main_arg1)
          ∧ r.2.mem ((c.tc : Thread Cert.ExpertsKernelIdeal.nD Cert.ExpertsKernelIdeal.τ).loc Cert.ExpertsKernelIdeal.main_arg2) = m ((c.tc : Thread Cert.ExpertsKernelIdeal.nD Cert.ExpertsKernelIdeal.τ).loc Cert.ExpertsKernelIdeal.main_arg2)
          ∧ r.2.mem ((c.tc : Thread Cert.ExpertsKernelIdeal.nD Cert.ExpertsKernelIdeal.τ).loc Cert.ExpertsKernelIdeal.main_arg3) = m ((c.tc : Thread Cert.ExpertsKernelIdeal.nD Cert.ExpertsKernelIdeal.τ).loc Cert.ExpertsKernelIdeal.main_arg3)
          ∧ r.2.mem ((c.tc : Thread Cert.ExpertsKernelIdeal.nD Cert.ExpertsKernelIdeal.τ).loc Cert.ExpertsKernelIdeal.main_arg4) = m ((c.tc : Thread Cert.ExpertsKernelIdeal.nD Cert.ExpertsKernelIdeal.τ).loc Cert.ExpertsKernelIdeal.main_arg4)
          ∧ r.2.mem ((c.tc : Thread Cert.ExpertsKernelIdeal.nD Cert.ExpertsKernelIdeal.τ).loc Cert.ExpertsKernelIdeal.main_arg5) = m ((c.tc : Thread Cert.ExpertsKernelIdeal.nD Cert.ExpertsKernelIdeal.τ).loc Cert.ExpertsKernelIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v69) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_CondKernel_CondKernelIdeal : Prop :=
  True

def algebraic_CondKernelIdeal_CondReferenceIdeal [hCondKernelIdeal : Cert.CondKernelIdeal.Facts] [hCondReferenceIdeal : Cert.CondReferenceIdeal.Facts] : Prop :=
  ∀ (m : (ℓ : Loc Cert.CondKernelIdeal.nD Cert.CondKernelIdeal.τ Cert.CondKernelIdeal.sig) → Buf (Elt Ideal) ℓ) (g : Dev Cert.CondKernelIdeal.nD → PrngReg)
    (m' : (ℓ : Loc Cert.CondReferenceIdeal.nD Cert.CondReferenceIdeal.τ Cert.CondReferenceIdeal.sig) → Buf (Elt Ideal) ℓ) (g' : Dev Cert.CondReferenceIdeal.nD → PrngReg), Pre_CondKernelIdeal m →
    (∀ c : Dev Cert.CondKernelIdeal.nD,
      m' ((c.tc : Thread Cert.CondReferenceIdeal.nD Cert.CondReferenceIdeal.τ).loc Cert.CondReferenceIdeal.main_arg0) = m ((c.tc : Thread Cert.CondKernelIdeal.nD Cert.CondKernelIdeal.τ).loc Cert.CondKernelIdeal.main_arg0)
      ∧ m' ((c.tc : Thread Cert.CondReferenceIdeal.nD Cert.CondReferenceIdeal.τ).loc Cert.CondReferenceIdeal.main_arg1) = m ((c.tc : Thread Cert.CondKernelIdeal.nD Cert.CondKernelIdeal.τ).loc Cert.CondKernelIdeal.main_arg1)
      ∧ m' ((c.tc : Thread Cert.CondReferenceIdeal.nD Cert.CondReferenceIdeal.τ).loc Cert.CondReferenceIdeal.main_arg2) = m ((c.tc : Thread Cert.CondKernelIdeal.nD Cert.CondKernelIdeal.τ).loc Cert.CondKernelIdeal.main_arg2)) →
    ∃ (v0 : (c : Dev Cert.CondKernelIdeal.nD) → Buf (Elt Ideal) ((c.tc : Thread Cert.CondKernelIdeal.nD Cert.CondKernelIdeal.τ).loc Cert.CondKernelIdeal.main_v1)),
      θ_run (Cert.CondKernelIdeal.defs (F := Ideal)) (onTc (τ := Cert.CondKernelIdeal.τ) (Cert.CondKernelIdeal.main (F := Ideal))) ⟨m, fun _ => 0, g⟩ (fun r => ∀ c : Dev Cert.CondKernelIdeal.nD,
          r.2.mem ((c.tc : Thread Cert.CondKernelIdeal.nD Cert.CondKernelIdeal.τ).loc Cert.CondKernelIdeal.main_v1) = v0 c
          ∧ r.2.mem ((c.tc : Thread Cert.CondKernelIdeal.nD Cert.CondKernelIdeal.τ).loc Cert.CondKernelIdeal.main_arg0) = m ((c.tc : Thread Cert.CondKernelIdeal.nD Cert.CondKernelIdeal.τ).loc Cert.CondKernelIdeal.main_arg0)
          ∧ r.2.mem ((c.tc : Thread Cert.CondKernelIdeal.nD Cert.CondKernelIdeal.τ).loc Cert.CondKernelIdeal.main_arg1) = m ((c.tc : Thread Cert.CondKernelIdeal.nD Cert.CondKernelIdeal.τ).loc Cert.CondKernelIdeal.main_arg1)
          ∧ r.2.mem ((c.tc : Thread Cert.CondKernelIdeal.nD Cert.CondKernelIdeal.τ).loc Cert.CondKernelIdeal.main_arg2) = m ((c.tc : Thread Cert.CondKernelIdeal.nD Cert.CondKernelIdeal.τ).loc Cert.CondKernelIdeal.main_arg2))
      ∧ θ_run (Cert.CondReferenceIdeal.defs (F := Ideal)) (onTc (τ := Cert.CondReferenceIdeal.τ) (Cert.CondReferenceIdeal.main (F := Ideal))) ⟨m', fun _ => 0, g'⟩ (fun r => ∀ c : Dev Cert.CondReferenceIdeal.nD,
          r.2.mem ((c.tc : Thread Cert.CondReferenceIdeal.nD Cert.CondReferenceIdeal.τ).loc Cert.CondReferenceIdeal.main_v37) = v0 c
          ∧ r.2.mem ((c.tc : Thread Cert.CondReferenceIdeal.nD Cert.CondReferenceIdeal.τ).loc Cert.CondReferenceIdeal.main_arg0) = m' ((c.tc : Thread Cert.CondReferenceIdeal.nD Cert.CondReferenceIdeal.τ).loc Cert.CondReferenceIdeal.main_arg0)
          ∧ r.2.mem ((c.tc : Thread Cert.CondReferenceIdeal.nD Cert.CondReferenceIdeal.τ).loc Cert.CondReferenceIdeal.main_arg1) = m' ((c.tc : Thread Cert.CondReferenceIdeal.nD Cert.CondReferenceIdeal.τ).loc Cert.CondReferenceIdeal.main_arg1)
          ∧ r.2.mem ((c.tc : Thread Cert.CondReferenceIdeal.nD Cert.CondReferenceIdeal.τ).loc Cert.CondReferenceIdeal.main_arg2) = m' ((c.tc : Thread Cert.CondReferenceIdeal.nD Cert.CondReferenceIdeal.τ).loc Cert.CondReferenceIdeal.main_arg2))

def preserves_RopeKernel_RopeKernelIdeal : Prop :=
  True

def algebraic_RopeKernelIdeal_RopeReferenceIdeal [hRopeKernelIdeal : Cert.RopeKernelIdeal.Facts] [hRopeReferenceIdeal : Cert.RopeReferenceIdeal.Facts] : Prop :=
  ∀ (m : (ℓ : Loc Cert.RopeKernelIdeal.nD Cert.RopeKernelIdeal.τ Cert.RopeKernelIdeal.sig) → Buf (Elt Ideal) ℓ) (g : Dev Cert.RopeKernelIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeKernelIdeal m →
    (∀ c : Dev Cert.RopeKernelIdeal.nD,
      m' ((c.tc : Thread Cert.RopeReferenceIdeal.nD Cert.RopeReferenceIdeal.τ).loc Cert.RopeReferenceIdeal.main_arg0) = m ((c.tc : Thread Cert.RopeKernelIdeal.nD Cert.RopeKernelIdeal.τ).loc Cert.RopeKernelIdeal.main_arg0)) →
    ∃ (v0 : (c : Dev Cert.RopeKernelIdeal.nD) → Buf (Elt Ideal) ((c.tc : Thread Cert.RopeKernelIdeal.nD Cert.RopeKernelIdeal.τ).loc Cert.RopeKernelIdeal.main_v18_0)) (v1 : (c : Dev Cert.RopeKernelIdeal.nD) → Buf (Elt Ideal) ((c.tc : Thread Cert.RopeKernelIdeal.nD Cert.RopeKernelIdeal.τ).loc Cert.RopeKernelIdeal.main_v18_1)),
      θ_run (Cert.RopeKernelIdeal.defs (F := Ideal)) (onTc (τ := Cert.RopeKernelIdeal.τ) (Cert.RopeKernelIdeal.main (F := Ideal))) ⟨m, fun _ => 0, g⟩ (fun r => ∀ c : Dev Cert.RopeKernelIdeal.nD,
          r.2.mem ((c.tc : Thread Cert.RopeKernelIdeal.nD Cert.RopeKernelIdeal.τ).loc Cert.RopeKernelIdeal.main_v18_0) = v0 c
          ∧ r.2.mem ((c.tc : Thread Cert.RopeKernelIdeal.nD Cert.RopeKernelIdeal.τ).loc Cert.RopeKernelIdeal.main_v18_1) = v1 c
          ∧ r.2.mem ((c.tc : Thread Cert.RopeKernelIdeal.nD Cert.RopeKernelIdeal.τ).loc Cert.RopeKernelIdeal.main_arg0) = m ((c.tc : Thread Cert.RopeKernelIdeal.nD Cert.RopeKernelIdeal.τ).loc Cert.RopeKernelIdeal.main_arg0))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v14) = v0 c
          ∧ r.2.mem ((c.tc : Thread Cert.RopeReferenceIdeal.nD Cert.RopeReferenceIdeal.τ).loc Cert.RopeReferenceIdeal.main_v17) = v1 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0))

def Claim : Prop :=
  ∃ (hKernel : Cert.Kernel.Facts) (hKernelIdeal : Cert.KernelIdeal.Facts) (hReferenceIdeal : Cert.ReferenceIdeal.Facts) (hZKernel : Cert.ZKernel.Facts) (hZKernelIdeal : Cert.ZKernelIdeal.Facts) (hZReferenceIdeal : Cert.ZReferenceIdeal.Facts) (hXbcKernel : Cert.XbcKernel.Facts) (hXbcKernelIdeal : Cert.XbcKernelIdeal.Facts) (hXbcReferenceIdeal : Cert.XbcReferenceIdeal.Facts) (hGatesKernel : Cert.GatesKernel.Facts) (hGatesKernelIdeal : Cert.GatesKernelIdeal.Facts) (hGatesReferenceIdeal : Cert.GatesReferenceIdeal.Facts) (hBranchKernel : Cert.BranchKernel.Facts) (hBranchKernelIdeal : Cert.BranchKernelIdeal.Facts) (hBranchReferenceIdeal : Cert.BranchReferenceIdeal.Facts) (hDtKernel : Cert.DtKernel.Facts) (hDtKernelIdeal : Cert.DtKernelIdeal.Facts) (hDtReferenceIdeal : Cert.DtReferenceIdeal.Facts) (hQkvKernel : Cert.QkvKernel.Facts) (hQkvKernelIdeal : Cert.QkvKernelIdeal.Facts) (hQkvReferenceIdeal : Cert.QkvReferenceIdeal.Facts) (hMergeKernel : Cert.MergeKernel.Facts) (hMergeKernelIdeal : Cert.MergeKernelIdeal.Facts) (hMergeReferenceIdeal : Cert.MergeReferenceIdeal.Facts) (hLastKernel : Cert.LastKernel.Facts) (hLastKernelIdeal : Cert.LastKernelIdeal.Facts) (hLastReferenceIdeal : Cert.LastReferenceIdeal.Facts) (hNormKernel : Cert.NormKernel.Facts) (hNormKernelIdeal : Cert.NormKernelIdeal.Facts) (hNormReferenceIdeal : Cert.NormReferenceIdeal.Facts) (hExpertsKernel : Cert.ExpertsKernel.Facts) (hExpertsKernelIdeal : Cert.ExpertsKernelIdeal.Facts) (hExpertsReferenceIdeal : Cert.ExpertsReferenceIdeal.Facts) (hCondKernel : Cert.CondKernel.Facts) (hCondKernelIdeal : Cert.CondKernelIdeal.Facts) (hCondReferenceIdeal : Cert.CondReferenceIdeal.Facts) (hRopeKernel : Cert.RopeKernel.Facts) (hRopeKernelIdeal : Cert.RopeKernelIdeal.Facts) (hRopeReferenceIdeal : Cert.RopeReferenceIdeal.Facts) (hPre_experts_named : Cert.Pre_experts_named.Facts),
    quiescent_Kernel (hKernel := hKernel)
    ∧ quiescent_KernelIdeal (hKernelIdeal := hKernelIdeal)
    ∧ quiescent_ReferenceIdeal (hReferenceIdeal := hReferenceIdeal)
    ∧ quiescent_ZKernel (hZKernel := hZKernel)
    ∧ quiescent_ZKernelIdeal (hZKernelIdeal := hZKernelIdeal)
    ∧ quiescent_ZReferenceIdeal (hZReferenceIdeal := hZReferenceIdeal)
    ∧ quiescent_XbcKernel (hXbcKernel := hXbcKernel)
    ∧ quiescent_XbcKernelIdeal (hXbcKernelIdeal := hXbcKernelIdeal)
    ∧ quiescent_XbcReferenceIdeal (hXbcReferenceIdeal := hXbcReferenceIdeal)
    ∧ quiescent_GatesKernel (hGatesKernel := hGatesKernel)
    ∧ quiescent_GatesKernelIdeal (hGatesKernelIdeal := hGatesKernelIdeal)
    ∧ quiescent_GatesReferenceIdeal (hGatesReferenceIdeal := hGatesReferenceIdeal)
    ∧ quiescent_BranchKernel (hBranchKernel := hBranchKernel)
    ∧ quiescent_BranchKernelIdeal (hBranchKernelIdeal := hBranchKernelIdeal)
    ∧ quiescent_BranchReferenceIdeal (hBranchReferenceIdeal := hBranchReferenceIdeal)
    ∧ quiescent_DtKernel (hDtKernel := hDtKernel)
    ∧ quiescent_DtKernelIdeal (hDtKernelIdeal := hDtKernelIdeal)
    ∧ quiescent_DtReferenceIdeal (hDtReferenceIdeal := hDtReferenceIdeal)
    ∧ quiescent_QkvKernel (hQkvKernel := hQkvKernel)
    ∧ quiescent_QkvKernelIdeal (hQkvKernelIdeal := hQkvKernelIdeal)
    ∧ quiescent_QkvReferenceIdeal (hQkvReferenceIdeal := hQkvReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_LastKernel (hLastKernel := hLastKernel)
    ∧ quiescent_LastKernelIdeal (hLastKernelIdeal := hLastKernelIdeal)
    ∧ quiescent_LastReferenceIdeal (hLastReferenceIdeal := hLastReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_ExpertsKernel (hExpertsKernel := hExpertsKernel) (hPre_experts_named := hPre_experts_named)
    ∧ quiescent_ExpertsKernelIdeal (hExpertsKernelIdeal := hExpertsKernelIdeal) (hPre_experts_named := hPre_experts_named)
    ∧ quiescent_ExpertsReferenceIdeal (hExpertsReferenceIdeal := hExpertsReferenceIdeal)
    ∧ quiescent_ExpertsReferenceIdeal_pre_experts_named (hExpertsReferenceIdeal := hExpertsReferenceIdeal) (hPre_experts_named := hPre_experts_named)
    ∧ quiescent_CondKernel (hCondKernel := hCondKernel)
    ∧ quiescent_CondKernelIdeal (hCondKernelIdeal := hCondKernelIdeal)
    ∧ quiescent_CondReferenceIdeal (hCondReferenceIdeal := hCondReferenceIdeal)
    ∧ quiescent_RopeKernel (hRopeKernel := hRopeKernel)
    ∧ quiescent_RopeKernelIdeal (hRopeKernelIdeal := hRopeKernelIdeal)
    ∧ quiescent_RopeReferenceIdeal (hRopeReferenceIdeal := hRopeReferenceIdeal)
    ∧ preserves_Kernel_KernelIdeal
    ∧ algebraic_KernelIdeal_ReferenceIdeal (hKernelIdeal := hKernelIdeal) (hReferenceIdeal := hReferenceIdeal)
    ∧ preserves_ZKernel_ZKernelIdeal
    ∧ algebraic_ZKernelIdeal_ZReferenceIdeal (hZKernelIdeal := hZKernelIdeal) (hZReferenceIdeal := hZReferenceIdeal)
    ∧ preserves_XbcKernel_XbcKernelIdeal
    ∧ algebraic_XbcKernelIdeal_XbcReferenceIdeal (hXbcKernelIdeal := hXbcKernelIdeal) (hXbcReferenceIdeal := hXbcReferenceIdeal)
    ∧ preserves_GatesKernel_GatesKernelIdeal
    ∧ algebraic_GatesKernelIdeal_GatesReferenceIdeal (hGatesKernelIdeal := hGatesKernelIdeal) (hGatesReferenceIdeal := hGatesReferenceIdeal)
    ∧ preserves_BranchKernel_BranchKernelIdeal
    ∧ algebraic_BranchKernelIdeal_BranchReferenceIdeal (hBranchKernelIdeal := hBranchKernelIdeal) (hBranchReferenceIdeal := hBranchReferenceIdeal)
    ∧ preserves_DtKernel_DtKernelIdeal
    ∧ algebraic_DtKernelIdeal_DtReferenceIdeal (hDtKernelIdeal := hDtKernelIdeal) (hDtReferenceIdeal := hDtReferenceIdeal)
    ∧ preserves_QkvKernel_QkvKernelIdeal
    ∧ algebraic_QkvKernelIdeal_QkvReferenceIdeal (hQkvKernelIdeal := hQkvKernelIdeal) (hQkvReferenceIdeal := hQkvReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_LastKernel_LastKernelIdeal
    ∧ algebraic_LastKernelIdeal_LastReferenceIdeal (hLastKernelIdeal := hLastKernelIdeal) (hLastReferenceIdeal := hLastReferenceIdeal)
    ∧ preserves_NormKernel_NormKernelIdeal
    ∧ algebraic_NormKernelIdeal_NormReferenceIdeal (hNormKernelIdeal := hNormKernelIdeal) (hNormReferenceIdeal := hNormReferenceIdeal)
    ∧ preserves_ExpertsKernel_ExpertsKernelIdeal
    ∧ algebraic_ExpertsKernelIdeal_ExpertsReferenceIdeal (hExpertsKernelIdeal := hExpertsKernelIdeal) (hExpertsReferenceIdeal := hExpertsReferenceIdeal) (hPre_experts_named := hPre_experts_named)
    ∧ preserves_CondKernel_CondKernelIdeal
    ∧ algebraic_CondKernelIdeal_CondReferenceIdeal (hCondKernelIdeal := hCondKernelIdeal) (hCondReferenceIdeal := hCondReferenceIdeal)
    ∧ preserves_RopeKernel_RopeKernelIdeal
    ∧ algebraic_RopeKernelIdeal_RopeReferenceIdeal (hRopeKernelIdeal := hRopeKernelIdeal) (hRopeReferenceIdeal := hRopeReferenceIdeal)
-- ==== Pre_experts_named.lean ====
abbrev S49152x1024 : Shape := ⟨2, ![49152, 1024]⟩
abbrev S96 : Shape := ⟨1, ![96]⟩
abbrev S1 : Shape := ⟨1, ![1]⟩
abbrev S4x32x1024x512 : Shape := ⟨4, ![4, 32, 1024, 512]⟩
abbrev S4x32x512x1024 : Shape := ⟨4, ![4, 32, 512, 1024]⟩
abbrev S_ : Shape := ⟨0, ![]⟩

class Facts : Prop where
  bcast_S_S96 : S_.BroadcastsInDim S96 (![] : Fin 0 → Fin S96.rank)

variable [Facts]

def fn {F : FTy → Type} [FloatOps F] (main_arg0 : FVec F S49152x1024 .f32) (main_arg1 : IVec S96 32) (main_arg2 : IVec S1 32) (main_arg3 : FVec F S4x32x1024x512 .f32) (main_arg4 : FVec F S4x32x1024x512 .f32) (main_arg5 : FVec F S4x32x512x1024 .f32) : IVec S96 1 :=
  let main_c : IVec S_ 32 := constantI S_ 32 0#32
  let main_v0 : IVec S96 32 := broadcastInDim S96 ![] bcast_S_S96 main_c
  let main_v1 : IVec S96 1 := cmpi .sge main_arg1 main_v0
  let main_c_0 : IVec S_ 32 := constantI S_ 32 32#32
  let main_v2 : IVec S96 32 := broadcastInDim S96 ![] bcast_S_S96 main_c_0
  let main_v3 : IVec S96 1 := cmpi .slt main_arg1 main_v2
  let main_v4 : IVec S96 1 := andi main_v1 main_v3
  main_v4
-- ==== Kernel.lean ====
abbrev S8x2048x2560 : Shape := ⟨3, ![8, 2048, 2560]⟩
abbrev S4x1280 : Shape := ⟨2, ![4, 1280]⟩
abbrev S1280 : Shape := ⟨1, ![1280]⟩
abbrev S4x16x80x80 : Shape := ⟨4, ![4, 16, 80, 80]⟩
abbrev S8x8 : Shape := ⟨2, ![8, 8]⟩
abbrev S_ : Shape := ⟨0, ![]⟩
abbrev S4x2x8x80x80 : Shape := ⟨5, ![4, 2, 8, 80, 80]⟩
abbrev S4x2x8x80x1x80 : Shape := ⟨6, ![4, 2, 8, 80, 1, 80]⟩
abbrev S8x1x8x1 : Shape := ⟨4, ![8, 1, 8, 1]⟩
abbrev S1x1x8x1x8x1 : Shape := ⟨6, ![1, 1, 8, 1, 8, 1]⟩
abbrev S4x2x8x80x8x80 : Shape := ⟨6, ![4, 2, 8, 80, 8, 80]⟩
abbrev S4x2x640x640 : Shape := ⟨4, ![4, 2, 640, 640]⟩
abbrev S4x2x640x1280 : Shape := ⟨4, ![4, 2, 640, 1280]⟩
abbrev S1x1280 : Shape := ⟨2, ![1, 1280]⟩
abbrev S8x2048x1280 : Shape := ⟨3, ![8, 2048, 1280]⟩
abbrev S1x256x1280 : Shape := ⟨3, ![1, 256, 1280]⟩
abbrev S1x2x640x1280 : Shape := ⟨4, ![1, 2, 640, 1280]⟩
abbrev S264x1280 : Shape := ⟨2, ![264, 1280]⟩
abbrev S256x1280 : Shape := ⟨2, ![256, 1280]⟩
abbrev S8x1280 : Shape := ⟨2, ![8, 1280]⟩
abbrev S256x640 : Shape := ⟨2, ![256, 640]⟩
abbrev S1x1x640x1280 : Shape := ⟨4, ![1, 1, 640, 1280]⟩
abbrev S640x1280 : Shape := ⟨2, ![640, 1280]⟩
abbrev S1x640 : Shape := ⟨2, ![1, 640]⟩

abbrev nBuf : Space → Nat
  | .hbm => 45
  | .vmem => 16
  | .smem => 0
  | _ => 0

abbrev bufTy : (tb : Table) → Fin (tcTables nBuf tb) → BufTy
  | .hbm, ⟨0, _⟩ => ⟨S8x2048x2560, .bf16⟩
  | .hbm, ⟨1, _⟩ => ⟨S4x1280, .f32⟩
  | .hbm, ⟨2, _⟩ => ⟨S1280, .f32⟩
  | .hbm, ⟨3, _⟩ => ⟨S4x16x80x80, .f32⟩
  | .hbm, ⟨4, _⟩ => ⟨S1280, .f32⟩
  | .hbm, ⟨5, _⟩ => ⟨S4x16x80x80, .f32⟩
  | .hbm, ⟨6, _⟩ => ⟨S1280, .f32⟩
  | .hbm, ⟨7, _⟩ => ⟨S1280, .f32⟩
  | .hbm, ⟨8, _⟩ => ⟨S8x8, .i32⟩
  | .hbm, ⟨9, _⟩ => ⟨S8x8, .i32⟩
  | .hbm, ⟨10, _⟩ => ⟨S_, .i32⟩
  | .hbm, ⟨11, _⟩ => ⟨S8x8, .i32⟩
  | .hbm, ⟨12, _⟩ => ⟨S8x8, .i32⟩
  | .hbm, ⟨13, _⟩ => ⟨S8x8, .i1⟩
  | .hbm, ⟨14, _⟩ => ⟨S8x8, .f32⟩
  | .hbm, ⟨15, _⟩ => ⟨S4x2x8x80x80, .f32⟩
  | .hbm, ⟨16, _⟩ => ⟨S4x2x8x80x1x80, .f32⟩
  | .hbm, ⟨17, _⟩ => ⟨S8x1x8x1, .f32⟩
  | .hbm, ⟨18, _⟩ => ⟨S1x1x8x1x8x1, .f32⟩
  | .hbm, ⟨19, _⟩ => ⟨S4x2x8x80x8x80, .f32⟩
  | .hbm, ⟨20, _⟩ => ⟨S4x2x8x80x8x80, .f32⟩
  | .hbm, ⟨21, _⟩ => ⟨S4x2x8x80x8x80, .f32⟩
  | .hbm, ⟨22, _⟩ => ⟨S4x2x640x640, .f32⟩
  | .hbm, ⟨23, _⟩ => ⟨S8x8, .i32⟩
  | .hbm, ⟨24, _⟩ => ⟨S8x8, .i32⟩
  | .hbm, ⟨25, _⟩ => ⟨S_, .i32⟩
  | .hbm, ⟨26, _⟩ => ⟨S8x8, .i32⟩
  | .hbm, ⟨27, _⟩ => ⟨S8x8, .i32⟩
  | .hbm, ⟨28, _⟩ => ⟨S8x8, .i1⟩
  | .hbm, ⟨29, _⟩ => ⟨S8x8, .f32⟩
  | .hbm, ⟨30, _⟩ => ⟨S4x2x8x80x80, .f32⟩
  | .hbm, ⟨31, _⟩ => ⟨S4x2x8x80x1x80, .f32⟩
  | .hbm, ⟨32, _⟩ => ⟨S8x1x8x1, .f32⟩
  | .hbm, ⟨33, _⟩ => ⟨S1x1x8x1x8x1, .f32⟩
  | .hbm, ⟨34, _⟩ => ⟨S4x2x8x80x8x80, .f32⟩
  | .hbm, ⟨35, _⟩ => ⟨S4x2x8x80x8x80, .f32⟩
  | .hbm, ⟨36, _⟩ => ⟨S4x2x8x80x8x80, .f32⟩
  | .hbm, ⟨37, _⟩ => ⟨S4x2x640x640, .f32⟩
  | .hbm, ⟨38, _⟩ => ⟨S4x2x640x1280, .f32⟩
  | .hbm, ⟨39, _⟩ => ⟨S4x2x640x1280, .bf16⟩
  | .hbm, ⟨40, _⟩ => ⟨S1x1280, .f32⟩
  | .hbm, ⟨41, _⟩ => ⟨S1x1280, .f32⟩
  | .hbm, ⟨42, _⟩ => ⟨S1x1280, .f32⟩
  | .hbm, ⟨43, _⟩ => ⟨S1x1280, .f32⟩
  | .hbm, ⟨44, _⟩ => ⟨S8x2048x1280, .bf16⟩
  | .local _ .vmem, ⟨0, _⟩ => ⟨S1x256x1280, .bf16⟩
  | .local _ .vmem, ⟨1, _⟩ => ⟨S1x256x1280, .bf16⟩
  | .local _ .vmem, ⟨2, _⟩ => ⟨S1x256x1280, .bf16⟩
  | .local _ .vmem, ⟨3, _⟩ => ⟨S1x256x1280, .bf16⟩
  | .local _ .vmem, ⟨4, _⟩ => ⟨S4x1280, .f32⟩
  | .local _ .vmem, ⟨5, _⟩ => ⟨S1x1280, .f32⟩
  | .local _ .vmem, ⟨6, _⟩ => ⟨S1x2x640x1280, .bf16⟩
  | .local _ .vmem, ⟨7, _⟩ => ⟨S1x1280, .f32⟩
  | .local _ .vmem, ⟨8, _⟩ => ⟨S1x1280, .f32⟩
  | .local _ .vmem, ⟨9, _⟩ => ⟨S1x1280, .f32⟩
  | .local _ .vmem, ⟨10, _⟩ => ⟨S1x256x1280, .bf16⟩
  | .local _ .vmem, ⟨11, _⟩ => ⟨S1x256x1280, .bf16⟩
  | .local _ .vmem, ⟨12, _⟩ => ⟨S264x1280, .f32⟩
  | .local _ .vmem, ⟨13, _⟩ => ⟨S256x1280, .f32⟩
  | .local _ .vmem, ⟨14, _⟩ => ⟨S256x1280, .f32⟩
  | .local _ .vmem, ⟨15, _⟩ => ⟨S8x1280, .f32⟩
  | _, _ => ⟨S8x2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_66 : BitVec 32 := 0#32
  let c32_i32 : BitVec 32 := 32#32
  let v151 : BitVec 32 := Scalar.addi c0_i32_66 c32_i32
  let c1_i32 : BitVec 32 := 1#32
  ⟨c0_i32_66, v151, c1_i32⟩
def k0_mult1 (k0_t1 : Fin k0_t1_loop.trips) : BitVec 32 :=
  let c0_i32_66 : BitVec 32 := 0#32
  let c1_i32 : BitVec 32 := 1#32
  let arg15 : BitVec 32 := Scf.iv c0_i32_66 c1_i32 k0_t1
  let c8_i32 : BitVec 32 := 8#32
  let v178 : BitVec 32 := Scalar.muli arg15 c8_i32
  v178
def k0_off1 (k0_t1 : Fin k0_t1_loop.trips) : Fin 2 → Nat :=
  let c0_i32_66 : BitVec 32 := 0#32
  let c1_i32 : BitVec 32 := 1#32
  let arg15 : BitVec 32 := Scf.iv c0_i32_66 c1_i32 k0_t1
  let c8_i32 : BitVec 32 := 8#32
  let v178 : BitVec 32 := Scalar.muli arg15 c8_i32
  let v179 : BitVec 32 := v178
  let v180 : Index := Scalar.indexCast v179
  let c0_82 : Index := 0#32
  ![v180.toNat, 0]
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2x640x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1280 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x2048x2560 : Shape := ⟨3, ![8, 2048, 2560]⟩
abbrev S4x1280 : Shape := ⟨2, ![4, 1280]⟩
abbrev S1280 : Shape := ⟨1, ![1280]⟩
abbrev S4x16x80x80 : Shape := ⟨4, ![4, 16, 80, 80]⟩
abbrev S8x2048x1280 : Shape := ⟨3, ![8, 2048, 1280]⟩
abbrev S_ : Shape := ⟨0, ![]⟩
abbrev S8x2051x1280 : Shape := ⟨3, ![8, 2051, 1280]⟩
abbrev S1x1280 : Shape := ⟨2, ![1, 1280]⟩
abbrev S1x1x1280 : Shape := ⟨3, ![1, 1, 1280]⟩
abbrev S8x2048x16x80 : Shape := ⟨4, ![8, 2048, 16, 80]⟩
abbrev S1x16x80x80 : Shape := ⟨4, ![1, 16, 80, 80]⟩
abbrev S16x80x80 : Shape := ⟨3, ![16, 80, 80]⟩
abbrev S16x80x8x2048 : Shape := ⟨4, ![16, 80, 8, 2048]⟩
abbrev S8x1280 : Shape := ⟨2, ![8, 1280]⟩
abbrev S2048x8x1280 : Shape := ⟨3, ![2048, 8, 1280]⟩
abbrev S1x8x1280 : Shape := ⟨3, ![1, 8, 1280]⟩

abbrev nBuf : Space → Nat
  | .hbm => 163
  | .vmem => 0
  | .smem => 0
  | _ => 0

abbrev hbmTy0_0 (i : Nat) : BufTy := match i % 128 with
  | 0 => ⟨S8x2048x2560, .bf16⟩
  | 1 => ⟨S4x1280, .f32⟩
  | 2 => ⟨S1280, .f32⟩
  | 3 => ⟨S4x16x80x80, .f32⟩
  | 4 => ⟨S1280, .f32⟩
  | 5 => ⟨S4x16x80x80, .f32⟩
  | 6 => ⟨S1280, .f32⟩
  | 7 => ⟨S1280, .f32⟩
  | 8 => ⟨S8x2048x2560, .f32⟩
  | 9 => ⟨S8x2048x1280, .f32⟩
  | 10 => ⟨S8x2048x1280, .f32⟩
  | 11 => ⟨S_, .i32⟩
  | 12 => ⟨S_, .f32⟩
  | 13 => ⟨S8x2051x1280, .f32⟩
  | 14 => ⟨S8x2048x1280, .f32⟩
  | 15 => ⟨S1x1280, .f32⟩
  | 16 => ⟨S1280, .f32⟩
  | 17 => ⟨S1x1x1280, .f32⟩
  | 18 => ⟨S8x2048x1280, .f32⟩
  | 19 => ⟨S8x2048x1280, .f32⟩
  | 20 => ⟨S8x2048x1280, .f32⟩
  | 21 => ⟨S1x1280, .f32⟩
  | 22 => ⟨S1280, .f32⟩
  | 23 => ⟨S1x1x1280, .f32⟩
  | 24 => ⟨S8x2048x1280, .f32⟩
  | 25 => ⟨S8x2048x1280, .f32⟩
  | 26 => ⟨S8x2048x1280, .f32⟩
  | 27 => ⟨S8x2048x1280, .f32⟩
  | 28 => ⟨S1x1280, .f32⟩
  | 29 => ⟨S1280, .f32⟩
  | 30 => ⟨S1x1x1280, .f32⟩
  | 31 => ⟨S8x2048x1280, .f32⟩
  | 32 => ⟨S8x2048x1280, .f32⟩
  | 33 => ⟨S8x2048x1280, .f32⟩
  | 34 => ⟨S8x2048x1280, .f32⟩
  | 35 => ⟨S1x1280, .f32⟩
  | 36 => ⟨S1280, .f32⟩
  | 37 => ⟨S1x1x1280, .f32⟩
  | 38 => ⟨S8x2048x1280, .f32⟩
  | 39 => ⟨S8x2048x1280, .f32⟩
  | 40 => ⟨S8x2048x1280, .f32⟩
  | 41 => ⟨S1x1x1280, .f32⟩
  | 42 => ⟨S8x2048x1280, .f32⟩
  | 43 => ⟨S8x2048x1280, .f32⟩
  | 44 => ⟨S8x2048x16x80, .f32⟩
  | 45 => ⟨S1x16x80x80, .f32⟩
  | 46 => ⟨S16x80x80, .f32⟩
  | 47 => ⟨S16x80x8x2048, .f32⟩
  | 48 => ⟨S8x2048x16x80, .f32⟩
  | 49 => ⟨S8x2048x1280, .f32⟩
  | 50 => ⟨S1x1x1280, .f32⟩
  | 51 => ⟨S8x2048x1280, .f32⟩
  | 52 => ⟨S8x2048x1280, .f32⟩
  | 53 => ⟨S8x2048x1280, .f32⟩
  | 54 => ⟨S8x2048x1280, .f32⟩
  | 55 => ⟨S_, .f32⟩
  | 56 => ⟨S8x2048x1280, .f32⟩
  | 57 => ⟨S8x2048x1280, .f32⟩
  | 58 => ⟨S_, .f32⟩
  | 59 => ⟨S8x2048x1280, .f32⟩
  | 60 => ⟨S8x2048x1280, .f32⟩
  | 61 => ⟨S1x16x80x80, .f32⟩
  | 62 => ⟨S16x80x80, .f32⟩
  | 63 => ⟨S16x80x8x2048, .f32⟩
  | 64 => ⟨S8x2048x16x80, .f32⟩
  | 65 => ⟨S8x2048x1280, .f32⟩
  | 66 => ⟨S1x1x1280, .f32⟩
  | 67 => ⟨S8x2048x1280, .f32⟩
  | 68 => ⟨S8x2048x1280, .f32⟩
  | 69 => ⟨S8x2048x1280, .f32⟩
  | 70 => ⟨S8x2048x1280, .f32⟩
  | 71 => ⟨S_, .f32⟩
  | 72 => ⟨S8x2048x1280, .f32⟩
  | 73 => ⟨S8x2048x1280, .f32⟩
  | 74 => ⟨S_, .f32⟩
  | 75 => ⟨S8x2048x1280, .f32⟩
  | 76 => ⟨S8x2048x1280, .f32⟩
  | 77 => ⟨S_, .f32⟩
  | 78 => ⟨S8x2048x1280, .f32⟩
  | 79 => ⟨S8x2048x1280, .f32⟩
  | 80 => ⟨S1280, .f32⟩
  | 81 => ⟨S_, .f32⟩
  | 82 => ⟨S1280, .f32⟩
  | 83 => ⟨S1280, .f32⟩
  | 84 => ⟨S1280, .f32⟩
  | 85 => ⟨S1280, .f32⟩
  | 86 => ⟨S1280, .i1⟩
  | 87 => ⟨S1280, .f32⟩
  | 88 => ⟨S1280, .f32⟩
  | 89 => ⟨S1280, .f32⟩
  | 90 => ⟨S1280, .f32⟩
  | 91 => ⟨S1280, .f32⟩
  | 92 => ⟨S1280, .f32⟩
  | 93 => ⟨S1280, .f32⟩
  | 94 => ⟨S1280, .f32⟩
  | 95 => ⟨S1x1x1280, .f32⟩
  | 96 => ⟨S8x2048x1280, .f32⟩
  | 97 => ⟨S8x2048x1280, .f32⟩
  | 98 => ⟨S8x2048x1280, .f32⟩
  | 99 => ⟨S_, .f32⟩
  | 100 => ⟨S8x2048x1280, .f32⟩
  | 101 => ⟨S8x2048x1280, .f32⟩
  | 102 => ⟨S8x2048x1280, .f32⟩
  | 103 => ⟨S8x2048x1280, .f32⟩
  | 104 => ⟨S8x2048x1280, .f32⟩
  | 105 => ⟨S8x2048x1280, .f32⟩
  | 106 => ⟨S8x2048x1280, .f32⟩
  | 107 => ⟨S8x2048x1280, .f32⟩
  | 108 => ⟨S8x2048x1280, .f32⟩
  | 109 => ⟨S_, .f32⟩
  | 110 => ⟨S8x2048x1280, .f32⟩
  | 111 => ⟨S8x2048x1280, .f32⟩
  | 112 => ⟨S8x2048x1280, .f32⟩
  | 113 => ⟨S_, .f32⟩
  | 114 => ⟨S8x2048x1280, .f32⟩
  | 115 => ⟨S8x2048x1280, .f32⟩
  | 116 => ⟨S8x2048x1280, .f32⟩
  | 117 => ⟨S_, .f32⟩
  | 118 => ⟨S8x2048x1280, .f32⟩
  | 119 => ⟨S8x2048x1280, .f32⟩
  | 120 => ⟨S_, .f32⟩
  | 121 => ⟨S8x2048x1280, .f32⟩
  | 122 => ⟨S8x2048x1280, .f32⟩
  | 123 => ⟨S8x2048x1280, .f32⟩
  | 124 => ⟨S_, .f32⟩
  | 125 => ⟨S8x1280, .f32⟩
  | 126 => ⟨S2048x8x1280, .f32⟩
  | 127 => ⟨S2048x8x1280, .f32⟩
  | _ => ⟨S8x2048x2560, .bf16⟩

abbrev hbmTy0_1 (i : Nat) : BufTy := match i % 128 with
  | 0 => ⟨S2048x8x1280, .f32⟩
  | 1 => ⟨S_, .f32⟩
  | 2 => ⟨S2048x8x1280, .f32⟩
  | 3 => ⟨S_, .i32⟩
  | 4 => ⟨S2048x8x1280, .f32⟩
  | 5 => ⟨S2048x8x1280, .f32⟩
  | 6 => ⟨S2048x8x1280, .f32⟩
  | 7 => ⟨S_, .i32⟩
  | 8 => ⟨S8x1280, .f32⟩
  | 9 => ⟨S2048x8x1280, .f32⟩
  | 10 => ⟨S_, .i32⟩
  | 11 => ⟨S_, .i1⟩
  | 12 => ⟨S_, .i32⟩
  | 13 => ⟨S_, .i32⟩
  | 14 => ⟨S1x8x1280, .f32⟩
  | 15 => ⟨S8x1280, .f32⟩
  | 16 => ⟨S_, .i32⟩
  | 17 => ⟨S_, .i32⟩
  | 18 => ⟨S1x8x1280, .f32⟩
  | 19 => ⟨S8x1280, .f32⟩
  | 20 => ⟨S_, .i32⟩
  | 21 => ⟨S_, .i32⟩
  | 22 => ⟨S1x8x1280, .f32⟩
  | 23 => ⟨S8x1280, .f32⟩
  | 24 => ⟨S8x1280, .f32⟩
  | 25 => ⟨S8x1280, .f32⟩
  | 26 => ⟨S8x1280, .f32⟩
  | 27 => ⟨S1x8x1280, .f32⟩
  | 28 => ⟨S_, .i32⟩
  | 29 => ⟨S_, .i32⟩
  | 30 => ⟨S2048x8x1280, .f32⟩
  | 31 => ⟨S_, .i32⟩
  | 32 => ⟨S_, .i32⟩
  | 33 => ⟨S8x2048x1280, .f32⟩
  | 34 => ⟨S8x2048x1280, .bf16⟩
  | _ => ⟨S8x2048x2560, .bf16⟩

abbrev hbmTy (i : Nat) : BufTy := match i / 128 with
  | 0 => hbmTy0_0 i
  | 1 => hbmTy0_1 i
  | _ => ⟨S8x2048x2560, .bf16⟩

abbrev bufTy : (tb : Table) → Fin (tcTables nBuf tb) → BufTy
  | .hbm, ⟨i, _⟩ => hbmTy i
  | _, _ => ⟨S8x2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst : Ref sig .tc := ⟨.hbm, 55, rfl⟩
abbrev main_v45 : Ref sig .tc := ⟨.hbm, 56, rfl⟩
abbrev main_v46 : Ref sig .tc := ⟨.hbm, 57, rfl⟩
abbrev main_cst_0 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_1 : Ref sig .tc := ⟨.hbm, 71, rfl⟩
abbrev main_v59 : Ref sig .tc := ⟨.hbm, 72, rfl⟩
abbrev main_v60 : Ref sig .tc := ⟨.hbm, 73, rfl⟩
abbrev main_cst_2 : Ref sig .tc := ⟨.hbm, 74, rfl⟩
abbrev main_v61 : Ref sig .tc := ⟨.hbm, 75, rfl⟩
abbrev main_v62 : Ref sig .tc := ⟨.hbm, 76, rfl⟩
abbrev main_cst_3 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_4 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_5 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_6 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_7 : Ref sig .tc := ⟨.hbm, 117, rfl⟩
abbrev main_v86 : Ref sig .tc := ⟨.hbm, 118, rfl⟩
abbrev main_v87 : Ref sig .tc := ⟨.hbm, 119, rfl⟩
abbrev main_cst_8 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_9 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_10 : Ref sig .tc := ⟨.hbm, 129, rfl⟩
abbrev main_v95 : Ref sig .tc := ⟨.hbm, 130, rfl⟩
abbrev main_c_11 : Ref sig .tc := ⟨.hbm, 131, rfl⟩
abbrev main_v96_0 : Ref sig .tc := ⟨.hbm, 132, rfl⟩
abbrev main_v96_1 : Ref sig .tc := ⟨.hbm, 133, rfl⟩
abbrev main_v96_2 : Ref sig .tc := ⟨.hbm, 134, rfl⟩
abbrev main_v96_3 : Ref sig .tc := ⟨.hbm, 135, rfl⟩
abbrev main_v96_4 : Ref sig .tc := ⟨.hbm, 136, rfl⟩
abbrev main_v96_5 : Ref sig .tc := ⟨.hbm, 137, rfl⟩
abbrev main_while0c_c_17 : Ref sig .tc := ⟨.hbm, 138, rfl⟩
abbrev main_while0c_v99 : Ref sig .tc := ⟨.hbm, 139, rfl⟩
abbrev main_while0b_call2_c : Ref sig .tc := ⟨.hbm, 140, rfl⟩
abbrev main_while0b_call2_c_0 : Ref sig .tc := ⟨.hbm, 141, rfl⟩
abbrev main_while0b_call2_v0 : Ref sig .tc := ⟨.hbm, 142, rfl⟩
abbrev main_while0b_v99 : Ref sig .tc := ⟨.hbm, 143, rfl⟩
abbrev main_while0b_call3_c : Ref sig .tc := ⟨.hbm, 144, rfl⟩
abbrev main_while0b_call3_c_0 : Ref sig .tc := ⟨.hbm, 145, rfl⟩
abbrev main_while0b_call3_v0 : Ref sig .tc := ⟨.hbm, 146, rfl⟩
abbrev main_while0b_v100 : Ref sig .tc := ⟨.hbm, 147, rfl⟩
abbrev main_while0b_call4_c : Ref sig .tc := ⟨.hbm, 148, rfl⟩
abbrev main_while0b_call4_c_0 : Ref sig .tc := ⟨.hbm, 149, rfl⟩
abbrev main_while0b_call4_v0 : Ref sig .tc := ⟨.hbm, 150, rfl⟩
abbrev main_while0b_v101 : Ref sig .tc := ⟨.hbm, 151, rfl⟩
abbrev main_while0b_v102 : Ref sig .tc := ⟨.hbm, 152, rfl⟩
abbrev main_while0b_v103 : Ref sig .tc := ⟨.hbm, 153, rfl⟩
abbrev main_while0b_v104 : Ref sig .tc := ⟨.hbm, 154, rfl⟩
abbrev main_while0b_call5_v0 : Ref sig .tc := ⟨.hbm, 155, rfl⟩
abbrev main_while0b_call5_c : Ref sig .tc := ⟨.hbm, 156, rfl⟩
abbrev main_while0b_call5_c_0 : Ref sig .tc := ⟨.hbm, 157, rfl⟩
abbrev main_while0b_v105 : Ref sig .tc := ⟨.hbm, 158, rfl⟩
abbrev main_while0b_c_17 : Ref sig .tc := ⟨.hbm, 159, rfl⟩
abbrev main_while0b_v106 : Ref sig .tc := ⟨.hbm, 160, rfl⟩
abbrev main_v97 : Ref sig .tc := ⟨.hbm, 161, rfl⟩
abbrev main_v98 : Ref sig .tc := ⟨.hbm, 162, rfl⟩

abbrev nD : Nat := 1
abbrev τ : Topo := Topo.v7x

variable {F : FTy → Type} [FloatOps F]

abbrev main_while0_count : Scf.Loop 32 := ⟨0#32, 2048#32, 1#32⟩
-- ==== ZKernel.lean ====
abbrev S8x2048x1024 : Shape := ⟨3, ![8, 2048, 1024]⟩
abbrev S4x1024x16416 : Shape := ⟨3, ![4, 1024, 16416]⟩
abbrev S16384x1024 : Shape := ⟨2, ![16384, 1024]⟩
abbrev S4x1024x4096 : Shape := ⟨3, ![4, 1024, 4096]⟩
abbrev S4x1024x2048 : Shape := ⟨3, ![4, 1024, 2048]⟩
abbrev S4x1024x3072 : Shape := ⟨3, ![4, 1024, 3072]⟩
abbrev S4x1024x24x2x2x32 : Shape := ⟨6, ![4, 1024, 24, 2, 2, 32]⟩
abbrev S4x1024x1536 : Shape := ⟨3, ![4, 1024, 1536]⟩
abbrev S_ : Shape := ⟨0, ![]⟩
abbrev S4x1024x256 : Shape := ⟨3, ![4, 1024, 256]⟩
abbrev S4x1024x2560 : Shape := ⟨3, ![4, 1024, 2560]⟩
abbrev S4x1024x32 : Shape := ⟨3, ![4, 1024, 32]⟩
abbrev S4x1024x96 : Shape := ⟨3, ![4, 1024, 96]⟩
abbrev S4x1024x16768 : Shape := ⟨3, ![4, 1024, 16768]⟩
abbrev S16384x2048 : Shape := ⟨2, ![16384, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 20
  | .vmem => 6
  | .smem => 0
  | _ => 0

abbrev bufTy : (tb : Table) → Fin (tcTables nBuf tb) → BufTy
  | .hbm, ⟨0, _⟩ => ⟨S8x2048x1024, .bf16⟩
  | .hbm, ⟨1, _⟩ => ⟨S4x1024x16416, .f32⟩
  | .hbm, ⟨2, _⟩ => ⟨S16384x1024, .bf16⟩
  | .hbm, ⟨3, _⟩ => ⟨S4x1024x4096, .f32⟩
  | .hbm, ⟨4, _⟩ => ⟨S4x1024x2048, .f32⟩
  | .hbm, ⟨5, _⟩ => ⟨S4x1024x3072, .f32⟩
  | .hbm, ⟨6, _⟩ => ⟨S4x1024x3072, .f32⟩
  | .hbm, ⟨7, _⟩ => ⟨S4x1024x24x2x2x32, .f32⟩
  | .hbm, ⟨8, _⟩ => ⟨S4x1024x24x2x2x32, .f32⟩
  | .hbm, ⟨9, _⟩ => ⟨S4x1024x3072, .f32⟩
  | .hbm, ⟨10, _⟩ => ⟨S4x1024x1536, .f32⟩
  | .hbm, ⟨11, _⟩ => ⟨S_, .f32⟩
  | .hbm, ⟨12, _⟩ => ⟨S4x1024x256, .f32⟩
  | .hbm, ⟨13, _⟩ => ⟨S4x1024x2560, .f32⟩
  | .hbm, ⟨14, _⟩ => ⟨S4x1024x32, .f32⟩
  | .hbm, ⟨15, _⟩ => ⟨S_, .f32⟩
  | .hbm, ⟨16, _⟩ => ⟨S4x1024x96, .f32⟩
  | .hbm, ⟨17, _⟩ => ⟨S4x1024x16768, .f32⟩
  | .hbm, ⟨18, _⟩ => ⟨S4x1024x16768, .bf16⟩
  | .hbm, ⟨19, _⟩ => ⟨S16384x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ZReferenceIdeal.lean ====
abbrev S8x2048x1024 : Shape := ⟨3, ![8, 2048, 1024]⟩
abbrev S4x1024x16416 : Shape := ⟨3, ![4, 1024, 16416]⟩
abbrev S1x1024x16416 : Shape := ⟨3, ![1, 1024, 16416]⟩
abbrev S1024x16416 : Shape := ⟨2, ![1024, 16416]⟩
abbrev S8x2048x16416 : Shape := ⟨3, ![8, 2048, 16416]⟩
abbrev S8x2048x1536 : Shape := ⟨3, ![8, 2048, 1536]⟩
abbrev S8x2048x2048 : Shape := ⟨3, ![8, 2048, 2048]⟩
abbrev S8x2048x4096 : Shape := ⟨3, ![8, 2048, 4096]⟩
abbrev S8x2048x32 : Shape := ⟨3, ![8, 2048, 32]⟩
abbrev S8x2048x1280 : Shape := ⟨3, ![8, 2048, 1280]⟩
abbrev S8x2048x3072 : Shape := ⟨3, ![8, 2048, 3072]⟩
abbrev S16384x2048 : Shape := ⟨2, ![16384, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S4x1024x16416, .f32⟩
  | .hbm, ⟨2, _⟩ => ⟨S8x2048x1024, .f32⟩
  | .hbm, ⟨3, _⟩ => ⟨S1x1024x16416, .f32⟩
  | .hbm, ⟨4, _⟩ => ⟨S1024x16416, .f32⟩
  | .hbm, ⟨5, _⟩ => ⟨S8x2048x16416, .f32⟩
  | .hbm, ⟨6, _⟩ => ⟨S8x2048x1536, .f32⟩
  | .hbm, ⟨7, _⟩ => ⟨S8x2048x1536, .f32⟩
  | .hbm, ⟨8, _⟩ => ⟨S8x2048x1536, .f32⟩
  | .hbm, ⟨9, _⟩ => ⟨S8x2048x2048, .f32⟩
  | .hbm, ⟨10, _⟩ => ⟨S8x2048x4096, .f32⟩
  | .hbm, ⟨11, _⟩ => ⟨S8x2048x32, .f32⟩
  | .hbm, ⟨12, _⟩ => ⟨S8x2048x1280, .f32⟩
  | .hbm, ⟨13, _⟩ => ⟨S8x2048x1280, .f32⟩
  | .hbm, ⟨14, _⟩ => ⟨S8x2048x3072, .f32⟩
  | .hbm, ⟨15, _⟩ => ⟨S16384x2048, .f32⟩
  | .hbm, ⟨16, _⟩ => ⟨S16384x2048, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]
-- ==== XbcKernel.lean ====
abbrev S8x2048x1024 : Shape := ⟨3, ![8, 2048, 1024]⟩
abbrev S4x1024x16416 : Shape := ⟨3, ![4, 1024, 16416]⟩
abbrev S16384x1024 : Shape := ⟨2, ![16384, 1024]⟩
abbrev S4x1024x4096 : Shape := ⟨3, ![4, 1024, 4096]⟩
abbrev S4x1024x2048 : Shape := ⟨3, ![4, 1024, 2048]⟩
abbrev S4x1024x3072 : Shape := ⟨3, ![4, 1024, 3072]⟩
abbrev S4x1024x24x2x2x32 : Shape := ⟨6, ![4, 1024, 24, 2, 2, 32]⟩
abbrev S4x1024x1536 : Shape := ⟨3, ![4, 1024, 1536]⟩
abbrev S_ : Shape := ⟨0, ![]⟩
abbrev S4x1024x256 : Shape := ⟨3, ![4, 1024, 256]⟩
abbrev S4x1024x2560 : Shape := ⟨3, ![4, 1024, 2560]⟩
abbrev S4x1024x32 : Shape := ⟨3, ![4, 1024, 32]⟩
abbrev S4x1024x96 : Shape := ⟨3, ![4, 1024, 96]⟩
abbrev S4x1024x16768 : Shape := ⟨3, ![4, 1024, 16768]⟩
abbrev S16384x4096 : Shape := ⟨2, ![16384, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 20
  | .vmem => 6
  | .smem => 0
  | _ => 0

abbrev bufTy : (tb : Table) → Fin (tcTables nBuf tb) → BufTy
  | .hbm, ⟨0, _⟩ => ⟨S8x2048x1024, .bf16⟩
  | .hbm, ⟨1, _⟩ => ⟨S4x1024x16416, .f32⟩
  | .hbm, ⟨2, _⟩ => ⟨S16384x1024, .bf16⟩
  | .hbm, ⟨3, _⟩ => ⟨S4x1024x4096, .f32⟩
  | .hbm, ⟨4, _⟩ => ⟨S4x1024x2048, .f32⟩
  | .hbm, ⟨5, _⟩ => ⟨S4x1024x3072, .f32⟩
  | .hbm, ⟨6, _⟩ => ⟨S4x1024x3072, .f32⟩
  | .hbm, ⟨7, _⟩ => ⟨S4x1024x24x2x2x32, .f32⟩
  | .hbm, ⟨8, _⟩ => ⟨S4x1024x24x2x2x32, .f32⟩
  | .hbm, ⟨9, _⟩ => ⟨S4x1024x3072, .f32⟩
  | .hbm, ⟨10, _⟩ => ⟨S4x1024x1536, .f32⟩
  | .hbm, ⟨11, _⟩ => ⟨S_, .f32⟩
  | .hbm, ⟨12, _⟩ => ⟨S4x1024x256, .f32⟩
  | .hbm, ⟨13, _⟩ => ⟨S4x1024x2560, .f32⟩
  | .hbm, ⟨14, _⟩ => ⟨S4x1024x32, .f32⟩
  | .hbm, ⟨15, _⟩ => ⟨S_, .f32⟩
  | .hbm, ⟨16, _⟩ => ⟨S4x1024x96, .f32⟩
  | .hbm, ⟨17, _⟩ => ⟨S4x1024x16768, .f32⟩
  | .hbm, ⟨18, _⟩ => ⟨S4x1024x16768, .bf16⟩
  | .hbm, ⟨19, _⟩ => ⟨S16384x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XbcReferenceIdeal.lean ====
abbrev S8x2048x1024 : Shape := ⟨3, ![8, 2048, 1024]⟩
abbrev S4x1024x16416 : Shape := ⟨3, ![4, 1024, 16416]⟩
abbrev S1x1024x16416 : Shape := ⟨3, ![1, 1024, 16416]⟩
abbrev S1024x16416 : Shape := ⟨2, ![1024, 16416]⟩
abbrev S8x2048x16416 : Shape := ⟨3, ![8, 2048, 16416]⟩
abbrev S8x2048x1536 : Shape := ⟨3, ![8, 2048, 1536]⟩
abbrev S8x2048x2048 : Shape := ⟨3, ![8, 2048, 2048]⟩
abbrev S8x2048x4096 : Shape := ⟨3, ![8, 2048, 4096]⟩
abbrev S8x2048x32 : Shape := ⟨3, ![8, 2048, 32]⟩
abbrev S8x2048x1280 : Shape := ⟨3, ![8, 2048, 1280]⟩
abbrev S8x2048x3072 : Shape := ⟨3, ![8, 2048, 3072]⟩
abbrev S16384x4096 : Shape := ⟨2, ![16384, 4096]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S4x1024x16416, .f32⟩
  | .hbm, ⟨2, _⟩ => ⟨S8x2048x1024, .f32⟩
  | .hbm, ⟨3, _⟩ => ⟨S1x1024x16416, .f32⟩
  | .hbm, ⟨4, _⟩ => ⟨S1024x16416, .f32⟩
  | .hbm, ⟨5, _⟩ => ⟨S8x2048x16416, .f32⟩
  | .hbm, ⟨6, _⟩ => ⟨S8x2048x1536, .f32⟩
  | .hbm, ⟨7, _⟩ => ⟨S8x2048x1536, .f32⟩
  | .hbm, ⟨8, _⟩ => ⟨S8x2048x1536, .f32⟩
  | .hbm, ⟨9, _⟩ => ⟨S8x2048x2048, .f32⟩
  | .hbm, ⟨10, _⟩ => ⟨S8x2048x4096, .f32⟩
  | .hbm, ⟨11, _⟩ => ⟨S8x2048x32, .f32⟩
  | .hbm, ⟨12, _⟩ => ⟨S8x2048x1280, .f32⟩
  | .hbm, ⟨13, _⟩ => ⟨S8x2048x1280, .f32⟩
  | .hbm, ⟨14, _⟩ => ⟨S8x2048x3072, .f32⟩
  | .hbm, ⟨15, _⟩ => ⟨S16384x4096, .f32⟩
  | .hbm, ⟨16, _⟩ => ⟨S16384x4096, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]
-- ==== GatesKernel.lean ====
abbrev S8x2048x1024 : Shape := ⟨3, ![8, 2048, 1024]⟩
abbrev S4x1024x16416 : Shape := ⟨3, ![4, 1024, 16416]⟩
abbrev S16384x1024 : Shape := ⟨2, ![16384, 1024]⟩
abbrev S4x1024x4096 : Shape := ⟨3, ![4, 1024, 4096]⟩
abbrev S4x1024x2048 : Shape := ⟨3, ![4, 1024, 2048]⟩
abbrev S4x1024x3072 : Shape := ⟨3, ![4, 1024, 3072]⟩
abbrev S4x1024x24x2x2x32 : Shape := ⟨6, ![4, 1024, 24, 2, 2, 32]⟩
abbrev S4x1024x1536 : Shape := ⟨3, ![4, 1024, 1536]⟩
abbrev S_ : Shape := ⟨0, ![]⟩
abbrev S4x1024x256 : Shape := ⟨3, ![4, 1024, 256]⟩
abbrev S4x1024x2560 : Shape := ⟨3, ![4, 1024, 2560]⟩
abbrev S4x1024x32 : Shape := ⟨3, ![4, 1024, 32]⟩
abbrev S4x1024x96 : Shape := ⟨3, ![4, 1024, 96]⟩
abbrev S4x1024x16768 : Shape := ⟨3, ![4, 1024, 16768]⟩
abbrev S16384x3072 : Shape := ⟨2, ![16384, 3072]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 20
  | .vmem => 6
  | .smem => 0
  | _ => 0

abbrev bufTy : (tb : Table) → Fin (tcTables nBuf tb) → BufTy
  | .hbm, ⟨0, _⟩ => ⟨S8x2048x1024, .bf16⟩
  | .hbm, ⟨1, _⟩ => ⟨S4x1024x16416, .f32⟩
  | .hbm, ⟨2, _⟩ => ⟨S16384x1024, .bf16⟩
  | .hbm, ⟨3, _⟩ => ⟨S4x1024x4096, .f32⟩
  | .hbm, ⟨4, _⟩ => ⟨S4x1024x2048, .f32⟩
  | .hbm, ⟨5, _⟩ => ⟨S4x1024x3072, .f32⟩
  | .hbm, ⟨6, _⟩ => ⟨S4x1024x3072, .f32⟩
  | .hbm, ⟨7, _⟩ => ⟨S4x1024x24x2x2x32, .f32⟩
  | .hbm, ⟨8, _⟩ => ⟨S4x1024x24x2x2x32, .f32⟩
  | .hbm, ⟨9, _⟩ => ⟨S4x1024x3072, .f32⟩
  | .hbm, ⟨10, _⟩ => ⟨S4x1024x1536, .f32⟩
  | .hbm, ⟨11, _⟩ => ⟨S_, .f32⟩
  | .hbm, ⟨12, _⟩ => ⟨S4x1024x256, .f32⟩
  | .hbm, ⟨13, _⟩ => ⟨S4x1024x2560, .f32⟩
  | .hbm, ⟨14, _⟩ => ⟨S4x1024x32, .f32⟩
  | .hbm, ⟨15, _⟩ => ⟨S_, .f32⟩
  | .hbm, ⟨16, _⟩ => ⟨S4x1024x96, .f32⟩
  | .hbm, ⟨17, _⟩ => ⟨S4x1024x16768, .f32⟩
  | .hbm, ⟨18, _⟩ => ⟨S4x1024x16768, .bf16⟩
  | .hbm, ⟨19, _⟩ => ⟨S16384x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesReferenceIdeal.lean ====
abbrev S8x2048x1024 : Shape := ⟨3, ![8, 2048, 1024]⟩
abbrev S4x1024x16416 : Shape := ⟨3, ![4, 1024, 16416]⟩
abbrev S1x1024x16416 : Shape := ⟨3, ![1, 1024, 16416]⟩
abbrev S1024x16416 : Shape := ⟨2, ![1024, 16416]⟩
abbrev S8x2048x16416 : Shape := ⟨3, ![8, 2048, 16416]⟩
abbrev S8x2048x1536 : Shape := ⟨3, ![8, 2048, 1536]⟩
abbrev S8x2048x2048 : Shape := ⟨3, ![8, 2048, 2048]⟩
abbrev S8x2048x4096 : Shape := ⟨3, ![8, 2048, 4096]⟩
abbrev S8x2048x32 : Shape := ⟨3, ![8, 2048, 32]⟩
abbrev S8x2048x1280 : Shape := ⟨3, ![8, 2048, 1280]⟩
abbrev S8x2048x3072 : Shape := ⟨3, ![8, 2048, 3072]⟩
abbrev S16384x3072 : Shape := ⟨2, ![16384, 3072]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S4x1024x16416, .f32⟩
  | .hbm, ⟨2, _⟩ => ⟨S8x2048x1024, .f32⟩
  | .hbm, ⟨3, _⟩ => ⟨S1x1024x16416, .f32⟩
  | .hbm, ⟨4, _⟩ => ⟨S1024x16416, .f32⟩
  | .hbm, ⟨5, _⟩ => ⟨S8x2048x16416, .f32⟩
  | .hbm, ⟨6, _⟩ => ⟨S8x2048x1536, .f32⟩
  | .hbm, ⟨7, _⟩ => ⟨S8x2048x1536, .f32⟩
  | .hbm, ⟨8, _⟩ => ⟨S8x2048x1536, .f32⟩
  | .hbm, ⟨9, _⟩ => ⟨S8x2048x2048, .f32⟩
  | .hbm, ⟨10, _⟩ => ⟨S8x2048x4096, .f32⟩
  | .hbm, ⟨11, _⟩ => ⟨S8x2048x32, .f32⟩
  | .hbm, ⟨12, _⟩ => ⟨S8x2048x1280, .f32⟩
  | .hbm, ⟨13, _⟩ => ⟨S8x2048x1280, .f32⟩
  | .hbm, ⟨14, _⟩ => ⟨S8x2048x3072, .f32⟩
  | .hbm, ⟨15, _⟩ => ⟨S16384x3072, .f32⟩
  | .hbm, ⟨16, _⟩ => ⟨S16384x3072, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]
-- ==== BranchKernel.lean ====
abbrev S8x2048x1024 : Shape := ⟨3, ![8, 2048, 1024]⟩
abbrev S4x1024x16416 : Shape := ⟨3, ![4, 1024, 16416]⟩
abbrev S16384x1024 : Shape := ⟨2, ![16384, 1024]⟩
abbrev S4x1024x4096 : Shape := ⟨3, ![4, 1024, 4096]⟩
abbrev S4x1024x2048 : Shape := ⟨3, ![4, 1024, 2048]⟩
abbrev S4x1024x3072 : Shape := ⟨3, ![4, 1024, 3072]⟩
abbrev S4x1024x24x2x2x32 : Shape := ⟨6, ![4, 1024, 24, 2, 2, 32]⟩
abbrev S4x1024x1536 : Shape := ⟨3, ![4, 1024, 1536]⟩
abbrev S_ : Shape := ⟨0, ![]⟩
abbrev S4x1024x256 : Shape := ⟨3, ![4, 1024, 256]⟩
abbrev S4x1024x2560 : Shape := ⟨3, ![4, 1024, 2560]⟩
abbrev S4x1024x32 : Shape := ⟨3, ![4, 1024, 32]⟩
abbrev S4x1024x96 : Shape := ⟨3, ![4, 1024, 96]⟩
abbrev S4x1024x16768 : Shape := ⟨3, ![4, 1024, 16768]⟩
abbrev S16384x2560 : Shape := ⟨2, ![16384, 2560]⟩
abbrev S2048x1024 : Shape := ⟨2, ![2048, 1024]⟩
abbrev S1x1024x1280 : Shape := ⟨3, ![1, 1024, 1280]⟩
abbrev S2048x1280 : Shape := ⟨2, ![2048, 1280]⟩
abbrev S1024x1280 : Shape := ⟨2, ![1024, 1280]⟩

abbrev nBuf : Space → Nat
  | .hbm => 20
  | .vmem => 6
  | .smem => 0
  | _ => 0

abbrev bufTy : (tb : Table) → Fin (tcTables nBuf tb) → BufTy
  | .hbm, ⟨0, _⟩ => ⟨S8x2048x1024, .bf16⟩
  | .hbm, ⟨1, _⟩ => ⟨S4x1024x16416, .f32⟩
  | .hbm, ⟨2, _⟩ => ⟨S16384x1024, .bf16⟩
  | .hbm, ⟨3, _⟩ => ⟨S4x1024x4096, .f32⟩
  | .hbm, ⟨4, _⟩ => ⟨S4x1024x2048, .f32⟩
  | .hbm, ⟨5, _⟩ => ⟨S4x1024x3072, .f32⟩
  | .hbm, ⟨6, _⟩ => ⟨S4x1024x3072, .f32⟩
  | .hbm, ⟨7, _⟩ => ⟨S4x1024x24x2x2x32, .f32⟩
  | .hbm, ⟨8, _⟩ => ⟨S4x1024x24x2x2x32, .f32⟩
  | .hbm, ⟨9, _⟩ => ⟨S4x1024x3072, .f32⟩
  | .hbm, ⟨10, _⟩ => ⟨S4x1024x1536, .f32⟩
  | .hbm, ⟨11, _⟩ => ⟨S_, .f32⟩
  | .hbm, ⟨12, _⟩ => ⟨S4x1024x256, .f32⟩
  | .hbm, ⟨13, _⟩ => ⟨S4x1024x2560, .f32⟩
  | .hbm, ⟨14, _⟩ => ⟨S4x1024x32, .f32⟩
  | .hbm, ⟨15, _⟩ => ⟨S_, .f32⟩
  | .hbm, ⟨16, _⟩ => ⟨S4x1024x96, .f32⟩
  | .hbm, ⟨17, _⟩ => ⟨S4x1024x16768, .f32⟩
  | .hbm, ⟨18, _⟩ => ⟨S4x1024x16768, .bf16⟩
  | .hbm, ⟨19, _⟩ => ⟨S16384x2560, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1280, .bf16⟩
  | .local _ .vmem, ⟨3, _⟩ => ⟨S1x1024x1280, .bf16⟩
  | .local _ .vmem, ⟨4, _⟩ => ⟨S2048x1280, .bf16⟩
  | .local _ .vmem, ⟨5, _⟩ => ⟨S2048x1280, .bf16⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BranchReferenceIdeal.lean ====
abbrev S8x2048x1024 : Shape := ⟨3, ![8, 2048, 1024]⟩
abbrev S4x1024x16416 : Shape := ⟨3, ![4, 1024, 16416]⟩
abbrev S1x1024x16416 : Shape := ⟨3, ![1, 1024, 16416]⟩
abbrev S1024x16416 : Shape := ⟨2, ![1024, 16416]⟩
abbrev S8x2048x16416 : Shape := ⟨3, ![8, 2048, 16416]⟩
abbrev S8x2048x1536 : Shape := ⟨3, ![8, 2048, 1536]⟩
abbrev S8x2048x2048 : Shape := ⟨3, ![8, 2048, 2048]⟩
abbrev S8x2048x4096 : Shape := ⟨3, ![8, 2048, 4096]⟩
abbrev S8x2048x32 : Shape := ⟨3, ![8, 2048, 32]⟩
abbrev S8x2048x1280 : Shape := ⟨3, ![8, 2048, 1280]⟩
abbrev S8x2048x3072 : Shape := ⟨3, ![8, 2048, 3072]⟩
abbrev S8x2048x2560 : Shape := ⟨3, ![8, 2048, 2560]⟩
abbrev S16384x2560 : Shape := ⟨2, ![16384, 2560]⟩

abbrev nBuf : Space → Nat
  | .hbm => 18
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S4x1024x16416, .f32⟩
  | .hbm, ⟨2, _⟩ => ⟨S8x2048x1024, .f32⟩
  | .hbm, ⟨3, _⟩ => ⟨S1x1024x16416, .f32⟩
  | .hbm, ⟨4, _⟩ => ⟨S1024x16416, .f32⟩
  | .hbm, ⟨5, _⟩ => ⟨S8x2048x16416, .f32⟩
  | .hbm, ⟨6, _⟩ => ⟨S8x2048x1536, .f32⟩
  | .hbm, ⟨7, _⟩ => ⟨S8x2048x1536, .f32⟩
  | .hbm, ⟨8, _⟩ => ⟨S8x2048x1536, .f32⟩
  | .hbm, ⟨9, _⟩ => ⟨S8x2048x2048, .f32⟩
  | .hbm, ⟨10, _⟩ => ⟨S8x2048x4096, .f32⟩
  | .hbm, ⟨11, _⟩ => ⟨S8x2048x32, .f32⟩
  | .hbm, ⟨12, _⟩ => ⟨S8x2048x1280, .f32⟩
  | .hbm, ⟨13, _⟩ => ⟨S8x2048x1280, .f32⟩
  | .hbm, ⟨14, _⟩ => ⟨S8x2048x3072, .f32⟩
  | .hbm, ⟨15, _⟩ => ⟨S8x2048x2560, .f32⟩
  | .hbm, ⟨16, _⟩ => ⟨S16384x2560, .f32⟩
  | .hbm, ⟨17, _⟩ => ⟨S16384x2560, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== DtKernel.lean ====
abbrev S8x2048x1024 : Shape := ⟨3, ![8, 2048, 1024]⟩
abbrev S4x1024x16416 : Shape := ⟨3, ![4, 1024, 16416]⟩
abbrev S16384x1024 : Shape := ⟨2, ![16384, 1024]⟩
abbrev S4x1024x4096 : Shape := ⟨3, ![4, 1024, 4096]⟩
abbrev S4x1024x2048 : Shape := ⟨3, ![4, 1024, 2048]⟩
abbrev S4x1024x3072 : Shape := ⟨3, ![4, 1024, 3072]⟩
abbrev S4x1024x24x2x2x32 : Shape := ⟨6, ![4, 1024, 24, 2, 2, 32]⟩
abbrev S4x1024x1536 : Shape := ⟨3, ![4, 1024, 1536]⟩
abbrev S_ : Shape := ⟨0, ![]⟩
abbrev S4x1024x256 : Shape := ⟨3, ![4, 1024, 256]⟩
abbrev S4x1024x2560 : Shape := ⟨3, ![4, 1024, 2560]⟩
abbrev S4x1024x32 : Shape := ⟨3, ![4, 1024, 32]⟩
abbrev S4x1024x96 : Shape := ⟨3, ![4, 1024, 96]⟩
abbrev S4x1024x16768 : Shape := ⟨3, ![4, 1024, 16768]⟩
abbrev S16384x128 : Shape := ⟨2, ![16384, 128]⟩
abbrev S2048x1024 : Shape := ⟨2, ![2048, 1024]⟩
abbrev S1x1024x128 : Shape := ⟨3, ![1, 1024, 128]⟩
abbrev S2048x128 : Shape := ⟨2, ![2048, 128]⟩
abbrev S1024x128 : Shape := ⟨2, ![1024, 128]⟩

abbrev nBuf : Space → Nat
  | .hbm => 20
  | .vmem => 5
  | .smem => 0
  | _ => 0

abbrev bufTy : (tb : Table) → Fin (tcTables nBuf tb) → BufTy
  | .hbm, ⟨0, _⟩ => ⟨S8x2048x1024, .bf16⟩
  | .hbm, ⟨1, _⟩ => ⟨S4x1024x16416, .f32⟩
  | .hbm, ⟨2, _⟩ => ⟨S16384x1024, .bf16⟩
  | .hbm, ⟨3, _⟩ => ⟨S4x1024x4096, .f32⟩
  | .hbm, ⟨4, _⟩ => ⟨S4x1024x2048, .f32⟩
  | .hbm, ⟨5, _⟩ => ⟨S4x1024x3072, .f32⟩
  | .hbm, ⟨6, _⟩ => ⟨S4x1024x3072, .f32⟩
  | .hbm, ⟨7, _⟩ => ⟨S4x1024x24x2x2x32, .f32⟩
  | .hbm, ⟨8, _⟩ => ⟨S4x1024x24x2x2x32, .f32⟩
  | .hbm, ⟨9, _⟩ => ⟨S4x1024x3072, .f32⟩
  | .hbm, ⟨10, _⟩ => ⟨S4x1024x1536, .f32⟩
  | .hbm, ⟨11, _⟩ => ⟨S_, .f32⟩
  | .hbm, ⟨12, _⟩ => ⟨S4x1024x256, .f32⟩
  | .hbm, ⟨13, _⟩ => ⟨S4x1024x2560, .f32⟩
  | .hbm, ⟨14, _⟩ => ⟨S4x1024x32, .f32⟩
  | .hbm, ⟨15, _⟩ => ⟨S_, .f32⟩
  | .hbm, ⟨16, _⟩ => ⟨S4x1024x96, .f32⟩
  | .hbm, ⟨17, _⟩ => ⟨S4x1024x16768, .f32⟩
  | .hbm, ⟨18, _⟩ => ⟨S4x1024x16768, .bf16⟩
  | .hbm, ⟨19, _⟩ => ⟨S16384x128, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x128, .bf16⟩
  | .local _ .vmem, ⟨3, _⟩ => ⟨S2048x128, .f32⟩
  | .local _ .vmem, ⟨4, _⟩ => ⟨S2048x128, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c130_i32 : BitVec 32 := 130#32
  let v0 : BitVec 32 := Scalar.addi c130_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DtReferenceIdeal.lean ====
abbrev S8x2048x1024 : Shape := ⟨3, ![8, 2048, 1024]⟩
abbrev S4x1024x16416 : Shape := ⟨3, ![4, 1024, 16416]⟩
abbrev S1x1024x16416 : Shape := ⟨3, ![1, 1024, 16416]⟩
abbrev S1024x16416 : Shape := ⟨2, ![1024, 16416]⟩
abbrev S8x2048x16416 : Shape := ⟨3, ![8, 2048, 16416]⟩
abbrev S8x2048x1536 : Shape := ⟨3, ![8, 2048, 1536]⟩
abbrev S8x2048x2048 : Shape := ⟨3, ![8, 2048, 2048]⟩
abbrev S8x2048x4096 : Shape := ⟨3, ![8, 2048, 4096]⟩
abbrev S8x2048x32 : Shape := ⟨3, ![8, 2048, 32]⟩
abbrev S8x2048x1280 : Shape := ⟨3, ![8, 2048, 1280]⟩
abbrev S8x2048x3072 : Shape := ⟨3, ![8, 2048, 3072]⟩
abbrev S_ : Shape := ⟨0, ![]⟩
abbrev S8x2048x128 : Shape := ⟨3, ![8, 2048, 128]⟩
abbrev S16384x128 : Shape := ⟨2, ![16384, 128]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S4x1024x16416, .f32⟩
  | .hbm, ⟨2, _⟩ => ⟨S8x2048x1024, .f32⟩
  | .hbm, ⟨3, _⟩ => ⟨S1x1024x16416, .f32⟩
  | .hbm, ⟨4, _⟩ => ⟨S1024x16416, .f32⟩
  | .hbm, ⟨5, _⟩ => ⟨S8x2048x16416, .f32⟩
  | .hbm, ⟨6, _⟩ => ⟨S8x2048x1536, .f32⟩
  | .hbm, ⟨7, _⟩ => ⟨S8x2048x1536, .f32⟩
  | .hbm, ⟨8, _⟩ => ⟨S8x2048x1536, .f32⟩
  | .hbm, ⟨9, _⟩ => ⟨S8x2048x2048, .f32⟩
  | .hbm, ⟨10, _⟩ => ⟨S8x2048x4096, .f32⟩
  | .hbm, ⟨11, _⟩ => ⟨S8x2048x32, .f32⟩
  | .hbm, ⟨12, _⟩ => ⟨S8x2048x1280, .f32⟩
  | .hbm, ⟨13, _⟩ => ⟨S8x2048x1280, .f32⟩
  | .hbm, ⟨14, _⟩ => ⟨S8x2048x3072, .f32⟩
  | .hbm, ⟨15, _⟩ => ⟨S_, .i32⟩
  | .hbm, ⟨16, _⟩ => ⟨S_, .f32⟩
  | .hbm, ⟨17, _⟩ => ⟨S8x2048x128, .f32⟩
  | .hbm, ⟨18, _⟩ => ⟨S16384x128, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_call0_v0 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== QkvKernel.lean ====
abbrev S8x2048x1024 : Shape := ⟨3, ![8, 2048, 1024]⟩
abbrev S4x1024x16416 : Shape := ⟨3, ![4, 1024, 16416]⟩
abbrev S4x1024x4096 : Shape := ⟨3, ![4, 1024, 4096]⟩
abbrev S4x1024x2048 : Shape := ⟨3, ![4, 1024, 2048]⟩
abbrev S4x1024x3072 : Shape := ⟨3, ![4, 1024, 3072]⟩
abbrev S4x1024x24x2x2x32 : Shape := ⟨6, ![4, 1024, 24, 2, 2, 32]⟩
abbrev S4x1024x1536 : Shape := ⟨3, ![4, 1024, 1536]⟩
abbrev S_ : Shape := ⟨0, ![]⟩
abbrev S4x1024x256 : Shape := ⟨3, ![4, 1024, 256]⟩
abbrev S4x1024x2560 : Shape := ⟨3, ![4, 1024, 2560]⟩
abbrev S4x1024x32 : Shape := ⟨3, ![4, 1024, 32]⟩
abbrev S4x1024x96 : Shape := ⟨3, ![4, 1024, 96]⟩
abbrev S4x1024x16768 : Shape := ⟨3, ![4, 1024, 16768]⟩
abbrev S8x36x2048x128 : Shape := ⟨4, ![8, 36, 2048, 128]⟩
abbrev S1x2048x1024 : Shape := ⟨3, ![1, 2048, 1024]⟩
abbrev S1x1024x1536 : Shape := ⟨3, ![1, 1024, 1536]⟩
abbrev S1x12x2048x128 : Shape := ⟨4, ![1, 12, 2048, 128]⟩
abbrev S2048x1024 : Shape := ⟨2, ![2048, 1024]⟩
abbrev S1024x1536 : Shape := ⟨2, ![1024, 1536]⟩
abbrev S2048x1536 : Shape := ⟨2, ![2048, 1536]⟩
abbrev S2048x128 : Shape := ⟨2, ![2048, 128]⟩
abbrev S1x1x2048x128 : Shape := ⟨4, ![1, 1, 2048, 128]⟩

abbrev nBuf : Space → Nat
  | .hbm => 19
  | .vmem => 6
  | .smem => 0
  | _ => 0

abbrev bufTy : (tb : Table) → Fin (tcTables nBuf tb) → BufTy
  | .hbm, ⟨0, _⟩ => ⟨S8x2048x1024, .bf16⟩
  | .hbm, ⟨1, _⟩ => ⟨S4x1024x16416, .f32⟩
  | .hbm, ⟨2, _⟩ => ⟨S4x1024x4096, .f32⟩
  | .hbm, ⟨3, _⟩ => ⟨S4x1024x2048, .f32⟩
  | .hbm, ⟨4, _⟩ => ⟨S4x1024x3072, .f32⟩
  | .hbm, ⟨5, _⟩ => ⟨S4x1024x3072, .f32⟩
  | .hbm, ⟨6, _⟩ => ⟨S4x1024x24x2x2x32, .f32⟩
  | .hbm, ⟨7, _⟩ => ⟨S4x1024x24x2x2x32, .f32⟩
  | .hbm, ⟨8, _⟩ => ⟨S4x1024x3072, .f32⟩
  | .hbm, ⟨9, _⟩ => ⟨S4x1024x1536, .f32⟩
  | .hbm, ⟨10, _⟩ => ⟨S_, .f32⟩
  | .hbm, ⟨11, _⟩ => ⟨S4x1024x256, .f32⟩
  | .hbm, ⟨12, _⟩ => ⟨S4x1024x2560, .f32⟩
  | .hbm, ⟨13, _⟩ => ⟨S4x1024x32, .f32⟩
  | .hbm, ⟨14, _⟩ => ⟨S_, .f32⟩
  | .hbm, ⟨15, _⟩ => ⟨S4x1024x96, .f32⟩
  | .hbm, ⟨16, _⟩ => ⟨S4x1024x16768, .f32⟩
  | .hbm, ⟨17, _⟩ => ⟨S4x1024x16768, .bf16⟩
  | .hbm, ⟨18, _⟩ => ⟨S8x36x2048x128, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1x12x2048x128, .bf16⟩
  | .local _ .vmem, ⟨5, _⟩ => ⟨S1x12x2048x128, .bf16⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x12x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvReferenceIdeal.lean ====
abbrev S8x2048x1024 : Shape := ⟨3, ![8, 2048, 1024]⟩
abbrev S4x1024x16416 : Shape := ⟨3, ![4, 1024, 16416]⟩
abbrev S1x1024x16416 : Shape := ⟨3, ![1, 1024, 16416]⟩
abbrev S1024x16416 : Shape := ⟨2, ![1024, 16416]⟩
abbrev S8x2048x16416 : Shape := ⟨3, ![8, 2048, 16416]⟩
abbrev S8x2048x1536 : Shape := ⟨3, ![8, 2048, 1536]⟩
abbrev S8x2048x2048 : Shape := ⟨3, ![8, 2048, 2048]⟩
abbrev S8x2048x4096 : Shape := ⟨3, ![8, 2048, 4096]⟩
abbrev S8x2048x32 : Shape := ⟨3, ![8, 2048, 32]⟩
abbrev S8x2048x1280 : Shape := ⟨3, ![8, 2048, 1280]⟩
abbrev S8x2048x3072 : Shape := ⟨3, ![8, 2048, 3072]⟩
abbrev S8x2048x12x128 : Shape := ⟨4, ![8, 2048, 12, 128]⟩
abbrev S8x12x2048x128 : Shape := ⟨4, ![8, 12, 2048, 128]⟩
abbrev S8x2048x12x2x2x32 : Shape := ⟨6, ![8, 2048, 12, 2, 2, 32]⟩
abbrev S8x12x2048x2x2x32 : Shape := ⟨6, ![8, 12, 2048, 2, 2, 32]⟩
abbrev S8x36x2048x128 : Shape := ⟨4, ![8, 36, 2048, 128]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S4x1024x16416, .f32⟩
  | .hbm, ⟨2, _⟩ => ⟨S8x2048x1024, .f32⟩
  | .hbm, ⟨3, _⟩ => ⟨S1x1024x16416, .f32⟩
  | .hbm, ⟨4, _⟩ => ⟨S1024x16416, .f32⟩
  | .hbm, ⟨5, _⟩ => ⟨S8x2048x16416, .f32⟩
  | .hbm, ⟨6, _⟩ => ⟨S8x2048x1536, .f32⟩
  | .hbm, ⟨7, _⟩ => ⟨S8x2048x1536, .f32⟩
  | .hbm, ⟨8, _⟩ => ⟨S8x2048x1536, .f32⟩
  | .hbm, ⟨9, _⟩ => ⟨S8x2048x2048, .f32⟩
  | .hbm, ⟨10, _⟩ => ⟨S8x2048x4096, .f32⟩
  | .hbm, ⟨11, _⟩ => ⟨S8x2048x32, .f32⟩
  | .hbm, ⟨12, _⟩ => ⟨S8x2048x1280, .f32⟩
  | .hbm, ⟨13, _⟩ => ⟨S8x2048x1280, .f32⟩
  | .hbm, ⟨14, _⟩ => ⟨S8x2048x3072, .f32⟩
  | .hbm, ⟨15, _⟩ => ⟨S8x2048x12x128, .f32⟩
  | .hbm, ⟨16, _⟩ => ⟨S8x12x2048x128, .f32⟩
  | .hbm, ⟨17, _⟩ => ⟨S8x2048x12x2x2x32, .f32⟩
  | .hbm, ⟨18, _⟩ => ⟨S8x12x2048x2x2x32, .f32⟩
  | .hbm, ⟨19, _⟩ => ⟨S8x12x2048x128, .f32⟩
  | .hbm, ⟨20, _⟩ => ⟨S8x2048x12x2x2x32, .f32⟩
  | .hbm, ⟨21, _⟩ => ⟨S8x12x2048x2x2x32, .f32⟩
  | .hbm, ⟨22, _⟩ => ⟨S8x12x2048x128, .f32⟩
  | .hbm, ⟨23, _⟩ => ⟨S8x36x2048x128, .f32⟩
  | .hbm, ⟨24, _⟩ => ⟨S8x36x2048x128, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩

abbrev nD : Nat := 1
abbrev τ : Topo := Topo.v7x

variable {F : FTy → Type} [FloatOps F]
-- ==== MergeKernel.lean ====
abbrev S8x2048x1024 : Shape := ⟨3, ![8, 2048, 1024]⟩
abbrev S8x2048x512 : Shape := ⟨3, ![8, 2048, 512]⟩
abbrev S8x2048x2048 : Shape := ⟨3, ![8, 2048, 2048]⟩
abbrev S8x2048x1280 : Shape := ⟨3, ![8, 2048, 1280]⟩
abbrev S8x2048x3072 : Shape := ⟨3, ![8, 2048, 3072]⟩
abbrev S8x1024 : Shape := ⟨2, ![8, 1024]⟩
abbrev S4x512x1024 : Shape := ⟨3, ![4, 512, 1024]⟩
abbrev S4x2048x1024 : Shape := ⟨3, ![4, 2048, 1024]⟩
abbrev S4x1280x1024 : Shape := ⟨3, ![4, 1280, 1024]⟩
abbrev S4x1024x1024 : Shape := ⟨3, ![4, 1024, 1024]⟩
abbrev S8x1x1024 : Shape := ⟨3, ![8, 1, 1024]⟩
abbrev S1x512x1024 : Shape := ⟨3, ![1, 512, 1024]⟩
abbrev S1x512x512 : Shape := ⟨3, ![1, 512, 512]⟩
abbrev S1x512x2048 : Shape := ⟨3, ![1, 512, 2048]⟩
abbrev S1x512x1280 : Shape := ⟨3, ![1, 512, 1280]⟩
abbrev S1x512x3072 : Shape := ⟨3, ![1, 512, 3072]⟩
abbrev S1x1x1024 : Shape := ⟨3, ![1, 1, 1024]⟩
abbrev S1x2048x1024 : Shape := ⟨3, ![1, 2048, 1024]⟩
abbrev S1x1280x1024 : Shape := ⟨3, ![1, 1280, 1024]⟩
abbrev S1x1024x1024 : Shape := ⟨3, ![1, 1024, 1024]⟩
abbrev S512x3072 : Shape := ⟨2, ![512, 3072]⟩
abbrev S512x1024 : Shape := ⟨2, ![512, 1024]⟩
abbrev S512x512 : Shape := ⟨2, ![512, 512]⟩
abbrev S512x2048 : Shape := ⟨2, ![512, 2048]⟩
abbrev S2048x1024 : Shape := ⟨2, ![2048, 1024]⟩
abbrev S512x1280 : Shape := ⟨2, ![512, 1280]⟩
abbrev S1280x1024 : Shape := ⟨2, ![1280, 1024]⟩
abbrev S1024x1024 : Shape := ⟨2, ![1024, 1024]⟩
abbrev S1x1024 : Shape := ⟨2, ![1, 1024]⟩

abbrev nBuf : Space → Nat
  | .hbm => 16
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x2048, .bf16⟩
  | .hbm, ⟨3, _⟩ => ⟨S8x2048x1280, .bf16⟩
  | .hbm, ⟨4, _⟩ => ⟨S8x2048x3072, .bf16⟩
  | .hbm, ⟨5, _⟩ => ⟨S8x1024, .f32⟩
  | .hbm, ⟨6, _⟩ => ⟨S4x512x1024, .f32⟩
  | .hbm, ⟨7, _⟩ => ⟨S4x2048x1024, .f32⟩
  | .hbm, ⟨8, _⟩ => ⟨S4x1280x1024, .f32⟩
  | .hbm, ⟨9, _⟩ => ⟨S4x1024x1024, .f32⟩
  | .hbm, ⟨10, _⟩ => ⟨S4x512x1024, .bf16⟩
  | .hbm, ⟨11, _⟩ => ⟨S4x2048x1024, .bf16⟩
  | .hbm, ⟨12, _⟩ => ⟨S4x1280x1024, .bf16⟩
  | .hbm, ⟨13, _⟩ => ⟨S4x1024x1024, .bf16⟩
  | .hbm, ⟨14, _⟩ => ⟨S8x1x1024, .f32⟩
  | .hbm, ⟨15, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x1280, .bf16⟩
  | .local _ .vmem, ⟨7, _⟩ => ⟨S1x512x1280, .bf16⟩
  | .local _ .vmem, ⟨8, _⟩ => ⟨S1x512x3072, .bf16⟩
  | .local _ .vmem, ⟨9, _⟩ => ⟨S1x512x3072, .bf16⟩
  | .local _ .vmem, ⟨10, _⟩ => ⟨S1x1x1024, .f32⟩
  | .local _ .vmem, ⟨11, _⟩ => ⟨S1x1x1024, .f32⟩
  | .local _ .vmem, ⟨12, _⟩ => ⟨S1x512x1024, .bf16⟩
  | .local _ .vmem, ⟨13, _⟩ => ⟨S1x2048x1024, .bf16⟩
  | .local _ .vmem, ⟨14, _⟩ => ⟨S1x1280x1024, .bf16⟩
  | .local _ .vmem, ⟨15, _⟩ => ⟨S1x1024x1024, .bf16⟩
  | .local _ .vmem, ⟨16, _⟩ => ⟨S1x512x1024, .f32⟩
  | .local _ .vmem, ⟨17, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1280x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeReferenceIdeal.lean ====
abbrev S8x2048x1024 : Shape := ⟨3, ![8, 2048, 1024]⟩
abbrev S8x2048x512 : Shape := ⟨3, ![8, 2048, 512]⟩
abbrev S8x2048x2048 : Shape := ⟨3, ![8, 2048, 2048]⟩
abbrev S8x2048x1280 : Shape := ⟨3, ![8, 2048, 1280]⟩
abbrev S8x2048x3072 : Shape := ⟨3, ![8, 2048, 3072]⟩
abbrev S8x1024 : Shape := ⟨2, ![8, 1024]⟩
abbrev S4x512x1024 : Shape := ⟨3, ![4, 512, 1024]⟩
abbrev S4x2048x1024 : Shape := ⟨3, ![4, 2048, 1024]⟩
abbrev S4x1280x1024 : Shape := ⟨3, ![4, 1280, 1024]⟩
abbrev S4x1024x1024 : Shape := ⟨3, ![4, 1024, 1024]⟩
abbrev S_ : Shape := ⟨0, ![]⟩
abbrev S1x512x1024 : Shape := ⟨3, ![1, 512, 1024]⟩
abbrev S512x1024 : Shape := ⟨2, ![512, 1024]⟩
abbrev S1x2048x1024 : Shape := ⟨3, ![1, 2048, 1024]⟩
abbrev S2048x1024 : Shape := ⟨2, ![2048, 1024]⟩
abbrev S1x1280x1024 : Shape := ⟨3, ![1, 1280, 1024]⟩
abbrev S1280x1024 : Shape := ⟨2, ![1280, 1024]⟩
abbrev S8x1x1024 : Shape := ⟨3, ![8, 1, 1024]⟩
abbrev S1x1024x1024 : Shape := ⟨3, ![1, 1024, 1024]⟩
abbrev S1024x1024 : Shape := ⟨2, ![1024, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x2048, .bf16⟩
  | .hbm, ⟨3, _⟩ => ⟨S8x2048x1280, .bf16⟩
  | .hbm, ⟨4, _⟩ => ⟨S8x2048x3072, .bf16⟩
  | .hbm, ⟨5, _⟩ => ⟨S8x1024, .f32⟩
  | .hbm, ⟨6, _⟩ => ⟨S4x512x1024, .f32⟩
  | .hbm, ⟨7, _⟩ => ⟨S4x2048x1024, .f32⟩
  | .hbm, ⟨8, _⟩ => ⟨S4x1280x1024, .f32⟩
  | .hbm, ⟨9, _⟩ => ⟨S4x1024x1024, .f32⟩
  | .hbm, ⟨10, _⟩ => ⟨S8x2048x512, .f32⟩
  | .hbm, ⟨11, _⟩ => ⟨S8x2048x2048, .f32⟩
  | .hbm, ⟨12, _⟩ => ⟨S8x2048x1280, .f32⟩
  | .hbm, ⟨13, _⟩ => ⟨S8x2048x3072, .f32⟩
  | .hbm, ⟨14, _⟩ => ⟨S8x2048x3072, .f32⟩
  | .hbm, ⟨15, _⟩ => ⟨S8x2048x3072, .f32⟩
  | .hbm, ⟨16, _⟩ => ⟨S_, .f32⟩
  | .hbm, ⟨17, _⟩ => ⟨S8x2048x3072, .f32⟩
  | .hbm, ⟨18, _⟩ => ⟨S8x2048x3072, .f32⟩
  | .hbm, ⟨19, _⟩ => ⟨S_, .f32⟩
  | .hbm, ⟨20, _⟩ => ⟨S8x2048x3072, .f32⟩
  | .hbm, ⟨21, _⟩ => ⟨S8x2048x3072, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S1x512x1024, .f32⟩
  | .hbm, ⟨26, _⟩ => ⟨S512x1024, .f32⟩
  | .hbm, ⟨27, _⟩ => ⟨S8x2048x1024, .f32⟩
  | .hbm, ⟨28, _⟩ => ⟨S8x2048x1024, .f32⟩
  | .hbm, ⟨29, _⟩ => ⟨S1x2048x1024, .f32⟩
  | .hbm, ⟨30, _⟩ => ⟨S2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S1x1280x1024, .f32⟩
  | .hbm, ⟨35, _⟩ => ⟨S1280x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x1x1024, .f32⟩
  | .hbm, ⟨40, _⟩ => ⟨S1x1024x1024, .f32⟩
  | .hbm, ⟨41, _⟩ => ⟨S1024x1024, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== LastKernel.lean ====
abbrev S8x2048x1024 : Shape := ⟨3, ![8, 2048, 1024]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1x1024, .f32⟩
  | .hbm, ⟨3, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x512x1024, .f32⟩
  | .local _ .vmem, ⟨4, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LastReferenceIdeal.lean ====
abbrev S8x2048x1024 : Shape := ⟨3, ![8, 2048, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x2048x1024, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S_, .f32⟩
  | .hbm, ⟨7, _⟩ => ⟨S8x2048x1, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S8x2048x1, .f32⟩
  | .hbm, ⟨13, _⟩ => ⟨S8x2048x1024, .f32⟩
  | .hbm, ⟨14, _⟩ => ⟨S8x2048x1024, .f32⟩
  | .hbm, ⟨15, _⟩ => ⟨S1x1x1024, .f32⟩
  | .hbm, ⟨16, _⟩ => ⟨S8x2048x1024, .f32⟩
  | .hbm, ⟨17, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormKernel.lean ====
abbrev S8x2048x1024 : Shape := ⟨3, ![8, 2048, 1024]⟩
abbrev S1024 : Shape := ⟨1, ![1024]⟩
abbrev S8x1024 : Shape := ⟨2, ![8, 1024]⟩
abbrev S1x1024 : Shape := ⟨2, ![1, 1024]⟩
abbrev S8x1x1024 : Shape := ⟨3, ![8, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1x1024, .f32⟩
  | .hbm, ⟨5, _⟩ => ⟨S8x1x1024, .f32⟩
  | .hbm, ⟨6, _⟩ => ⟨S8x1x1024, .f32⟩
  | .hbm, ⟨7, _⟩ => ⟨S8x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .bf16⟩
  | .local _ .vmem, ⟨8, _⟩ => ⟨S1x512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NormReferenceIdeal.lean ====
abbrev S8x2048x1024 : Shape := ⟨3, ![8, 2048, 1024]⟩
abbrev S1024 : Shape := ⟨1, ![1024]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S8x2048x1024, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x1024, .f32⟩
  | .hbm, ⟨16, _⟩ => ⟨S8x2048x1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S8x1x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x2048x1024, .f32⟩
  | .hbm, ⟨25, _⟩ => ⟨S8x2048x1024, .f32⟩
  | .hbm, ⟨26, _⟩ => ⟨S8x1x1024, .f32⟩
  | .hbm, ⟨27, _⟩ => ⟨S8x2048x1024, .f32⟩
  | .hbm, ⟨28, _⟩ => ⟨S8x2048x1024, .f32⟩
  | .hbm, ⟨29, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== ExpertsKernel.lean ====
abbrev S49152x1024 : Shape := ⟨2, ![49152, 1024]⟩
abbrev S96 : Shape := ⟨1, ![96]⟩
abbrev S1 : Shape := ⟨1, ![1]⟩
abbrev S4x32x1024x512 : Shape := ⟨4, ![4, 32, 1024, 512]⟩
abbrev S4x32x512x1024 : Shape := ⟨4, ![4, 32, 512, 1024]⟩
abbrev S512x1024 : Shape := ⟨2, ![512, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x512 : Shape := ⟨2, ![512, 512]⟩

abbrev nBuf : Space → Nat
  | .hbm => 5
  | .vmem => 13
  | .smem => 2
  | _ => 0

abbrev bufTy : (tb : Table) → Fin (tcTables nBuf tb) → BufTy
  | .hbm, ⟨0, _⟩ => ⟨S49152x1024, .f32⟩
  | .hbm, ⟨1, _⟩ => ⟨S4x32x1024x512, .f32⟩
  | .hbm, ⟨2, _⟩ => ⟨S4x32x1024x512, .f32⟩
  | .hbm, ⟨3, _⟩ => ⟨S4x32x512x1024, .f32⟩
  | .hbm, ⟨4, _⟩ => ⟨S49152x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S512x1024, .f32⟩
  | .local _ .vmem, ⟨9, _⟩ => ⟨S512x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S96, .i32⟩
  | .local _ .smem, ⟨1, _⟩ => ⟨S1, .i32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![96], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S49152x1024 : Shape := ⟨2, ![49152, 1024]⟩
abbrev S96 : Shape := ⟨1, ![96]⟩
abbrev S1 : Shape := ⟨1, ![1]⟩
abbrev S4x32x1024x512 : Shape := ⟨4, ![4, 32, 1024, 512]⟩
abbrev S4x32x512x1024 : Shape := ⟨4, ![4, 32, 512, 1024]⟩
abbrev S96x512x1024 : Shape := ⟨3, ![96, 512, 1024]⟩
abbrev S1x32x1024x512 : Shape := ⟨4, ![1, 32, 1024, 512]⟩
abbrev S32x1024x512 : Shape := ⟨3, ![32, 1024, 512]⟩
abbrev S_ : Shape := ⟨0, ![]⟩
abbrev S96x1 : Shape := ⟨2, ![96, 1]⟩
abbrev S96x3 : Shape := ⟨2, ![96, 3]⟩
abbrev S96x1x1024x512 : Shape := ⟨4, ![96, 1, 1024, 512]⟩
abbrev S96x1024x512 : Shape := ⟨3, ![96, 1024, 512]⟩
abbrev S96x512x512 : Shape := ⟨3, ![96, 512, 512]⟩
abbrev S1x32x512x1024 : Shape := ⟨4, ![1, 32, 512, 1024]⟩
abbrev S32x512x1024 : Shape := ⟨3, ![32, 512, 1024]⟩
abbrev S96x1x512x1024 : Shape := ⟨4, ![96, 1, 512, 1024]⟩
abbrev S96x1x1 : Shape := ⟨3, ![96, 1, 1]⟩

abbrev nBuf : Space → Nat
  | .hbm => 124
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S96, .i32⟩
  | .hbm, ⟨2, _⟩ => ⟨S1, .i32⟩
  | .hbm, ⟨3, _⟩ => ⟨S4x32x1024x512, .f32⟩
  | .hbm, ⟨4, _⟩ => ⟨S4x32x1024x512, .f32⟩
  | .hbm, ⟨5, _⟩ => ⟨S4x32x512x1024, .f32⟩
  | .hbm, ⟨6, _⟩ => ⟨S96x512x1024, .f32⟩
  | .hbm, ⟨7, _⟩ => ⟨S1x32x1024x512, .f32⟩
  | .hbm, ⟨8, _⟩ => ⟨S32x1024x512, .f32⟩
  | .hbm, ⟨9, _⟩ => ⟨S_, .i32⟩
  | .hbm, ⟨10, _⟩ => ⟨S96, .i32⟩
  | .hbm, ⟨11, _⟩ => ⟨S96, .i1⟩
  | .hbm, ⟨12, _⟩ => ⟨S_, .i32⟩
  | .hbm, ⟨13, _⟩ => ⟨S96, .i32⟩
  | .hbm, ⟨14, _⟩ => ⟨S96, .i32⟩
  | .hbm, ⟨15, _⟩ => ⟨S96, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S96x1, .i32⟩
  | .hbm, ⟨33, _⟩ => ⟨S96x1, .i32⟩
  | .hbm, ⟨34, _⟩ => ⟨S96x1, .i32⟩
  | .hbm, ⟨35, _⟩ => ⟨S96x3, .i32⟩
  | .hbm, ⟨36, _⟩ => ⟨S96x1x1024x512, .f32⟩
  | .hbm, ⟨37, _⟩ => ⟨S96x1024x512, .f32⟩
  | .hbm, ⟨38, _⟩ => ⟨S96x512x512, .f32⟩
  | .hbm, ⟨39, _⟩ => ⟨S96x512x512, .f32⟩
  | .hbm, ⟨40, _⟩ => ⟨S96x512x512, .f32⟩
  | .hbm, ⟨41, _⟩ => ⟨S_, .f32⟩
  | .hbm, ⟨42, _⟩ => ⟨S96x512x512, .f32⟩
  | .hbm, ⟨43, _⟩ => ⟨S96x512x512, .f32⟩
  | .hbm, ⟨44, _⟩ => ⟨S_, .f32⟩
  | .hbm, ⟨45, _⟩ => ⟨S96x512x512, .f32⟩
  | .hbm, ⟨46, _⟩ => ⟨S96x512x512, .f32⟩
  | .hbm, ⟨47, _⟩ => ⟨S96x512x512, .f32⟩
  | .hbm, ⟨48, _⟩ => ⟨S1x32x1024x512, .f32⟩
  | .hbm, ⟨49, _⟩ => ⟨S32x1024x512, .f32⟩
  | .hbm, ⟨50, _⟩ => ⟨S_, .i32⟩
  | .hbm, ⟨51, _⟩ => ⟨S96, .i32⟩
  | .hbm, ⟨52, _⟩ => ⟨S96, .i1⟩
  | .hbm, ⟨53, _⟩ => ⟨S_, .i32⟩
  | .hbm, ⟨54, _⟩ => ⟨S96, .i32⟩
  | .hbm, ⟨55, _⟩ => ⟨S96, .i32⟩
  | .hbm, ⟨56, _⟩ => ⟨S96, .i32⟩
  | .hbm, ⟨57, _⟩ => ⟨S_, .i32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S96x1, .i32⟩
  | .hbm, ⟨74, _⟩ => ⟨S96x1, .i32⟩
  | .hbm, ⟨75, _⟩ => ⟨S96x1, .i32⟩
  | .hbm, ⟨76, _⟩ => ⟨S96x3, .i32⟩
  | .hbm, ⟨77, _⟩ => ⟨S96x1x1024x512, .f32⟩
  | .hbm, ⟨78, _⟩ => ⟨S96x1024x512, .f32⟩
  | .hbm, ⟨79, _⟩ => ⟨S96x512x512, .f32⟩
  | .hbm, ⟨80, _⟩ => ⟨S96x512x512, .f32⟩
  | .hbm, ⟨81, _⟩ => ⟨S1x32x512x1024, .f32⟩
  | .hbm, ⟨82, _⟩ => ⟨S32x512x1024, .f32⟩
  | .hbm, ⟨83, _⟩ => ⟨S_, .i32⟩
  | .hbm, ⟨84, _⟩ => ⟨S96, .i32⟩
  | .hbm, ⟨85, _⟩ => ⟨S96, .i1⟩
  | .hbm, ⟨86, _⟩ => ⟨S_, .i32⟩
  | .hbm, ⟨87, _⟩ => ⟨S96, .i32⟩
  | .hbm, ⟨88, _⟩ => ⟨S96, .i32⟩
  | .hbm, ⟨89, _⟩ => ⟨S96, .i32⟩
  | .hbm, ⟨90, _⟩ => ⟨S_, .i32⟩
  | .hbm, ⟨91, _⟩ => ⟨S_, .i32⟩
  | .hbm, ⟨92, _⟩ => ⟨S_, .i1⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i1⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S96x1, .i32⟩
  | .hbm, ⟨107, _⟩ => ⟨S96x1, .i32⟩
  | .hbm, ⟨108, _⟩ => ⟨S96x1, .i32⟩
  | .hbm, ⟨109, _⟩ => ⟨S96x3, .i32⟩
  | .hbm, ⟨110, _⟩ => ⟨S96x1x512x1024, .f32⟩
  | .hbm, ⟨111, _⟩ => ⟨S96x512x1024, .f32⟩
  | .hbm, ⟨112, _⟩ => ⟨S96x512x1024, .f32⟩
  | .hbm, ⟨113, _⟩ => ⟨S96, .i32⟩
  | .hbm, ⟨114, _⟩ => ⟨S96x1x1, .i32⟩
  | .hbm, ⟨115, _⟩ => ⟨S_, .i32⟩
  | .hbm, ⟨116, _⟩ => ⟨S96x1x1, .i32⟩
  | .hbm, ⟨117, _⟩ => ⟨S96x1x1, .i1⟩
  | .hbm, ⟨118, _⟩ => ⟨S_, .f32⟩
  | .hbm, ⟨119, _⟩ => ⟨S_, .f32⟩
  | .hbm, ⟨120, _⟩ => ⟨S96x512x1024, .i1⟩
  | .hbm, ⟨121, _⟩ => ⟨S96x512x1024, .f32⟩
  | .hbm, ⟨122, _⟩ => ⟨S96x512x1024, .f32⟩
  | .hbm, ⟨123, _⟩ => ⟨S49152x1024, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_c_2 : Ref sig .tc := ⟨.hbm, 17, rfl⟩
abbrev main_v8 : Ref sig .tc := ⟨.hbm, 18, rfl⟩
abbrev main_c_3 : Ref sig .tc := ⟨.hbm, 19, rfl⟩
abbrev main_c_4 : Ref sig .tc := ⟨.hbm, 20, rfl⟩
abbrev main_v9 : Ref sig .tc := ⟨.hbm, 21, rfl⟩
abbrev main_c_5 : Ref sig .tc := ⟨.hbm, 22, rfl⟩
abbrev main_v10 : Ref sig .tc := ⟨.hbm, 23, rfl⟩
abbrev main_c_6 : Ref sig .tc := ⟨.hbm, 24, rfl⟩
abbrev main_c_7 : Ref sig .tc := ⟨.hbm, 25, rfl⟩
abbrev main_v11 : Ref sig .tc := ⟨.hbm, 26, rfl⟩
abbrev main_c_8 : Ref sig .tc := ⟨.hbm, 27, rfl⟩
abbrev main_c_9 : Ref sig .tc := ⟨.hbm, 28, rfl⟩
abbrev main_v12 : Ref sig .tc := ⟨.hbm, 29, rfl⟩
abbrev main_c_10 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_11 : Ref sig .tc := ⟨.hbm, 50, rfl⟩
abbrev main_v24 : Ref sig .tc := ⟨.hbm, 51, rfl⟩
abbrev main_v25 : Ref sig .tc := ⟨.hbm, 52, rfl⟩
abbrev main_c_12 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_c_13 : Ref sig .tc := ⟨.hbm, 57, rfl⟩
abbrev main_c_14 : Ref sig .tc := ⟨.hbm, 58, rfl⟩
abbrev main_v29 : Ref sig .tc := ⟨.hbm, 59, rfl⟩
abbrev main_c_15 : Ref sig .tc := ⟨.hbm, 60, rfl⟩
abbrev main_c_16 : Ref sig .tc := ⟨.hbm, 61, rfl⟩
abbrev main_v30 : Ref sig .tc := ⟨.hbm, 62, rfl⟩
abbrev main_c_17 : Ref sig .tc := ⟨.hbm, 63, rfl⟩
abbrev main_v31 : Ref sig .tc := ⟨.hbm, 64, rfl⟩
abbrev main_c_18 : Ref sig .tc := ⟨.hbm, 65, rfl⟩
abbrev main_c_19 : Ref sig .tc := ⟨.hbm, 66, rfl⟩
abbrev main_v32 : Ref sig .tc := ⟨.hbm, 67, rfl⟩
abbrev main_c_20 : Ref sig .tc := ⟨.hbm, 68, rfl⟩
abbrev main_c_21 : Ref sig .tc := ⟨.hbm, 69, rfl⟩
abbrev main_v33 : Ref sig .tc := ⟨.hbm, 70, rfl⟩
abbrev main_c_22 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_c_23 : Ref sig .tc := ⟨.hbm, 83, rfl⟩
abbrev main_v45 : Ref sig .tc := ⟨.hbm, 84, rfl⟩
abbrev main_v46 : Ref sig .tc := ⟨.hbm, 85, rfl⟩
abbrev main_c_24 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_c_25 : Ref sig .tc := ⟨.hbm, 90, rfl⟩
abbrev main_c_26 : Ref sig .tc := ⟨.hbm, 91, rfl⟩
abbrev main_v50 : Ref sig .tc := ⟨.hbm, 92, rfl⟩
abbrev main_c_27 : Ref sig .tc := ⟨.hbm, 93, rfl⟩
abbrev main_c_28 : Ref sig .tc := ⟨.hbm, 94, rfl⟩
abbrev main_v51 : Ref sig .tc := ⟨.hbm, 95, rfl⟩
abbrev main_c_29 : Ref sig .tc := ⟨.hbm, 96, rfl⟩
abbrev main_v52 : Ref sig .tc := ⟨.hbm, 97, rfl⟩
abbrev main_c_30 : Ref sig .tc := ⟨.hbm, 98, rfl⟩
abbrev main_c_31 : Ref sig .tc := ⟨.hbm, 99, rfl⟩
abbrev main_v53 : Ref sig .tc := ⟨.hbm, 100, rfl⟩
abbrev main_c_32 : Ref sig .tc := ⟨.hbm, 101, rfl⟩
abbrev main_c_33 : Ref sig .tc := ⟨.hbm, 102, rfl⟩
abbrev main_v54 : Ref sig .tc := ⟨.hbm, 103, rfl⟩
abbrev main_c_34 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_cst : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_v68 : Ref sig .tc := ⟨.hbm, 122, rfl⟩
abbrev main_v69 : Ref sig .tc := ⟨.hbm, 123, rfl⟩

abbrev nD : Nat := 1
abbrev τ : Topo := Topo.v7x

variable {F : FTy → Type} [FloatOps F]
-- ==== CondKernel.lean ====
abbrev S8x1024 : Shape := ⟨2, ![8, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x1024x2048 : Shape := ⟨3, ![1, 1024, 2048]⟩
abbrev S1x1x2048 : Shape := ⟨3, ![1, 1, 2048]⟩
abbrev S1x8x2048 : Shape := ⟨3, ![1, 8, 2048]⟩
abbrev S1024x2048 : Shape := ⟨2, ![1024, 2048]⟩
abbrev S8x2048 : Shape := ⟨2, ![8, 2048]⟩
abbrev S1x2048 : Shape := ⟨2, ![1, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x1024, .f32⟩
  | .local _ .vmem, ⟨1, _⟩ => ⟨S1x1024x2048, .f32⟩
  | .local _ .vmem, ⟨2, _⟩ => ⟨S1x1024x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x8x2048, .f32⟩
  | .local _ .vmem, ⟨6, _⟩ => ⟨S1x8x2048, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CondReferenceIdeal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S4x8x6144 : Shape := ⟨3, ![4, 8, 6144]⟩

abbrev nBuf : Space → Nat
  | .hbm => 49
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S1x1024x6144, .f32⟩
  | .hbm, ⟨21, _⟩ => ⟨S1024x6144, .f32⟩
  | .hbm, ⟨22, _⟩ => ⟨S8x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S8x6144, .f32⟩
  | .hbm, ⟨27, _⟩ => ⟨S8x6144, .f32⟩
  | .hbm, ⟨28, _⟩ => ⟨S1x1024x6144, .f32⟩
  | .hbm, ⟨29, _⟩ => ⟨S1024x6144, .f32⟩
  | .hbm, ⟨30, _⟩ => ⟨S8x6144, .f32⟩
  | .hbm, ⟨31, _⟩ => ⟨S1x6144, .f32⟩
  | .hbm, ⟨32, _⟩ => ⟨S6144, .f32⟩
  | .hbm, ⟨33, _⟩ => ⟨S1x6144, .f32⟩
  | .hbm, ⟨34, _⟩ => ⟨S8x6144, .f32⟩
  | .hbm, ⟨35, _⟩ => ⟨S8x6144, .f32⟩
  | .hbm, ⟨36, _⟩ => ⟨S1x1024x6144, .f32⟩
  | .hbm, ⟨37, _⟩ => ⟨S1024x6144, .f32⟩
  | .hbm, ⟨38, _⟩ => ⟨S8x6144, .f32⟩
  | .hbm, ⟨39, _⟩ => ⟨S1x6144, .f32⟩
  | .hbm, ⟨40, _⟩ => ⟨S6144, .f32⟩
  | .hbm, ⟨41, _⟩ => ⟨S1x6144, .f32⟩
  | .hbm, ⟨42, _⟩ => ⟨S8x6144, .f32⟩
  | .hbm, ⟨43, _⟩ => ⟨S8x6144, .f32⟩
  | .hbm, ⟨44, _⟩ => ⟨S1x8x6144, .f32⟩
  | .hbm, ⟨45, _⟩ => ⟨S1x8x6144, .f32⟩
  | .hbm, ⟨46, _⟩ => ⟨S1x8x6144, .f32⟩
  | .hbm, ⟨47, _⟩ => ⟨S1x8x6144, .f32⟩
  | .hbm, ⟨48, _⟩ => ⟨S4x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== RopeKernel.lean ====
abbrev S8x2048 : Shape := ⟨2, ![8, 2048]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S64 : Shape := ⟨1, ![64]⟩
abbrev S8x2048x1 : Shape := ⟨3, ![8, 2048, 1]⟩
abbrev S8x2048x128 : Shape := ⟨3, ![8, 2048, 128]⟩
abbrev S1x512x128 : Shape := ⟨3, ![1, 512, 128]⟩
abbrev S512x128 : Shape := ⟨2, ![512, 128]⟩

abbrev nBuf : Space → Nat
  | .hbm => 25
  | .vmem => 8
  | .smem => 0
  | _ => 0

abbrev bufTy : (tb : Table) → Fin (tcTables nBuf tb) → BufTy
  | .hbm, ⟨0, _⟩ => ⟨S8x2048, .i32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S1x32, .f32⟩
  | .hbm, ⟨10, _⟩ => ⟨S4x32, .f32⟩
  | .hbm, ⟨11, _⟩ => ⟨S128, .f32⟩
  | .hbm, ⟨12, _⟩ => ⟨S1x128, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S128, .f32⟩
  | .hbm, ⟨19, _⟩ => ⟨S8x2048, .f32⟩
  | .hbm, ⟨20, _⟩ => ⟨S8x2048x1, .f32⟩
  | .hbm, ⟨21, _⟩ => ⟨S8x2048x128, .f32⟩
  | .hbm, ⟨22, _⟩ => ⟨S1x128, .f32⟩
  | .hbm, ⟨23, _⟩ => ⟨S8x2048x128, .f32⟩
  | .hbm, ⟨24, _⟩ => ⟨S8x2048x128, .f32⟩
  | .local _ .vmem, ⟨0, _⟩ => ⟨S1x512x128, .f32⟩
  | .local _ .vmem, ⟨1, _⟩ => ⟨S1x512x128, .f32⟩
  | .local _ .vmem, ⟨2, _⟩ => ⟨S1x128, .f32⟩
  | .local _ .vmem, ⟨3, _⟩ => ⟨S1x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | _, _ => ⟨S8x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18_0 : Ref sig .tc := ⟨.hbm, 23, rfl⟩
abbrev main_v18_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RopeReferenceIdeal.lean ====
abbrev S8x2048 : Shape := ⟨2, ![8, 2048]⟩
abbrev S32 : Shape := ⟨1, ![32]⟩
abbrev S_ : Shape := ⟨0, ![]⟩
abbrev S8x2048x1 : Shape := ⟨3, ![8, 2048, 1]⟩
abbrev S1x1x32 : Shape := ⟨3, ![1, 1, 32]⟩
abbrev S8x2048x32 : Shape := ⟨3, ![8, 2048, 32]⟩
abbrev S8x2048x128 : Shape := ⟨3, ![8, 2048, 128]⟩

abbrev nBuf : Space → Nat
  | .hbm => 21
  | .vmem => 0
  | .smem => 0
  | _ => 0

abbrev bufTy : (tb : Table) → Fin (tcTables nBuf tb) → BufTy
  | .hbm, ⟨0, _⟩ => ⟨S8x2048, .i32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S8x2048, .f32⟩
  | .hbm, ⟨10, _⟩ => ⟨S8x2048x1, .f32⟩
  | .hbm, ⟨11, _⟩ => ⟨S1x1x32, .f32⟩
  | .hbm, ⟨12, _⟩ => ⟨S8x2048x32, .f32⟩
  | .hbm, ⟨13, _⟩ => ⟨S8x2048x32, .f32⟩
  | .hbm, ⟨14, _⟩ => ⟨S8x2048x32, .f32⟩
  | .hbm, ⟨15, _⟩ => ⟨S8x2048x32, .f32⟩
  | .hbm, ⟨16, _⟩ => ⟨S8x2048x32, .f32⟩
  | .hbm, ⟨17, _⟩ => ⟨S8x2048x128, .f32⟩
  | .hbm, ⟨18, _⟩ => ⟨S8x2048x32, .f32⟩
  | .hbm, ⟨19, _⟩ => ⟨S8x2048x32, .f32⟩
  | .hbm, ⟨20, _⟩ => ⟨S8x2048x128, .f32⟩
  | _, _ => ⟨S8x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== Proof.KI.Runs.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-! ## The kernel body on any staging memrefs: a subtype the run finds -/

/-- One staging buffer of output window 8, through which its contents are stated (`View.read_writes_of_cover`: the
    choice does not matter). -/
abbrev VO0_8 : View sig .tc .vmem S1x256x1280 .bf16 := (Memref.whole cc0_stg8_0 : Memref sig .tc .vmem S1x256x1280 .bf16).view
/-- Each window's current staging memref at point `t`, spelled as the pipeline passes it (`bodyAt0`), and its wholeness. -/
abbrev ms0_0 (t : Fin cfg0.N) : Memref sig .tc .vmem S1x256x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x1280 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1280 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x640x1280 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1280 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1280 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1280 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x1280 .bf16 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S264x1280 .f32 := Memref.whole cc0_scratch0
abbrev scM0_1 : Memref sig .tc .vmem S256x1280 .f32 := Memref.whole cc0_scratch1
abbrev scM0_2 : Memref sig .tc .vmem S256x1280 .f32 := Memref.whole cc0_scratch2
abbrev scM0_3 : Memref sig .tc .vmem S8x1280 .f32 := Memref.whole cc0_scratch3
/-- The scratch `arg11` the kernel carries between points, as a view: what it holds is stated through it. -/
abbrev VS0_0 : View sig .tc .vmem S264x1280 .f32 := scM0_0.view
/-- The scratch `arg14` the kernel carries between points, as a view: what it holds is stated through it. -/
abbrev VS0_3 : View sig .tc .vmem S8x1280 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

-- (a large proof term, so a larger budget)
set_option maxHeartbeats 1000000 in
/-- What the body's stores leave in each output's staging memref, as pieces (last first) IN CASE A (`scf.if` 0 taken: points 0, 8, … 56: 8 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x256x1280 .bf16) (harg2 : arg2.IsWhole) (arg3 : Memref sig .tc .vmem S1x256x1280 .bf16) (harg3 : arg3.IsWhole) (arg4 : Memref sig .tc .vmem S4x1280 .f32) (harg4 : arg4.IsWhole) (arg5 : Memref sig .tc .vmem S1x1280 .f32) (harg5 : arg5.IsWhole) (arg6 : Memref sig .tc .vmem S1x2x640x1280 .bf16) (harg6 : arg6.IsWhole) (arg7 : Memref sig .tc .vmem S1x1280 .f32) (harg7 : arg7.IsWhole) (arg8 : Memref sig .tc .vmem S1x1280 .f32) (harg8 : arg8.IsWhole) (arg9 : Memref sig .tc .vmem S1x1280 .f32) (harg9 : arg9.IsWhole) (arg10 : Memref sig .tc .vmem S1x256x1280 .bf16) (harg10 : arg10.IsWhole) (arg11 : Memref sig .tc .vmem S264x1280 .f32) (harg11 : arg11.IsWhole) (arg12 : Memref sig .tc .vmem S256x1280 .f32) (harg12 : arg12.IsWhole) (arg13 : Memref sig .tc .vmem S256x1280 .f32) (harg13 : arg13.IsWhole) (arg14 : Memref sig .tc .vmem S8x1280 .f32) (harg14 : arg14.IsWhole) (hc0 : cond0_0 i)
    (x0 : Vec F S1x256x1280 .bf16) (x1 : Vec F S1x256x1280 .bf16) (x2 : Vec F S4x1280 .f32) (x3 : Vec F S1x1280 .f32) (x4 : Vec F S1x2x640x1280 .bf16) (x5 : Vec F S1x1280 .f32) (x6 : Vec F S1x1280 .f32) (x7 : Vec F S1x1280 .f32) :
    Σ' (L8 : List (View.Piece (Elt F) S1x256x1280 .bf16)), Σ' (LS0 : List (View.Piece (Elt F) S264x1280 .f32)), { LS3 : List (View.Piece (Elt F) S8x1280 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f LS3)) -∗ K ⟨⟩))
          ⊢ wp frame (wpE (defs₀ (F := F)) Variants.none c none) E (cc0_rglru_mixer i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_rglru_mixer_eq_skeleton]; unfold cc0_rglru_mixer_skel
    simp only [k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexists _; iexact HS0
    isplitl [HS1]
    · iexists _, _; isplitr; swap; · iexact HS1
      ipureintro; rfl
    isplitl [HS2]
    · iexists _, _; isplitr; swap; · iexact HS2
      ipureintro; rfl
    iexists _; iexact HS3

-- (a large proof term, so a larger budget)
set_option maxHeartbeats 1000000 in
/-- What the body's stores leave in each output's staging memref, as pieces (last first) IN CASE B (`scf.if` 0 not taken: points 1, 2, … 63: 56 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x256x1280 .bf16) (harg2 : arg2.IsWhole) (arg3 : Memref sig .tc .vmem S1x256x1280 .bf16) (harg3 : arg3.IsWhole) (arg4 : Memref sig .tc .vmem S4x1280 .f32) (harg4 : arg4.IsWhole) (arg5 : Memref sig .tc .vmem S1x1280 .f32) (harg5 : arg5.IsWhole) (arg6 : Memref sig .tc .vmem S1x2x640x1280 .bf16) (harg6 : arg6.IsWhole) (arg7 : Memref sig .tc .vmem S1x1280 .f32) (harg7 : arg7.IsWhole) (arg8 : Memref sig .tc .vmem S1x1280 .f32) (harg8 : arg8.IsWhole) (arg9 : Memref sig .tc .vmem S1x1280 .f32) (harg9 : arg9.IsWhole) (arg10 : Memref sig .tc .vmem S1x256x1280 .bf16) (harg10 : arg10.IsWhole) (arg11 : Memref sig .tc .vmem S264x1280 .f32) (harg11 : arg11.IsWhole) (arg12 : Memref sig .tc .vmem S256x1280 .f32) (harg12 : arg12.IsWhole) (arg13 : Memref sig .tc .vmem S256x1280 .f32) (harg13 : arg13.IsWhole) (arg14 : Memref sig .tc .vmem S8x1280 .f32) (harg14 : arg14.IsWhole) (hc0 : ¬cond0_0 i)
    (x0 : Vec F S1x256x1280 .bf16) (x1 : Vec F S1x256x1280 .bf16) (x2 : Vec F S4x1280 .f32) (x3 : Vec F S1x1280 .f32) (x4 : Vec F S1x2x640x1280 .bf16) (x5 : Vec F S1x1280 .f32) (x6 : Vec F S1x1280 .f32) (x7 : Vec F S1x1280 .f32) (xs0 : Vec F S264x1280 .f32) (xs3 : Vec F S8x1280 .f32) :
    Σ' (L8 : List (View.Piece (Elt F) S1x256x1280 .bf16)), Σ' (LS0 : List (View.Piece (Elt F) S264x1280 .f32)), { LS3 : List (View.Piece (Elt F) S8x1280 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ (∃ d, owns (c : Thread nD τ) arg12 fullShare d) ∗ (∃ d, owns (c : Thread nD τ) arg13 fullShare d) ∗ owns (c : Thread nD τ) arg14 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f LS3)) -∗ K ⟨⟩))
          ⊢ wp frame (wpE (defs₀ (F := F)) Variants.none c none) E (cc0_rglru_mixer i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_rglru_mixer_eq_skeleton]; unfold cc0_rglru_mixer_skel
    simp only [k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%ds1, %fs1, -, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg14.eq_unread hfs3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexists _; iexact HS0
    isplitl [HS1]
    · iexists _, _; isplitr; swap; · iexact HS1
      ipureintro; rfl
    isplitl [HS2]
    · iexists _, _; isplitr; swap; · iexact HS2
      ipureintro; rfl
    iexists _; iexact HS3

end Cert.KernelIdeal.Lru

end
-- ==== Proof.KI.Body.lean ====
module

public import proofs.«01_k».proof.Proof.KI.Runs
public import Idealize.ShloMosaic.Lib.Claim

@[expose] public section

-- membership in a rectangle of production extents (`View.cover_of_tiled`): the elaborator's structural look
-- recurses once per coordinate of the long axes
set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 tile its block (1 store of `S1x256x1280`, checked by the kernel's evaluation: Lib/Ring.lean `Piece.tiledL`, linear in the pieces, through a loop's `@[irreducible]` trip theorem too), so they cover it. -/
theorem cover0_A_8 (c : Dev nD) (i : grid0.Coords) (arg2 : Memref sig .tc .vmem S1x256x1280 .bf16) (harg2 : arg2.IsWhole) (arg3 : Memref sig .tc .vmem S1x256x1280 .bf16) (harg3 : arg3.IsWhole) (arg4 : Memref sig .tc .vmem S4x1280 .f32) (harg4 : arg4.IsWhole) (arg5 : Memref sig .tc .vmem S1x1280 .f32) (harg5 : arg5.IsWhole) (arg6 : Memref sig .tc .vmem S1x2x640x1280 .bf16) (harg6 : arg6.IsWhole) (arg7 : Memref sig .tc .vmem S1x1280 .f32) (harg7 : arg7.IsWhole) (arg8 : Memref sig .tc .vmem S1x1280 .f32) (harg8 : arg8.IsWhole) (arg9 : Memref sig .tc .vmem S1x1280 .f32) (harg9 : arg9.IsWhole) (arg10 : Memref sig .tc .vmem S1x256x1280 .bf16) (harg10 : arg10.IsWhole) (arg11 : Memref sig .tc .vmem S264x1280 .f32) (harg11 : arg11.IsWhole) (arg12 : Memref sig .tc .vmem S256x1280 .f32) (harg12 : arg12.IsWhole) (arg13 : Memref sig .tc .vmem S256x1280 .f32) (harg13 : arg13.IsWhole) (arg14 : Memref sig .tc .vmem S8x1280 .f32) (harg14 : arg14.IsWhole) (hc0 : cond0_0 i)
    (x0 : Vec F S1x256x1280 .bf16) (x1 : Vec F S1x256x1280 .bf16) (x2 : Vec F S4x1280 .f32) (x3 : Vec F S1x1280 .f32) (x4 : Vec F S1x2x640x1280 .bf16) (x5 : Vec F S1x1280 .f32) (x6 : Vec F S1x1280 .f32) (x7 : Vec F S1x1280 .f32) (y : S1x256x1280.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1 S1x256x1280.size (by sl_kernel_rfl) y

/-- What case A leaves in output 8's staging buffer: its pieces read back over junk. -/
def out0_A_8 (c : Dev nD) (i : grid0.Coords) (arg2 : Memref sig .tc .vmem S1x256x1280 .bf16) (harg2 : arg2.IsWhole) (arg3 : Memref sig .tc .vmem S1x256x1280 .bf16) (harg3 : arg3.IsWhole) (arg4 : Memref sig .tc .vmem S4x1280 .f32) (harg4 : arg4.IsWhole) (arg5 : Memref sig .tc .vmem S1x1280 .f32) (harg5 : arg5.IsWhole) (arg6 : Memref sig .tc .vmem S1x2x640x1280 .bf16) (harg6 : arg6.IsWhole) (arg7 : Memref sig .tc .vmem S1x1280 .f32) (harg7 : arg7.IsWhole) (arg8 : Memref sig .tc .vmem S1x1280 .f32) (harg8 : arg8.IsWhole) (arg9 : Memref sig .tc .vmem S1x1280 .f32) (harg9 : arg9.IsWhole) (arg10 : Memref sig .tc .vmem S1x256x1280 .bf16) (harg10 : arg10.IsWhole) (arg11 : Memref sig .tc .vmem S264x1280 .f32) (harg11 : arg11.IsWhole) (arg12 : Memref sig .tc .vmem S256x1280 .f32) (harg12 : arg12.IsWhole) (arg13 : Memref sig .tc .vmem S256x1280 .f32) (harg13 : arg13.IsWhole) (arg14 : Memref sig .tc .vmem S8x1280 .f32) (harg14 : arg14.IsWhole) (hc0 : cond0_0 i)
    (x0 : Vec F S1x256x1280 .bf16) (x1 : Vec F S1x256x1280 .bf16) (x2 : Vec F S4x1280 .f32) (x3 : Vec F S1x1280 .f32) (x4 : Vec F S1x2x640x1280 .bf16) (x5 : Vec F S1x1280 .f32) (x6 : Vec F S1x1280 .f32) (x7 : Vec F S1x1280 .f32) : Vec F S1x256x1280 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1)

/-- Case A's pieces for scratch `arg11`, which the kernel carries between points, cover it: 3 pieces (stores and landed copies) of several sizes (`S256x1280`, `S8x1280`) tiling it when cut into blocks of `![8, 1280]` (Lib/Ring.lean `Piece.tiledBy`). -/
theorem scover0_A_0 (c : Dev nD) (i : grid0.Coords) (arg2 : Memref sig .tc .vmem S1x256x1280 .bf16) (harg2 : arg2.IsWhole) (arg3 : Memref sig .tc .vmem S1x256x1280 .bf16) (harg3 : arg3.IsWhole) (arg4 : Memref sig .tc .vmem S4x1280 .f32) (harg4 : arg4.IsWhole) (arg5 : Memref sig .tc .vmem S1x1280 .f32) (harg5 : arg5.IsWhole) (arg6 : Memref sig .tc .vmem S1x2x640x1280 .bf16) (harg6 : arg6.IsWhole) (arg7 : Memref sig .tc .vmem S1x1280 .f32) (harg7 : arg7.IsWhole) (arg8 : Memref sig .tc .vmem S1x1280 .f32) (harg8 : arg8.IsWhole) (arg9 : Memref sig .tc .vmem S1x1280 .f32) (harg9 : arg9.IsWhole) (arg10 : Memref sig .tc .vmem S1x256x1280 .bf16) (harg10 : arg10.IsWhole) (arg11 : Memref sig .tc .vmem S264x1280 .f32) (harg11 : arg11.IsWhole) (arg12 : Memref sig .tc .vmem S256x1280 .f32) (harg12 : arg12.IsWhole) (arg13 : Memref sig .tc .vmem S256x1280 .f32) (harg13 : arg13.IsWhole) (arg14 : Memref sig .tc .vmem S8x1280 .f32) (harg14 : arg14.IsWhole) (hc0 : cond0_0 i)
    (x0 : Vec F S1x256x1280 .bf16) (x1 : Vec F S1x256x1280 .bf16) (x2 : Vec F S4x1280 .f32) (x3 : Vec F S1x1280 .f32) (x4 : Vec F S1x2x640x1280 .bf16) (x5 : Vec F S1x1280 .f32) (x6 : Vec F S1x1280 .f32) (x7 : Vec F S1x1280 .f32) (y : S264x1280.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1 ![8, 1280] (by sl_kernel_rfl) y

/-- What case A leaves in scratch `arg11`: its pieces read back over junk. -/
def sout0_A_0 (c : Dev nD) (i : grid0.Coords) (arg2 : Memref sig .tc .vmem S1x256x1280 .bf16) (harg2 : arg2.IsWhole) (arg3 : Memref sig .tc .vmem S1x256x1280 .bf16) (harg3 : arg3.IsWhole) (arg4 : Memref sig .tc .vmem S4x1280 .f32) (harg4 : arg4.IsWhole) (arg5 : Memref sig .tc .vmem S1x1280 .f32) (harg5 : arg5.IsWhole) (arg6 : Memref sig .tc .vmem S1x2x640x1280 .bf16) (harg6 : arg6.IsWhole) (arg7 : Memref sig .tc .vmem S1x1280 .f32) (harg7 : arg7.IsWhole) (arg8 : Memref sig .tc .vmem S1x1280 .f32) (harg8 : arg8.IsWhole) (arg9 : Memref sig .tc .vmem S1x1280 .f32) (harg9 : arg9.IsWhole) (arg10 : Memref sig .tc .vmem S1x256x1280 .bf16) (harg10 : arg10.IsWhole) (arg11 : Memref sig .tc .vmem S264x1280 .f32) (harg11 : arg11.IsWhole) (arg12 : Memref sig .tc .vmem S256x1280 .f32) (harg12 : arg12.IsWhole) (arg13 : Memref sig .tc .vmem S256x1280 .f32) (harg13 : arg13.IsWhole) (arg14 : Memref sig .tc .vmem S8x1280 .f32) (harg14 : arg14.IsWhole) (hc0 : cond0_0 i)
    (x0 : Vec F S1x256x1280 .bf16) (x1 : Vec F S1x256x1280 .bf16) (x2 : Vec F S4x1280 .f32) (x3 : Vec F S1x1280 .f32) (x4 : Vec F S1x2x640x1280 .bf16) (x5 : Vec F S1x1280 .f32) (x6 : Vec F S1x1280 .f32) (x7 : Vec F S1x1280 .f32) : Vec F S264x1280 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1)

/-- Case A's pieces for scratch `arg14`, which the kernel carries between points, cover it: 2 pieces of `S8x1280` tiling it (Lib/Ring.lean `Piece.tiledL`). -/
theorem scover0_A_3 (c : Dev nD) (i : grid0.Coords) (arg2 : Memref sig .tc .vmem S1x256x1280 .bf16) (harg2 : arg2.IsWhole) (arg3 : Memref sig .tc .vmem S1x256x1280 .bf16) (harg3 : arg3.IsWhole) (arg4 : Memref sig .tc .vmem S4x1280 .f32) (harg4 : arg4.IsWhole) (arg5 : Memref sig .tc .vmem S1x1280 .f32) (harg5 : arg5.IsWhole) (arg6 : Memref sig .tc .vmem S1x2x640x1280 .bf16) (harg6 : arg6.IsWhole) (arg7 : Memref sig .tc .vmem S1x1280 .f32) (harg7 : arg7.IsWhole) (arg8 : Memref sig .tc .vmem S1x1280 .f32) (harg8 : arg8.IsWhole) (arg9 : Memref sig .tc .vmem S1x1280 .f32) (harg9 : arg9.IsWhole) (arg10 : Memref sig .tc .vmem S1x256x1280 .bf16) (harg10 : arg10.IsWhole) (arg11 : Memref sig .tc .vmem S264x1280 .f32) (harg11 : arg11.IsWhole) (arg12 : Memref sig .tc .vmem S256x1280 .f32) (harg12 : arg12.IsWhole) (arg13 : Memref sig .tc .vmem S256x1280 .f32) (harg13 : arg13.IsWhole) (arg14 : Memref sig .tc .vmem S8x1280 .f32) (harg14 : arg14.IsWhole) (hc0 : cond0_0 i)
    (x0 : Vec F S1x256x1280 .bf16) (x1 : Vec F S1x256x1280 .bf16) (x2 : Vec F S4x1280 .f32) (x3 : Vec F S1x1280 .f32) (x4 : Vec F S1x2x640x1280 .bf16) (x5 : Vec F S1x1280 .f32) (x6 : Vec F S1x1280 .f32) (x7 : Vec F S1x1280 .f32) (y : S8x1280.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1 S8x1280.size (by sl_kernel_rfl) y

/-- What case A leaves in scratch `arg14`: its pieces read back over junk. -/
def sout0_A_3 (c : Dev nD) (i : grid0.Coords) (arg2 : Memref sig .tc .vmem S1x256x1280 .bf16) (harg2 : arg2.IsWhole) (arg3 : Memref sig .tc .vmem S1x256x1280 .bf16) (harg3 : arg3.IsWhole) (arg4 : Memref sig .tc .vmem S4x1280 .f32) (harg4 : arg4.IsWhole) (arg5 : Memref sig .tc .vmem S1x1280 .f32) (harg5 : arg5.IsWhole) (arg6 : Memref sig .tc .vmem S1x2x640x1280 .bf16) (harg6 : arg6.IsWhole) (arg7 : Memref sig .tc .vmem S1x1280 .f32) (harg7 : arg7.IsWhole) (arg8 : Memref sig .tc .vmem S1x1280 .f32) (harg8 : arg8.IsWhole) (arg9 : Memref sig .tc .vmem S1x1280 .f32) (harg9 : arg9.IsWhole) (arg10 : Memref sig .tc .vmem S1x256x1280 .bf16) (harg10 : arg10.IsWhole) (arg11 : Memref sig .tc .vmem S264x1280 .f32) (harg11 : arg11.IsWhole) (arg12 : Memref sig .tc .vmem S256x1280 .f32) (harg12 : arg12.IsWhole) (arg13 : Memref sig .tc .vmem S256x1280 .f32) (harg13 : arg13.IsWhole) (arg14 : Memref sig .tc .vmem S8x1280 .f32) (harg14 : arg14.IsWhole) (hc0 : cond0_0 i)
    (x0 : Vec F S1x256x1280 .bf16) (x1 : Vec F S1x256x1280 .bf16) (x2 : Vec F S4x1280 .f32) (x3 : Vec F S1x1280 .f32) (x4 : Vec F S1x2x640x1280 .bf16) (x5 : Vec F S1x1280 .f32) (x6 : Vec F S1x1280 .f32) (x7 : Vec F S1x1280 .f32) : Vec F S8x1280 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1)

/-- Case B's pieces for output 8 tile its block (1 store of `S1x256x1280`, checked by the kernel's evaluation: Lib/Ring.lean `Piece.tiledL`, linear in the pieces, through a loop's `@[irreducible]` trip theorem too), so they cover it. -/
theorem cover0_B_8 (c : Dev nD) (i : grid0.Coords) (arg2 : Memref sig .tc .vmem S1x256x1280 .bf16) (harg2 : arg2.IsWhole) (arg3 : Memref sig .tc .vmem S1x256x1280 .bf16) (harg3 : arg3.IsWhole) (arg4 : Memref sig .tc .vmem S4x1280 .f32) (harg4 : arg4.IsWhole) (arg5 : Memref sig .tc .vmem S1x1280 .f32) (harg5 : arg5.IsWhole) (arg6 : Memref sig .tc .vmem S1x2x640x1280 .bf16) (harg6 : arg6.IsWhole) (arg7 : Memref sig .tc .vmem S1x1280 .f32) (harg7 : arg7.IsWhole) (arg8 : Memref sig .tc .vmem S1x1280 .f32) (harg8 : arg8.IsWhole) (arg9 : Memref sig .tc .vmem S1x1280 .f32) (harg9 : arg9.IsWhole) (arg10 : Memref sig .tc .vmem S1x256x1280 .bf16) (harg10 : arg10.IsWhole) (arg11 : Memref sig .tc .vmem S264x1280 .f32) (harg11 : arg11.IsWhole) (arg12 : Memref sig .tc .vmem S256x1280 .f32) (harg12 : arg12.IsWhole) (arg13 : Memref sig .tc .vmem S256x1280 .f32) (harg13 : arg13.IsWhole) (arg14 : Memref sig .tc .vmem S8x1280 .f32) (harg14 : arg14.IsWhole) (hc0 : ¬cond0_0 i)
    (x0 : Vec F S1x256x1280 .bf16) (x1 : Vec F S1x256x1280 .bf16) (x2 : Vec F S4x1280 .f32) (x3 : Vec F S1x1280 .f32) (x4 : Vec F S1x2x640x1280 .bf16) (x5 : Vec F S1x1280 .f32) (x6 : Vec F S1x1280 .f32) (x7 : Vec F S1x1280 .f32) (xs0 : Vec F S264x1280 .f32) (xs3 : Vec F S8x1280 .f32) (y : S1x256x1280.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs3).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs3).1 S1x256x1280.size (by sl_kernel_rfl) y

/-- What case B leaves in output 8's staging buffer: its pieces read back over junk. -/
def out0_B_8 (c : Dev nD) (i : grid0.Coords) (arg2 : Memref sig .tc .vmem S1x256x1280 .bf16) (harg2 : arg2.IsWhole) (arg3 : Memref sig .tc .vmem S1x256x1280 .bf16) (harg3 : arg3.IsWhole) (arg4 : Memref sig .tc .vmem S4x1280 .f32) (harg4 : arg4.IsWhole) (arg5 : Memref sig .tc .vmem S1x1280 .f32) (harg5 : arg5.IsWhole) (arg6 : Memref sig .tc .vmem S1x2x640x1280 .bf16) (harg6 : arg6.IsWhole) (arg7 : Memref sig .tc .vmem S1x1280 .f32) (harg7 : arg7.IsWhole) (arg8 : Memref sig .tc .vmem S1x1280 .f32) (harg8 : arg8.IsWhole) (arg9 : Memref sig .tc .vmem S1x1280 .f32) (harg9 : arg9.IsWhole) (arg10 : Memref sig .tc .vmem S1x256x1280 .bf16) (harg10 : arg10.IsWhole) (arg11 : Memref sig .tc .vmem S264x1280 .f32) (harg11 : arg11.IsWhole) (arg12 : Memref sig .tc .vmem S256x1280 .f32) (harg12 : arg12.IsWhole) (arg13 : Memref sig .tc .vmem S256x1280 .f32) (harg13 : arg13.IsWhole) (arg14 : Memref sig .tc .vmem S8x1280 .f32) (harg14 : arg14.IsWhole) (hc0 : ¬cond0_0 i)
    (x0 : Vec F S1x256x1280 .bf16) (x1 : Vec F S1x256x1280 .bf16) (x2 : Vec F S4x1280 .f32) (x3 : Vec F S1x1280 .f32) (x4 : Vec F S1x2x640x1280 .bf16) (x5 : Vec F S1x1280 .f32) (x6 : Vec F S1x1280 .f32) (x7 : Vec F S1x1280 .f32) (xs0 : Vec F S264x1280 .f32) (xs3 : Vec F S8x1280 .f32) : Vec F S1x256x1280 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs3).1)

/-- Case B's pieces for scratch `arg11`, which the kernel carries between points, cover it: 2 pieces (stores and landed copies) of several sizes (`S256x1280`, `S8x1280`) tiling it when cut into blocks of `![8, 1280]` (Lib/Ring.lean `Piece.tiledBy`). -/
theorem scover0_B_0 (c : Dev nD) (i : grid0.Coords) (arg2 : Memref sig .tc .vmem S1x256x1280 .bf16) (harg2 : arg2.IsWhole) (arg3 : Memref sig .tc .vmem S1x256x1280 .bf16) (harg3 : arg3.IsWhole) (arg4 : Memref sig .tc .vmem S4x1280 .f32) (harg4 : arg4.IsWhole) (arg5 : Memref sig .tc .vmem S1x1280 .f32) (harg5 : arg5.IsWhole) (arg6 : Memref sig .tc .vmem S1x2x640x1280 .bf16) (harg6 : arg6.IsWhole) (arg7 : Memref sig .tc .vmem S1x1280 .f32) (harg7 : arg7.IsWhole) (arg8 : Memref sig .tc .vmem S1x1280 .f32) (harg8 : arg8.IsWhole) (arg9 : Memref sig .tc .vmem S1x1280 .f32) (harg9 : arg9.IsWhole) (arg10 : Memref sig .tc .vmem S1x256x1280 .bf16) (harg10 : arg10.IsWhole) (arg11 : Memref sig .tc .vmem S264x1280 .f32) (harg11 : arg11.IsWhole) (arg12 : Memref sig .tc .vmem S256x1280 .f32) (harg12 : arg12.IsWhole) (arg13 : Memref sig .tc .vmem S256x1280 .f32) (harg13 : arg13.IsWhole) (arg14 : Memref sig .tc .vmem S8x1280 .f32) (harg14 : arg14.IsWhole) (hc0 : ¬cond0_0 i)
    (x0 : Vec F S1x256x1280 .bf16) (x1 : Vec F S1x256x1280 .bf16) (x2 : Vec F S4x1280 .f32) (x3 : Vec F S1x1280 .f32) (x4 : Vec F S1x2x640x1280 .bf16) (x5 : Vec F S1x1280 .f32) (x6 : Vec F S1x1280 .f32) (x7 : Vec F S1x1280 .f32) (xs0 : Vec F S264x1280 .f32) (xs3 : Vec F S8x1280 .f32) (y : S264x1280.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs3).2.1, y ∈ pc.1.set :=
  View.cover_of_tiledBy (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs3).2.1 ![8, 1280] (by sl_kernel_rfl) y

/-- What case B leaves in scratch `arg11`: its pieces read back over junk. -/
def sout0_B_0 (c : Dev nD) (i : grid0.Coords) (arg2 : Memref sig .tc .vmem S1x256x1280 .bf16) (harg2 : arg2.IsWhole) (arg3 : Memref sig .tc .vmem S1x256x1280 .bf16) (harg3 : arg3.IsWhole) (arg4 : Memref sig .tc .vmem S4x1280 .f32) (harg4 : arg4.IsWhole) (arg5 : Memref sig .tc .vmem S1x1280 .f32) (harg5 : arg5.IsWhole) (arg6 : Memref sig .tc .vmem S1x2x640x1280 .bf16) (harg6 : arg6.IsWhole) (arg7 : Memref sig .tc .vmem S1x1280 .f32) (harg7 : arg7.IsWhole) (arg8 : Memref sig .tc .vmem S1x1280 .f32) (harg8 : arg8.IsWhole) (arg9 : Memref sig .tc .vmem S1x1280 .f32) (harg9 : arg9.IsWhole) (arg10 : Memref sig .tc .vmem S1x256x1280 .bf16) (harg10 : arg10.IsWhole) (arg11 : Memref sig .tc .vmem S264x1280 .f32) (harg11 : arg11.IsWhole) (arg12 : Memref sig .tc .vmem S256x1280 .f32) (harg12 : arg12.IsWhole) (arg13 : Memref sig .tc .vmem S256x1280 .f32) (harg13 : arg13.IsWhole) (arg14 : Memref sig .tc .vmem S8x1280 .f32) (harg14 : arg14.IsWhole) (hc0 : ¬cond0_0 i)
    (x0 : Vec F S1x256x1280 .bf16) (x1 : Vec F S1x256x1280 .bf16) (x2 : Vec F S4x1280 .f32) (x3 : Vec F S1x1280 .f32) (x4 : Vec F S1x2x640x1280 .bf16) (x5 : Vec F S1x1280 .f32) (x6 : Vec F S1x1280 .f32) (x7 : Vec F S1x1280 .f32) (xs0 : Vec F S264x1280 .f32) (xs3 : Vec F S8x1280 .f32) : Vec F S264x1280 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs3).2.1)

/-- Case B's pieces for scratch `arg14`, which the kernel carries between points, cover it: 1 piece of `S8x1280` tiling it (Lib/Ring.lean `Piece.tiledL`). -/
theorem scover0_B_3 (c : Dev nD) (i : grid0.Coords) (arg2 : Memref sig .tc .vmem S1x256x1280 .bf16) (harg2 : arg2.IsWhole) (arg3 : Memref sig .tc .vmem S1x256x1280 .bf16) (harg3 : arg3.IsWhole) (arg4 : Memref sig .tc .vmem S4x1280 .f32) (harg4 : arg4.IsWhole) (arg5 : Memref sig .tc .vmem S1x1280 .f32) (harg5 : arg5.IsWhole) (arg6 : Memref sig .tc .vmem S1x2x640x1280 .bf16) (harg6 : arg6.IsWhole) (arg7 : Memref sig .tc .vmem S1x1280 .f32) (harg7 : arg7.IsWhole) (arg8 : Memref sig .tc .vmem S1x1280 .f32) (harg8 : arg8.IsWhole) (arg9 : Memref sig .tc .vmem S1x1280 .f32) (harg9 : arg9.IsWhole) (arg10 : Memref sig .tc .vmem S1x256x1280 .bf16) (harg10 : arg10.IsWhole) (arg11 : Memref sig .tc .vmem S264x1280 .f32) (harg11 : arg11.IsWhole) (arg12 : Memref sig .tc .vmem S256x1280 .f32) (harg12 : arg12.IsWhole) (arg13 : Memref sig .tc .vmem S256x1280 .f32) (harg13 : arg13.IsWhole) (arg14 : Memref sig .tc .vmem S8x1280 .f32) (harg14 : arg14.IsWhole) (hc0 : ¬cond0_0 i)
    (x0 : Vec F S1x256x1280 .bf16) (x1 : Vec F S1x256x1280 .bf16) (x2 : Vec F S4x1280 .f32) (x3 : Vec F S1x1280 .f32) (x4 : Vec F S1x2x640x1280 .bf16) (x5 : Vec F S1x1280 .f32) (x6 : Vec F S1x1280 .f32) (x7 : Vec F S1x1280 .f32) (xs0 : Vec F S264x1280 .f32) (xs3 : Vec F S8x1280 .f32) (y : S8x1280.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs3).2.2.1 S8x1280.size (by sl_kernel_rfl) y

/-- What case B leaves in scratch `arg14`: its pieces read back over junk. -/
def sout0_B_3 (c : Dev nD) (i : grid0.Coords) (arg2 : Memref sig .tc .vmem S1x256x1280 .bf16) (harg2 : arg2.IsWhole) (arg3 : Memref sig .tc .vmem S1x256x1280 .bf16) (harg3 : arg3.IsWhole) (arg4 : Memref sig .tc .vmem S4x1280 .f32) (harg4 : arg4.IsWhole) (arg5 : Memref sig .tc .vmem S1x1280 .f32) (harg5 : arg5.IsWhole) (arg6 : Memref sig .tc .vmem S1x2x640x1280 .bf16) (harg6 : arg6.IsWhole) (arg7 : Memref sig .tc .vmem S1x1280 .f32) (harg7 : arg7.IsWhole) (arg8 : Memref sig .tc .vmem S1x1280 .f32) (harg8 : arg8.IsWhole) (arg9 : Memref sig .tc .vmem S1x1280 .f32) (harg9 : arg9.IsWhole) (arg10 : Memref sig .tc .vmem S1x256x1280 .bf16) (harg10 : arg10.IsWhole) (arg11 : Memref sig .tc .vmem S264x1280 .f32) (harg11 : arg11.IsWhole) (arg12 : Memref sig .tc .vmem S256x1280 .f32) (harg12 : arg12.IsWhole) (arg13 : Memref sig .tc .vmem S256x1280 .f32) (harg13 : arg13.IsWhole) (arg14 : Memref sig .tc .vmem S8x1280 .f32) (harg14 : arg14.IsWhole) (hc0 : ¬cond0_0 i)
    (x0 : Vec F S1x256x1280 .bf16) (x1 : Vec F S1x256x1280 .bf16) (x2 : Vec F S4x1280 .f32) (x3 : Vec F S1x1280 .f32) (x4 : Vec F S1x2x640x1280 .bf16) (x5 : Vec F S1x1280 .f32) (x6 : Vec F S1x1280 .f32) (x7 : Vec F S1x1280 .f32) (xs0 : Vec F S264x1280 .f32) (xs3 : Vec F S8x1280 .f32) : Vec F S8x1280 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs3).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x256x1280 .bf16 × Vec F S264x1280 .f32 × Vec F S8x1280 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 8 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 8 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ (∃ d, owns (c : Thread nD τ) scM0_1 fullShare d) ∗ (∃ d, owns (c : Thread nD τ) scM0_2 fullShare d) ∗ owns (c : Thread nD τ) scM0_3 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ (∃ d, owns (c : Thread nD τ) scM0_1 fullShare d) ∗ (∃ d, owns (c : Thread nD τ) scM0_2 fullShare d) ∗ owns (c : Thread nD τ) scM0_3 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ (∃ d, owns (c : Thread nD τ) scM0_1 fullShare d) ∗ (∃ d, owns (c : Thread nD τ) scM0_2 fullShare d) ∗ owns (c : Thread nD τ) scM0_3 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases hz : t.val = 0
    · rw [PhiS_castSucc m c t, PhiS_zero m c _ _ hz, PhiA0_eq]
      rw [outsAt0_A m c t h0]
      unfold out0_A_8 sout0_A_0 sout0_A_3; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      iintro ⟨H0, H1, H2, H3, H4, H5, H6, H7, ⟨%e8, H8⟩, ⟨%es0, HS0⟩, HS1, HS2, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _)
          isplitl [HS1]
          · iexact HS1
          isplitl [HS2]
          · iexact HS2
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_8 sout0_A_0 sout0_A_3; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexists _; iexact HS0
      isplitl [HS1]; · iexact HS1
      isplitl [HS2]; · iexact HS2
      isplitl [HS3]; · iexists _; iexact HS3
      iintro ⟨H0, H1, H2, H3, H4, H5, H6, H7, ⟨%e8, H8⟩, ⟨%es0, HS0⟩, HS1, HS2, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _)
          isplitl [HS1]
          · iexact HS1
          isplitl [HS2]
          · iexact HS2
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _ _ _ _ _)
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold out0_B_8 sout0_B_0 sout0_B_3; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      iintro ⟨H0, H1, H2, H3, H4, H5, H6, H7, ⟨%e8, H8⟩, ⟨%es0, HS0⟩, HS1, HS2, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _)
          isplitl [HS1]
          · iexact HS1
          isplitl [HS2]
          · iexact HS2
          unfold owns; iexists _; isplitr
          swap; · iexact HS3
          ipureintro; exact View.read_writes_of_cover _ _ _ _ _ (scover0_B_3 c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track_shared`'s implicit arguments are found by unifying its conclusion with this one, which takes unfolding plain
-- definitions in a metavariable's type
set_option backward.isDefEq.respectTransparency.types false in
/-- The launch: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: every execution ends with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Lru

end
-- ==== Proof.Alg.lean ====
module

public import Idealize.ShloMosaic.Lib.Pointwise
public import Idealize.ShloMosaic.Lib.IdealHost

@[expose] public section

noncomputable section

open Idealize.ShloMosaic

namespace Cert.Lru

/-- The single-precision word of one half denotes one half. -/
theorem bits_half : Ideal.ofBits .f32 0x3F000000#32 = ((1 / 2 : ℝ) : EReal) := by
  simp [Ideal.ofBits, Ideal.ieee, -EReal.coe_mul]; norm_num

/-- The single-precision word of two denotes two. -/
theorem bits_two : Ideal.ofBits .f32 0x40000000#32 = ((2 : ℝ) : EReal) := by
  simp [Ideal.ofBits, Ideal.ieee, -EReal.coe_mul]; norm_num

/-- The single-precision word of minus two denotes minus two. -/
theorem bits_neg_two : Ideal.ofBits .f32 0xC0000000#32 = ((-2 : ℝ) : EReal) := by
  simp [Ideal.ofBits, Ideal.ieee, -EReal.coe_mul]; norm_num

/-- The single-precision word of minus eight denotes minus eight. -/
theorem bits_neg_eight : Ideal.ofBits .f32 0xC1000000#32 = ((-8 : ℝ) : EReal) := by
  simp [Ideal.ofBits, Ideal.ieee, -EReal.coe_mul]; norm_num

/-- The logistic function is half of one plus the hyperbolic tangent of half the argument, at the infinities too. -/
theorem half_tanh_half (x : EReal) :
    ((1 / 2 : ℝ) : EReal) * Ideal.tanh (((1 / 2 : ℝ) : EReal) * x) + ((1 / 2 : ℝ) : EReal) = Ideal.logistic x := by
  induction x using EReal.rec with
  | bot =>
    rw [EReal.coe_mul_bot_of_pos (by norm_num), Ideal.tanh_bot, Ideal.logistic_bot]
    have : (-1 : EReal) = ((-1 : ℝ) : EReal) := by simp
    rw [this, ← EReal.coe_mul, ← EReal.coe_add]
    norm_num
  | top =>
    rw [EReal.coe_mul_top_of_pos (by norm_num), Ideal.tanh_top, Ideal.logistic_top]
    rw [mul_one, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (-r) = Real.exp (-(1 / 2 * r)) * Real.exp (-(1 / 2 * r)) := by
      rw [← Real.exp_add]; ring_nf
    have h2 : Real.exp (-(1 / 2 * r)) = (Real.exp (1 / 2 * r))⁻¹ := Real.exp_neg _
    rw [h1, h2]
    have hp : 0 < Real.exp (1 / 2 * r) := Real.exp_pos _
    have hq : Real.exp (1 / 2 * r) * Real.exp (1 / 2 * r) + 1 ≠ 0 := by positivity
    have hq2 : Real.exp (1 / 2 * r) ^ 2 + 1 ≠ 0 := by positivity
    generalize Real.exp (1 / 2 * r) = e at *
    field_simp
    ring

/-- A value of the logistic function is a real number between zero and one. -/
theorem logistic_real (x : EReal) : ∃ p : ℝ, 0 ≤ p ∧ Ideal.logistic x = (p : EReal) := by
  induction x using EReal.rec with
  | bot => exact ⟨0, le_rfl, by rw [Ideal.logistic_bot]; rfl⟩
  | top => exact ⟨1, zero_le_one, by rw [Ideal.logistic_top]; rfl⟩
  | coe r => exact ⟨(1 + Real.exp (-r))⁻¹, by positivity, Ideal.logistic_coe r⟩

/-- The logarithm of one plus an exponential is not negative. -/
theorem log1p_exp_nonneg (x : EReal) : 0 ≤ Ideal.log1p (Ideal.exp x) := by
  induction x using EReal.rec with
  | bot =>
    have : (1 : EReal) + 0 = ((1 : ℝ) : EReal) := by simp
    rw [Ideal.exp_bot, Ideal.log1p, this]
    show 0 ≤ (if (1 : ℝ) ≤ 0 then (⊥ : EReal) else ((Real.log 1 : ℝ) : EReal))
    rw [if_neg (by norm_num), Real.log_one]; rfl
  | top =>
    rw [Ideal.exp_top, Ideal.log1p, EReal.add_top_of_ne_bot (show (1 : EReal) ≠ ⊥ from EReal.coe_ne_bot 1)]
    exact le_top
  | coe r =>
    have hp : 0 < Real.exp r := Real.exp_pos _
    have : (1 : EReal) + (Real.exp r : EReal) = ((1 + Real.exp r : ℝ) : EReal) := by push_cast; rfl
    rw [Ideal.exp_coe, Ideal.log1p, this]
    have hn : ¬ (1 + Real.exp r ≤ 0) := by linarith
    show 0 ≤ (if 1 + Real.exp r ≤ 0 then (⊥ : EReal) else ((Real.log (1 + Real.exp r) : ℝ) : EReal))
    rw [if_neg hn]
    exact_mod_cast Real.log_nonneg (by linarith)

/-- The softplus function in its overflow-free form. -/
def softplus (z : EReal) : EReal := max z 0 + Ideal.log1p (Ideal.exp (-(max z (-z))))

/-- Softplus is not negative. -/
theorem softplus_nonneg (z : EReal) : 0 ≤ softplus z :=
  add_nonneg (le_max_right _ _) (log1p_exp_nonneg _)

/-- The logarithm of the decay factor: minus eight times the recurrence gate times a softplus. -/
def logDecay (r s : EReal) : EReal := ((-8 : ℝ) : EReal) * r * s

/-- The logarithm of the decay factor is at most zero. -/
theorem logDecay_nonpos (x s : EReal) (hs : 0 ≤ s) : logDecay (Ideal.logistic x) s ≤ 0 := by
  obtain ⟨p, hp, e⟩ := logistic_real x
  rw [logDecay, e, ← EReal.coe_mul]
  apply EReal.mul_nonpos_iff.mpr
  right
  exact ⟨by exact_mod_cast (by nlinarith : (-8 : ℝ) * p ≤ 0), hs⟩

/-- The exponential of something at most zero is a real number that is not negative. -/
theorem exp_real_of_nonpos (L : EReal) (h : L ≤ 0) : ∃ a : ℝ, 0 ≤ a ∧ Ideal.exp L = (a : EReal) := by
  induction L using EReal.rec with
  | bot => exact ⟨0, le_rfl, rfl⟩
  | top => exact absurd h (by simp)
  | coe r => exact ⟨_, (Real.exp_pos r).le, Ideal.exp_coe r⟩

/-- One minus the exponential of twice `L`, by the hyperbolic tangent of `L`, for `L` at most zero. -/
theorem tanh_form (L : EReal) (h : L ≤ 0) :
    Ideal.div (((-2 : ℝ) : EReal) * Ideal.tanh L) (1 - Ideal.tanh L) = -(Ideal.exp (((2 : ℝ) : EReal) * L) - 1) := by
  induction L using EReal.rec with
  | bot =>
    have e1 : (-1 : EReal) = ((-1 : ℝ) : EReal) := by simp
    have e2 : (1 : EReal) = ((1 : ℝ) : EReal) := by simp
    rw [EReal.coe_mul_bot_of_pos (by norm_num), Ideal.tanh_bot, Ideal.exp_bot, e1, e2, ← EReal.coe_mul, ← EReal.coe_sub,
      Ideal.div_coe (by norm_num), ← EReal.coe_mul, zero_sub, neg_neg]
    norm_num
  | top => exact absurd h (by simp)
  | coe r =>
    have e2 : (1 : EReal) = ((1 : ℝ) : EReal) := by simp
    have hd : 1 - Real.tanh r ≠ 0 := by
      have := Real.tanh_lt_one r
      linarith
    rw [← EReal.coe_mul, Ideal.tanh_coe, Ideal.exp_coe, e2, ← EReal.coe_mul, ← EReal.coe_sub, Ideal.div_coe hd,
      ← EReal.coe_mul, ← EReal.coe_sub, ← EReal.coe_neg]
    congr 1
    have h2 : Real.exp (2 * r) = Real.exp r * Real.exp r := by
      rw [← Real.exp_add]; ring_nf
    have h1 : Real.exp (-r) = (Real.exp r)⁻¹ := Real.exp_neg _
    rw [Real.tanh_eq_sinh_div_cosh, Real.sinh_eq, Real.cosh_eq] at *
    rw [h2]
    rw [h1] at *
    have hp : 0 < Real.exp r := Real.exp_pos _
    generalize Real.exp r = e at *
    have hq2 : e ^ 2 + 1 ≠ 0 := by positivity
    have hk : 1 - (e - e⁻¹) / 2 / ((e + e⁻¹) / 2) = 2 / (e ^ 2 + 1) := by
      field_simp
      ring
    rw [hk]
    field_simp

/-- The layer's input scale, in the kernel's form and in the plain form. -/
theorem scale_eq (x s : EReal) (hs : 0 ≤ s) :
    Ideal.sqrt (Ideal.div (((-2 : ℝ) : EReal) * Ideal.tanh (logDecay (Ideal.logistic x) s)) (1 - Ideal.tanh (logDecay (Ideal.logistic x) s)))
      = Ideal.sqrt (-(Ideal.exp (((2 : ℝ) : EReal) * logDecay (Ideal.logistic x) s) - 1)) := by
  rw [tanh_form _ (logDecay_nonpos x s hs)]

/-- The gate branch's activation, by the hyperbolic tangent. -/
def gelu (x : EReal) : EReal :=
  x * (((1 / 2 : ℝ) : EReal) * (1 + Ideal.tanh (Ideal.ofBits .f32 0x3F4C422A#32 * (x + Ideal.ofBits .f32 0x3D372713#32 * (x * (x * x))))))

/-- The linear recurrence over a sequence of pairs, from a start value. -/
def scan (a u : ℕ → EReal) (h0 : EReal) : ℕ → EReal
  | 0 => h0
  | n + 1 => a n * scan a u h0 n + u n

/-- The recurrence may be cut anywhere. -/
theorem scan_add (a u : ℕ → EReal) (h0 : EReal) (m n : ℕ) :
    scan a u h0 (m + n) = scan (fun k => a (m + k)) (fun k => u (m + k)) (scan a u h0 m) n := by
  induction n with
  | zero => rfl
  | succ n ih => rw [Nat.add_succ, scan, scan, ih]

/-- The recurrence only looks at the pairs before the index. -/
theorem scan_congr {a a' u u' : ℕ → EReal} {h0 : EReal} (n : ℕ) (ha : ∀ k < n, a k = a' k) (hu : ∀ k < n, u k = u' k) :
    scan a u h0 n = scan a' u' h0 n := by
  induction n with
  | zero => rfl
  | succ n ih =>
    rw [scan, scan, ih (fun k hk => ha k (by omega)) (fun k hk => hu k (by omega)), ha n (by omega), hu n (by omega)]

/-- One doubling step of a prefix composition: the factor. -/
def dblA (d : ℕ) (a : ℕ → EReal) (r : ℕ) : EReal := a r * (if d ≤ r then a (r - d) else 1)

/-- One doubling step of a prefix composition: the summand. -/
def dblU (d : ℕ) (a u : ℕ → EReal) (r : ℕ) : EReal := a r * (if d ≤ r then u (r - d) else 0) + u r

set_option maxHeartbeats 8000000 in
/-- Three doubling steps compose the eight affine maps of a tile; applied to the carry they give the recurrence. -/
theorem dbl_scan (a u : ℕ → EReal) (c : EReal) (ha : ∀ k, ∃ p : ℝ, 0 ≤ p ∧ a k = (p : EReal)) (r : ℕ) (hr : r < 8) :
    dblU 4 (dblA 2 (dblA 1 a)) (dblU 2 (dblA 1 a) (dblU 1 a u)) r + dblA 4 (dblA 2 (dblA 1 a)) r * c
      = scan a u c (r + 1) := by
  have dist : ∀ k x y, a k * (x + y) = a k * x + a k * y := by
    intro k x y
    obtain ⟨p, hp, e⟩ := ha k
    rw [e]
    exact EReal.left_distrib_of_nonneg_of_ne_top (by exact_mod_cast hp) (EReal.coe_ne_top p) x y
  interval_cases r <;>
    simp [dblA, dblU, scan, dist, mul_assoc] <;>
    simp only [add_assoc, add_comm, add_left_comm]

end Cert.Lru

end

end
-- ==== Proof.KI.Pay.lean ====
module

public import proofs.«01_k».proof.Proof.Alg
public import proofs.«01_k».proof.Proof.Gen.KernelIdeal.Skeleton

@[expose] public section

noncomputable section

namespace Cert.KernelIdeal.Lru

open Idealize.ShloMosaic Idealize.ShloMosaic.TcCoe
open Cert.KernelIdeal Cert.KernelIdeal.Gen Cert.Lru

/-- A row of a tile by number, one outside the tile. -/
def rowOf (X : FVec Ideal S8x1280 .f32) (l : Fin 1280) (n : ℕ) : EReal :=
  if h : n < 8 then X (ix2 ⟨n, h⟩ l) else 1

/-- A tile after the three doubling steps, at an index. -/
theorem pay5_apply (acc A U : FVec Ideal S8x1280 .f32) (r : Fin 8) (l : Fin 1280) :
    k0_pay5 (F := Ideal) (iota Kind.tc S8x1280 32 [0] iota_S8x1280_d0_w32) acc A U (ix2 r l)
      = dblU 4 (dblA 2 (dblA 1 (rowOf A l))) (dblU 2 (dblA 1 (rowOf A l)) (dblU 1 (rowOf A l) (rowOf U l))) r.val
        + dblA 4 (dblA 2 (dblA 1 (rowOf A l))) r.val * acc (ix2 r l) := by
  pointwise [k0_pay5]
  fin_cases r <;> simp [dblA, dblU, rowOf, Scalar.select, IntOp.cmpi]

/-- The last row of a tile, at every row. -/
theorem pay2_apply (v : FVec Ideal S8x1280 .f32) (r : Fin 8) (l : Fin 1280) :
    k0_pay2 (F := Ideal) v (ix2 r l) = v (ix2 7 l) := by
  pointwise [k0_pay2]

/-- A stored tile is the tile. -/
theorem pay1_eq (v : FVec Ideal S8x1280 .f32) : k0_pay1 (F := Ideal) v = v := by
  funext j
  pointwise [k0_pay1]

/-- A stored carry is the carry. -/
theorem pay3_eq (v : FVec Ideal S8x1280 .f32) : k0_pay3 (F := Ideal) v = v := by
  funext j
  pointwise [k0_pay3]

/-- The initial history rows are zero. -/
theorem pay6_apply (j : S8x1280.Idx) : k0_pay6 (F := Ideal) j = 0 := by
  pointwise [k0_pay6]

/-- The initial carry is zero. -/
theorem pay7_apply (j : S8x1280.Idx) : k0_pay7 (F := Ideal) j = 0 := by
  pointwise [k0_pay7]

/-- The stored input block. -/
theorem pay9_apply (v : FVec Ideal S1x256x1280 .bf16) (p : Fin 256) (l : Fin 1280) :
    k0_pay9 (F := Ideal) v (ix2 p l) = v (ix3 0 p l) := by
  pointwise [k0_pay9, k0_pay8]

/-- The stored history rows. -/
theorem pay11_eq (v : FVec Ideal S8x1280 .f32) : k0_pay11 (F := Ideal) v = v := by
  funext j
  pointwise [k0_pay11]

/-- The written output block: the recurrence's value times the gate branch. -/
theorem pay4_apply (h : FVec Ideal S256x1280 .f32) (g : FVec Ideal S1x256x1280 .bf16) (p : Fin 256) (l : Fin 1280) :
    k0_pay4 (F := Ideal) h g (ix3 0 p l) = h (ix2 p l) * gelu (g (ix3 0 p l)) := by
  pointwise [k0_pay4]
  simp only [gelu, bits_half]

/-- The convolved input block. -/
theorem pay10_apply (v3 : FVec Ideal S1x256x1280 .bf16) (b w3 w0 w1 w2 : FVec Ideal S1x1280 .f32) (x0 x1 x2 : FVec Ideal S256x1280 .f32)
    (p : Fin 256) (l : Fin 1280) :
    k0_pay10 (F := Ideal) v3 b w3 w0 x0 w1 x1 w2 x2 (ix2 p l)
      = (x0 (ix2 p l) * w0 (ix2 0 l) + x1 (ix2 p l) * w1 (ix2 0 l) + x2 (ix2 p l) * w2 (ix2 0 l)
          + v3 (ix3 0 p l) * w3 (ix2 0 l)) + b (ix2 0 l) := by
  pointwise [k0_pay10, k0_pay8]
  simp only [mul_comm, add_comm, add_left_comm, add_assoc]

/-- The softplus row. -/
theorem pay12_apply (v : FVec Ideal S1x1280 .f32) (l : Fin 1280) :
    k0_pay12 (F := Ideal) v (ix2 0 l) = softplus (-(v (ix2 0 l))) := by
  pointwise [k0_pay12]
  have e : ∀ y : EReal, FloatOps.absf (F := Ideal) (φ := .f32) y = max y (-y) := fun _ => rfl
  simp [softplus, e]

/-- The contraction of a half's rows with the half's gate weights. -/
def dotHalf (x : FVec Ideal S256x1280 .f32) (w : FVec Ideal S1x1x640x1280 .bf16) (o : ℕ) (ho : o + 640 ≤ 1280) (p : Fin 256) (j : Fin 1280) : EReal :=
  ∑ k : Fin 640, x (ix2 p ⟨o + k.val, by omega⟩) * w (ix4 0 0 k j)

/-- The decay factors of the first half. -/
theorem pay18_apply (x : FVec Ideal S256x1280 .f32) (w : FVec Ideal S1x1x640x1280 .bf16) (b : FVec Ideal S1x640 .f32) (sp : FVec Ideal S1x1280 .f32)
    (p : Fin 256) (q : Fin 640) :
    k0_pay18 (F := Ideal) sp (k0_pay14 x w b) (ix2 p q)
      = Ideal.exp (logDecay (Ideal.logistic (dotHalf x w 0 (by omega) p ⟨q.val, by omega⟩ + b (ix2 0 q))) (sp (ix2 0 ⟨q.val, by omega⟩))) := by
  pointwise [k0_pay18, k0_pay17, k0_pay14, k0_pay13]
  simp only [bits_half, bits_neg_eight, half_tanh_half, logDecay, dotHalf, Nat.zero_add, zero_add]

/-- The scaled inputs of the first half. -/
theorem pay19_apply (x : FVec Ideal S256x1280 .f32) (w : FVec Ideal S1x1x640x1280 .bf16) (b bi : FVec Ideal S1x640 .f32) (sp : FVec Ideal S1x1280 .f32)
    (p : Fin 256) (q : Fin 640) (hs : 0 ≤ sp (ix2 0 ⟨q.val, by omega⟩)) :
    k0_pay19 (F := Ideal) x sp (k0_pay14 x w b) (k0_pay15 x w bi) k0_pay16 (ix2 p q)
      = Ideal.sqrt (-(Ideal.exp (((2 : ℝ) : EReal) * logDecay (Ideal.logistic (dotHalf x w 0 (by omega) p ⟨q.val, by omega⟩ + b (ix2 0 q))) (sp (ix2 0 ⟨q.val, by omega⟩))) - 1))
        * (Ideal.logistic (dotHalf x w 0 (by omega) p ⟨640 + q.val, by omega⟩ + bi (ix2 0 q)) * x (ix2 p ⟨q.val, by omega⟩)) := by
  rw [← scale_eq _ _ hs]
  pointwise [k0_pay19, k0_pay17, k0_pay14, k0_pay13, k0_pay15, k0_pay16]
  simp only [bits_half, bits_neg_eight, bits_neg_two, half_tanh_half, logDecay, dotHalf, Nat.zero_add, zero_add]

/-- The decay factors of the second half. -/
theorem pay23_apply (x : FVec Ideal S256x1280 .f32) (w : FVec Ideal S1x1x640x1280 .bf16) (b : FVec Ideal S1x640 .f32) (sp : FVec Ideal S1x1280 .f32)
    (p : Fin 256) (q : Fin 640) :
    k0_pay23 (F := Ideal) sp (k0_pay21 x w b) (ix2 p q)
      = Ideal.exp (logDecay (Ideal.logistic (dotHalf x w 640 (by omega) p ⟨q.val, by omega⟩ + b (ix2 0 q))) (sp (ix2 0 ⟨640 + q.val, by omega⟩))) := by
  pointwise [k0_pay23, k0_pay22, k0_pay21, k0_pay20]
  simp only [bits_half, bits_neg_eight, half_tanh_half, logDecay, dotHalf, Nat.zero_add, zero_add]

/-- The scaled inputs of the second half. -/
theorem pay24_apply (x : FVec Ideal S256x1280 .f32) (w : FVec Ideal S1x1x640x1280 .bf16) (b bi : FVec Ideal S1x640 .f32) (sp : FVec Ideal S1x1280 .f32)
    (p : Fin 256) (q : Fin 640) (hs : 0 ≤ sp (ix2 0 ⟨640 + q.val, by omega⟩)) :
    k0_pay24 (F := Ideal) x sp (k0_pay20 x w) (k0_pay21 x w b) bi (ix2 p q)
      = Ideal.sqrt (-(Ideal.exp (((2 : ℝ) : EReal) * logDecay (Ideal.logistic (dotHalf x w 640 (by omega) p ⟨q.val, by omega⟩ + b (ix2 0 q))) (sp (ix2 0 ⟨640 + q.val, by omega⟩))) - 1))
        * (Ideal.logistic (dotHalf x w 640 (by omega) p ⟨640 + q.val, by omega⟩ + bi (ix2 0 q)) * x (ix2 p ⟨640 + q.val, by omega⟩)) := by
  rw [← scale_eq _ _ hs]
  pointwise [k0_pay24, k0_pay22, k0_pay21, k0_pay20]
  simp only [bits_half, bits_neg_eight, bits_neg_two, half_tanh_half, logDecay, dotHalf, Nat.zero_add, zero_add]

end Cert.KernelIdeal.Lru

end

end
-- ==== Proof.KI.Loop.lean ====
module

public import proofs.«01_k».proof.Proof.KI.Pay
public import proofs.«01_k».proof.Proof.Gen.KernelIdeal.Loops
public import Idealize.ShloMosaic.Lib.WritesUnit
public import Idealize.ShloMosaic.Lib.VecWindow
public import Idealize.ShloMosaic.Lib.WordArith.Masks

@[expose] public section

noncomputable section

namespace Cert.KernelIdeal.Lru

open Idealize.ShloMosaic Idealize.ShloMosaic.TcCoe Idealize.SL.Sem
open Cert.KernelIdeal Cert.KernelIdeal.Gen Cert.Lru

/-- The loop makes thirty-two trips. -/
theorem trips_eq : k0_t1_loop.trips = 32 := by decide

/-- Trip `k` loads and stores the tile of rows from `8 k` on. -/
theorem off1_eq (k : Fin k0_t1_loop.trips) : k0_off1 k = ![8 * k.val, 0] := by
  have hk : k.val < 32 := lt_of_lt_of_eq k.isLt trips_eq
  have h : (Scf.iv 0#32 1#32 k.val * 8#32).toNat = 8 * k.val := by
    rw [BitVec.toNat_mul, WordArith.toNat_iv_zero_one _ (by omega)]
    simp
    omega
  show ![(Scf.iv 0#32 1#32 k.val * 8#32).toNat, 0] = _
  rw [h]

section Trip

variable (𝒱 : Variants) (c : Dev nD) (bd : Option 𝒱.V) (i : grid0.Coords) (arg2 : Memref sig .tc .vmem S1x256x1280 .bf16) (harg2 : arg2.IsWhole) (arg3 : Memref sig .tc .vmem S1x256x1280 .bf16) (harg3 : arg3.IsWhole) (arg4 : Memref sig .tc .vmem S4x1280 .f32) (harg4 : arg4.IsWhole) (arg5 : Memref sig .tc .vmem S1x1280 .f32) (harg5 : arg5.IsWhole) (arg6 : Memref sig .tc .vmem S1x2x640x1280 .bf16) (harg6 : arg6.IsWhole) (arg7 : Memref sig .tc .vmem S1x1280 .f32) (harg7 : arg7.IsWhole) (arg8 : Memref sig .tc .vmem S1x1280 .f32) (harg8 : arg8.IsWhole) (arg9 : Memref sig .tc .vmem S1x1280 .f32) (harg9 : arg9.IsWhole) (arg10 : Memref sig .tc .vmem S1x256x1280 .bf16) (harg10 : arg10.IsWhole) (arg11 : Memref sig .tc .vmem S264x1280 .f32) (harg11 : arg11.IsWhole) (arg12 : Memref sig .tc .vmem S256x1280 .f32) (harg12 : arg12.IsWhole) (arg13 : Memref sig .tc .vmem S256x1280 .f32) (harg13 : arg13.IsWhole) (arg14 : Memref sig .tc .vmem S8x1280 .f32) (harg14 : arg14.IsWhole) (w0 : BitVec 32)
  (X : BufTy.Contents (Elt Ideal) arg12.view.ty)

/-- What one trip yields. -/
theorem tripR_eq (v149 : IVec S8x1280 32) (k : Fin k0_t1_loop.trips) (acc : FVec Ideal S8x1280 .f32) (f : BufTy.Contents (Elt Ideal) arg13.view.ty) :
    tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v149 w0 X k acc f
      = k0_pay2 (k0_pay5 v149 acc
          (View.readAt (Elt Ideal) arg12.view (Rect.unit (s := S256x1280) (k0_off1 k) S8x1280.size (k0_off1_inb k)).toLoadRect X)
          (View.readAt (Elt Ideal) arg13.view (Rect.unit (s := S256x1280) (k0_off1 k) S8x1280.size (k0_off1_inb k)).toLoadRect f)) := by
  unfold tripR_k0_t1 trip_k0_t1
  rfl

/-- What one trip stores. -/
theorem tripL_eq (v149 : IVec S8x1280 32) (k : Fin k0_t1_loop.trips) (acc : FVec Ideal S8x1280 .f32) (f : BufTy.Contents (Elt Ideal) arg13.view.ty) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v149 w0 X k acc f
      = [⟨Rect.unit (s := S256x1280) (k0_off1 k) S8x1280.size (k0_off1_inb k), k0_pay1 (k0_pay5 v149 acc
          (View.readAt (Elt Ideal) arg12.view (Rect.unit (s := S256x1280) (k0_off1 k) S8x1280.size (k0_off1_inb k)).toLoadRect X)
          (View.readAt (Elt Ideal) arg13.view (Rect.unit (s := S256x1280) (k0_off1 k) S8x1280.size (k0_off1_inb k)).toLoadRect f))⟩] := by
  unfold tripL_k0_t1 trip_k0_t1
  rfl

/-- A row of a block by number, one outside the block. -/
def rowAt (V : FVec Ideal S256x1280 .f32) (l : Fin 1280) (n : ℕ) : EReal :=
  if h : n < 256 then V (ix2 ⟨n, h⟩ l) else 1

/-- A loaded tile, row by row. -/
theorem load_tile (mr : Memref sig .tc .vmem S256x1280 .f32) (f : BufTy.Contents (Elt Ideal) mr.view.ty) (k : Fin k0_t1_loop.trips) (l : Fin 1280) (n : ℕ) (hn : n < 8) :
    rowOf (View.readAt (Elt Ideal) mr.view (Rect.unit (s := S256x1280) (k0_off1 k) S8x1280.size (k0_off1_inb k)).toLoadRect f) l n
      = rowAt (mr.view.read (Elt Ideal) f) l (8 * k.val + n) := by
  have hk : k.val < 32 := lt_of_lt_of_eq k.isLt trips_eq
  rw [rowOf, dif_pos hn, rowAt, dif_pos (by omega), View.readAt_eq_ld]
  refine congrArg (mr.view.read (Elt Ideal) f) (funext fun a => Fin.ext ?_)
  have ho : k0_off1 k a = (![8 * k.val, 0] : Fin 2 → ℕ) a := congrFun (off1_eq k) a
  refine (congrArg (· + _) ho).trans ?_
  fin_cases a
  · show 8 * k.val + 1 * n = 8 * k.val + n
    omega
  · show 0 + 1 * l.val = l.val
    omega

/-- The three doubling steps only look at the rows of the tile. -/
theorem dbl_congr {a a' u u' : ℕ → EReal} (c : EReal) (r : ℕ) (hr : r < 8) (ha : ∀ n < 8, a n = a' n) (hu : ∀ n < 8, u n = u' n) :
    dblU 4 (dblA 2 (dblA 1 a)) (dblU 2 (dblA 1 a) (dblU 1 a u)) r + dblA 4 (dblA 2 (dblA 1 a)) r * c
      = dblU 4 (dblA 2 (dblA 1 a')) (dblU 2 (dblA 1 a') (dblU 1 a' u')) r + dblA 4 (dblA 2 (dblA 1 a')) r * c := by
  have cA : ∀ (d : ℕ) {f g : ℕ → EReal}, (∀ n < 8, f n = g n) → ∀ n < 8, dblA d f n = dblA d g n := fun d f g h n hn => by
    rw [dblA, dblA, h n hn, h (n - d) (by omega)]
  have cU : ∀ (d : ℕ) {f g v w : ℕ → EReal}, (∀ n < 8, f n = g n) → (∀ n < 8, v n = w n) → ∀ n < 8, dblU d f v n = dblU d g w n :=
    fun d f g v w h h' n hn => by rw [dblU, dblU, h n hn, h' n hn, h' (n - d) (by omega)]
  rw [cU 4 (cA 2 (cA 1 ha)) (cU 2 (cA 1 ha) (cU 1 ha hu)) r hr, cA 4 (cA 2 (cA 1 ha)) r hr]

/-- What the tile of trip `k` becomes: the recurrence over its rows from the carry. -/
theorem tile_scan (k : Fin k0_t1_loop.trips) (acc : FVec Ideal S8x1280 .f32) (f : BufTy.Contents (Elt Ideal) arg13.view.ty)
    (hA : ∀ j, ∃ p : ℝ, 0 ≤ p ∧ arg12.view.read (Elt Ideal) X j = (p : EReal)) (r : Fin 8) (l : Fin 1280) :
    k0_pay5 (F := Ideal) (iota Kind.tc S8x1280 32 [0] iota_S8x1280_d0_w32) acc
          (View.readAt (Elt Ideal) arg12.view (Rect.unit (s := S256x1280) (k0_off1 k) S8x1280.size (k0_off1_inb k)).toLoadRect X)
          (View.readAt (Elt Ideal) arg13.view (Rect.unit (s := S256x1280) (k0_off1 k) S8x1280.size (k0_off1_inb k)).toLoadRect f) (ix2 r l)
      = scan (fun n => rowAt (arg12.view.read (Elt Ideal) X) l (8 * k.val + n)) (fun n => rowAt (arg13.view.read (Elt Ideal) f) l (8 * k.val + n))
          (acc (ix2 r l)) (r.val + 1) := by
  rw [pay5_apply, dbl_congr _ r.val r.isLt (fun n hn => load_tile arg12 X k l n hn) (fun n hn => load_tile arg13 f k l n hn)]
  refine dbl_scan _ _ _ (fun n => ?_) r.val r.isLt
  show ∃ p : ℝ, 0 ≤ p ∧ rowAt (arg12.view.read (Elt Ideal) X) l (8 * k.val + n) = (p : EReal)
  rw [rowAt]
  split
  · exact hA _
  · exact ⟨1, zero_le_one, by simp⟩

/-- Before trip `k` the carry is the recurrence over the first `8 k` rows, which hold the recurrence's values; the rows
    from `8 k` on hold what they held. -/
theorem loop_scan (G : BufTy.Contents (Elt Ideal) arg13.view.ty) (init : FVec Ideal S8x1280 .f32) (h0 : Fin 1280 → EReal)
    (hA : ∀ j, ∃ p : ℝ, 0 ≤ p ∧ arg12.view.read (Elt Ideal) X j = (p : EReal)) (hinit : ∀ r l, init (ix2 r l) = h0 l) (k : ℕ) (hk : k ≤ 32) :
    (∀ (r : Fin 8) (l : Fin 1280), (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (iota Kind.tc S8x1280 32 [0] iota_S8x1280_d0_w32) w0 X G init k).1 (ix2 r l)
        = scan (rowAt (arg12.view.read (Elt Ideal) X) l) (rowAt (arg13.view.read (Elt Ideal) G) l) (h0 l) (8 * k))
    ∧ (∀ (p : Fin 256) (l : Fin 1280), arg13.view.read (Elt Ideal) (arg13.view.writes (Elt Ideal) G
          (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (iota Kind.tc S8x1280 32 [0] iota_S8x1280_d0_w32) w0 X G init k).2) (ix2 p l)
        = if p.val < 8 * k then scan (rowAt (arg12.view.read (Elt Ideal) X) l) (rowAt (arg13.view.read (Elt Ideal) G) l) (h0 l) (p.val + 1)
          else arg13.view.read (Elt Ideal) G (ix2 p l)) := by
  induction k with
  | zero =>
    refine ⟨fun r l => ?_, fun p l => ?_⟩
    · exact hinit r l
    · rw [if_neg (by omega)]
      rfl
  | succ k ih =>
    obtain ⟨ih1, ih2⟩ := ih (by omega)
    have hk' : k < k0_t1_loop.trips := by rw [trips_eq]; omega
    have hs := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 (iota Kind.tc S8x1280 32 [0] iota_S8x1280_d0_w32) w0 X G init ⟨k, hk'⟩
    have e1 := congrArg Prod.fst hs
    have e2 := congrArg Prod.snd hs
    dsimp only at e1 e2
    rw [tripR_eq] at e1
    rw [tripL_eq] at e2
    have ht : ∀ (r : Fin 8) (l : Fin 1280), _ := fun r l => tile_scan arg12 arg13 X ⟨k, hk'⟩
      (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (iota Kind.tc S8x1280 32 [0] iota_S8x1280_d0_w32) w0 X G init k).1
      (arg13.view.writes (Elt Ideal) G (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (iota Kind.tc S8x1280 32 [0] iota_S8x1280_d0_w32) w0 X G init k).2) hA r l
    have hrow : ∀ (l : Fin 1280) (n : ℕ), n < 8 → rowAt (arg13.view.read (Elt Ideal) (arg13.view.writes (Elt Ideal) G
          (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (iota Kind.tc S8x1280 32 [0] iota_S8x1280_d0_w32) w0 X G init k).2)) l (8 * k + n)
        = rowAt (arg13.view.read (Elt Ideal) G) l (8 * k + n) := fun l n hn => by
      rw [rowAt, rowAt, dif_pos (by omega), dif_pos (by omega), ih2, if_neg (by simp only; omega)]
    have ht' : ∀ (r : Fin 8) (l : Fin 1280), k0_pay5 (F := Ideal) (iota Kind.tc S8x1280 32 [0] iota_S8x1280_d0_w32)
          (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (iota Kind.tc S8x1280 32 [0] iota_S8x1280_d0_w32) w0 X G init k).1
          (View.readAt (Elt Ideal) arg12.view (Rect.unit (s := S256x1280) (k0_off1 ⟨k, hk'⟩) S8x1280.size (k0_off1_inb ⟨k, hk'⟩)).toLoadRect X)
          (View.readAt (Elt Ideal) arg13.view (Rect.unit (s := S256x1280) (k0_off1 ⟨k, hk'⟩) S8x1280.size (k0_off1_inb ⟨k, hk'⟩)).toLoadRect
            (arg13.view.writes (Elt Ideal) G (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (iota Kind.tc S8x1280 32 [0] iota_S8x1280_d0_w32) w0 X G init k).2)) (ix2 r l)
        = scan (rowAt (arg12.view.read (Elt Ideal) X) l) (rowAt (arg13.view.read (Elt Ideal) G) l) (h0 l) (8 * k + (r.val + 1)) := fun r l => by
      rw [ht r l, ih1, scan_add _ _ _ (8 * k) (r.val + 1)]
      exact scan_congr _ (fun n hn => rfl) (fun n hn => hrow l n (by have := r.isLt; omega))
    refine ⟨fun r l => ?_, fun p l => ?_⟩
    · rw [e1, pay2_apply, ht' 7 l]
      rfl
    · rw [e2, pay1_eq, List.singleton_append]
      by_cases hp : 8 * k ≤ p.val ∧ p.val < 8 * k + 8
      · rw [View.read_writes_cons_rows_of_mem arg13.view G (k0_off1_inb ⟨k, hk'⟩) _ _ (ix2 p l)
          (ix2 (⟨p.val - 8 * k, by omega⟩ : Fin 8) l) (off1_eq ⟨k, hk'⟩)
          (by show p.val = 8 * k + (p.val - 8 * k); omega) rfl]
        rw [if_pos (by omega)]
        have h := ht' ⟨p.val - 8 * k, by omega⟩ l
        have e : 8 * k + (p.val - 8 * k + 1) = p.val + 1 := by omega
        simp only [e] at h
        exact h
      · rw [View.read_writes_cons_rows_of_not_mem (W := 8) arg13.view G (k0_off1_inb ⟨k, hk'⟩) _ _ (ix2 p l) (off1_eq ⟨k, hk'⟩) rfl
          (by show p.val < 8 * k ∨ 8 * k + 8 ≤ p.val; omega)]
        rw [ih2]
        by_cases h1 : p.val < 8 * k
        · rw [if_pos h1, if_pos (by omega)]
        · rw [if_neg h1, if_neg (by omega)]

end Trip

end Cert.KernelIdeal.Lru

end

end
-- ==== Proof.KI.Block.lean ====
module

public import proofs.«01_k».proof.Proof.KI.Loop

@[expose] public section

noncomputable section

namespace Cert.KernelIdeal.Lru

open Idealize.ShloMosaic Idealize.ShloMosaic.TcCoe Idealize.SL.Sem
open Cert.KernelIdeal Cert.KernelIdeal.Gen Cert.Lru

/-- The rows a block's convolution sees: eight rows of history, then the block's own. -/
def hist (hd : Fin 8 → Fin 1280 → EReal) (x0 : FVec Ideal S1x256x1280 .bf16) (l : Fin 1280) (n : ℕ) : EReal :=
  if h : n < 8 then hd ⟨n, h⟩ l else if h' : n - 8 < 256 then x0 (ix3 0 ⟨n - 8, h'⟩ l) else 0

/-- The convolved row `n` of a block. -/
def convRow (hd : Fin 8 → Fin 1280 → EReal) (x0 : FVec Ideal S1x256x1280 .bf16) (x2 : FVec Ideal S4x1280 .f32) (x3 : FVec Ideal S1x1280 .f32)
    (n : ℕ) (l : Fin 1280) : EReal :=
  (hist hd x0 l (n + 5) * x2 (ix2 0 l) + hist hd x0 l (n + 6) * x2 (ix2 1 l) + hist hd x0 l (n + 7) * x2 (ix2 2 l)
    + hist hd x0 l (n + 8) * x2 (ix2 3 l)) + x3 (ix2 0 l)

/-- The half of the lanes a lane lies in. -/
def hf (l : Fin 1280) : Fin 2 := ⟨l.val / 640, by omega⟩

/-- A row's contraction with column `j` of the gate weights of half `s`. -/
def gateDot (xc : Fin 1280 → EReal) (x4 : FVec Ideal S1x2x640x1280 .bf16) (s : Fin 2) (j : Fin 1280) : EReal :=
  ∑ k : Fin 640, xc ⟨640 * s.val + k.val, by omega⟩ * x4 (ix4 0 s k j)

/-- The logarithm of a lane's decay factor. -/
def logAt (xc : Fin 1280 → EReal) (x4 : FVec Ideal S1x2x640x1280 .bf16) (x5 x7 : FVec Ideal S1x1280 .f32) (l : Fin 1280) : EReal :=
  logDecay (Ideal.logistic (gateDot xc x4 (hf l) ⟨l.val % 640, by omega⟩ + x5 (ix2 0 l))) (softplus (-(x7 (ix2 0 l))))

/-- A lane's decay factor. -/
def decayAt (xc : Fin 1280 → EReal) (x4 : FVec Ideal S1x2x640x1280 .bf16) (x5 x7 : FVec Ideal S1x1280 .f32) (l : Fin 1280) : EReal :=
  Ideal.exp (logAt xc x4 x5 x7 l)

/-- A lane's scaled input. -/
def inputAt (xc : Fin 1280 → EReal) (x4 : FVec Ideal S1x2x640x1280 .bf16) (x5 x6 x7 : FVec Ideal S1x1280 .f32) (l : Fin 1280) : EReal :=
  Ideal.sqrt (-(Ideal.exp (((2 : ℝ) : EReal) * logAt xc x4 x5 x7 l) - 1))
    * (Ideal.logistic (gateDot xc x4 (hf l) ⟨640 + l.val % 640, by omega⟩ + x6 (ix2 0 l)) * xc l)

/-- A decay factor is a nonnegative real. -/
theorem decayAt_real (xc : Fin 1280 → EReal) (x4 : FVec Ideal S1x2x640x1280 .bf16) (x5 x7 : FVec Ideal S1x1280 .f32) (l : Fin 1280) :
    ∃ a : ℝ, 0 ≤ a ∧ decayAt xc x4 x5 x7 l = (a : EReal) :=
  exp_real_of_nonpos _ (logDecay_nonpos _ _ (softplus_nonneg _))

/-- A loaded block of rows, read at a row and a lane. -/
theorem load_rows {d o n : ℕ} (mr : Memref sig .tc .vmem (⟨2, ![d, 1280]⟩ : Shape) .f32) (f : BufTy.Contents (Elt Ideal) mr.view.ty)
    (inb : ∀ a, (![o, 0] : Fin 2 → ℕ) a + (![n, 1280] : Fin 2 → ℕ) a ≤ (⟨2, ![d, 1280]⟩ : Shape).size a) (p : Fin n) (l : Fin 1280) (hp : o + p.val < d) :
    View.readAt (Elt Ideal) mr.view (Rect.unit (s := (⟨2, ![d, 1280]⟩ : Shape)) ![o, 0] ![n, 1280] inb).toLoadRect f (ix2 p l)
      = mr.view.read (Elt Ideal) f (ix2 ⟨o + p.val, hp⟩ l) := by
  rw [View.readAt_eq_ld]
  refine congrArg (mr.view.read (Elt Ideal) f) (funext fun a => Fin.ext ?_)
  fin_cases a
  · show o + 1 * p.val = o + p.val
    omega
  · show 0 + 1 * l.val = l.val
    omega

/-- The history buffer after the block's rows are stored behind the history. -/
theorem read_hist (mr : Memref sig .tc .vmem S264x1280 .f32) (f : BufTy.Contents (Elt Ideal) mr.view.ty) (L : List (View.Piece (Elt Ideal) S264x1280 .f32))
    (hd : Fin 8 → Fin 1280 → EReal) (x0 v : FVec Ideal S1x256x1280 .bf16) (hv : ∀ p l, v (ix3 0 p l) = x0 (ix3 0 p l))
    (hL : ∀ (j : Fin 8) (l : Fin 1280), mr.view.read (Elt Ideal) (mr.view.writes (Elt Ideal) f L) (ix2 ⟨j.val, by omega⟩ l) = hd j l)
    (inb : ∀ a, (![8, 0] : Fin 2 → ℕ) a + S256x1280.size a ≤ S264x1280.size a) (n : Fin 264) (l : Fin 1280) :
    mr.view.read (Elt Ideal) (mr.view.writes (Elt Ideal) f (⟨Rect.unit (s := S264x1280) ![8, 0] S256x1280.size inb, k0_pay9 (F := Ideal) v⟩ :: L)) (ix2 n l) = hist hd x0 l n.val := by
  rw [hist]
  by_cases h : n.val < 8
  · rw [dif_pos h, View.read_writes_cons_rows_of_not_mem (W := 256) mr.view f inb _ _ (ix2 n l) rfl rfl (Or.inl h)]
    exact hL ⟨n.val, h⟩ l
  · have h' : n.val - 8 < 256 := by omega
    rw [dif_neg h, dif_pos h', View.read_writes_cons_rows_of_mem mr.view f inb _ _ (ix2 n l) (ix2 ⟨n.val - 8, h'⟩ l) rfl
      (by show n.val = 8 + (n.val - 8); omega) rfl]
    rw [pay9_apply, hv]

/-- The convolved block, from the rows of the buffer and the taps. -/
theorem conv_block (hd : Fin 8 → Fin 1280 → EReal) (x0 v3 : FVec Ideal S1x256x1280 .bf16) (x2 : FVec Ideal S4x1280 .f32) (x3 b w3 w0 w1 w2 : FVec Ideal S1x1280 .f32)
    (v17 v22 v27 : FVec Ideal S256x1280 .f32) (hv : ∀ p l, v3 (ix3 0 p l) = x0 (ix3 0 p l)) (hb : ∀ l, b (ix2 0 l) = x3 (ix2 0 l))
    (h0 : ∀ l, w0 (ix2 0 l) = x2 (ix2 0 l)) (h1 : ∀ l, w1 (ix2 0 l) = x2 (ix2 1 l)) (h2 : ∀ l, w2 (ix2 0 l) = x2 (ix2 2 l)) (h3 : ∀ l, w3 (ix2 0 l) = x2 (ix2 3 l))
    (h17 : ∀ p l, v17 (ix2 p l) = hist hd x0 l (p.val + 5)) (h22 : ∀ p l, v22 (ix2 p l) = hist hd x0 l (p.val + 6)) (h27 : ∀ p l, v27 (ix2 p l) = hist hd x0 l (p.val + 7))
    (p : Fin 256) (l : Fin 1280) :
    k0_pay10 (F := Ideal) v3 b w3 w0 v17 w1 v22 w2 v27 (ix2 p l) = convRow hd x0 x2 x3 p.val l := by
  rw [pay10_apply, h17, h22, h27, h0, h1, h2, h3, hb, hv, convRow]
  have e : hist hd x0 l (p.val + 8) = x0 (ix3 0 p l) := by
    rw [hist, dif_neg (by omega), dif_pos (by omega)]
    rfl
  rw [e]

/-- The contraction of a half agrees with the row's contraction. -/
theorem dotHalf_eq (xc : FVec Ideal S256x1280 .f32) (xr : ℕ → Fin 1280 → EReal) (hx : ∀ (p : Fin 256) l, xc (ix2 p l) = xr p.val l) (x4 : FVec Ideal S1x2x640x1280 .bf16)
    (w : FVec Ideal S1x1x640x1280 .bf16) (s : Fin 2) (hw : ∀ k j, w (ix4 0 0 k j) = x4 (ix4 0 s k j)) (o : ℕ) (ho : o + 640 ≤ 1280) (hos : o = 640 * s.val) (p : Fin 256) (j : Fin 1280) :
    dotHalf xc w o ho p j = gateDot (xr p.val) x4 s j := by
  subst hos
  exact Finset.sum_congr rfl fun k _ => by rw [hx, hw]

/-- A lane of the first half. -/
def lo (q : Fin 640) : Fin 1280 := ⟨q.val, by omega⟩

/-- A lane of the second half. -/
def hi (q : Fin 640) : Fin 1280 := ⟨640 + q.val, by omega⟩

section Gates

variable (xc : FVec Ideal S256x1280 .f32) (xr : ℕ → Fin 1280 → EReal) (hx : ∀ (p : Fin 256) l, xc (ix2 p l) = xr p.val l)
  (x4 : FVec Ideal S1x2x640x1280 .bf16) (x5 x6 x7 : FVec Ideal S1x1280 .f32) (w0 w1 : FVec Ideal S1x1x640x1280 .bf16)
  (hw0 : ∀ k j, w0 (ix4 0 0 k j) = x4 (ix4 0 0 k j)) (hw1 : ∀ k j, w1 (ix4 0 0 k j) = x4 (ix4 0 1 k j))
  (b0 b1 c0 c1 : FVec Ideal S1x640 .f32)
  (hb0 : ∀ q : Fin 640, b0 (ix2 0 q) = x5 (ix2 0 (lo q))) (hb1 : ∀ q : Fin 640, b1 (ix2 0 q) = x5 (ix2 0 (hi q)))
  (hc0 : ∀ q : Fin 640, c0 (ix2 0 q) = x6 (ix2 0 (lo q))) (hc1 : ∀ q : Fin 640, c1 (ix2 0 q) = x6 (ix2 0 (hi q)))
  (sp : FVec Ideal S1x1280 .f32) (hsp : ∀ l, sp (ix2 0 l) = softplus (-(x7 (ix2 0 l))))
  (mr : Memref sig .tc .vmem S256x1280 .f32) (f : BufTy.Contents (Elt Ideal) mr.view.ty)
  (inb0 : ∀ a, (![0, 0] : Fin 2 → ℕ) a + S256x640.size a ≤ S256x1280.size a) (inb1 : ∀ a, (![0, 640] : Fin 2 → ℕ) a + S256x640.size a ≤ S256x1280.size a)

include hx hw0 hw1 hb0 hb1 hsp in
/-- The stored decay factors. -/
theorem decay_block (p : Fin 256) (l : Fin 1280) :
    mr.view.read (Elt Ideal) (mr.view.writes (Elt Ideal) f
        [⟨Rect.unit (s := S256x1280) ![0, 640] S256x640.size inb1, k0_pay23 (F := Ideal) sp (k0_pay21 xc w1 b1)⟩, ⟨Rect.unit (s := S256x1280) ![0, 0] S256x640.size inb0, k0_pay18 (F := Ideal) sp (k0_pay14 xc w0 b0)⟩]) (ix2 p l)
      = decayAt (xr p.val) x4 x5 x7 l := by
  by_cases h : l.val < 640
  · rw [View.read_writes_cons_unit_of_not_mem mr.view f inb1 _ _ (ix2 p l) rfl 1 (Or.inl h)]
    rw [View.read_writes_cons_unit_of_mem mr.view f inb0 _ _ (ix2 p l) (ix2 p (⟨l.val, h⟩ : Fin 640)) rfl
      (Fin.forall_fin_two.mpr ⟨(Nat.zero_add _).symm, (Nat.zero_add _).symm⟩)]
    rw [pay18_apply, dotHalf_eq xc xr hx x4 w0 0 hw0 0 _ rfl, hb0, hsp, decayAt, logAt]
    have e1 : hf l = 0 := Fin.ext (by show l.val / 640 = 0; omega)
    have e2 : l.val % 640 = l.val := by omega
    simp only [e1, e2, lo]
  · have h' : l.val - 640 < 640 := by omega
    rw [View.read_writes_cons_unit_of_mem mr.view f inb1 _ _ (ix2 p l) (ix2 p (⟨l.val - 640, h'⟩ : Fin 640)) rfl
      (Fin.forall_fin_two.mpr ⟨(Nat.zero_add _).symm, (by show l.val = 640 + (l.val - 640); omega)⟩)]
    rw [pay23_apply, dotHalf_eq xc xr hx x4 w1 1 hw1 640 _ rfl, hb1, hsp, decayAt, logAt]
    have e1 : hf l = 1 := Fin.ext (by show l.val / 640 = 1; omega)
    have e2 : l.val % 640 = l.val - 640 := by omega
    have e3 : 640 + (l.val - 640) = l.val := by omega
    simp only [e1, e2, e3, hi]

include hx hw0 hw1 hb0 hb1 hc0 hc1 hsp in
/-- The stored scaled inputs. -/
theorem input_block (p : Fin 256) (l : Fin 1280) :
    mr.view.read (Elt Ideal) (mr.view.writes (Elt Ideal) f
        [⟨Rect.unit (s := S256x1280) ![0, 640] S256x640.size inb1, k0_pay24 (F := Ideal) xc sp (k0_pay20 xc w1) (k0_pay21 xc w1 b1) c1⟩,
         ⟨Rect.unit (s := S256x1280) ![0, 0] S256x640.size inb0, k0_pay19 (F := Ideal) xc sp (k0_pay14 xc w0 b0) (k0_pay15 xc w0 c0) k0_pay16⟩]) (ix2 p l)
      = inputAt (xr p.val) x4 x5 x6 x7 l := by
  have hs : ∀ l, 0 ≤ sp (ix2 0 l) := fun l => by rw [hsp]; exact softplus_nonneg _
  by_cases h : l.val < 640
  · rw [View.read_writes_cons_unit_of_not_mem mr.view f inb1 _ _ (ix2 p l) rfl 1 (Or.inl h)]
    rw [View.read_writes_cons_unit_of_mem mr.view f inb0 _ _ (ix2 p l) (ix2 p (⟨l.val, h⟩ : Fin 640)) rfl
      (Fin.forall_fin_two.mpr ⟨(Nat.zero_add _).symm, (Nat.zero_add _).symm⟩)]
    rw [pay19_apply _ _ _ _ _ _ _ (hs _), dotHalf_eq xc xr hx x4 w0 0 hw0 0 _ rfl, dotHalf_eq xc xr hx x4 w0 0 hw0 0 _ rfl, hb0, hc0, hsp, hx, inputAt, logAt]
    have e1 : hf l = 0 := Fin.ext (by show l.val / 640 = 0; omega)
    have e2 : l.val % 640 = l.val := by omega
    simp only [e1, e2, lo]
  · have h' : l.val - 640 < 640 := by omega
    rw [View.read_writes_cons_unit_of_mem mr.view f inb1 _ _ (ix2 p l) (ix2 p (⟨l.val - 640, h'⟩ : Fin 640)) rfl
      (Fin.forall_fin_two.mpr ⟨(Nat.zero_add _).symm, (by show l.val = 640 + (l.val - 640); omega)⟩)]
    rw [pay24_apply _ _ _ _ _ _ _ (hs _), dotHalf_eq xc xr hx x4 w1 1 hw1 640 _ rfl, dotHalf_eq xc xr hx x4 w1 1 hw1 640 _ rfl, hb1, hc1, hsp, hx, inputAt, logAt]
    have e1 : hf l = 1 := Fin.ext (by show l.val / 640 = 1; omega)
    have e2 : l.val % 640 = l.val - 640 := by omega
    have e3 : 640 + (l.val - 640) = l.val := by omega
    simp only [e1, e2, e3, hi]

end Gates

section Scan

variable (𝒱 : Variants) (c : Dev nD) (bd : Option 𝒱.V) (i : grid0.Coords) (arg2 : Memref sig .tc .vmem S1x256x1280 .bf16) (harg2 : arg2.IsWhole) (arg3 : Memref sig .tc .vmem S1x256x1280 .bf16) (harg3 : arg3.IsWhole) (arg4 : Memref sig .tc .vmem S4x1280 .f32) (harg4 : arg4.IsWhole) (arg5 : Memref sig .tc .vmem S1x1280 .f32) (harg5 : arg5.IsWhole) (arg6 : Memref sig .tc .vmem S1x2x640x1280 .bf16) (harg6 : arg6.IsWhole) (arg7 : Memref sig .tc .vmem S1x1280 .f32) (harg7 : arg7.IsWhole) (arg8 : Memref sig .tc .vmem S1x1280 .f32) (harg8 : arg8.IsWhole) (arg9 : Memref sig .tc .vmem S1x1280 .f32) (harg9 : arg9.IsWhole) (arg10 : Memref sig .tc .vmem S1x256x1280 .bf16) (harg10 : arg10.IsWhole) (arg11 : Memref sig .tc .vmem S264x1280 .f32) (harg11 : arg11.IsWhole) (arg12 : Memref sig .tc .vmem S256x1280 .f32) (harg12 : arg12.IsWhole) (arg13 : Memref sig .tc .vmem S256x1280 .f32) (harg13 : arg13.IsWhole) (arg14 : Memref sig .tc .vmem S8x1280 .f32) (harg14 : arg14.IsWhole) (w0 : BitVec 32)
  (X : BufTy.Contents (Elt Ideal) arg12.view.ty) (G : BufTy.Contents (Elt Ideal) arg13.view.ty) (init : FVec Ideal S8x1280 .f32) (h0 : Fin 1280 → EReal)
  (a u : ℕ → Fin 1280 → EReal) (ha : ∀ (p : Fin 256) l, arg12.view.read (Elt Ideal) X (ix2 p l) = a p.val l)
  (hu : ∀ (p : Fin 256) l, arg13.view.read (Elt Ideal) G (ix2 p l) = u p.val l)
  (hA : ∀ n l, ∃ q : ℝ, 0 ≤ q ∧ a n l = (q : EReal)) (hinit : ∀ r l, init (ix2 r l) = h0 l)

include ha hu hA hinit in
/-- The carry and the rows after the whole loop. -/
theorem block_scan (N : ℕ) (hN : N = 32) :
    (∀ (r : Fin 8) (l : Fin 1280), (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (iota Kind.tc S8x1280 32 [0] iota_S8x1280_d0_w32) w0 X G init N).1 (ix2 r l)
        = scan (fun n => a n l) (fun n => u n l) (h0 l) 256)
    ∧ (∀ (p : Fin 256) (l : Fin 1280), arg13.view.read (Elt Ideal) (arg13.view.writes (Elt Ideal) G
          (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (iota Kind.tc S8x1280 32 [0] iota_S8x1280_d0_w32) w0 X G init N).2) (ix2 p l)
        = scan (fun n => a n l) (fun n => u n l) (h0 l) (p.val + 1)) := by
  subst hN
  have hA' : ∀ j, ∃ q : ℝ, 0 ≤ q ∧ arg12.view.read (Elt Ideal) X j = (q : EReal) := fun j => by
    have e : j = ix2 (j 0) (j 1) := eq_ix2 j
    rw [e]
    exact (ha (j 0) (j 1)) ▸ hA _ _
  obtain ⟨h1, h2⟩ := loop_scan 𝒱 c bd i arg2 harg2 arg3 harg3 arg4 harg4 arg5 harg5 arg6 harg6 arg7 harg7 arg8 harg8 arg9 harg9 arg10 harg10 arg11 harg11 arg12 harg12 arg13 harg13 arg14 harg14 w0 X G init h0 hA' hinit 32 le_rfl
  have ra : ∀ l n, n < 256 → rowAt (arg12.view.read (Elt Ideal) X) l n = a n l := fun l n hn => by rw [rowAt, dif_pos hn, ha]
  have ru : ∀ l n, n < 256 → rowAt (arg13.view.read (Elt Ideal) G) l n = u n l := fun l n hn => by rw [rowAt, dif_pos hn, hu]
  refine ⟨fun r l => ?_, fun p l => ?_⟩
  · rw [h1 r l]
    exact scan_congr _ (fun n hn => ra l n hn) (fun n hn => ru l n hn)
  · rw [h2 p l, if_pos (by omega)]
    exact scan_congr _ (fun n hn => ra l n (by omega)) (fun n hn => ru l n (by omega))

end Scan

end Cert.KernelIdeal.Lru

end

end
-- ==== Proof.KI.Outs.lean ====
module

public import proofs.«01_k».proof.Proof.KI.Body
public import proofs.«01_k».proof.Proof.KI.Block

@[expose] public section

noncomputable section

namespace Cert.KernelIdeal.Lru

open Idealize.ShloMosaic Idealize.ShloMosaic.TcCoe Idealize.SL.Sem
open Cert.KernelIdeal Cert.KernelIdeal.Gen Cert.Lru

/-- A load of a box of a block held whole, at an index. -/
theorem load_unit {s : Shape} {e : EltTy} (mr : Memref sig .tc .vmem s e) (h : mr.IsWhole) (x : Vec Ideal s e) {off size : Fin s.rank → ℕ}
    {inb : ∀ a, off a + size a ≤ s.size a} {y : (Rect.unit off size inb).shape.Idx} {z : s.Idx} (hz : ∀ a, (z a).val = off a + (y a).val) :
    View.readAt (Elt Ideal) mr.view (Rect.unit off size inb).toLoadRect (h.unread x) y = x z := by
  rw [View.readAt_eq_ld]
  show mr.view.read (Elt Ideal) (h.unread x) _ = _
  rw [h.read_unread]
  refine congrArg x (funext fun a => Fin.ext ?_)
  show off a + 1 * (y a).val = (z a).val
  rw [hz a, Nat.one_mul]

/-- The number of trips, as the loop's bounds give it. -/
theorem trips_eq' : Scf.trips k0_t1_loop.lb k0_t1_loop.ub k0_t1_loop.st = 32 := trips_eq

/-- The decay factor of row `n` of a block. -/
def aRow (hd : Fin 8 → Fin 1280 → EReal) (x0 : FVec Ideal S1x256x1280 .bf16) (x2 : FVec Ideal S4x1280 .f32) (x3 : FVec Ideal S1x1280 .f32)
    (x4 : FVec Ideal S1x2x640x1280 .bf16) (x5 x7 : FVec Ideal S1x1280 .f32) (n : ℕ) (l : Fin 1280) : EReal :=
  decayAt (convRow hd x0 x2 x3 n) x4 x5 x7 l

/-- The scaled input of row `n` of a block. -/
def uRow (hd : Fin 8 → Fin 1280 → EReal) (x0 : FVec Ideal S1x256x1280 .bf16) (x2 : FVec Ideal S4x1280 .f32) (x3 : FVec Ideal S1x1280 .f32)
    (x4 : FVec Ideal S1x2x640x1280 .bf16) (x5 x6 x7 : FVec Ideal S1x1280 .f32) (n : ℕ) (l : Fin 1280) : EReal :=
  inputAt (convRow hd x0 x2 x3 n) x4 x5 x6 x7 l

section CaseA

variable (c : Dev nD) (i : grid0.Coords) (arg2 : Memref sig .tc .vmem S1x256x1280 .bf16) (harg2 : arg2.IsWhole) (arg3 : Memref sig .tc .vmem S1x256x1280 .bf16) (harg3 : arg3.IsWhole) (arg4 : Memref sig .tc .vmem S4x1280 .f32) (harg4 : arg4.IsWhole) (arg5 : Memref sig .tc .vmem S1x1280 .f32) (harg5 : arg5.IsWhole) (arg6 : Memref sig .tc .vmem S1x2x640x1280 .bf16) (harg6 : arg6.IsWhole) (arg7 : Memref sig .tc .vmem S1x1280 .f32) (harg7 : arg7.IsWhole) (arg8 : Memref sig .tc .vmem S1x1280 .f32) (harg8 : arg8.IsWhole) (arg9 : Memref sig .tc .vmem S1x1280 .f32) (harg9 : arg9.IsWhole) (arg10 : Memref sig .tc .vmem S1x256x1280 .bf16) (harg10 : arg10.IsWhole) (arg11 : Memref sig .tc .vmem S264x1280 .f32) (harg11 : arg11.IsWhole) (arg12 : Memref sig .tc .vmem S256x1280 .f32) (harg12 : arg12.IsWhole) (arg13 : Memref sig .tc .vmem S256x1280 .f32) (harg13 : arg13.IsWhole) (arg14 : Memref sig .tc .vmem S8x1280 .f32) (harg14 : arg14.IsWhole) (hc0 : cond0_0 i)
  (x0 : Vec Ideal S1x256x1280 .bf16) (x1 : Vec Ideal S1x256x1280 .bf16) (x2 : Vec Ideal S4x1280 .f32) (x3 : Vec Ideal S1x1280 .f32) (x4 : Vec Ideal S1x2x640x1280 .bf16) (x5 : Vec Ideal S1x1280 .f32) (x6 : Vec Ideal S1x1280 .f32) (x7 : Vec Ideal S1x1280 .f32)

include c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7

/-- The convolved block of case A. -/
theorem conv_A (p : Fin 256) (l : Fin 1280) :
    kernelRun0_A.sl.r (F := Ideal) c arg2 harg2 arg4 harg4 arg5 harg5 arg11 x0 x2 x3 (ix2 p l) = convRow (fun _ _ => 0) x0 x2 x3 p.val l := by
  have hh : ∀ (n : Fin 264) (l : Fin 1280), arg11.view.read (Elt Ideal) (arg11.view.writes (Elt Ideal) arg11.view.junk (kernelRun0_A.sl.HS0_2 (F := Ideal) c arg2 harg2 x0)) (ix2 n l) = hist (fun _ _ => 0) x0 l n.val :=
    fun n l => read_hist arg11 _ _ (fun _ _ => 0) x0 _
      (fun p l => load_unit arg2 harg2 x0 (fun a => by fin_cases a <;> first | rfl | exact (Nat.zero_add _).symm))
      (fun j l => (View.read_writes_cons_rows_of_mem arg11.view _ _ _ _ (ix2 ⟨j.val, by omega⟩ l) (ix2 j l) (o := 0) rfl (Nat.zero_add _).symm rfl).trans (pay6_apply _)) _ n l
  unfold kernelRun0_A.sl.r
  refine conv_block (fun _ _ => 0) x0 _ x2 x3 _ _ _ _ _ _ _ _ ?_ ?_ ?_ ?_ ?_ ?_ ?_ ?_ ?_ p l
  · exact fun p l => load_unit arg2 harg2 x0 (fun a => by fin_cases a <;> first | rfl | exact (Nat.zero_add _).symm)
  · exact fun l => load_unit arg5 harg5 x3 (fun a => by fin_cases a <;> first | rfl | exact (Nat.zero_add _).symm)
  · exact fun l => load_unit arg4 harg4 x2 (fun a => by fin_cases a <;> first | rfl | exact (Nat.zero_add _).symm)
  · exact fun l => load_unit arg4 harg4 x2 (fun a => by fin_cases a <;> first | rfl | exact (Nat.zero_add _).symm)
  · exact fun l => load_unit arg4 harg4 x2 (fun a => by fin_cases a <;> first | rfl | exact (Nat.zero_add _).symm)
  · exact fun l => load_unit arg4 harg4 x2 (fun a => by fin_cases a <;> first | rfl | exact (Nat.zero_add _).symm)
  · exact fun p l => ((load_rows arg11 _ _ p l (by omega)).trans (hh _ l)).trans (congrArg (hist (fun _ _ => 0) x0 l) (Nat.add_comm 5 p.val))
  · exact fun p l => ((load_rows arg11 _ _ p l (by omega)).trans (hh _ l)).trans (congrArg (hist (fun _ _ => 0) x0 l) (Nat.add_comm 6 p.val))
  · exact fun p l => ((load_rows arg11 _ _ p l (by omega)).trans (hh _ l)).trans (congrArg (hist (fun _ _ => 0) x0 l) (Nat.add_comm 7 p.val))

/-- The decay factors stored in case A. -/
theorem decay_A (p : Fin 256) (l : Fin 1280) :
    arg12.view.read (Elt Ideal) (arg12.view.writes (Elt Ideal) arg12.view.junk (kernelRun0_A.sl.HS1_2 (F := Ideal) c arg2 harg2 arg4 harg4 arg5 harg5 arg6 harg6 arg7 harg7 arg9 harg9 arg11 x0 x2 x3 x4 x5 x7)) (ix2 p l)
      = aRow (fun _ _ => 0) x0 x2 x3 x4 x5 x7 p.val l := by
  unfold kernelRun0_A.sl.HS1_2 kernelRun0_A.sl.r_5 kernelRun0_A.sl.r_2
  refine decay_block _ (convRow (fun _ _ => 0) x0 x2 x3) (conv_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) x4 x5 x7 _ _ ?_ ?_ _ _ ?_ ?_ _ ?_ arg12 _ _ _ p l
  · exact fun k j => load_unit arg6 harg6 x4 (fun a => by fin_cases a <;> first | rfl | exact (Nat.zero_add _).symm)
  · exact fun k j => load_unit arg6 harg6 x4 (fun a => by fin_cases a <;> first | rfl | exact (Nat.zero_add _).symm)
  · exact fun q => load_unit arg7 harg7 x5 (fun a => by fin_cases a <;> first | rfl | exact (Nat.zero_add _).symm)
  · exact fun q => load_unit arg7 harg7 x5 (fun a => by fin_cases a <;> first | rfl | exact (Nat.zero_add _).symm)
  · exact fun l => by unfold kernelRun0_A.sl.r_1; exact (pay12_apply _ l).trans (congrArg (fun y => softplus (-y)) (load_unit arg9 harg9 x7 (fun a => by fin_cases a <;> first | rfl | exact (Nat.zero_add _).symm)))

/-- The scaled inputs stored in case A. -/
theorem input_A (p : Fin 256) (l : Fin 1280) :
    arg13.view.read (Elt Ideal) (arg13.view.writes (Elt Ideal) arg13.view.junk (kernelRun0_A.sl.HS2_2 (F := Ideal) c arg2 harg2 arg4 harg4 arg5 harg5 arg6 harg6 arg7 harg7 arg8 harg8 arg9 harg9 arg11 x0 x2 x3 x4 x5 x6 x7)) (ix2 p l)
      = uRow (fun _ _ => 0) x0 x2 x3 x4 x5 x6 x7 p.val l := by
  unfold kernelRun0_A.sl.HS2_2 kernelRun0_A.sl.r_5 kernelRun0_A.sl.r_2 kernelRun0_A.sl.r_3 kernelRun0_A.sl.r_4
  refine input_block _ (convRow (fun _ _ => 0) x0 x2 x3) (conv_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) x4 x5 x6 x7 _ _ ?_ ?_ _ _ _ _ ?_ ?_ ?_ ?_ _ ?_ arg13 _ _ _ p l
  · exact fun k j => load_unit arg6 harg6 x4 (fun a => by fin_cases a <;> first | rfl | exact (Nat.zero_add _).symm)
  · exact fun k j => load_unit arg6 harg6 x4 (fun a => by fin_cases a <;> first | rfl | exact (Nat.zero_add _).symm)
  · exact fun q => load_unit arg7 harg7 x5 (fun a => by fin_cases a <;> first | rfl | exact (Nat.zero_add _).symm)
  · exact fun q => load_unit arg7 harg7 x5 (fun a => by fin_cases a <;> first | rfl | exact (Nat.zero_add _).symm)
  · exact fun q => load_unit arg8 harg8 x6 (fun a => by fin_cases a <;> first | rfl | exact (Nat.zero_add _).symm)
  · exact fun q => load_unit arg8 harg8 x6 (fun a => by fin_cases a <;> first | rfl | exact (Nat.zero_add _).symm)
  · exact fun l => by unfold kernelRun0_A.sl.r_1; exact (pay12_apply _ l).trans (congrArg (fun y => softplus (-y)) (load_unit arg9 harg9 x7 (fun a => by fin_cases a <;> first | rfl | exact (Nat.zero_add _).symm)))

/-- The carry case A starts with. -/
theorem init_A (r : Fin 8) (l : Fin 1280) : (kernelRun0_A.sl.v150 (F := Ideal) c arg14) (ix2 r l) = (fun _ => 0) l := by
  unfold kernelRun0_A.sl.v150
  exact (load_rows arg14 _ _ r l (by omega)).trans ((View.read_writes_cons_rows_of_mem (Val := Elt Ideal) (o := 0) (off := ![0, 0]) (size := S8x1280.size) arg14.view arg14.view.junk inb_S8x1280_S8x1280_0_0 (k0_pay7 (F := Ideal)) [] (ix2 ⟨0 + r.val, by omega⟩ l) (ix2 r l) rfl rfl rfl).trans (pay7_apply _))

/-- The loop of case A: the recurrence over the block's rows, from the carry the block starts with. -/
theorem scan_A (N : ℕ) (hN : N = 32) :
    (∀ (r : Fin 8) (l : Fin 1280), (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 kernelRun0_A.sl.v149 (0#32)
          (arg12.view.writes (Elt Ideal) arg12.view.junk (kernelRun0_A.sl.HS1_2 (F := Ideal) c arg2 harg2 arg4 harg4 arg5 harg5 arg6 harg6 arg7 harg7 arg9 harg9 arg11 x0 x2 x3 x4 x5 x7))
          (arg13.view.writes (Elt Ideal) arg13.view.junk (kernelRun0_A.sl.HS2_2 (F := Ideal) c arg2 harg2 arg4 harg4 arg5 harg5 arg6 harg6 arg7 harg7 arg8 harg8 arg9 harg9 arg11 x0 x2 x3 x4 x5 x6 x7))
          (kernelRun0_A.sl.v150 (F := Ideal) c arg14 : FVec Ideal S8x1280 .f32) N).1 (ix2 r l)
        = scan (fun n => aRow (fun _ _ => 0) x0 x2 x3 x4 x5 x7 n l) (fun n => uRow (fun _ _ => 0) x0 x2 x3 x4 x5 x6 x7 n l) ((fun _ => 0) l) 256)
    ∧ (∀ (p : Fin 256) (l : Fin 1280), arg13.view.read (Elt Ideal) (arg13.view.writes (Elt Ideal)
          (arg13.view.writes (Elt Ideal) arg13.view.junk (kernelRun0_A.sl.HS2_2 (F := Ideal) c arg2 harg2 arg4 harg4 arg5 harg5 arg6 harg6 arg7 harg7 arg8 harg8 arg9 harg9 arg11 x0 x2 x3 x4 x5 x6 x7))
          (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 kernelRun0_A.sl.v149 (0#32)
          (arg12.view.writes (Elt Ideal) arg12.view.junk (kernelRun0_A.sl.HS1_2 (F := Ideal) c arg2 harg2 arg4 harg4 arg5 harg5 arg6 harg6 arg7 harg7 arg9 harg9 arg11 x0 x2 x3 x4 x5 x7))
          (arg13.view.writes (Elt Ideal) arg13.view.junk (kernelRun0_A.sl.HS2_2 (F := Ideal) c arg2 harg2 arg4 harg4 arg5 harg5 arg6 harg6 arg7 harg7 arg8 harg8 arg9 harg9 arg11 x0 x2 x3 x4 x5 x6 x7))
          (kernelRun0_A.sl.v150 (F := Ideal) c arg14 : FVec Ideal S8x1280 .f32) N).2) (ix2 p l)
        = scan (fun n => aRow (fun _ _ => 0) x0 x2 x3 x4 x5 x7 n l) (fun n => uRow (fun _ _ => 0) x0 x2 x3 x4 x5 x6 x7 n l) ((fun _ => 0) l) (p.val + 1)) :=
  block_scan Variants.none c none i arg2 harg2 arg3 harg3 arg4 harg4 arg5 harg5 arg6 harg6 arg7 harg7 arg8 harg8 arg9 harg9 arg10 harg10 arg11 harg11 arg12 harg12 arg13 harg13 arg14 harg14 (0#32)
    (arg12.view.writes (Elt Ideal) arg12.view.junk (kernelRun0_A.sl.HS1_2 (F := Ideal) c arg2 harg2 arg4 harg4 arg5 harg5 arg6 harg6 arg7 harg7 arg9 harg9 arg11 x0 x2 x3 x4 x5 x7))
    (arg13.view.writes (Elt Ideal) arg13.view.junk (kernelRun0_A.sl.HS2_2 (F := Ideal) c arg2 harg2 arg4 harg4 arg5 harg5 arg6 harg6 arg7 harg7 arg8 harg8 arg9 harg9 arg11 x0 x2 x3 x4 x5 x6 x7))
    (kernelRun0_A.sl.v150 (F := Ideal) c arg14 : FVec Ideal S8x1280 .f32) (fun _ => 0) (aRow (fun _ _ => 0) x0 x2 x3 x4 x5 x7) (uRow (fun _ _ => 0) x0 x2 x3 x4 x5 x6 x7)
    (decay_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) (input_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) (fun n l => decayAt_real _ _ _ _ _)
    (init_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) N hN

/-- The block case A writes: the recurrence's rows times the gate branch. -/
theorem out_A (p : Fin 256) (l : Fin 1280) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 0 p l)
      = scan (fun n => aRow (fun _ _ => 0) x0 x2 x3 x4 x5 x7 n l) (fun n => uRow (fun _ _ => 0) x0 x2 x3 x4 x5 x6 x7 n l) ((fun _ => 0) l) (p.val + 1) * gelu (x1 (ix3 0 p l)) := by
  unfold out0_A_8
  refine (View.read_writes_cons_unit_of_mem (Val := Elt Ideal) (off := ![0, 0, 0]) (off' := ![0, 0, 0]) (size := S1x256x1280.size) VO0_8 VO0_8.junk inb_S1x256x1280_S1x256x1280_0_0_0
    (k0_pay4 (F := Ideal) (kernelRun0_A.sl.v156 (F := Ideal) c i arg2 harg2 arg3 harg3 arg4 harg4 arg5 harg5 arg6 harg6 arg7 harg7 arg8 harg8 arg9 harg9 arg10 harg10 arg11 harg11 arg12 harg12 arg13 harg13 arg14 harg14 x0 x2 x3 x4 x5 x6 x7)
      (View.readAt (Elt Ideal) arg3.view (Rect.unit (s := S1x256x1280) ![0, 0, 0] S1x256x1280.size inb_S1x256x1280_S1x256x1280_0_0_0).toLoadRect (harg3.unread x1)))
    [] (ix3 0 p l) (ix3 0 p l) rfl (fun a => by fin_cases a <;> exact (Nat.zero_add _).symm)).trans ?_
  refine (pay4_apply _ _ p l).trans ?_
  refine congr (congrArg HMul.hMul ?_) (congrArg gelu ?_)
  · unfold kernelRun0_A.sl.v156
    refine (load_rows arg13 _ _ p l (by omega)).trans ?_
    rw [View.writes_append]
    refine Eq.trans (congrArg _ ?_) ((scan_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 _ trips_eq').2 p l)
    exact congrArg (fun q => ix2 q l) (Fin.ext (Nat.zero_add _))
  · exact load_unit arg3 harg3 x1 (fun a => by fin_cases a <;> first | rfl | exact (Nat.zero_add _).symm)

/-- The history case A leaves: the block's last eight rows. -/
theorem hist_A (j : Fin 8) (l : Fin 1280) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 ⟨j.val, by omega⟩ l) = x0 (ix3 0 ⟨248 + j.val, by omega⟩ l) := by
  unfold sout0_A_0
  refine (View.read_writes_cons_rows_of_mem (Val := Elt Ideal) (o := 0) (off := ![0, 0]) (size := S8x1280.size) VS0_0 VS0_0.junk inb_S264x1280_S8x1280_0_0
    (k0_pay11 (F := Ideal) (kernelRun0_A.sl.v31 (F := Ideal) c arg2 harg2 arg11 x0)) (kernelRun0_A.sl.HS0_2 (F := Ideal) c arg2 harg2 x0) (ix2 ⟨j.val, by omega⟩ l) (ix2 j l) rfl (Nat.zero_add _).symm rfl).trans ?_
  rw [pay11_eq]
  unfold kernelRun0_A.sl.v31
  refine (load_rows arg11 _ _ j l (by omega)).trans ?_
  refine (View.read_writes_cons_rows_of_mem (Val := Elt Ideal) (o := 8) (off := ![8, 0]) (size := S256x1280.size) arg11.view arg11.view.junk inb_S264x1280_S256x1280_8_0
    (k0_pay9 (F := Ideal) (View.readAt (Elt Ideal) arg2.view (Rect.unit (s := S1x256x1280) ![0, 0, 0] S1x256x1280.size inb_S1x256x1280_S1x256x1280_0_0_0).toLoadRect (harg2.unread x0)))
    [⟨Rect.unit (s := S264x1280) ![0, 0] S8x1280.size inb_S264x1280_S8x1280_0_0, k0_pay6 (F := Ideal)⟩] (ix2 ⟨256 + j.val, by omega⟩ l) (ix2 ⟨248 + j.val, by omega⟩ l) rfl (by show 256 + j.val = 8 + (248 + j.val); omega) rfl).trans ?_
  refine (pay9_apply _ _ l).trans ?_
  exact load_unit arg2 harg2 x0 (fun a => by fin_cases a <;> first | rfl | exact (Nat.zero_add _).symm)

/-- The carry case A leaves: the recurrence after the block's last row. -/
theorem carry_A (r : Fin 8) (l : Fin 1280) :
    sout0_A_3 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r l)
      = scan (fun n => aRow (fun _ _ => 0) x0 x2 x3 x4 x5 x7 n l) (fun n => uRow (fun _ _ => 0) x0 x2 x3 x4 x5 x6 x7 n l) ((fun _ => 0) l) 256 := by
  refine (View.read_writes_cons_rows_of_mem VS0_3 _ _ _ _ (ix2 r l) (ix2 r l) (o := 0) rfl (Nat.zero_add _).symm rfl).trans ?_
  rw [pay3_eq]
  exact (scan_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 _ trips_eq').1 r l

end CaseA

section CaseB

variable (c : Dev nD) (i : grid0.Coords) (arg2 : Memref sig .tc .vmem S1x256x1280 .bf16) (harg2 : arg2.IsWhole) (arg3 : Memref sig .tc .vmem S1x256x1280 .bf16) (harg3 : arg3.IsWhole) (arg4 : Memref sig .tc .vmem S4x1280 .f32) (harg4 : arg4.IsWhole) (arg5 : Memref sig .tc .vmem S1x1280 .f32) (harg5 : arg5.IsWhole) (arg6 : Memref sig .tc .vmem S1x2x640x1280 .bf16) (harg6 : arg6.IsWhole) (arg7 : Memref sig .tc .vmem S1x1280 .f32) (harg7 : arg7.IsWhole) (arg8 : Memref sig .tc .vmem S1x1280 .f32) (harg8 : arg8.IsWhole) (arg9 : Memref sig .tc .vmem S1x1280 .f32) (harg9 : arg9.IsWhole) (arg10 : Memref sig .tc .vmem S1x256x1280 .bf16) (harg10 : arg10.IsWhole) (arg11 : Memref sig .tc .vmem S264x1280 .f32) (harg11 : arg11.IsWhole) (arg12 : Memref sig .tc .vmem S256x1280 .f32) (harg12 : arg12.IsWhole) (arg13 : Memref sig .tc .vmem S256x1280 .f32) (harg13 : arg13.IsWhole) (arg14 : Memref sig .tc .vmem S8x1280 .f32) (harg14 : arg14.IsWhole) (hc0 : ¬cond0_0 i)
  (x0 : Vec Ideal S1x256x1280 .bf16) (x1 : Vec Ideal S1x256x1280 .bf16) (x2 : Vec Ideal S4x1280 .f32) (x3 : Vec Ideal S1x1280 .f32) (x4 : Vec Ideal S1x2x640x1280 .bf16) (x5 : Vec Ideal S1x1280 .f32) (x6 : Vec Ideal S1x1280 .f32) (x7 : Vec Ideal S1x1280 .f32)
  (xs0 : Vec Ideal S264x1280 .f32) (xs3 : Vec Ideal S8x1280 .f32)

include c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs3

/-- The convolved block of case B. -/
theorem conv_B (p : Fin 256) (l : Fin 1280) :
    kernelRun0_B.sl.r (F := Ideal) c arg2 harg2 arg4 harg4 arg5 harg5 arg11 harg11 x0 x2 x3 xs0 (ix2 p l) = convRow (fun j l => xs0 (ix2 ⟨j.val, by omega⟩ l)) x0 x2 x3 p.val l := by
  have hh : ∀ (n : Fin 264) (l : Fin 1280), arg11.view.read (Elt Ideal) (arg11.view.writes (Elt Ideal) (harg11.unread xs0) (kernelRun0_B.sl.HS0_1 (F := Ideal) c arg2 harg2 x0)) (ix2 n l) = hist (fun j l => xs0 (ix2 ⟨j.val, by omega⟩ l)) x0 l n.val :=
    fun n l => read_hist arg11 _ _ (fun j l => xs0 (ix2 ⟨j.val, by omega⟩ l)) x0 _
      (fun p l => load_unit arg2 harg2 x0 (fun a => by fin_cases a <;> first | rfl | exact (Nat.zero_add _).symm))
      (fun j l => by rw [View.writes_nil, harg11.read_unread]) _ n l
  unfold kernelRun0_B.sl.r
  refine conv_block (fun j l => xs0 (ix2 ⟨j.val, by omega⟩ l)) x0 _ x2 x3 _ _ _ _ _ _ _ _ ?_ ?_ ?_ ?_ ?_ ?_ ?_ ?_ ?_ p l
  · exact fun p l => load_unit arg2 harg2 x0 (fun a => by fin_cases a <;> first | rfl | exact (Nat.zero_add _).symm)
  · exact fun l => load_unit arg5 harg5 x3 (fun a => by fin_cases a <;> first | rfl | exact (Nat.zero_add _).symm)
  · exact fun l => load_unit arg4 harg4 x2 (fun a => by fin_cases a <;> first | rfl | exact (Nat.zero_add _).symm)
  · exact fun l => load_unit arg4 harg4 x2 (fun a => by fin_cases a <;> first | rfl | exact (Nat.zero_add _).symm)
  · exact fun l => load_unit arg4 harg4 x2 (fun a => by fin_cases a <;> first | rfl | exact (Nat.zero_add _).symm)
  · exact fun l => load_unit arg4 harg4 x2 (fun a => by fin_cases a <;> first | rfl | exact (Nat.zero_add _).symm)
  · exact fun p l => ((load_rows arg11 _ _ p l (by omega)).trans (hh _ l)).trans (congrArg (hist (fun j l => xs0 (ix2 ⟨j.val, by omega⟩ l)) x0 l) (Nat.add_comm 5 p.val))
  · exact fun p l => ((load_rows arg11 _ _ p l (by omega)).trans (hh _ l)).trans (congrArg (hist (fun j l => xs0 (ix2 ⟨j.val, by omega⟩ l)) x0 l) (Nat.add_comm 6 p.val))
  · exact fun p l => ((load_rows arg11 _ _ p l (by omega)).trans (hh _ l)).trans (congrArg (hist (fun j l => xs0 (ix2 ⟨j.val, by omega⟩ l)) x0 l) (Nat.add_comm 7 p.val))

/-- The decay factors stored in case B. -/
theorem decay_B (p : Fin 256) (l : Fin 1280) :
    arg12.view.read (Elt Ideal) (arg12.view.writes (Elt Ideal) arg12.view.junk (kernelRun0_B.sl.HS1_2 (F := Ideal) c arg2 harg2 arg4 harg4 arg5 harg5 arg6 harg6 arg7 harg7 arg9 harg9 arg11 harg11 x0 x2 x3 x4 x5 x7 xs0)) (ix2 p l)
      = aRow (fun j l => xs0 (ix2 ⟨j.val, by omega⟩ l)) x0 x2 x3 x4 x5 x7 p.val l := by
  unfold kernelRun0_B.sl.HS1_2 kernelRun0_B.sl.r_5 kernelRun0_B.sl.r_2
  refine decay_block _ (convRow (fun j l => xs0 (ix2 ⟨j.val, by omega⟩ l)) x0 x2 x3) (conv_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs3) x4 x5 x7 _ _ ?_ ?_ _ _ ?_ ?_ _ ?_ arg12 _ _ _ p l
  · exact fun k j => load_unit arg6 harg6 x4 (fun a => by fin_cases a <;> first | rfl | exact (Nat.zero_add _).symm)
  · exact fun k j => load_unit arg6 harg6 x4 (fun a => by fin_cases a <;> first | rfl | exact (Nat.zero_add _).symm)
  · exact fun q => load_unit arg7 harg7 x5 (fun a => by fin_cases a <;> first | rfl | exact (Nat.zero_add _).symm)
  · exact fun q => load_unit arg7 harg7 x5 (fun a => by fin_cases a <;> first | rfl | exact (Nat.zero_add _).symm)
  · exact fun l => by unfold kernelRun0_B.sl.r_1; exact (pay12_apply _ l).trans (congrArg (fun y => softplus (-y)) (load_unit arg9 harg9 x7 (fun a => by fin_cases a <;> first | rfl | exact (Nat.zero_add _).symm)))

/-- The scaled inputs stored in case B. -/
theorem input_B (p : Fin 256) (l : Fin 1280) :
    arg13.view.read (Elt Ideal) (arg13.view.writes (Elt Ideal) arg13.view.junk (kernelRun0_B.sl.HS2_2 (F := Ideal) c arg2 harg2 arg4 harg4 arg5 harg5 arg6 harg6 arg7 harg7 arg8 harg8 arg9 harg9 arg11 harg11 x0 x2 x3 x4 x5 x6 x7 xs0)) (ix2 p l)
      = uRow (fun j l => xs0 (ix2 ⟨j.val, by omega⟩ l)) x0 x2 x3 x4 x5 x6 x7 p.val l := by
  unfold kernelRun0_B.sl.HS2_2 kernelRun0_B.sl.r_5 kernelRun0_B.sl.r_2 kernelRun0_B.sl.r_3 kernelRun0_B.sl.r_4
  refine input_block _ (convRow (fun j l => xs0 (ix2 ⟨j.val, by omega⟩ l)) x0 x2 x3) (conv_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs3) x4 x5 x6 x7 _ _ ?_ ?_ _ _ _ _ ?_ ?_ ?_ ?_ _ ?_ arg13 _ _ _ p l
  · exact fun k j => load_unit arg6 harg6 x4 (fun a => by fin_cases a <;> first | rfl | exact (Nat.zero_add _).symm)
  · exact fun k j => load_unit arg6 harg6 x4 (fun a => by fin_cases a <;> first | rfl | exact (Nat.zero_add _).symm)
  · exact fun q => load_unit arg7 harg7 x5 (fun a => by fin_cases a <;> first | rfl | exact (Nat.zero_add _).symm)
  · exact fun q => load_unit arg7 harg7 x5 (fun a => by fin_cases a <;> first | rfl | exact (Nat.zero_add _).symm)
  · exact fun q => load_unit arg8 harg8 x6 (fun a => by fin_cases a <;> first | rfl | exact (Nat.zero_add _).symm)
  · exact fun q => load_unit arg8 harg8 x6 (fun a => by fin_cases a <;> first | rfl | exact (Nat.zero_add _).symm)
  · exact fun l => by unfold kernelRun0_B.sl.r_1; exact (pay12_apply _ l).trans (congrArg (fun y => softplus (-y)) (load_unit arg9 harg9 x7 (fun a => by fin_cases a <;> first | rfl | exact (Nat.zero_add _).symm)))

/-- The carry case B starts with. -/
theorem init_B (hxs : ∀ r l, xs3 (ix2 r l) = xs3 (ix2 0 l)) (r : Fin 8) (l : Fin 1280) : (kernelRun0_B.sl.r_6 (F := Ideal) c arg14 harg14 xs3) (ix2 r l) = (fun l => xs3 (ix2 0 l)) l := by
  unfold kernelRun0_B.sl.r_6
  exact (load_unit arg14 harg14 xs3 (fun a => by fin_cases a <;> exact (Nat.zero_add _).symm)).trans (hxs r l)

/-- The loop of case B: the recurrence over the block's rows, from the carry the block starts with. -/
theorem scan_B (hxs : ∀ r l, xs3 (ix2 r l) = xs3 (ix2 0 l)) (N : ℕ) (hN : N = 32) :
    (∀ (r : Fin 8) (l : Fin 1280), (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 kernelRun0_B.sl.v149 (0#32)
          (arg12.view.writes (Elt Ideal) arg12.view.junk (kernelRun0_B.sl.HS1_2 (F := Ideal) c arg2 harg2 arg4 harg4 arg5 harg5 arg6 harg6 arg7 harg7 arg9 harg9 arg11 harg11 x0 x2 x3 x4 x5 x7 xs0))
          (arg13.view.writes (Elt Ideal) arg13.view.junk (kernelRun0_B.sl.HS2_2 (F := Ideal) c arg2 harg2 arg4 harg4 arg5 harg5 arg6 harg6 arg7 harg7 arg8 harg8 arg9 harg9 arg11 harg11 x0 x2 x3 x4 x5 x6 x7 xs0))
          (kernelRun0_B.sl.r_6 (F := Ideal) c arg14 harg14 xs3 : FVec Ideal S8x1280 .f32) N).1 (ix2 r l)
        = scan (fun n => aRow (fun j l => xs0 (ix2 ⟨j.val, by omega⟩ l)) x0 x2 x3 x4 x5 x7 n l) (fun n => uRow (fun j l => xs0 (ix2 ⟨j.val, by omega⟩ l)) x0 x2 x3 x4 x5 x6 x7 n l) ((fun l => xs3 (ix2 0 l)) l) 256)
    ∧ (∀ (p : Fin 256) (l : Fin 1280), arg13.view.read (Elt Ideal) (arg13.view.writes (Elt Ideal)
          (arg13.view.writes (Elt Ideal) arg13.view.junk (kernelRun0_B.sl.HS2_2 (F := Ideal) c arg2 harg2 arg4 harg4 arg5 harg5 arg6 harg6 arg7 harg7 arg8 harg8 arg9 harg9 arg11 harg11 x0 x2 x3 x4 x5 x6 x7 xs0))
          (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 kernelRun0_B.sl.v149 (0#32)
          (arg12.view.writes (Elt Ideal) arg12.view.junk (kernelRun0_B.sl.HS1_2 (F := Ideal) c arg2 harg2 arg4 harg4 arg5 harg5 arg6 harg6 arg7 harg7 arg9 harg9 arg11 harg11 x0 x2 x3 x4 x5 x7 xs0))
          (arg13.view.writes (Elt Ideal) arg13.view.junk (kernelRun0_B.sl.HS2_2 (F := Ideal) c arg2 harg2 arg4 harg4 arg5 harg5 arg6 harg6 arg7 harg7 arg8 harg8 arg9 harg9 arg11 harg11 x0 x2 x3 x4 x5 x6 x7 xs0))
          (kernelRun0_B.sl.r_6 (F := Ideal) c arg14 harg14 xs3 : FVec Ideal S8x1280 .f32) N).2) (ix2 p l)
        = scan (fun n => aRow (fun j l => xs0 (ix2 ⟨j.val, by omega⟩ l)) x0 x2 x3 x4 x5 x7 n l) (fun n => uRow (fun j l => xs0 (ix2 ⟨j.val, by omega⟩ l)) x0 x2 x3 x4 x5 x6 x7 n l) ((fun l => xs3 (ix2 0 l)) l) (p.val + 1)) :=
  block_scan Variants.none c none i arg2 harg2 arg3 harg3 arg4 harg4 arg5 harg5 arg6 harg6 arg7 harg7 arg8 harg8 arg9 harg9 arg10 harg10 arg11 harg11 arg12 harg12 arg13 harg13 arg14 harg14 (0#32)
    (arg12.view.writes (Elt Ideal) arg12.view.junk (kernelRun0_B.sl.HS1_2 (F := Ideal) c arg2 harg2 arg4 harg4 arg5 harg5 arg6 harg6 arg7 harg7 arg9 harg9 arg11 harg11 x0 x2 x3 x4 x5 x7 xs0))
    (arg13.view.writes (Elt Ideal) arg13.view.junk (kernelRun0_B.sl.HS2_2 (F := Ideal) c arg2 harg2 arg4 harg4 arg5 harg5 arg6 harg6 arg7 harg7 arg8 harg8 arg9 harg9 arg11 harg11 x0 x2 x3 x4 x5 x6 x7 xs0))
    (kernelRun0_B.sl.r_6 (F := Ideal) c arg14 harg14 xs3 : FVec Ideal S8x1280 .f32) (fun l => xs3 (ix2 0 l)) (aRow (fun j l => xs0 (ix2 ⟨j.val, by omega⟩ l)) x0 x2 x3 x4 x5 x7) (uRow (fun j l => xs0 (ix2 ⟨j.val, by omega⟩ l)) x0 x2 x3 x4 x5 x6 x7)
    (decay_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs3) (input_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs3) (fun n l => decayAt_real _ _ _ _ _)
    (init_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs3 hxs) N hN

/-- The block case B writes: the recurrence's rows times the gate branch. -/
theorem out_B (hxs : ∀ r l, xs3 (ix2 r l) = xs3 (ix2 0 l)) (p : Fin 256) (l : Fin 1280) :
    out0_B_8 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs3 (ix3 0 p l)
      = scan (fun n => aRow (fun j l => xs0 (ix2 ⟨j.val, by omega⟩ l)) x0 x2 x3 x4 x5 x7 n l) (fun n => uRow (fun j l => xs0 (ix2 ⟨j.val, by omega⟩ l)) x0 x2 x3 x4 x5 x6 x7 n l) ((fun l => xs3 (ix2 0 l)) l) (p.val + 1) * gelu (x1 (ix3 0 p l)) := by
  unfold out0_B_8
  refine (View.read_writes_cons_unit_of_mem (Val := Elt Ideal) (off := ![0, 0, 0]) (off' := ![0, 0, 0]) (size := S1x256x1280.size) VO0_8 VO0_8.junk inb_S1x256x1280_S1x256x1280_0_0_0
    (k0_pay4 (F := Ideal) (kernelRun0_B.sl.v156 (F := Ideal) c i arg2 harg2 arg3 harg3 arg4 harg4 arg5 harg5 arg6 harg6 arg7 harg7 arg8 harg8 arg9 harg9 arg10 harg10 arg11 harg11 arg12 harg12 arg13 harg13 arg14 harg14 x0 x2 x3 x4 x5 x6 x7 xs0 xs3)
      (View.readAt (Elt Ideal) arg3.view (Rect.unit (s := S1x256x1280) ![0, 0, 0] S1x256x1280.size inb_S1x256x1280_S1x256x1280_0_0_0).toLoadRect (harg3.unread x1)))
    [] (ix3 0 p l) (ix3 0 p l) rfl (fun a => by fin_cases a <;> exact (Nat.zero_add _).symm)).trans ?_
  refine (pay4_apply _ _ p l).trans ?_
  refine congr (congrArg HMul.hMul ?_) (congrArg gelu ?_)
  · unfold kernelRun0_B.sl.v156
    refine (load_rows arg13 _ _ p l (by omega)).trans ?_
    rw [View.writes_append]
    refine Eq.trans (congrArg _ ?_) ((scan_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs3 hxs _ trips_eq').2 p l)
    exact congrArg (fun q => ix2 q l) (Fin.ext (Nat.zero_add _))
  · exact load_unit arg3 harg3 x1 (fun a => by fin_cases a <;> first | rfl | exact (Nat.zero_add _).symm)

/-- The history case B leaves: the block's last eight rows. -/
theorem hist_B (j : Fin 8) (l : Fin 1280) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs3 (ix2 ⟨j.val, by omega⟩ l) = x0 (ix3 0 ⟨248 + j.val, by omega⟩ l) := by
  unfold sout0_B_0
  refine (View.read_writes_cons_rows_of_mem (Val := Elt Ideal) (o := 0) (off := ![0, 0]) (size := S8x1280.size) VS0_0 VS0_0.junk inb_S264x1280_S8x1280_0_0
    (k0_pay11 (F := Ideal) (kernelRun0_B.sl.v31 (F := Ideal) c arg2 harg2 arg11 x0)) (kernelRun0_B.sl.HS0_1 (F := Ideal) c arg2 harg2 x0) (ix2 ⟨j.val, by omega⟩ l) (ix2 j l) rfl (Nat.zero_add _).symm rfl).trans ?_
  rw [pay11_eq]
  unfold kernelRun0_B.sl.v31
  refine (load_rows arg11 _ _ j l (by omega)).trans ?_
  refine (View.read_writes_cons_rows_of_mem (Val := Elt Ideal) (o := 8) (off := ![8, 0]) (size := S256x1280.size) arg11.view arg11.view.junk inb_S264x1280_S256x1280_8_0
    (k0_pay9 (F := Ideal) (View.readAt (Elt Ideal) arg2.view (Rect.unit (s := S1x256x1280) ![0, 0, 0] S1x256x1280.size inb_S1x256x1280_S1x256x1280_0_0_0).toLoadRect (harg2.unread x0)))
    [] (ix2 ⟨256 + j.val, by omega⟩ l) (ix2 ⟨248 + j.val, by omega⟩ l) rfl (by show 256 + j.val = 8 + (248 + j.val); omega) rfl).trans ?_
  refine (pay9_apply _ _ l).trans ?_
  exact load_unit arg2 harg2 x0 (fun a => by fin_cases a <;> first | rfl | exact (Nat.zero_add _).symm)

/-- The carry case B leaves: the recurrence after the block's last row. -/
theorem carry_B (hxs : ∀ r l, xs3 (ix2 r l) = xs3 (ix2 0 l)) (r : Fin 8) (l : Fin 1280) :
    sout0_B_3 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs3 (ix2 r l)
      = scan (fun n => aRow (fun j l => xs0 (ix2 ⟨j.val, by omega⟩ l)) x0 x2 x3 x4 x5 x7 n l) (fun n => uRow (fun j l => xs0 (ix2 ⟨j.val, by omega⟩ l)) x0 x2 x3 x4 x5 x6 x7 n l) ((fun l => xs3 (ix2 0 l)) l) 256 := by
  refine (View.read_writes_cons_rows_of_mem VS0_3 _ _ _ _ (ix2 r l) (ix2 r l) (o := 0) rfl (Nat.zero_add _).symm rfl).trans ?_
  rw [pay3_eq]
  exact (scan_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs3 hxs _ trips_eq').1 r l

end CaseB

end Cert.KernelIdeal.Lru

end

end
-- ==== Proof.KI.Weights.lean ====
module

public import proofs.«01_k».proof.Proof.Gen.KernelIdeal.Frame
public import Idealize.ShloMosaic.Lib.Pointwise
public import Idealize.ShloMosaic.Lib.Claim

@[expose] public section

noncomputable section

namespace Cert.KernelIdeal.Lru

open Idealize.ShloMosaic Idealize.ShloMosaic.TcCoe Idealize.SL.Sem Idealize.ShloMosaic.StableHlo
open Cert.KernelIdeal Cert.KernelIdeal.Gen

/-- The block-diagonal halves of one gate's weights, as the program builds them. -/
def diagHalves {F : FTy → Type} [FloatOps F] (w : FVec F S4x16x80x80 .f32) : FVec F S4x2x640x640 .f32 :=
  shapeCast S4x2x640x640
    (mulf (broadcastInDim S4x2x8x80x8x80 ![0, 1, 2, 3, 4, 5] bcast_S4x2x8x80x1x80_S4x2x8x80x8x80_0_1_2_3_4_5
        (broadcastInDim S4x2x8x80x1x80 ![0, 1, 2, 3, 5] bcast_S4x2x8x80x80_S4x2x8x80x1x80_0_1_2_3_5
          (shapeCast S4x2x8x80x80 w shapeCasts_S4x16x80x80_S4x2x8x80x80)))
      (broadcastInDim S4x2x8x80x8x80 ![0, 1, 2, 3, 4, 5] bcast_S1x1x8x1x8x1_S4x2x8x80x8x80_0_1_2_3_4_5
        (broadcastInDim S1x1x8x1x8x1 ![2, 3, 4, 5] bcast_S8x1x8x1_S1x1x8x1x8x1_2_3_4_5
          (broadcastInDim S8x1x8x1 ![0, 2] bcast_S8x8_S8x1x8x1_0_2
            (uitofp .f32 (cmpi .eq (addi (iotaInDim S8x8 32 0) (broadcastInDim S8x8 ![] bcast_S_S8x8 (constantI S_ 32 0#32))) (iotaInDim S8x8 32 1)))))))
    shapeCasts_S4x2x8x80x8x80_S4x2x640x640

variable {F : FTy → Type} [FloatOps F] (m : (ℓ : Loc nD τ sig) → Buf (Elt F) ℓ) (c : Dev nD)

/-- The gate weights as the region finds them. -/
theorem V_weights : V m c main_v29 = truncf .bf16 (concatenate S4x2x640x1280 3
      [⟨S4x2x640x640, diagHalves (m ((c : Thread nD τ).loc main_arg3))⟩, ⟨S4x2x640x640, diagHalves (m ((c : Thread nD τ).loc main_arg5))⟩]
      concatenates_S4x2x640x640_S4x2x640x640_S4x2x640x1280_d3) bitsLt_bf16_f32 := by
  unfold_abbrev_sides
  after_results
  all_goals rfl

/-- The convolution's offset as the region finds it. -/
theorem V_v30 : V m c main_v30 = shapeCast S1x1280 (m ((c : Thread nD τ).loc main_arg2)) shapeCasts_S1280_S1x1280 := by
  unfold_abbrev_sides
  after_results
  all_goals rfl

/-- The recurrence gate's offset as the region finds it. -/
theorem V_v31 : V m c main_v31 = shapeCast S1x1280 (m ((c : Thread nD τ).loc main_arg4)) shapeCasts_S1280_S1x1280 := by
  unfold_abbrev_sides
  after_results
  all_goals rfl

/-- The input gate's offset as the region finds it. -/
theorem V_v32 : V m c main_v32 = shapeCast S1x1280 (m ((c : Thread nD τ).loc main_arg6)) shapeCasts_S1280_S1x1280 := by
  unfold_abbrev_sides
  after_results
  all_goals rfl

/-- The decay parameter as the region finds it. -/
theorem V_v33 : V m c main_v33 = shapeCast S1x1280 (m ((c : Thread nD τ).loc main_arg7)) shapeCasts_S1280_S1x1280 := by
  unfold_abbrev_sides
  after_results
  all_goals rfl

/-- An entry of the block-diagonal halves: the block's weight on the diagonal, zero off it. -/
theorem diagHalves_apply (w : FVec Ideal S4x16x80x80 .f32) (s : Fin 2) (k j : Fin 640) :
    diagHalves (F := Ideal) w (ix4 0 s k j)
      = w (ix4 0 ⟨s.val * 8 + k.val / 80, by omega⟩ ⟨k.val % 80, by omega⟩ ⟨j.val % 80, by omega⟩) * (if k.val / 80 = j.val / 80 then 1 else 0) := by
  have hd : ∀ a b : Fin 8, IntOp.cmpi CmpIPredicate.eq (IntOp.addi (BitVec.ofNat 32 a.val) 0#32) (BitVec.ofNat 32 b.val) = if a.val = b.val then 1#1 else 0#1 := by decide
  have h := hd ⟨k.val / 80, by omega⟩ ⟨j.val / 80, by omega⟩
  dsimp only at h
  pointwise [diagHalves]
  rw [h]
  split
  · refine congrArg _ ?_
    show (((1#1 : BitVec 1).toNat : ℝ) : EReal) = 1
    simp
  · refine congrArg _ ?_
    show (((0#1 : BitVec 1).toNat : ℝ) : EReal) = 0
    simp

/-- The gate weights of the two gates, side by side. -/
theorem weights_apply (wr wi : FVec Ideal S4x16x80x80 .f32) (s : Fin 2) (k : Fin 640) (j : Fin 1280) :
    truncf (F := Ideal) .bf16 (concatenate S4x2x640x1280 3 [⟨S4x2x640x640, diagHalves (F := Ideal) wr⟩, ⟨S4x2x640x640, diagHalves (F := Ideal) wi⟩]
      concatenates_S4x2x640x640_S4x2x640x640_S4x2x640x1280_d3) bitsLt_bf16_f32 (ix4 0 s k j)
      = if h : j.val < 640 then diagHalves (F := Ideal) wr (ix4 0 s k ⟨j.val, h⟩) else diagHalves (F := Ideal) wi (ix4 0 s k ⟨j.val - 640, by omega⟩) := by
  pointwise []

end Cert.KernelIdeal.Lru

end

end
-- ==== Proof.Spec.lean ====
module

public import proofs.«01_k».proof.Proof.Alg

@[expose] public section

noncomputable section

open Idealize.ShloMosaic

namespace Cert.Lru

/-- The layer's weights, by lane, block and tap. -/
structure Params where
  /-- The convolution's taps. -/
  cw : Fin 4 → Fin 1280 → EReal
  /-- The convolution's offset. -/
  cb : Fin 1280 → EReal
  /-- The recurrence gate's block-diagonal weights. -/
  wr : Fin 16 → Fin 80 → Fin 80 → EReal
  /-- The recurrence gate's offset. -/
  br : Fin 1280 → EReal
  /-- The input gate's block-diagonal weights. -/
  wi : Fin 16 → Fin 80 → Fin 80 → EReal
  /-- The input gate's offset. -/
  bi : Fin 1280 → EReal
  /-- The decay parameter. -/
  lam : Fin 1280 → EReal

/-- A lane's contraction with its block's gate weights. -/
def blockDot (xc : Fin 1280 → EReal) (w : Fin 16 → Fin 80 → Fin 80 → EReal) (l : Fin 1280) : EReal :=
  ∑ i : Fin 80, xc ⟨80 * (l.val / 80) + i.val, by omega⟩ * w ⟨l.val / 80, by omega⟩ i ⟨l.val % 80, by omega⟩

/-- The sequence with three rows of zeros before it. -/
def seq (x : Fin 2048 → Fin 1280 → EReal) (n : ℕ) (l : Fin 1280) : EReal :=
  if h : 3 ≤ n ∧ n < 2051 then x ⟨n - 3, by omega⟩ l else 0

/-- The causal convolution over four rows. -/
def conv (P : Params) (x : Fin 2048 → Fin 1280 → EReal) (n : ℕ) (l : Fin 1280) : EReal :=
  (seq x n l * P.cw 0 l + seq x (n + 1) l * P.cw 1 l + seq x (n + 2) l * P.cw 2 l + seq x (n + 3) l * P.cw 3 l) + P.cb l

/-- A gate of a row. -/
def gateVal (xc : Fin 1280 → EReal) (w : Fin 16 → Fin 80 → Fin 80 → EReal) (b : Fin 1280 → EReal) (l : Fin 1280) : EReal :=
  Ideal.logistic (blockDot xc w l + b l)

/-- The logarithm of a row's decay factor. -/
def logFac (P : Params) (x : Fin 2048 → Fin 1280 → EReal) (n : ℕ) (l : Fin 1280) : EReal :=
  logDecay (gateVal (conv P x n) P.wr P.br l) (softplus (-(P.lam l)))

/-- A row's decay factor. -/
def fac (P : Params) (x : Fin 2048 → Fin 1280 → EReal) (n : ℕ) (l : Fin 1280) : EReal := Ideal.exp (logFac P x n l)

/-- A row's scaled input. -/
def inp (P : Params) (x : Fin 2048 → Fin 1280 → EReal) (n : ℕ) (l : Fin 1280) : EReal :=
  Ideal.sqrt (-(Ideal.exp (((2 : ℝ) : EReal) * logFac P x n l) - 1)) * (gateVal (conv P x n) P.wi P.bi l * conv P x n l)

/-- The recurrent state after `n` rows. -/
def state (P : Params) (x : Fin 2048 → Fin 1280 → EReal) (l : Fin 1280) (n : ℕ) : EReal :=
  scan (fun k => fac P x k l) (fun k => inp P x k l) 0 n

end Cert.Lru

end

end
-- ==== Proof.KI.Windows.lean ====
module

public import proofs.«01_k».proof.Proof.KI.Weights
public import proofs.«01_k».proof.Proof.KI.Block
public import proofs.«01_k».proof.Proof.Spec
public import Idealize.ShloMosaic.Lib.ValueLayout

@[expose] public section

noncomputable section

namespace Cert.KernelIdeal.Lru

open Idealize.ShloMosaic Idealize.ShloMosaic.TcCoe Idealize.SL.Sem
open Cert.KernelIdeal Cert.KernelIdeal.Gen Cert.Lru

/-- A sum over a half's lanes of values that are zero off one block is the sum over that block. -/
theorem sum_block (f : Fin 640 → EReal) (w : Fin 640 → EReal) (a : ℕ) (ha : a < 8) :
    ∑ k : Fin 640, f k * (w k * (if k.val / 80 = a then 1 else 0)) = ∑ i : Fin 80, f ⟨80 * a + i.val, by omega⟩ * w ⟨80 * a + i.val, by omega⟩ := by
  have e := (Fintype.sum_equiv (finProdFinEquiv (m := 8) (n := 80)) (fun x => f (finProdFinEquiv x) * (w (finProdFinEquiv x) * (if (finProdFinEquiv x : Fin 640).val / 80 = a then 1 else 0)))
    (fun k : Fin 640 => f k * (w k * (if k.val / 80 = a then 1 else 0))) (fun _ => rfl)).symm
  refine e.trans ?_
  rw [Fintype.sum_prod_type, Finset.sum_eq_single (⟨a, ha⟩ : Fin 8)]
  · refine Finset.sum_congr rfl fun i _ => ?_
    have hk : (finProdFinEquiv ((⟨a, ha⟩ : Fin 8), i) : Fin 640) = ⟨80 * a + i.val, by omega⟩ := Fin.ext (by
      simp only [finProdFinEquiv_apply_val]; omega)
    rw [hk, if_pos (by simp only; omega), mul_one]
  · intro b _ hb
    refine Finset.sum_eq_zero fun i _ => ?_
    have hk : (finProdFinEquiv (b, i) : Fin 640).val / 80 = b.val := by
      simp only [finProdFinEquiv_apply_val]; omega
    rw [if_neg (by rw [hk]; exact fun h => hb (Fin.ext h)), mul_zero, mul_zero]
  · intro h
    exact absurd (Finset.mem_univ _) h

/-- The recurrence gate's contraction is the block's. -/
theorem gateDot_r (xc : Fin 1280 → EReal) (x4 : FVec Ideal S1x2x640x1280 .bf16) (wr wi : FVec Ideal S4x16x80x80 .f32)
    (h4 : ∀ s k j, x4 (ix4 0 s k j) = if h : j.val < 640 then diagHalves (F := Ideal) wr (ix4 0 s k ⟨j.val, h⟩) else diagHalves (F := Ideal) wi (ix4 0 s k ⟨j.val - 640, by omega⟩))
    (l : Fin 1280) : gateDot xc x4 (hf l) ⟨l.val % 640, by omega⟩ = blockDot xc (fun a i j => wr (ix4 0 a i j)) l := by
  unfold gateDot blockDot
  have hl := l.isLt
  simp only [h4, dif_pos (show l.val % 640 < 640 by omega), diagHalves_apply]
  refine (sum_block _ _ (l.val % 640 / 80) (by omega)).trans ?_
  refine Finset.sum_congr rfl fun i _ => ?_
  have hi := i.isLt
  refine congr (congrArg HMul.hMul (congrArg xc (Fin.ext ?_))) (congrArg wr ?_)
  · show 640 * (l.val / 640) + (80 * (l.val % 640 / 80) + i.val) = 80 * (l.val / 80) + i.val
    omega
  · have e1 : l.val / 640 * 8 + (80 * (l.val % 640 / 80) + i.val) / 80 = l.val / 80 := by omega
    have e2 : (80 * (l.val % 640 / 80) + i.val) % 80 = i.val := by omega
    have e3 : l.val % 640 % 80 = l.val % 80 := by omega
    simp only [hf, e1, e2, e3]

/-- The input gate's contraction is the block's. -/
theorem gateDot_i (xc : Fin 1280 → EReal) (x4 : FVec Ideal S1x2x640x1280 .bf16) (wr wi : FVec Ideal S4x16x80x80 .f32)
    (h4 : ∀ s k j, x4 (ix4 0 s k j) = if h : j.val < 640 then diagHalves (F := Ideal) wr (ix4 0 s k ⟨j.val, h⟩) else diagHalves (F := Ideal) wi (ix4 0 s k ⟨j.val - 640, by omega⟩))
    (l : Fin 1280) : gateDot xc x4 (hf l) ⟨640 + l.val % 640, by omega⟩ = blockDot xc (fun a i j => wi (ix4 0 a i j)) l := by
  unfold gateDot blockDot
  have hl := l.isLt
  simp only [h4, dif_neg (show ¬ 640 + l.val % 640 < 640 by omega), diagHalves_apply]
  have e0 : 640 + l.val % 640 - 640 = l.val % 640 := by omega
  simp only [e0]
  refine (sum_block _ _ (l.val % 640 / 80) (by omega)).trans ?_
  refine Finset.sum_congr rfl fun i _ => ?_
  have hi := i.isLt
  refine congr (congrArg HMul.hMul (congrArg xc (Fin.ext ?_))) (congrArg wi ?_)
  · show 640 * (l.val / 640) + (80 * (l.val % 640 / 80) + i.val) = 80 * (l.val / 80) + i.val
    omega
  · have e1 : l.val / 640 * 8 + (80 * (l.val % 640 / 80) + i.val) / 80 = l.val / 80 := by omega
    have e2 : (80 * (l.val % 640 / 80) + i.val) % 80 = i.val := by omega
    have e3 : l.val % 640 % 80 = l.val % 80 := by omega
    simp only [hf, e1, e2, e3]

/-- The blocks of the branch inputs: point `t` takes sequence block `t % 8` of batch row `t / 8`. -/
theorem index_facts : ∀ t : Fin cfg0.N,
    (win0_0.index t (0 : Fin 3) = t.val / 8 ∧ win0_0.index t (1 : Fin 3) = t.val % 8 ∧ win0_0.index t (2 : Fin 3) = 1)
    ∧ (win0_1.index t (0 : Fin 3) = t.val / 8 ∧ win0_1.index t (1 : Fin 3) = t.val % 8 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 4) = 0 ∧ win0_4.index t (1 : Fin 4) = 0 ∧ win0_4.index t (2 : Fin 4) = 0 ∧ win0_4.index t (3 : Fin 4) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

variable (m : (ℓ : Loc nD τ sig) → Buf (Elt Ideal) ℓ) (c : Dev nD) (t : Fin cfg0.N)

/-- The recurrence branch's block. -/
theorem iblk0 (p : Fin 256) (l : Fin 1280) (b : Fin 8) (s : Fin 2048) (k : Fin 2560) (hb : b.val = t.val / 8) (hs : s.val = t.val % 8 * 256 + p.val) (hk : k.val = 1280 + l.val) :
    (iblk m c 0 t : FVec Ideal S1x256x1280 .bf16) (ix3 0 p l) = (m ((c : Thread nD τ).loc main_arg0) : FVec Ideal S8x2048x2560 .bf16) (ix3 b s k) := by
  obtain ⟨⟨e0, e1, e2⟩, -⟩ := index_facts t
  unfold iblk
  show (V m c main_arg0 : FVec Ideal S8x2048x2560 .bf16) (((cfg0.win 0).blk t).view.emb (ix3 0 p l)) = _
  rw [V_main_arg0]
  refine congrArg _ (funext fun a => Fin.ext ?_)
  match a with
  | ⟨0, _⟩ => show win0_0.index t (0 : Fin 3) * 1 + 1 * 0 = b.val; omega
  | ⟨1, _⟩ => show win0_0.index t (1 : Fin 3) * 256 + 1 * p.val = s.val; omega
  | ⟨2, _⟩ => show win0_0.index t (2 : Fin 3) * 1280 + 1 * l.val = k.val; omega

/-- The gate branch's block. -/
theorem iblk1 (p : Fin 256) (l : Fin 1280) (b : Fin 8) (s : Fin 2048) (k : Fin 2560) (hb : b.val = t.val / 8) (hs : s.val = t.val % 8 * 256 + p.val) (hk : k.val = l.val) :
    (iblk m c 1 t : FVec Ideal S1x256x1280 .bf16) (ix3 0 p l) = (m ((c : Thread nD τ).loc main_arg0) : FVec Ideal S8x2048x2560 .bf16) (ix3 b s k) := by
  obtain ⟨-, ⟨e0, e1, e2⟩, -⟩ := index_facts t
  unfold iblk
  show (V m c main_arg0 : FVec Ideal S8x2048x2560 .bf16) (((cfg0.win 1).blk t).view.emb (ix3 0 p l)) = _
  rw [V_main_arg0]
  refine congrArg _ (funext fun a => Fin.ext ?_)
  match a with
  | ⟨0, _⟩ => show win0_1.index t (0 : Fin 3) * 1 + 1 * 0 = b.val; omega
  | ⟨1, _⟩ => show win0_1.index t (1 : Fin 3) * 256 + 1 * p.val = s.val; omega
  | ⟨2, _⟩ => show win0_1.index t (2 : Fin 3) * 1280 + 1 * l.val = k.val; omega

/-- A row of 1280 lanes, at a lane. -/
theorem row_apply (w : FVec Ideal S1280 .f32) (l : Fin 1280) : shapeCast (α := Ideal .f32) S1x1280 w shapeCasts_S1280_S1x1280 (ix2 0 l) = w (ix1 l) := by
  exact ValueIdx.shapeCast_a_1a_apply w _ 0 l

/-- The convolution's taps. -/
theorem iblk2 (j : Fin 4) (l : Fin 1280) :
    (iblk m c 2 t : FVec Ideal S4x1280 .f32) (ix2 j l) = (m ((c : Thread nD τ).loc main_arg1) : FVec Ideal S4x1280 .f32) (ix2 j l) := by
  obtain ⟨-, -, ⟨e0, e1⟩, -⟩ := index_facts t
  unfold iblk
  show (V m c main_arg1 : FVec Ideal S4x1280 .f32) (((cfg0.win 2).blk t).view.emb (ix2 j l)) = _
  rw [V_main_arg1]
  refine congrArg _ (funext fun a => Fin.ext ?_)
  match a with
  | ⟨0, _⟩ => show win0_2.index t (0 : Fin 2) * 4 + 1 * j.val = j.val; omega
  | ⟨1, _⟩ => show win0_2.index t (1 : Fin 2) * 1280 + 1 * l.val = l.val; omega

/-- The convolution's offset. -/
theorem iblk3 (l : Fin 1280) :
    (iblk m c 3 t : FVec Ideal S1x1280 .f32) (ix2 0 l) = (m ((c : Thread nD τ).loc main_arg2) : FVec Ideal S1280 .f32) (ix1 l) := by
  obtain ⟨-, -, -, ⟨e0, e1⟩, -⟩ := index_facts t
  unfold iblk
  show (V m c main_v30 : FVec Ideal S1x1280 .f32) (((cfg0.win 3).blk t).view.emb (ix2 0 l)) = _
  rw [V_v30]
  have e : ((cfg0.win 3).blk t).view.emb (ix2 0 l) = (ix2 0 l : S1x1280.Idx) := funext fun a => Fin.ext (by
    match a with
    | ⟨0, _⟩ => show win0_3.index t (0 : Fin 2) * 1 + 1 * 0 = 0; omega
    | ⟨1, _⟩ => show win0_3.index t (1 : Fin 2) * 1280 + 1 * l.val = l.val; omega)
  rw [e]
  exact row_apply _ l

/-- The gate weights. -/
theorem iblk4 (s : Fin 2) (k : Fin 640) (j : Fin 1280) :
    (iblk m c 4 t : FVec Ideal S1x2x640x1280 .bf16) (ix4 0 s k j)
      = if h : j.val < 640 then diagHalves (F := Ideal) (m ((c : Thread nD τ).loc main_arg3)) (ix4 0 s k ⟨j.val, h⟩)
        else diagHalves (F := Ideal) (m ((c : Thread nD τ).loc main_arg5)) (ix4 0 s k ⟨j.val - 640, by omega⟩) := by
  obtain ⟨-, -, -, -, ⟨e0, e1, e2, e3⟩, -⟩ := index_facts t
  rw [← weights_apply]
  unfold iblk
  show (V m c main_v29 : FVec Ideal S4x2x640x1280 .bf16) (((cfg0.win 4).blk t).view.emb (ix4 0 s k j)) = _
  rw [V_weights]
  refine congrArg _ (funext fun a => Fin.ext ?_)
  match a with
  | ⟨0, _⟩ => show win0_4.index t (0 : Fin 4) * 1 + 1 * 0 = 0; omega
  | ⟨1, _⟩ => show win0_4.index t (1 : Fin 4) * 2 + 1 * s.val = s.val; omega
  | ⟨2, _⟩ => show win0_4.index t (2 : Fin 4) * 640 + 1 * k.val = k.val; omega
  | ⟨3, _⟩ => show win0_4.index t (3 : Fin 4) * 1280 + 1 * j.val = j.val; omega

/-- The recurrence gate's offset. -/
theorem iblk5 (l : Fin 1280) :
    (iblk m c 5 t : FVec Ideal S1x1280 .f32) (ix2 0 l) = (m ((c : Thread nD τ).loc main_arg4) : FVec Ideal S1280 .f32) (ix1 l) := by
  obtain ⟨-, -, -, -, -, ⟨e0, e1⟩, -⟩ := index_facts t
  unfold iblk
  show (V m c main_v31 : FVec Ideal S1x1280 .f32) (((cfg0.win 5).blk t).view.emb (ix2 0 l)) = _
  rw [V_v31]
  have e : ((cfg0.win 5).blk t).view.emb (ix2 0 l) = (ix2 0 l : S1x1280.Idx) := funext fun a => Fin.ext (by
    match a with
    | ⟨0, _⟩ => show win0_5.index t (0 : Fin 2) * 1 + 1 * 0 = 0; omega
    | ⟨1, _⟩ => show win0_5.index t (1 : Fin 2) * 1280 + 1 * l.val = l.val; omega)
  rw [e]
  exact row_apply _ l

/-- The input gate's offset. -/
theorem iblk6 (l : Fin 1280) :
    (iblk m c 6 t : FVec Ideal S1x1280 .f32) (ix2 0 l) = (m ((c : Thread nD τ).loc main_arg6) : FVec Ideal S1280 .f32) (ix1 l) := by
  obtain ⟨-, -, -, -, -, -, ⟨e0, e1⟩, -⟩ := index_facts t
  unfold iblk
  show (V m c main_v32 : FVec Ideal S1x1280 .f32) (((cfg0.win 6).blk t).view.emb (ix2 0 l)) = _
  rw [V_v32]
  have e : ((cfg0.win 6).blk t).view.emb (ix2 0 l) = (ix2 0 l : S1x1280.Idx) := funext fun a => Fin.ext (by
    match a with
    | ⟨0, _⟩ => show win0_6.index t (0 : Fin 2) * 1 + 1 * 0 = 0; omega
    | ⟨1, _⟩ => show win0_6.index t (1 : Fin 2) * 1280 + 1 * l.val = l.val; omega)
  rw [e]
  exact row_apply _ l

/-- The decay parameter. -/
theorem iblk7 (l : Fin 1280) :
    (iblk m c 7 t : FVec Ideal S1x1280 .f32) (ix2 0 l) = (m ((c : Thread nD τ).loc main_arg7) : FVec Ideal S1280 .f32) (ix1 l) := by
  obtain ⟨-, -, -, -, -, -, -, ⟨e0, e1⟩⟩ := index_facts t
  unfold iblk
  show (V m c main_v33 : FVec Ideal S1x1280 .f32) (((cfg0.win 7).blk t).view.emb (ix2 0 l)) = _
  rw [V_v33]
  have e : ((cfg0.win 7).blk t).view.emb (ix2 0 l) = (ix2 0 l : S1x1280.Idx) := funext fun a => Fin.ext (by
    match a with
    | ⟨0, _⟩ => show win0_7.index t (0 : Fin 2) * 1 + 1 * 0 = 0; omega
    | ⟨1, _⟩ => show win0_7.index t (1 : Fin 2) * 1280 + 1 * l.val = l.val; omega)
  rw [e]
  exact row_apply _ l

end Cert.KernelIdeal.Lru

end

end
-- ==== Proof.KI.Points.lean ====
module

public import proofs.«01_k».proof.Proof.KI.Outs
public import proofs.«01_k».proof.Proof.KI.Windows

@[expose] public section

noncomputable section

namespace Cert.KernelIdeal.Lru

open Idealize.ShloMosaic Idealize.ShloMosaic.TcCoe Idealize.SL.Sem
open Cert.KernelIdeal Cert.KernelIdeal.Gen Cert.Lru

variable (m : (ℓ : Loc nD τ sig) → Buf (Elt Ideal) ℓ) (c : Dev nD)

/-- The layer's weights, as launched. -/
def prm : Params where
  cw j l := (m ((c : Thread nD τ).loc main_arg1) : FVec Ideal S4x1280 .f32) (ix2 j l)
  cb l := (m ((c : Thread nD τ).loc main_arg2) : FVec Ideal S1280 .f32) (ix1 l)
  wr a i j := (m ((c : Thread nD τ).loc main_arg3) : FVec Ideal S4x16x80x80 .f32) (ix4 0 a i j)
  br l := (m ((c : Thread nD τ).loc main_arg4) : FVec Ideal S1280 .f32) (ix1 l)
  wi a i j := (m ((c : Thread nD τ).loc main_arg5) : FVec Ideal S4x16x80x80 .f32) (ix4 0 a i j)
  bi l := (m ((c : Thread nD τ).loc main_arg6) : FVec Ideal S1280 .f32) (ix1 l)
  lam l := (m ((c : Thread nD τ).loc main_arg7) : FVec Ideal S1280 .f32) (ix1 l)

/-- A batch row's recurrence branch. -/
def xseq (b : Fin 8) (s : Fin 2048) (l : Fin 1280) : EReal :=
  (m ((c : Thread nD τ).loc main_arg0) : FVec Ideal S8x2048x2560 .bf16) (ix3 b s ⟨1280 + l.val, by omega⟩)

/-- A batch row's gate branch. -/
def gseq (b : Fin 8) (s : Fin 2048) (l : Fin 1280) : EReal :=
  (m ((c : Thread nD τ).loc main_arg0) : FVec Ideal S8x2048x2560 .bf16) (ix3 b s ⟨l.val, by omega⟩)

/-- The number of points. -/
theorem lt64 (t : Fin cfg0.N) : t.val < 64 := lt_of_lt_of_eq t.isLt (show cfg0.N = 64 from N_0)

/-- The batch row of a point. -/
def batchOf (n : ℕ) (hn : n < 64) : Fin 8 := ⟨n / 8, by omega⟩

section Point

variable (t : Fin cfg0.N) (hd : Fin 8 → Fin 1280 → EReal)
  (hhd : ∀ (j : Fin 8) (l : Fin 1280), 5 ≤ j.val → hd j l = seq (xseq m c (batchOf t.val (lt64 t))) (256 * (t.val % 8) + j.val - 5) l)

include hhd

/-- The rows a point's convolution sees are the padded sequence's. -/
theorem hist_eq (i : ℕ) (h5 : 5 ≤ i) (h264 : i < 264) (l : Fin 1280) :
    hist hd (iblk m c 0 t) l i = seq (xseq m c (batchOf t.val (lt64 t))) (256 * (t.val % 8) + i - 5) l := by
  rw [hist]
  have h64 := lt64 t
  by_cases h : i < 8
  · rw [dif_pos h]
    exact hhd ⟨i, h⟩ l h5
  · rw [dif_neg h, dif_pos (show i - 8 < 256 by omega), seq, dif_pos (by constructor <;> omega), xseq]
    refine iblk0 m c t ⟨i - 8, by omega⟩ l _ _ _ rfl ?_ rfl
    show 256 * (t.val % 8) + i - 5 - 3 = t.val % 8 * 256 + (i - 8)
    omega

/-- A point's convolved rows. -/
theorem convRow_eq (n : ℕ) (hn : n < 256) :
    convRow hd (iblk m c 0 t) (iblk m c 2 t) (iblk m c 3 t) n = conv (prm m c) (xseq m c (batchOf t.val (lt64 t))) (256 * (t.val % 8) + n) := by
  funext l
  rw [convRow, conv, hist_eq m c t hd hhd (n + 5) (by omega) (by omega), hist_eq m c t hd hhd (n + 6) (by omega) (by omega), hist_eq m c t hd hhd (n + 7) (by omega) (by omega),
    hist_eq m c t hd hhd (n + 8) (by omega) (by omega), iblk2, iblk2, iblk2, iblk2, iblk3]
  have e0 : 256 * (t.val % 8) + (n + 5) - 5 = 256 * (t.val % 8) + n := by omega
  have e1 : 256 * (t.val % 8) + (n + 6) - 5 = 256 * (t.val % 8) + n + 1 := by omega
  have e2 : 256 * (t.val % 8) + (n + 7) - 5 = 256 * (t.val % 8) + n + 2 := by omega
  have e3 : 256 * (t.val % 8) + (n + 8) - 5 = 256 * (t.val % 8) + n + 3 := by omega
  rw [e0, e1, e2, e3]
  rfl

/-- A point's logarithms of decay factors. -/
theorem logAt_eq (n : ℕ) (hn : n < 256) (l : Fin 1280) :
    logAt (convRow hd (iblk m c 0 t) (iblk m c 2 t) (iblk m c 3 t) n) (iblk m c 4 t) (iblk m c 5 t) (iblk m c 7 t) l
      = logFac (prm m c) (xseq m c (batchOf t.val (lt64 t))) (256 * (t.val % 8) + n) l := by
  rw [convRow_eq m c t hd hhd n hn, logAt, gateDot_r _ _ _ _ (iblk4 m c t), iblk5, iblk7]
  rfl

/-- A point's decay factors. -/
theorem aRow_eq (n : ℕ) (hn : n < 256) (l : Fin 1280) :
    aRow hd (iblk m c 0 t) (iblk m c 2 t) (iblk m c 3 t) (iblk m c 4 t) (iblk m c 5 t) (iblk m c 7 t) n l
      = fac (prm m c) (xseq m c (batchOf t.val (lt64 t))) (256 * (t.val % 8) + n) l := by
  rw [aRow, decayAt, logAt_eq m c t hd hhd n hn]
  rfl

/-- A point's scaled inputs. -/
theorem uRow_eq (n : ℕ) (hn : n < 256) (l : Fin 1280) :
    uRow hd (iblk m c 0 t) (iblk m c 2 t) (iblk m c 3 t) (iblk m c 4 t) (iblk m c 5 t) (iblk m c 6 t) (iblk m c 7 t) n l
      = inp (prm m c) (xseq m c (batchOf t.val (lt64 t))) (256 * (t.val % 8) + n) l := by
  rw [uRow, inputAt, logAt_eq m c t hd hhd n hn, convRow_eq m c t hd hhd n hn, gateDot_i _ _ _ _ (iblk4 m c t), iblk6]
  rfl

/-- The recurrence over a point's rows goes on with the sequence's. -/
theorem scan_point (h0 : EReal) (l : Fin 1280) (hh : h0 = state (prm m c) (xseq m c (batchOf t.val (lt64 t))) l (256 * (t.val % 8))) (n : ℕ) (hn : n ≤ 256) :
    scan (fun n => aRow hd (iblk m c 0 t) (iblk m c 2 t) (iblk m c 3 t) (iblk m c 4 t) (iblk m c 5 t) (iblk m c 7 t) n l)
        (fun n => uRow hd (iblk m c 0 t) (iblk m c 2 t) (iblk m c 3 t) (iblk m c 4 t) (iblk m c 5 t) (iblk m c 6 t) (iblk m c 7 t) n l) h0 n
      = state (prm m c) (xseq m c (batchOf t.val (lt64 t))) l (256 * (t.val % 8) + n) := by
  rw [state, scan_add _ _ _ (256 * (t.val % 8)) n, hh]
  exact scan_congr n (fun k hk => aRow_eq m c t hd hhd k (by omega) l) (fun k hk => uRow_eq m c t hd hhd k (by omega) l)

end Point

/-- What a point leaves: the history rows, the recurrent state and its block of the result. -/
def Left (n : ℕ) (hn : n < 64) (o : FVec Ideal S1x256x1280 .bf16 × FVec Ideal S264x1280 .f32 × FVec Ideal S8x1280 .f32) : Prop :=
  (∀ (j : Fin 8) (l : Fin 1280), o.2.1 (ix2 ⟨j.val, by omega⟩ l) = seq (xseq m c (batchOf n hn)) (256 * (n % 8) + 251 + j.val) l)
  ∧ (∀ (r : Fin 8) (l : Fin 1280), o.2.2 (ix2 r l) = state (prm m c) (xseq m c (batchOf n hn)) l (256 * (n % 8) + 256))
  ∧ ∀ (p : Fin 256) (l : Fin 1280), o.1 (ix3 0 p l) = state (prm m c) (xseq m c (batchOf n hn)) l (256 * (n % 8) + p.val + 1)
      * gelu (gseq m c (batchOf n hn) ⟨256 * (n % 8) + p.val, by omega⟩ l)

/-- The gate branch's block, at a row and a lane. -/
theorem gate_row (t : Fin cfg0.N) (p : Fin 256) (l : Fin 1280) :
    (iblk m c 1 t : FVec Ideal S1x256x1280 .bf16) (ix3 0 p l) = gseq m c (batchOf t.val (lt64 t)) ⟨256 * (t.val % 8) + p.val, by omega⟩ l :=
  iblk1 m c t p l _ _ _ rfl (by show 256 * (t.val % 8) + p.val = _; omega) rfl

/-- The last rows of the recurrence branch's block. -/
theorem last_rows (t : Fin cfg0.N) (j : Fin 8) (l : Fin 1280) :
    (iblk m c 0 t : FVec Ideal S1x256x1280 .bf16) (ix3 0 ⟨248 + j.val, by omega⟩ l) = seq (xseq m c (batchOf t.val (lt64 t))) (256 * (t.val % 8) + 251 + j.val) l := by
  rw [seq, dif_pos (by constructor <;> omega), xseq]
  refine iblk0 m c t ⟨248 + j.val, by omega⟩ l _ _ _ rfl ?_ rfl
  show 256 * (t.val % 8) + 251 + j.val - 3 = t.val % 8 * 256 + (248 + j.val)
  omega

/-- A point that begins a batch row. -/
theorem left_A (t : Fin cfg0.N) (h0 : t.val % 8 = 0) : Left m c t.val (lt64 t) (outsAt0 m c t.val t.isLt) := by
  have hhd : ∀ (j : Fin 8) (l : Fin 1280), 5 ≤ j.val → (fun (_ : Fin 8) (_ : Fin 1280) => (0 : EReal)) j l = seq (xseq m c (batchOf t.val (lt64 t))) (256 * (t.val % 8) + j.val - 5) l := by
    intro j l hj
    rw [seq, dif_neg (by omega)]
  have hh : ∀ l : Fin 1280, (0 : EReal) = state (prm m c) (xseq m c (batchOf t.val (lt64 t))) l (256 * (t.val % 8)) := by
    intro l
    rw [h0]
    rfl
  rw [outsAt0_A m c t h0]
  unfold Left
  dsimp only
  refine ⟨fun j l => ?_, fun r l => ?_, fun p l => ?_⟩
  · have e := hist_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) j l
    have e2 := last_rows m c t j l
    refine Eq.trans ?_ e2
    exact e
  · exact (carry_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) r l).trans (scan_point m c t _ hhd _ l (hh l) 256 le_rfl)
  · refine (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) p l).trans ?_
    rw [scan_point m c t _ hhd _ l (hh l) (p.val + 1) (by omega), gate_row]
    rfl

/-- A point that goes on with a batch row. -/
theorem left_B (t : Fin cfg0.N) (h0 : ¬ t.val % 8 = 0) (hp : t.val - 1 < cfg0.N) (ih : Left m c (t.val - 1) (lt64 ⟨t.val - 1, hp⟩) (outsAt0 m c (t.val - 1) hp)) :
    Left m c t.val (lt64 t) (outsAt0 m c t.val t.isLt) := by
  obtain ⟨ih1, ih2, -⟩ := ih
  have hrow : batchOf (t.val - 1) (lt64 ⟨t.val - 1, hp⟩) = batchOf t.val (lt64 t) := Fin.ext (by show (t.val - 1) / 8 = t.val / 8; omega)
  have hq : 256 * ((t.val - 1) % 8) + 256 = 256 * (t.val % 8) := by omega
  rw [hrow] at ih1 ih2
  have hhd : ∀ (j : Fin 8) (l : Fin 1280), 5 ≤ j.val → (fun (j : Fin 8) (l : Fin 1280) => (outsAt0 m c (t.val - 1) hp).2.1 (ix2 ⟨j.val, by omega⟩ l)) j l
      = seq (xseq m c (batchOf t.val (lt64 t))) (256 * (t.val % 8) + j.val - 5) l := by
    intro j l hj
    refine (ih1 j l).trans (congrArg (fun n => seq _ n l) ?_)
    omega
  have hxs : ∀ r l, (outsAt0 m c (t.val - 1) hp).2.2 (ix2 r l) = (outsAt0 m c (t.val - 1) hp).2.2 (ix2 0 l) := fun r l => (ih2 r l).trans (ih2 0 l).symm
  have hh : ∀ l : Fin 1280, (outsAt0 m c (t.val - 1) hp).2.2 (ix2 0 l) = state (prm m c) (xseq m c (batchOf t.val (lt64 t))) l (256 * (t.val % 8)) := fun l =>
    (ih2 0 l).trans (congrArg _ hq)
  rw [outsAt0_B m c t h0]
  unfold Left
  dsimp only
  refine ⟨fun j l => ?_, fun r l => ?_, fun p l => ?_⟩
  · have e := hist_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) hp).2.1 (outsAt0 m c (t.val - 1) hp).2.2 j l
    have e2 := last_rows m c t j l
    refine Eq.trans ?_ e2
    exact e
  · exact (carry_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) hp).2.1 (outsAt0 m c (t.val - 1) hp).2.2 hxs r l).trans (scan_point m c t _ hhd _ l (hh l) 256 le_rfl)
  · refine (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) hp).2.1 (outsAt0 m c (t.val - 1) hp).2.2 hxs p l).trans ?_
    rw [scan_point m c t _ hhd _ l (hh l) (p.val + 1) (by omega), gate_row]
    rfl

/-- What every point leaves. -/
theorem left_all (n : ℕ) : ∀ hn : n < cfg0.N, Left m c n (lt64 ⟨n, hn⟩) (outsAt0 m c n hn) := by
  induction n using Nat.strong_induction_on with
  | _ n ih =>
    intro hn
    by_cases h0 : n % 8 = 0
    · exact left_A m c ⟨n, hn⟩ h0
    · exact left_B m c ⟨n, hn⟩ h0 (lt_of_le_of_lt (Nat.sub_le n 1) hn) (ih (n - 1) (by omega) _)

end Cert.KernelIdeal.Lru

end

end
-- ==== Proof.KI.Result.lean ====
module

public import proofs.«01_k».proof.Proof.KI.Points
public import Idealize.ShloMosaic.Lib.Pipeline.Value

@[expose] public section

noncomputable section

namespace Cert.KernelIdeal.Lru

open Idealize.ShloMosaic Idealize.ShloMosaic.TcCoe Idealize.SL.Sem
open Cert.KernelIdeal Cert.KernelIdeal.Gen Cert.Lru

variable (m : (ℓ : Loc nD τ sig) → Buf (Elt Ideal) ℓ) (ρ : Dev nD → PrngReg)

/-- The layer's result: the recurrent state after each row, times the activated gate branch. -/
def result (c : Dev nD) : FVec Ideal S8x2048x1280 .bf16 := fun i =>
  state (prm m c) (xseq m c (i 0)) (i 2) ((i 1).val + 1) * gelu (gseq m c (i 0) (i 1) (i 2))

/-- The blocks of the result: point `t` writes sequence block `t % 8` of batch row `t / 8`. -/
theorem out_index : ∀ t : Fin cfg0.N, win0_8.index t (0 : Fin 3) = t.val / 8 ∧ win0_8.index t (1 : Fin 3) = t.val % 8 ∧ win0_8.index t (2 : Fin 3) = 0 :=
  (by decide +kernel : ∀ t : Fin grid0.N, _)

/-- Every point writes its block back. -/
theorem out_flush : ∀ t : Fin cfg0.N, (cfg0.win 8).flush t = true :=
  (by decide +kernel : ∀ t : Fin grid0.N, win0_8.flush t = true)

/-- What a point writes back is its block of the result. -/
theorem out_flushed (c : Dev nD) (t : Fin cfg0.N) (hf : (cfg0.win 8).flush t = true) :
    (dats m 0 c).flushed 8 t = ((cfg0.win 8).blk t).view.read (Elt Ideal) (result m c) := by
  show (cfg0.win 8).cut (grid0.coords t) ((dats m 0 c).after 8 t) = _
  rw [after0_8]
  obtain ⟨e0, e1, e2⟩ := out_index t
  obtain ⟨-, -, hl⟩ := left_all m c t.val t.isLt
  have h64 := lt64 t
  funext y
  have hy0 : (y 0).val < 1 := (y 0).isLt
  have hy1 : (y 1).val < 256 := (y 1).isLt
  have hy2 : (y 2).val < 1280 := (y 2).isLt
  have hb0 : (((cfg0.win 8).blk t).view.emb y 0).val = win0_8.index t (0 : Fin 3) * 1 + 1 * (y 0).val := rfl
  have hb1 : (((cfg0.win 8).blk t).view.emb y 1).val = win0_8.index t (1 : Fin 3) * 256 + 1 * (y 1).val := rfl
  have hb2 : (((cfg0.win 8).blk t).view.emb y 2).val = win0_8.index t (2 : Fin 3) * 1280 + 1 * (y 2).val := rfl
  have hx : (cfg0.win 8).xinj (grid0.coords t) y = (ix3 0 ⟨(y 1).val, hy1⟩ ⟨(y 2).val, hy2⟩ : S1x256x1280.Idx) := by
    funext a; apply Fin.ext
    match a with
    | ⟨0, _⟩ => show (y 0).val = 0; omega
    | ⟨1, _⟩ => rfl
    | ⟨2, _⟩ => rfl
  have hz : ((cfg0.win 8).blk t).view.emb y = (ix3 (batchOf t.val h64) ⟨256 * (t.val % 8) + (y 1).val, by omega⟩ ⟨(y 2).val, hy2⟩ : S8x2048x1280.Idx) := by
    funext a; apply Fin.ext
    match a with
    | ⟨0, _⟩ => show (((cfg0.win 8).blk t).view.emb y 0).val = t.val / 8; rw [hb0]; omega
    | ⟨1, _⟩ => show (((cfg0.win 8).blk t).view.emb y 1).val = 256 * (t.val % 8) + (y 1).val; rw [hb1]; omega
    | ⟨2, _⟩ => show (((cfg0.win 8).blk t).view.emb y 2).val = (y 2).val; rw [hb2]; omega
  show (outsAt0 m c t.val t.isLt).1 ((cfg0.win 8).xinj (grid0.coords t) y) = result m c (((cfg0.win 8).blk t).view.emb y)
  rw [hx, hz]
  exact hl ⟨(y 1).val, hy1⟩ ⟨(y 2).val, hy2⟩

/-- An index is in a point's block when each coordinate is in the block's range. -/
theorem mem_out (t : Fin cfg0.N) (i : S8x2048x1280.Idx) :
    i ∈ ((cfg0.win 8).blk t).view.set ↔ ∀ a : Fin 3, win0_8.index t a * S1x256x1280.size a ≤ (i a).val ∧ (i a).val < win0_8.index t a * S1x256x1280.size a + S1x256x1280.size a := by
  show i ∈ ((View.whole main_v34).slice (win0_8.rect t)).set ↔ _
  rw [View.set_slice_whole, Rect.mem_set_unit]
  exact Iff.rfl

/-- Every index of the result is in some point's block. -/
theorem out_cover (i : S8x2048x1280.Idx) : ∃ t : Fin cfg0.N, (cfg0.win 8).flush t = true ∧ i ∈ ((cfg0.win 8).blk t).view.set := by
  have hi0 : (i 0).val < 8 := (i 0).isLt
  have hi1 : (i 1).val < 2048 := (i 1).isLt
  have hi2 : (i 2).val < 1280 := (i 2).isLt
  have hN : 8 * (i 0).val + (i 1).val / 256 < cfg0.N := lt_of_lt_of_eq (by omega) (show 64 = cfg0.N from N_0.symm)
  obtain ⟨e0, e1, e2⟩ := out_index ⟨8 * (i 0).val + (i 1).val / 256, hN⟩
  refine ⟨⟨8 * (i 0).val + (i 1).val / 256, hN⟩, out_flush _, ?_⟩
  rw [mem_out]
  dsimp only at e0 e1
  intro a
  match a with
  | ⟨0, _⟩ => show win0_8.index _ (0 : Fin 3) * 1 ≤ (i 0).val ∧ (i 0).val < win0_8.index _ (0 : Fin 3) * 1 + 1; omega
  | ⟨1, _⟩ => show win0_8.index _ (1 : Fin 3) * 256 ≤ (i 1).val ∧ (i 1).val < win0_8.index _ (1 : Fin 3) * 256 + 256; omega
  | ⟨2, _⟩ => show win0_8.index _ (2 : Fin 3) * 1280 ≤ (i 2).val ∧ (i 2).val < win0_8.index _ (2 : Fin 3) * 1280 + 1280; omega

/-- The array the kernel returns is the layer's result. -/
theorem out_array (c : Dev nD) : (dats m 0 c).arrAt 8 cfg0.N = result m c :=
  (dats m 0 c).arrAt_eq_of_cover 8 _ (out_flushed m c) out_cover

/-- The kernel ends with the layer's result, its arguments unchanged. -/
theorem run_result : θ_run defs (onTc (τ := τ) (main (F := Ideal))) ⟨m, fun _ => 0, ρ⟩ fun r => ∀ c : Dev nD,
      r.2.mem ((c : Thread nD τ).loc main_v34) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 8).trans (out_array m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.KernelIdeal.Lru

end

end
-- ==== Proof.R.Rows.lean ====
module

public import proofs.«01_k».proof.Proof.Gen.ReferenceIdeal.Step
public import proofs.«01_k».proof.Proof.Spec
public import Idealize.ShloMosaic.Lib.WordCmp
public import Idealize.ShloMosaic.Lib.Pointwise

@[expose] public section

noncomputable section

namespace Cert.ReferenceIdeal.Rows

open Idealize.ShloMosaic Idealize.ShloMosaic.WordCmp
open Cert.ReferenceIdeal Cert.ReferenceIdeal.Gen Cert.ReferenceIdeal.Step Cert.Lru

/-- Trip `j` reads row `j` of an array of rows. -/
theorem row_read (x : FVec Ideal S2048x8x1280 .f32) (j : ℕ) (hj : j < 2048) (o1 o2 : (⟨S_, .i32⟩ : BufTy).Contents (Elt Ideal)) (h1 : o1 = constantI S_ 32 0#32) (h2 : o2 = constantI S_ 32 0#32)
    (b : Fin 8) (l : Fin 1280) :
    shapeCast S8x1280 (Host.dynamicSlice S1x8x1280 x (fun k => (((![(constantI S_ 32 (BitVec.ofNat 32 j) : (⟨S_, .i32⟩ : BufTy).Contents (Elt Ideal)), o1, o2] : Fin 3 → (⟨S_, .i32⟩ : BufTy).Contents (Elt Ideal))) k (Shape.Idx.first h_S_)).toInt) sliceFits_S2048x8x1280_S1x8x1280) shapeCasts_S1x8x1280_S8x1280 (ix2 b l)
      = x (ix3 ⟨j, hj⟩ b l) := by
  subst h1 h2
  rw [dynamicSlice_eq_extract S1x8x1280 x _ sliceFits_S2048x8x1280_S1x8x1280 ![j, 0, 0] ⟨rfl, fun a => by fin_cases a <;> simp <;> omega⟩ (fun a => by
    fin_cases a
    · exact toInt_ofNat_of_lt (by show j < 2 ^ 31; omega)
    · rfl
    · rfl)]
  pointwise []

/-- Trip `j` replaces row `j` of an array of rows. -/
theorem row_write (x : FVec Ideal S2048x8x1280 .f32) (y : FVec Ideal S8x1280 .f32) (j : ℕ) (hj : j < 2048) (o1 o2 : (⟨S_, .i32⟩ : BufTy).Contents (Elt Ideal)) (h1 : o1 = constantI S_ 32 0#32) (h2 : o2 = constantI S_ 32 0#32)
    (i : Fin 2048) (b : Fin 8) (l : Fin 1280) :
    Host.dynamicUpdateSlice x (broadcastInDim S1x8x1280 ![1, 2] bcast_S8x1280_S1x8x1280_1_2 y) (fun k => (((![(constantI S_ 32 (BitVec.ofNat 32 j) : (⟨S_, .i32⟩ : BufTy).Contents (Elt Ideal)), o1, o2] : Fin 3 → (⟨S_, .i32⟩ : BufTy).Contents (Elt Ideal))) k (Shape.Idx.first h_S_)).toInt) updateFits_S2048x8x1280_S1x8x1280 (ix3 i b l)
      = if i.val = j then y (ix2 b l) else x (ix3 i b l) := by
  subst h1 h2
  rw [dynamicUpdateSlice_eq_update x _ _ updateFits_S2048x8x1280_S1x8x1280 ![j, 0, 0] ⟨rfl, fun a => by fin_cases a <;> simp <;> omega⟩ (fun a => by
    fin_cases a
    · exact toInt_ofNat_of_lt (by show j < 2 ^ 31; omega)
    · rfl
    · rfl)]
  unfold updateSlice
  by_cases h : i.val = j
  · subst h
    rw [if_pos rfl, dif_pos (fun a => by
      match a with
      | ⟨0, _⟩ => exact ⟨le_rfl, by show i.val < i.val + 1; omega⟩
      | ⟨1, _⟩ => exact ⟨Nat.zero_le _, by show b.val < 0 + 8; omega⟩
      | ⟨2, _⟩ => exact ⟨Nat.zero_le _, by show l.val < 0 + 1280; omega⟩)]
    apply broadcastInDim_apply (t := S1x8x1280) ![1, 2] bcast_S8x1280_S1x8x1280_1_2 y
    intro a
    match a with
    | ⟨0, _⟩ => rfl
    | ⟨1, _⟩ => rfl
  · rw [if_neg h, dif_neg]
    intro hh
    have := hh 0
    exact h (by
      have h1 : j ≤ i.val := this.1
      have h2 : i.val < j + 1 := this.2
      omega)

/-- The states of the loop: `n` trips from a state. -/
def iter (s0 : State Ideal) : ℕ → State Ideal
  | 0 => s0
  | n + 1 => step n (iter s0 n)

variable (s0 : State Ideal)

/-- No trip changes the decay factors. -/
theorem iter_a (n : ℕ) : (iter s0 n).main_v96_0 = s0.main_v96_0 := by
  induction n with
  | zero => rfl
  | succ n ih => exact ih

/-- No trip changes the scaled inputs. -/
theorem iter_u (n : ℕ) : (iter s0 n).main_v96_1 = s0.main_v96_1 := by
  induction n with
  | zero => rfl
  | succ n ih => exact ih

/-- No trip changes the activated gates. -/
theorem iter_g (n : ℕ) : (iter s0 n).main_v96_2 = s0.main_v96_2 := by
  induction n with
  | zero => rfl
  | succ n ih => exact ih

/-- An array of rows at a row number and lane, zero past the end. -/
def at' (x : FVec Ideal S2048x8x1280 .f32) (b : Fin 8) (l : Fin 1280) (n : ℕ) : EReal := if h : n < 2048 then x (ix3 ⟨n, h⟩ b l) else 0

/-- The carried state after `n` trips is the recurrence. -/
theorem iter_h (h0 : ∀ b l, s0.main_v96_4 (ix2 b l) = 0) (n : ℕ) (hn : n ≤ 2048) (b : Fin 8) (l : Fin 1280) :
    (iter s0 n).main_v96_4 (ix2 b l) = Lru.scan (at' s0.main_v96_0 b l) (at' s0.main_v96_1 b l) 0 n := by
  induction n with
  | zero => exact h0 b l
  | succ n ih =>
    have hn' : n < 2048 := hn
    show b13 n (iter s0 n) (ix2 b l) = _
    rw [Lru.scan, ← ih (by omega), at', at', dif_pos hn', dif_pos hn']
    show b3 n (iter s0 n) (ix2 b l) * (iter s0 n).main_v96_4 (ix2 b l) + b7 n (iter s0 n) (ix2 b l) = _
    have e1 : b3 n (iter s0 n) (ix2 b l) = s0.main_v96_0 (ix3 ⟨n, hn'⟩ b l) := by
      rw [← iter_a s0 n]
      exact row_read _ n hn' _ _ rfl rfl b l
    have e2 : b7 n (iter s0 n) (ix2 b l) = s0.main_v96_1 (ix3 ⟨n, hn'⟩ b l) := by
      rw [← iter_u s0 n]
      exact row_read _ n hn' _ _ rfl rfl b l
    rw [e1, e2]

/-- The collected rows after `n` trips. -/
theorem iter_y (h0 : ∀ b l, s0.main_v96_4 (ix2 b l) = 0) (n : ℕ) (hn : n ≤ 2048) (i : Fin 2048) (hi : i.val < n) (b : Fin 8) (l : Fin 1280) :
    (iter s0 n).main_v96_5 (ix3 i b l) = Lru.scan (at' s0.main_v96_0 b l) (at' s0.main_v96_1 b l) 0 (i.val + 1) * s0.main_v96_2 (ix3 i b l) := by
  induction n with
  | zero => exact absurd hi (Nat.not_lt_zero _)
  | succ n ih =>
    have hn' : n < 2048 := hn
    show b18 n (iter s0 n) (ix3 i b l) = _
    refine (row_write (iter s0 n).main_v96_5 (b14 n (iter s0 n)) n hn' _ _ rfl rfl i b l).trans ?_
    by_cases h : i.val = n
    · rw [if_pos h]
      have e := iter_h s0 h0 (n + 1) hn b l
      have e1 : b11 n (iter s0 n) (ix2 b l) = s0.main_v96_2 (ix3 i b l) := by
        rw [← iter_g s0 n]
        refine (row_read _ n hn' _ _ rfl rfl b l).trans ?_
        exact congrArg (fun q => (iter s0 n).main_v96_2 (ix3 q b l)) (Fin.ext h.symm)
      show b13 n (iter s0 n) (ix2 b l) * b11 n (iter s0 n) (ix2 b l) = _
      rw [e1, h]
      exact congrArg (· * _) e
    · rw [if_neg h]
      exact ih (by omega) (by omega)

end Cert.ReferenceIdeal.Rows

end

end
-- ==== Proof.R.Values.lean ====
module

public import proofs.«01_k».proof.Proof.Gen.ReferenceIdeal.Step
public import proofs.«01_k».proof.Proof.Spec
public import Idealize.ShloMosaic.Lib.Pointwise
public import Idealize.ShloMosaic.Lib.IdealHost

@[expose] public section

noncomputable section

namespace Cert.ReferenceIdeal.Values

open Idealize.ShloMosaic
open Cert.ReferenceIdeal Cert.ReferenceIdeal.Gen Cert.ReferenceIdeal.Step Cert.Lru

variable (a0 : FVec Ideal S8x2048x2560 .bf16) (a1 : FVec Ideal S4x1280 .f32) (a2 : FVec Ideal S1280 .f32) (a3 : FVec Ideal S4x16x80x80 .f32)
  (a4 : FVec Ideal S1280 .f32) (a5 : FVec Ideal S4x16x80x80 .f32) (a6 a7 : FVec Ideal S1280 .f32)

/-- The layer's weights, of the arguments. -/
def par : Params where
  cw j l := a1 (ix2 j l)
  cb l := a2 (ix1 l)
  wr a i j := a3 (ix4 0 a i j)
  br l := a4 (ix1 l)
  wi a i j := a5 (ix4 0 a i j)
  bi l := a6 (ix1 l)
  lam l := a7 (ix1 l)

/-- A batch row's recurrence branch. -/
def xrow (b : Fin 8) (s : Fin 2048) (l : Fin 1280) : EReal := a0 (ix3 b s ⟨1280 + l.val, by omega⟩)

/-- A batch row's gate branch. -/
def grow (b : Fin 8) (s : Fin 2048) (l : Fin 1280) : EReal := a0 (ix3 b s ⟨l.val, by omega⟩)

include a0 a1 a2 a3 a4 a5 a6 a7

/-- The gate branch's slice. -/
theorem v1_apply (b : Fin 8) (s : Fin 2048) (l : Fin 1280) : A_main_v1 (F := Ideal) a0 a1 a2 a3 a4 a5 a6 a7 (ix3 b s l) = grow a0 b s l := by
  unfold A_main_v1 A_main_v0 grow
  pointwise []

/-- The recurrence branch's slice. -/
theorem v2_apply (b : Fin 8) (s : Fin 2048) (l : Fin 1280) : A_main_v2 (F := Ideal) a0 a1 a2 a3 a4 a5 a6 a7 (ix3 b s l) = xrow a0 b s l := by
  unfold A_main_v2 A_main_v0 xrow
  pointwise []

/-- The recurrence branch with three rows of zeros before it. -/
theorem v3_apply (b : Fin 8) (n : Fin 2051) (l : Fin 1280) : A_main_v3 (F := Ideal) a0 a1 a2 a3 a4 a5 a6 a7 (ix3 b n l) = seq (xrow a0 b) n.val l := by
  unfold A_main_v3 K_main_call0_v0 K_main_c seq
  pointwise []
  by_cases h : 3 ≤ n.val
  · rw [dif_pos (by omega), dif_pos (by omega)]
    exact v2_apply a0 a1 a2 a3 a4 a5 a6 a7 b _ l
  · rw [dif_neg (by omega), dif_neg (by omega)]
    show ((((0#32 : BitVec 32).toInt : ℤ) : ℝ) : EReal) = 0
    simp

/-- The convolved rows. -/
theorem v33_apply (b : Fin 8) (s : Fin 2048) (l : Fin 1280) : A_main_v33 (F := Ideal) a0 a1 a2 a3 a4 a5 a6 a7 (ix3 b s l) = conv (par a1 a2 a3 a4 a5 a6 a7) (xrow a0 b) s.val l := by
  have e0 : A_main_v4 (F := Ideal) a0 a1 a2 a3 a4 a5 a6 a7 (ix3 b s l) = seq (xrow a0 b) s.val l := by
    refine Eq.trans ?_ (v3_apply a0 a1 a2 a3 a4 a5 a6 a7 b ⟨s.val, by omega⟩ l)
    unfold A_main_v4
    pointwise []
  have e1 : A_main_v10 (F := Ideal) a0 a1 a2 a3 a4 a5 a6 a7 (ix3 b s l) = seq (xrow a0 b) (s.val + 1) l := by
    refine Eq.trans ?_ (v3_apply a0 a1 a2 a3 a4 a5 a6 a7 b ⟨s.val + 1, by omega⟩ l)
    unfold A_main_v10
    pointwise []
    exact congrArg (fun q => A_main_v3 (F := Ideal) a0 a1 a2 a3 a4 a5 a6 a7 (ix3 b q l)) (Fin.ext (Nat.add_comm _ _))
  have e2 : A_main_v17 (F := Ideal) a0 a1 a2 a3 a4 a5 a6 a7 (ix3 b s l) = seq (xrow a0 b) (s.val + 2) l := by
    refine Eq.trans ?_ (v3_apply a0 a1 a2 a3 a4 a5 a6 a7 b ⟨s.val + 2, by omega⟩ l)
    unfold A_main_v17
    pointwise []
    exact congrArg (fun q => A_main_v3 (F := Ideal) a0 a1 a2 a3 a4 a5 a6 a7 (ix3 b q l)) (Fin.ext (Nat.add_comm _ _))
  have e3 : A_main_v24 (F := Ideal) a0 a1 a2 a3 a4 a5 a6 a7 (ix3 b s l) = seq (xrow a0 b) (s.val + 3) l := by
    refine Eq.trans ?_ (v3_apply a0 a1 a2 a3 a4 a5 a6 a7 b ⟨s.val + 3, by omega⟩ l)
    unfold A_main_v24
    pointwise []
    exact congrArg (fun q => A_main_v3 (F := Ideal) a0 a1 a2 a3 a4 a5 a6 a7 (ix3 b q l)) (Fin.ext (Nat.add_comm _ _))
  have w0 : A_main_v8 (F := Ideal) a0 a1 a2 a3 a4 a5 a6 a7 (ix3 b s l) = a1 (ix2 0 l) := by
    unfold A_main_v8 A_main_v7 A_main_v6 A_main_v5
    pointwise []
  have w1 : A_main_v14 (F := Ideal) a0 a1 a2 a3 a4 a5 a6 a7 (ix3 b s l) = a1 (ix2 1 l) := by
    unfold A_main_v14 A_main_v13 A_main_v12 A_main_v11
    pointwise []
  have w2 : A_main_v21 (F := Ideal) a0 a1 a2 a3 a4 a5 a6 a7 (ix3 b s l) = a1 (ix2 2 l) := by
    unfold A_main_v21 A_main_v20 A_main_v19 A_main_v18
    pointwise []
  have w3 : A_main_v28 (F := Ideal) a0 a1 a2 a3 a4 a5 a6 a7 (ix3 b s l) = a1 (ix2 3 l) := by
    unfold A_main_v28 A_main_v27 A_main_v26 A_main_v25
    pointwise []
  have w4 : A_main_v32 (F := Ideal) a0 a1 a2 a3 a4 a5 a6 a7 (ix3 b s l) = a2 (ix1 l) := by
    unfold A_main_v32 A_main_v31
    pointwise []
  show (A_main_v4 (F := Ideal) a0 a1 a2 a3 a4 a5 a6 a7 (ix3 b s l) * A_main_v8 (F := Ideal) a0 a1 a2 a3 a4 a5 a6 a7 (ix3 b s l) + A_main_v10 (F := Ideal) a0 a1 a2 a3 a4 a5 a6 a7 (ix3 b s l) * A_main_v14 (F := Ideal) a0 a1 a2 a3 a4 a5 a6 a7 (ix3 b s l)
    + A_main_v17 (F := Ideal) a0 a1 a2 a3 a4 a5 a6 a7 (ix3 b s l) * A_main_v21 (F := Ideal) a0 a1 a2 a3 a4 a5 a6 a7 (ix3 b s l) + A_main_v24 (F := Ideal) a0 a1 a2 a3 a4 a5 a6 a7 (ix3 b s l) * A_main_v28 (F := Ideal) a0 a1 a2 a3 a4 a5 a6 a7 (ix3 b s l))
    + A_main_v32 (F := Ideal) a0 a1 a2 a3 a4 a5 a6 a7 (ix3 b s l) = _
  rw [e0, e1, e2, e3, w0, w1, w2, w3, w4]
  rfl

/-- The contraction of the recurrence gate. -/
theorem v39_apply (b : Fin 8) (s : Fin 2048) (l : Fin 1280) : A_main_v39 (F := Ideal) a0 a1 a2 a3 a4 a5 a6 a7 (ix3 b s l) = blockDot (conv (par a1 a2 a3 a4 a5 a6 a7) (xrow a0 b) s.val) (par a1 a2 a3 a4 a5 a6 a7).wr l := by
  unfold A_main_v39 A_main_v38 A_main_v37 blockDot
  pointwise []
  refine Finset.sum_congr rfl fun k _ => ?_
  have ew : A_main_v36 (F := Ideal) a0 a1 a2 a3 a4 a5 a6 a7 (ix3 ⟨l.val / 80, by omega⟩ k ⟨l.val % 80, by omega⟩) = a3 (ix4 0 ⟨l.val / 80, by omega⟩ k ⟨l.val % 80, by omega⟩) := by
    unfold A_main_v36 A_main_v35
    pointwise []
  have ex : A_main_v34 (F := Ideal) a0 a1 a2 a3 a4 a5 a6 a7 (ix4 b s ⟨l.val / 80, by omega⟩ k) = conv (par a1 a2 a3 a4 a5 a6 a7) (xrow a0 b) s.val ⟨80 * (l.val / 80) + k.val, by omega⟩ := by
    rw [← v33_apply]
    unfold A_main_v34
    pointwise []
    exact congrArg (fun q => A_main_v33 (F := Ideal) a0 a1 a2 a3 a4 a5 a6 a7 (ix3 b s q)) (Fin.ext (by show l.val / 80 * 80 + k.val = 80 * (l.val / 80) + k.val; omega))
  rw [ew, ex, mul_comm]
  rfl

/-- The recurrence gate. -/
theorem v48_apply (b : Fin 8) (s : Fin 2048) (l : Fin 1280) :
    A_main_v48 (F := Ideal) a0 a1 a2 a3 a4 a5 a6 a7 (ix3 b s l) = gateVal (conv (par a1 a2 a3 a4 a5 a6 a7) (xrow a0 b) s.val) (par a1 a2 a3 a4 a5 a6 a7).wr (par a1 a2 a3 a4 a5 a6 a7).br l := by
  have e1 : K_main_v45 (F := Ideal) (ix3 b s l) = 1 := by
    unfold K_main_v45 K_main_cst
    pointwise []
  have e2 : K_main_v47 (F := Ideal) (ix3 b s l) = 1 := by
    unfold K_main_v47 K_main_cst_0
    pointwise []
  have e3 : A_main_v41 (F := Ideal) a0 a1 a2 a3 a4 a5 a6 a7 (ix3 b s l) = a4 (ix1 l) := by
    unfold A_main_v41 A_main_v40
    pointwise []
  show Ideal.div (K_main_v47 (F := Ideal) (ix3 b s l)) (K_main_v45 (F := Ideal) (ix3 b s l) + Ideal.exp (-(A_main_v39 (F := Ideal) a0 a1 a2 a3 a4 a5 a6 a7 (ix3 b s l) + A_main_v41 (F := Ideal) a0 a1 a2 a3 a4 a5 a6 a7 (ix3 b s l)))) = _
  rw [e1, e2, e3, v39_apply]
  rfl

/-- The contraction of the input gate. -/
theorem v53_apply (b : Fin 8) (s : Fin 2048) (l : Fin 1280) : A_main_v53 (F := Ideal) a0 a1 a2 a3 a4 a5 a6 a7 (ix3 b s l) = blockDot (conv (par a1 a2 a3 a4 a5 a6 a7) (xrow a0 b) s.val) (par a1 a2 a3 a4 a5 a6 a7).wi l := by
  unfold A_main_v53 A_main_v52 A_main_v51 blockDot
  pointwise []
  refine Finset.sum_congr rfl fun k _ => ?_
  have ew : A_main_v50 (F := Ideal) a0 a1 a2 a3 a4 a5 a6 a7 (ix3 ⟨l.val / 80, by omega⟩ k ⟨l.val % 80, by omega⟩) = a5 (ix4 0 ⟨l.val / 80, by omega⟩ k ⟨l.val % 80, by omega⟩) := by
    unfold A_main_v50 A_main_v49
    pointwise []
  have ex : A_main_v34 (F := Ideal) a0 a1 a2 a3 a4 a5 a6 a7 (ix4 b s ⟨l.val / 80, by omega⟩ k) = conv (par a1 a2 a3 a4 a5 a6 a7) (xrow a0 b) s.val ⟨80 * (l.val / 80) + k.val, by omega⟩ := by
    rw [← v33_apply]
    unfold A_main_v34
    pointwise []
    exact congrArg (fun q => A_main_v33 (F := Ideal) a0 a1 a2 a3 a4 a5 a6 a7 (ix3 b s q)) (Fin.ext (by show l.val / 80 * 80 + k.val = 80 * (l.val / 80) + k.val; omega))
  rw [ew, ex, mul_comm]
  rfl

/-- The input gate. -/
theorem v62_apply (b : Fin 8) (s : Fin 2048) (l : Fin 1280) :
    A_main_v62 (F := Ideal) a0 a1 a2 a3 a4 a5 a6 a7 (ix3 b s l) = gateVal (conv (par a1 a2 a3 a4 a5 a6 a7) (xrow a0 b) s.val) (par a1 a2 a3 a4 a5 a6 a7).wi (par a1 a2 a3 a4 a5 a6 a7).bi l := by
  have e1 : K_main_v59 (F := Ideal) (ix3 b s l) = 1 := by
    unfold K_main_v59 K_main_cst_1
    pointwise []
  have e2 : K_main_v61 (F := Ideal) (ix3 b s l) = 1 := by
    unfold K_main_v61 K_main_cst_2
    pointwise []
  have e3 : A_main_v55 (F := Ideal) a0 a1 a2 a3 a4 a5 a6 a7 (ix3 b s l) = a6 (ix1 l) := by
    unfold A_main_v55 A_main_v54
    pointwise []
  show Ideal.div (K_main_v61 (F := Ideal) (ix3 b s l)) (K_main_v59 (F := Ideal) (ix3 b s l) + Ideal.exp (-(A_main_v53 (F := Ideal) a0 a1 a2 a3 a4 a5 a6 a7 (ix3 b s l) + A_main_v55 (F := Ideal) a0 a1 a2 a3 a4 a5 a6 a7 (ix3 b s l)))) = _
  rw [e1, e2, e3, v53_apply]
  rfl

/-- The softplus of the negated decay parameter. -/
theorem v66_apply (l : Fin 1280) : A_main_v66 (F := Ideal) a0 a1 a2 a3 a4 a5 a6 a7 (ix1 l) = softplus (-(a7 (ix1 l))) := by
  have z0 : K_main_call1_v0 (F := Ideal) (ix1 l) = 0 := by
    unfold K_main_call1_v0 K_main_call1_cst
    pointwise []
  have z2 : K_main_call1_v2 (F := Ideal) (ix1 l) = 0 := by
    unfold K_main_call1_v2 K_main_call1_cst
    pointwise []
  unfold A_main_v66 A_main_call1_v4
  pointwise []
  simp only [ne_eq, not_true_eq_false, decide_false, BitVec.ofBool_false]
  show max (-(a7 (ix1 l))) (K_main_call1_v0 (F := Ideal) (ix1 l)) + Ideal.log1p (Ideal.exp (-(max (-(a7 (ix1 l)) - K_main_call1_v2 (F := Ideal) (ix1 l)) (-(-(a7 (ix1 l)) - K_main_call1_v2 (F := Ideal) (ix1 l)))))) = _
  rw [z0, z2, sub_zero]
  rfl

/-- The logarithm of the decay factor. -/
theorem v69_apply (b : Fin 8) (s : Fin 2048) (l : Fin 1280) : A_main_v69 (F := Ideal) a0 a1 a2 a3 a4 a5 a6 a7 (ix3 b s l) = logFac (par a1 a2 a3 a4 a5 a6 a7) (xrow a0 b) s.val l := by
  have e1 : K_main_v63 (F := Ideal) (ix3 b s l) = ((-8 : ℝ) : EReal) := by
    unfold K_main_v63 K_main_cst_3
    pointwise []
    exact bits_neg_eight
  have e2 : A_main_v68 (F := Ideal) a0 a1 a2 a3 a4 a5 a6 a7 (ix3 b s l) = softplus (-(a7 (ix1 l))) := by
    rw [← v66_apply a0 a1 a2 a3 a4 a5 a6 a7 l]
    unfold A_main_v68 A_main_v67
    pointwise []
  show K_main_v63 (F := Ideal) (ix3 b s l) * A_main_v48 (F := Ideal) a0 a1 a2 a3 a4 a5 a6 a7 (ix3 b s l) * A_main_v68 (F := Ideal) a0 a1 a2 a3 a4 a5 a6 a7 (ix3 b s l) = _
  rw [e1, e2, v48_apply]
  rfl

/-- The decay factor. -/
theorem v70_apply (b : Fin 8) (s : Fin 2048) (l : Fin 1280) : A_main_v70 (F := Ideal) a0 a1 a2 a3 a4 a5 a6 a7 (ix3 b s l) = fac (par a1 a2 a3 a4 a5 a6 a7) (xrow a0 b) s.val l := by
  show Ideal.exp (A_main_v69 (F := Ideal) a0 a1 a2 a3 a4 a5 a6 a7 (ix3 b s l)) = _
  rw [v69_apply]
  rfl

/-- The scaled input. -/
theorem v77_apply (b : Fin 8) (s : Fin 2048) (l : Fin 1280) : A_main_v77 (F := Ideal) a0 a1 a2 a3 a4 a5 a6 a7 (ix3 b s l) = inp (par a1 a2 a3 a4 a5 a6 a7) (xrow a0 b) s.val l := by
  have e1 : K_main_v71 (F := Ideal) (ix3 b s l) = ((2 : ℝ) : EReal) := by
    unfold K_main_v71 K_main_cst_4
    pointwise []
    exact bits_two
  show Ideal.sqrt (-(Ideal.exp (K_main_v71 (F := Ideal) (ix3 b s l) * A_main_v69 (F := Ideal) a0 a1 a2 a3 a4 a5 a6 a7 (ix3 b s l)) - 1)) * (A_main_v62 (F := Ideal) a0 a1 a2 a3 a4 a5 a6 a7 (ix3 b s l) * A_main_v33 (F := Ideal) a0 a1 a2 a3 a4 a5 a6 a7 (ix3 b s l)) = _
  rw [e1, v69_apply, v62_apply, v33_apply]
  rfl

/-- The activated gate branch. -/
theorem v90_apply (b : Fin 8) (s : Fin 2048) (l : Fin 1280) : A_main_v90 (F := Ideal) a0 a1 a2 a3 a4 a5 a6 a7 (ix3 b s l) = gelu (grow a0 b s l) := by
  have k1 : K_main_v80 (F := Ideal) (ix3 b s l) = Ideal.ofBits .f32 0x3D372713#32 := by
    unfold K_main_v80 K_main_cst_5
    pointwise []
  have k2 : K_main_v83 (F := Ideal) (ix3 b s l) = Ideal.ofBits .f32 0x3F4C422A#32 := by
    unfold K_main_v83 K_main_cst_6
    pointwise []
  have k3 : K_main_v86 (F := Ideal) (ix3 b s l) = 1 := by
    unfold K_main_v86 K_main_cst_7
    pointwise []
  have k4 : K_main_v88 (F := Ideal) (ix3 b s l) = ((1 / 2 : ℝ) : EReal) := by
    unfold K_main_v88 K_main_cst_8
    pointwise []
    exact bits_half
  show A_main_v1 (F := Ideal) a0 a1 a2 a3 a4 a5 a6 a7 (ix3 b s l) * (K_main_v88 (F := Ideal) (ix3 b s l) * (K_main_v86 (F := Ideal) (ix3 b s l)
    + Ideal.tanh (K_main_v83 (F := Ideal) (ix3 b s l) * (A_main_v1 (F := Ideal) a0 a1 a2 a3 a4 a5 a6 a7 (ix3 b s l) + K_main_v80 (F := Ideal) (ix3 b s l) * (A_main_v1 (F := Ideal) a0 a1 a2 a3 a4 a5 a6 a7 (ix3 b s l) * A_main_v1 (F := Ideal) a0 a1 a2 a3 a4 a5 a6 a7 (ix3 b s l) * A_main_v1 (F := Ideal) a0 a1 a2 a3 a4 a5 a6 a7 (ix3 b s l)))))) = _
  rw [k1, k2, k3, k4, v1_apply, gelu, mul_assoc (grow a0 b s l) (grow a0 b s l) (grow a0 b s l)]

end Cert.ReferenceIdeal.Values

end

end
-- ==== Proof.R.Trips.lean ====
module

public import proofs.«01_k».proof.Proof.Gen.ReferenceIdeal.Run
public import proofs.«01_k».proof.Proof.Gen.ReferenceIdeal.Step

@[expose] public section

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_4 : V0 (Proc.devRef .tc main_v96_4) = s.main_v96_4
  f_5 : V0 (Proc.devRef .tc main_v96_5) = s.main_v96_5
  f_0 : V0 (Proc.devRef .tc main_v96_0) = s.main_v96_0
  f_1 : V0 (Proc.devRef .tc main_v96_1) = s.main_v96_1
  f_2 : V0 (Proc.devRef .tc main_v96_2) = s.main_v96_2
  n_3 : V0 (Proc.devRef .tc main_v96_3) = constantI S_ 32 (BitVec.ofNat 32 j)

variable {V0 s j}

set_option maxRecDepth 8192 in
theorem al_0 (h : Holds V0 s j) : (constantI S_ 32 0#32 : (Proc.devRef .tc main_while0b_call2_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call2_c_0 : DevRef τ sig).ty.Contents (Elt F)) = Cert.ReferenceIdeal.Step.b1 j s := by
  unfold Cert.ReferenceIdeal.Step.b1
  rfl
set_option maxRecDepth 8192 in
theorem al_2 (h : Holds V0 s j) : (Host.dynamicSlice S1x8x1280 (V0 (Proc.devRef .tc main_v96_0)) (fun k => (((![V0 (Proc.devRef .tc main_v96_3), constantI S_ 32 0#32, constantI S_ 32 0#32] : Fin 3 → (⟨S_, .i32⟩ : BufTy).Contents (Elt F))) k (Shape.Idx.first h_S_)).toInt) sliceFits_S2048x8x1280_S1x8x1280 : (Proc.devRef .tc main_while0b_call2_v0 : DevRef τ sig).ty.Contents (Elt F)) = Cert.ReferenceIdeal.Step.b2 j s := by
  unfold Cert.ReferenceIdeal.Step.b2
  rw [← al_0 h, ← al_1 h, h.f_0, h.n_3]
  try rfl
set_option maxRecDepth 8192 in
theorem al_3 (h : Holds V0 s j) : (shapeCast S8x1280 (Host.dynamicSlice S1x8x1280 (V0 (Proc.devRef .tc main_v96_0)) (fun k => (((![V0 (Proc.devRef .tc main_v96_3), constantI S_ 32 0#32, constantI S_ 32 0#32] : Fin 3 → (⟨S_, .i32⟩ : BufTy).Contents (Elt F))) k (Shape.Idx.first h_S_)).toInt) sliceFits_S2048x8x1280_S1x8x1280) shapeCasts_S1x8x1280_S8x1280 : (Proc.devRef .tc main_while0b_v99 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (constantI S_ 32 0#32 : (Proc.devRef .tc main_while0b_call3_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call3_c_0 : DevRef τ sig).ty.Contents (Elt F)) = Cert.ReferenceIdeal.Step.b5 j s := by
  unfold Cert.ReferenceIdeal.Step.b5
  rfl
set_option maxRecDepth 8192 in
theorem al_6 (h : Holds V0 s j) : (Host.dynamicSlice S1x8x1280 (V0 (Proc.devRef .tc main_v96_1)) (fun k => (((![V0 (Proc.devRef .tc main_v96_3), constantI S_ 32 0#32, constantI S_ 32 0#32] : Fin 3 → (⟨S_, .i32⟩ : BufTy).Contents (Elt F))) k (Shape.Idx.first h_S_)).toInt) sliceFits_S2048x8x1280_S1x8x1280 : (Proc.devRef .tc main_while0b_call3_v0 : DevRef τ sig).ty.Contents (Elt F)) = Cert.ReferenceIdeal.Step.b6 j s := by
  unfold Cert.ReferenceIdeal.Step.b6
  rw [← al_4 h, ← al_5 h, h.f_1, h.n_3]
  try rfl
set_option maxRecDepth 8192 in
theorem al_7 (h : Holds V0 s j) : (shapeCast S8x1280 (Host.dynamicSlice S1x8x1280 (V0 (Proc.devRef .tc main_v96_1)) (fun k => (((![V0 (Proc.devRef .tc main_v96_3), constantI S_ 32 0#32, constantI S_ 32 0#32] : Fin 3 → (⟨S_, .i32⟩ : BufTy).Contents (Elt F))) k (Shape.Idx.first h_S_)).toInt) sliceFits_S2048x8x1280_S1x8x1280) shapeCasts_S1x8x1280_S8x1280 : (Proc.devRef .tc main_while0b_v100 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (constantI S_ 32 0#32 : (Proc.devRef .tc main_while0b_call4_c : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call4_c_0 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x8x1280 (V0 (Proc.devRef .tc main_v96_2)) (fun k => (((![V0 (Proc.devRef .tc main_v96_3), constantI S_ 32 0#32, constantI S_ 32 0#32] : Fin 3 → (⟨S_, .i32⟩ : BufTy).Contents (Elt F))) k (Shape.Idx.first h_S_)).toInt) sliceFits_S2048x8x1280_S1x8x1280 : (Proc.devRef .tc main_while0b_call4_v0 : DevRef τ sig).ty.Contents (Elt F)) = Cert.ReferenceIdeal.Step.b10 j s := by
  unfold Cert.ReferenceIdeal.Step.b10
  rw [← al_8 h, ← al_9 h, h.f_2, h.n_3]
  try rfl
set_option maxRecDepth 8192 in
theorem al_11 (h : Holds V0 s j) : (shapeCast S8x1280 (Host.dynamicSlice S1x8x1280 (V0 (Proc.devRef .tc main_v96_2)) (fun k => (((![V0 (Proc.devRef .tc main_v96_3), constantI S_ 32 0#32, constantI S_ 32 0#32] : Fin 3 → (⟨S_, .i32⟩ : BufTy).Contents (Elt F))) k (Shape.Idx.first h_S_)).toInt) sliceFits_S2048x8x1280_S1x8x1280) shapeCasts_S1x8x1280_S8x1280 : (Proc.devRef .tc main_while0b_v101 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (mulf (shapeCast S8x1280 (Host.dynamicSlice S1x8x1280 (V0 (Proc.devRef .tc main_v96_0)) (fun k => (((![V0 (Proc.devRef .tc main_v96_3), constantI S_ 32 0#32, constantI S_ 32 0#32] : Fin 3 → (⟨S_, .i32⟩ : BufTy).Contents (Elt F))) k (Shape.Idx.first h_S_)).toInt) sliceFits_S2048x8x1280_S1x8x1280) shapeCasts_S1x8x1280_S8x1280) (V0 (Proc.devRef .tc main_v96_4)) : (Proc.devRef .tc main_while0b_v102 : DevRef τ sig).ty.Contents (Elt F)) = Cert.ReferenceIdeal.Step.b12 j s := by
  unfold Cert.ReferenceIdeal.Step.b12
  rw [← al_3 h, h.f_4]
  try rfl
set_option maxRecDepth 8192 in
theorem al_13 (h : Holds V0 s j) : (res_main_while0b_v103 V0 : (Proc.devRef .tc main_while0b_v103 : DevRef τ sig).ty.Contents (Elt F)) = Cert.ReferenceIdeal.Step.b13 j s := by
  unfold res_main_while0b_v103 Cert.ReferenceIdeal.Step.b13
  rw [← al_12 h, ← al_7 h]
  try rfl
set_option maxRecDepth 8192 in
theorem al_14 (h : Holds V0 s j) : (mulf (res_main_while0b_v103 V0) (shapeCast S8x1280 (Host.dynamicSlice S1x8x1280 (V0 (Proc.devRef .tc main_v96_2)) (fun k => (((![V0 (Proc.devRef .tc main_v96_3), constantI S_ 32 0#32, constantI S_ 32 0#32] : Fin 3 → (⟨S_, .i32⟩ : BufTy).Contents (Elt F))) k (Shape.Idx.first h_S_)).toInt) sliceFits_S2048x8x1280_S1x8x1280) shapeCasts_S1x8x1280_S8x1280) : (Proc.devRef .tc main_while0b_v104 : DevRef τ sig).ty.Contents (Elt F)) = Cert.ReferenceIdeal.Step.b14 j s := by
  unfold Cert.ReferenceIdeal.Step.b14
  rw [← al_13 h, ← al_11 h]
  try rfl
set_option maxRecDepth 8192 in
theorem al_15 (h : Holds V0 s j) : (broadcastInDim S1x8x1280 ![1, 2] bcast_S8x1280_S1x8x1280_1_2 (mulf (res_main_while0b_v103 V0) (shapeCast S8x1280 (Host.dynamicSlice S1x8x1280 (V0 (Proc.devRef .tc main_v96_2)) (fun k => (((![V0 (Proc.devRef .tc main_v96_3), constantI S_ 32 0#32, constantI S_ 32 0#32] : Fin 3 → (⟨S_, .i32⟩ : BufTy).Contents (Elt F))) k (Shape.Idx.first h_S_)).toInt) sliceFits_S2048x8x1280_S1x8x1280) shapeCasts_S1x8x1280_S8x1280)) : (Proc.devRef .tc main_while0b_call5_v0 : DevRef τ sig).ty.Contents (Elt F)) = Cert.ReferenceIdeal.Step.b15 j s := by
  unfold Cert.ReferenceIdeal.Step.b15
  rw [← al_14 h]
  try rfl
set_option maxRecDepth 8192 in
theorem al_16 (h : Holds V0 s j) : (constantI S_ 32 0#32 : (Proc.devRef .tc main_while0b_call5_c : DevRef τ sig).ty.Contents (Elt F)) = Cert.ReferenceIdeal.Step.b16 j s := by
  unfold Cert.ReferenceIdeal.Step.b16
  rfl
set_option maxRecDepth 8192 in
theorem al_17 (h : Holds V0 s j) : (constantI S_ 32 0#32 : (Proc.devRef .tc main_while0b_call5_c_0 : DevRef τ sig).ty.Contents (Elt F)) = Cert.ReferenceIdeal.Step.b17 j s := by
  unfold Cert.ReferenceIdeal.Step.b17
  rfl
set_option maxRecDepth 8192 in
theorem al_18 (h : Holds V0 s j) : (Host.dynamicUpdateSlice (V0 (Proc.devRef .tc main_v96_5)) (broadcastInDim S1x8x1280 ![1, 2] bcast_S8x1280_S1x8x1280_1_2 (mulf (res_main_while0b_v103 V0) (shapeCast S8x1280 (Host.dynamicSlice S1x8x1280 (V0 (Proc.devRef .tc main_v96_2)) (fun k => (((![V0 (Proc.devRef .tc main_v96_3), constantI S_ 32 0#32, constantI S_ 32 0#32] : Fin 3 → (⟨S_, .i32⟩ : BufTy).Contents (Elt F))) k (Shape.Idx.first h_S_)).toInt) sliceFits_S2048x8x1280_S1x8x1280) shapeCasts_S1x8x1280_S8x1280))) (fun k => (((![V0 (Proc.devRef .tc main_v96_3), constantI S_ 32 0#32, constantI S_ 32 0#32] : Fin 3 → (⟨S_, .i32⟩ : BufTy).Contents (Elt F))) k (Shape.Idx.first h_S_)).toInt) updateFits_S2048x8x1280_S1x8x1280 : (Proc.devRef .tc main_while0b_v105 : DevRef τ sig).ty.Contents (Elt F)) = Cert.ReferenceIdeal.Step.b18 j s := by
  unfold Cert.ReferenceIdeal.Step.b18
  rw [← al_15 h, ← al_16 h, ← al_17 h, h.f_5, h.n_3]
  try rfl

/-! One trip's step of the carried values is `step`, field by field; a counter steps to the next number. -/

theorem step_4 (h : Holds V0 s j) : step_main_v96_4 V0 = (step j s).main_v96_4 := by
  unfold step_main_v96_4 Cert.ReferenceIdeal.Step.step
  show id (res_main_while0b_v103 V0) = _
  rw [al_13 h]
  try rfl
theorem step_5 (h : Holds V0 s j) : step_main_v96_5 V0 = (step j s).main_v96_5 := by
  unfold step_main_v96_5 Cert.ReferenceIdeal.Step.step
  show id (Host.dynamicUpdateSlice (V0 (Proc.devRef .tc main_v96_5)) (broadcastInDim S1x8x1280 ![1, 2] bcast_S8x1280_S1x8x1280_1_2 (mulf (res_main_while0b_v103 V0) (shapeCast S8x1280 (Host.dynamicSlice S1x8x1280 (V0 (Proc.devRef .tc main_v96_2)) (fun k => (((![V0 (Proc.devRef .tc main_v96_3), constantI S_ 32 0#32, constantI S_ 32 0#32] : Fin 3 → (⟨S_, .i32⟩ : BufTy).Contents (Elt F))) k (Shape.Idx.first h_S_)).toInt) sliceFits_S2048x8x1280_S1x8x1280) shapeCasts_S1x8x1280_S8x1280))) (fun k => (((![V0 (Proc.devRef .tc main_v96_3), constantI S_ 32 0#32, constantI S_ 32 0#32] : Fin 3 → (⟨S_, .i32⟩ : BufTy).Contents (Elt F))) k (Shape.Idx.first h_S_)).toInt) updateFits_S2048x8x1280_S1x8x1280) = _
  exact al_18 h
theorem step_3 (h : Holds V0 s j) : step_main_v96_3 V0 = constantI S_ 32 (BitVec.ofNat 32 (j + 1)) := by
  unfold step_main_v96_3
  rw [h.n_3]
  funext i
  show BitVec.ofNat 32 j + 1#32 = BitVec.ofNat 32 (j + 1)
  simp only [BitVec.ofNat_add]

set_option maxRecDepth 8192 in
theorem out_main_v98_holds (h : Holds V0 s j) : out_main_v98 V0 = Cert.ReferenceIdeal.Step.R_main_v98 s := by
  unfold out_main_v98 Cert.ReferenceIdeal.Step.R_main_v98
  rw [h.f_5]
  try rfl

/-- One trip keeps the valuation holding: `step` of the state, the same set-up values, the next number. -/
theorem holds_step (h : Holds V0 s j) : Holds (STEP V0) (step j s) (j + 1) where
  f_4 := (STEP_main_v96_4 V0).trans (step_4 h)
  f_5 := (STEP_main_v96_5 V0).trans (step_5 h)
  n_3 := (STEP_main_v96_3 V0).trans (step_3 h)
  f_0 := (STEP_main_v96_0 V0).trans h.f_0
  f_1 := (STEP_main_v96_1 V0).trans h.f_1
  f_2 := (STEP_main_v96_2 V0).trans h.f_2

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 2048 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v98) = Cert.ReferenceIdeal.Step.R_main_v98 (it c 2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 2048
    ⟨(h c).1.trans (out_main_v98_holds hk), (h c).2.1, (h c).2.2.1, (h c).2.2.2.1, (h c).2.2.2.2.1, (h c).2.2.2.2.2.1, (h c).2.2.2.2.2.2.1, (h c).2.2.2.2.2.2.2.1, (h c).2.2.2.2.2.2.2.2⟩) (Value.run m ρ)

end Cert.ReferenceIdeal.Trips

end
-- ==== Proof.R.Result.lean ====
module

public import proofs.«01_k».proof.Proof.R.Rows
public import proofs.«01_k».proof.Proof.R.Values
public import proofs.«01_k».proof.Proof.R.Trips

@[expose] public section

noncomputable section

namespace Cert.ReferenceIdeal.Lru

open Idealize.ShloMosaic Idealize.ShloMosaic.TcCoe Idealize.SL.Sem
open Cert.ReferenceIdeal Cert.ReferenceIdeal.Gen Cert.ReferenceIdeal.Step Cert.ReferenceIdeal.Trips Cert.ReferenceIdeal.Rows Cert.ReferenceIdeal.Values Cert.Lru

variable (m : (ℓ : Loc nD τ sig) → Buf (Elt Ideal) ℓ) (ρ : Dev nD → PrngReg)

/-- The layer's result, by rows of the recurrence. -/
def result (c : Dev nD) : FVec Ideal S8x2048x1280 .bf16 := fun i =>
  state (par (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (xrow (m ((c : Thread nD τ).loc main_arg0)) (i 0)) (i 2) ((i 1).val + 1) * gelu (grow (m ((c : Thread nD τ).loc main_arg0)) (i 0) (i 1) (i 2))

/-- The loop starts from a state of zeros. -/
theorem init_h (c : Dev nD) (b : Fin 8) (l : Fin 1280) : (initState m c).main_v96_4 (ix2 b l) = 0 := by
  show K_main_v91 (F := Ideal) (ix2 b l) = 0
  unfold K_main_v91 K_main_cst_9
  pointwise []

/-- The loop's decay factors. -/
theorem init_a (c : Dev nD) (b : Fin 8) (l : Fin 1280) (n : ℕ) (hn : n < 2048) :
    at' (initState m c).main_v96_0 b l n = fac (par (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (xrow (m ((c : Thread nD τ).loc main_arg0)) b) n l := by
  rw [at', dif_pos hn, ← v70_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b ⟨n, hn⟩ l]
  show A_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 ⟨n, hn⟩ b l) = _
  unfold A_main_v92
  pointwise []

/-- The loop's scaled inputs. -/
theorem init_u (c : Dev nD) (b : Fin 8) (l : Fin 1280) (n : ℕ) (hn : n < 2048) :
    at' (initState m c).main_v96_1 b l n = inp (par (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (xrow (m ((c : Thread nD τ).loc main_arg0)) b) n l := by
  rw [at', dif_pos hn, ← v77_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b ⟨n, hn⟩ l]
  show A_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 ⟨n, hn⟩ b l) = _
  unfold A_main_v93
  pointwise []

/-- The loop's activated gates. -/
theorem init_g (c : Dev nD) (b : Fin 8) (s : Fin 2048) (l : Fin 1280) :
    (initState m c).main_v96_2 (ix3 s b l) = gelu (grow (m ((c : Thread nD τ).loc main_arg0)) b s l) := by
  rw [← v90_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b s l]
  show A_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 s b l) = _
  unfold A_main_v94
  pointwise []

/-- The result the operations after the loop make, at an index. -/
theorem last_apply (c : Dev nD) (b : Fin 8) (s : Fin 2048) (l : Fin 1280) :
    R_main_v98 (F := Ideal) (iter (initState m c) 2048) (ix3 b s l) = state (par (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (xrow (m ((c : Thread nD τ).loc main_arg0)) b) l (s.val + 1) * gelu (grow (m ((c : Thread nD τ).loc main_arg0)) b s l) := by
  have e : R_main_v98 (F := Ideal) (iter (initState m c) 2048) (ix3 b s l) = (iter (initState m c) 2048).main_v96_5 (ix3 s b l) := by
    unfold R_main_v98
    pointwise []
  have hs := s.isLt
  rw [e, iter_y (initState m c) (init_h m c) 2048 le_rfl s s.isLt b l, init_g]
  refine congrArg (· * _) ?_
  exact scan_congr _ (fun k hk => init_a m c b l k (by omega)) (fun k hk => init_u m c b l k (by omega))

/-- The result the operations after the loop make. -/
theorem last_result (c : Dev nD) : R_main_v98 (F := Ideal) (iter (initState m c) 2048) = result m c := by
  funext i
  refine (congrArg (R_main_v98 (F := Ideal) (iter (initState m c) 2048)) (eq_ix3 (n0 := 8) (n1 := 2048) (n2 := 1280) i)).trans ?_
  exact last_apply m c (i 0) (i 1) (i 2)

/-- The reference ends with the layer's result, its arguments unchanged. -/
theorem run_result : θ_run (defs (F := Ideal)) (onTc (τ := τ) (main (F := Ideal))) ⟨m, fun _ => 0, ρ⟩ fun r => ∀ c : Dev nD,
      r.2.mem ((c : Thread nD τ).loc main_v98) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (last_result m c), (h c).2⟩)
    (run_iter m ρ (fun c => iter (initState m c)) (fun _ => rfl) (fun _ _ => rfl))

/-- The reference's arguments end unchanged and its counters at zero. -/
theorem frame : θ_run (defs (F := Ideal)) (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7))
      ∧ r.2.sem = fun _ => 0 :=
  (θ_run defs _ _).mono (fun r h => ⟨fun c => (h c).2, sem_eq_zero_of_no_sems (by decide) r.2⟩) (run_result m ρ)

end Cert.ReferenceIdeal.Lru

end

end
-- ==== Proof.P.Layout.lean ====
module

public import proofs.«01_k».proof.Proof.Gen.ZKernelIdeal.Frame
public import Idealize.ShloMosaic.Lib.Pointwise
public import Idealize.ShloMosaic.Lib.Claim

@[expose] public section

noncomputable section

namespace Cert.Proj

open Idealize.ShloMosaic Idealize.ShloMosaic.TcCoe Idealize.SL.Sem Idealize.ShloMosaic.StableHlo
open Cert.ZKernelIdeal Cert.ZKernelIdeal.Gen

/-- An entry of the combined projection: a token's row times a column of layer 0's weights. -/
def proj (h : FVec Ideal S8x2048x1024 .bf16) (w : FVec Ideal S4x1024x16416 .f32) (b : Fin 8) (s : Fin 2048) (j : Fin 16416) : EReal :=
  ∑ k : Fin 1024, h (ix3 b s k) * w (ix3 0 k j)

/-- Columns `o`, `o + 1`, … of the projection, one row for each token. -/
def columns (h : FVec Ideal S8x2048x1024 .bf16) (w : FVec Ideal S4x1024x16416 .f32) (o n : ℕ) (ho : o + n ≤ 16416) :
    (⟨2, ![16384, n]⟩ : Shape).Idx → EReal := fun i =>
  proj h w ⟨(i 0).val / 2048, Nat.div_lt_of_lt_mul (i 0).isLt⟩ ⟨(i 0).val % 2048, Nat.mod_lt _ (by omega)⟩ ⟨o + (i 1).val, lt_of_lt_of_le (Nat.add_lt_add_left (i 1).isLt o) ho⟩

/-- The tokens, one row for each, at an index. -/
theorem rows_apply (h : FVec Ideal S8x2048x1024 .bf16) (r : Fin 16384) (k : Fin 1024) :
    shapeCast (α := Ideal .bf16) S16384x1024 h shapeCasts_S8x2048x1024_S16384x1024 (ix2 r k) = h (ix3 ⟨r.val / 2048, by omega⟩ ⟨r.val % 2048, by omega⟩ k) := by
  pointwise []

/-- The pieces of the laid-out weights, in the order of the calls. -/
def pieces {F : FTy → Type} [FloatOps F] (w : FVec F S4x1024x16416 .f32) : List ((s : Shape) × (s.Idx → F .f32)) :=
    [⟨S4x1024x4096, extractStridedSlice S4x1024x4096 ![0, 0, 6656] w slices_S4x1024x16416_S4x1024x4096_0_0_6656⟩,
     ⟨S4x1024x2048, extractStridedSlice S4x1024x2048 ![0, 0, 4608] w slices_S4x1024x16416_S4x1024x2048_0_0_4608⟩,
     ⟨S4x1024x3072, extractStridedSlice S4x1024x3072 ![0, 0, 13344] w slices_S4x1024x16416_S4x1024x3072_0_0_13344⟩,
     ⟨S4x1024x3072, shapeCast S4x1024x3072 (transpose S4x1024x24x2x2x32 [0, 1, 2, 4, 3, 5]
        (shapeCast S4x1024x24x2x2x32 (extractStridedSlice S4x1024x3072 ![0, 0, 0] w slices_S4x1024x16416_S4x1024x3072_0_0_0) shapeCasts_S4x1024x3072_S4x1024x24x2x2x32)
        transposes_S4x1024x24x2x2x32_S4x1024x24x2x2x32_0_1_2_4_3_5) shapeCasts_S4x1024x24x2x2x32_S4x1024x3072⟩,
     ⟨S4x1024x1536, extractStridedSlice S4x1024x1536 ![0, 0, 3072] w slices_S4x1024x16416_S4x1024x1536_0_0_3072⟩,
     ⟨S4x1024x256, broadcastInDim S4x1024x256 ![] bcast_S_S4x1024x256 (constant S_ .f32 0x00000000#32)⟩,
     ⟨S4x1024x2560, extractStridedSlice S4x1024x2560 ![0, 0, 10784] w slices_S4x1024x16416_S4x1024x2560_0_0_10784⟩,
     ⟨S4x1024x32, extractStridedSlice S4x1024x32 ![0, 0, 10752] w slices_S4x1024x16416_S4x1024x32_0_0_10752⟩,
     ⟨S4x1024x96, broadcastInDim S4x1024x96 ![] bcast_S_S4x1024x96 (constant S_ .f32 0x00000000#32)⟩]

/-- The pieces fill the laid-out weights. -/
theorem pieces_fit {F : FTy → Type} [FloatOps F] {w : FVec F S4x1024x16416 .f32} : Shape.Concatenates ((pieces w).map (·.1)) S4x1024x16768 2 :=
  concatenates_S4x1024x4096_S4x1024x2048_S4x1024x3072_S4x1024x3072_S4x1024x1536_S4x1024x256_S4x1024x2560_S4x1024x32_S4x1024x96_S4x1024x16768_d2

/-- The weights' columns in the order of the calls. -/
def layout {F : FTy → Type} [FloatOps F] (w : FVec F S4x1024x16416 .f32) : FVec F S4x1024x16768 .bf16 :=
  truncf .bf16 (concatenate S4x1024x16768 2 (pieces w) pieces_fit) bitsLt_bf16_f32

/-- The rotated pairs' column: in each 128 columns of queries or keys, the first halves of the two heads come first. -/
def headCol (j : ℕ) : ℕ := j / 128 * 128 + j / 32 % 2 * 64 + j / 64 % 2 * 32 + j % 32

/-- The projection's column behind a column of the laid-out weights; `none` for a column of zeros. -/
def source (j : ℕ) : Option ℕ :=
  if j < 4096 then some (6656 + j) else if j < 6144 then some (4608 + (j - 4096)) else if j < 9216 then some (13344 + (j - 6144))
  else if j < 12288 then some (headCol (j - 9216)) else if j < 13824 then some (3072 + (j - 12288)) else if j < 14080 then none
  else if j < 16640 then some (10784 + (j - 14080)) else if j < 16672 then some (10752 + (j - 16640)) else none

/-- Off the last axis the index of a piece agrees with the whole's. -/
theorem off_last {n n' : ℕ} (l : Fin 4) (k : Fin 1024) (j : Fin n) (j' : Fin n') (b : Fin 3) (hb : b ≠ 2) :
    ((ix3 l k j' : (⟨3, ![4, 1024, n']⟩ : Shape).Idx) b).val = ((ix3 l k j : (⟨3, ![4, 1024, n]⟩ : Shape).Idx) b).val := by
  match b, hb with
  | ⟨0, _⟩, _ => rfl
  | ⟨1, _⟩, _ => rfl
  | ⟨2, _⟩, h => exact absurd rfl h

/-- The reordered columns of queries and keys, at a column. -/
theorem heads_apply (w : FVec Ideal S4x1024x16416 .f32) (l : Fin 4) (k : Fin 1024) (j : Fin 3072) (j' : Fin 16416) (hj : headCol j.val = j'.val) :
    shapeCast S4x1024x3072 (transpose S4x1024x24x2x2x32 [0, 1, 2, 4, 3, 5]
        (shapeCast S4x1024x24x2x2x32 (extractStridedSlice S4x1024x3072 ![0, 0, 0] w slices_S4x1024x16416_S4x1024x3072_0_0_0) shapeCasts_S4x1024x3072_S4x1024x24x2x2x32)
        transposes_S4x1024x24x2x2x32_S4x1024x24x2x2x32_0_1_2_4_3_5) shapeCasts_S4x1024x24x2x2x32_S4x1024x3072 (ix3 l k j) = w (ix3 l k j') := by
  unfold headCol at hj
  pointwise []
  exact congrArg (fun q => w (ix3 l k q)) (Fin.ext hj)

/-- The laid-out weights inside one piece: the `n`th, which starts at column `pre`. -/
theorem layout_piece (w : FVec Ideal S4x1024x16416 .f32) (l : Fin 4) (k : Fin 1024) (j : Fin 16768) (n : ℕ) (hn : n < (pieces (F := Ideal) w).length)
    {W : ℕ} (x : (⟨3, ![4, 1024, W]⟩ : Shape).Idx → EReal) (hx : (pieces (F := Ideal) w)[n] = ⟨⟨3, ![4, 1024, W]⟩, x⟩) (pre : ℕ)
    (hpre : ((((pieces (F := Ideal) w).take n).map (·.1)).map fun s => if h : s.rank = S4x1024x16768.rank then s.size ((2 : Fin S4x1024x16768.rank).cast h.symm) else 0).sum = pre)
    (q : Fin W) (hq : pre + q.val = j.val) : layout (F := Ideal) w (ix3 l k j) = x (ix3 l k q) :=
  concatenate_apply_piece 2 (pieces (F := Ideal) w) pieces_fit (ix3 l k j) n hn ⟨3, ![4, 1024, W]⟩ x hx rfl pre hpre (ix3 l k q) (fun b hb => off_last l k j q b hb) hq

/-- The laid-out weights at a column that a column of the projection is behind. -/
theorem layout_some (w : FVec Ideal S4x1024x16416 .f32) (l : Fin 4) (k : Fin 1024) (j : Fin 16768) (j' : Fin 16416) (hj : source j.val = some j'.val) :
    layout (F := Ideal) w (ix3 l k j) = w (ix3 l k j') := by
  have hlt := j.isLt
  unfold source at hj
  split at hj
  · have e := Option.some.inj hj
    refine (layout_piece w l k j 0 (by show 0 < 9; decide) _ rfl 0 (by simp [pieces]) ⟨j.val - 0, by omega⟩ (by simp only; omega)).trans ?_
    pointwise []
    exact congrArg (fun q => w (ix3 l k q)) (Fin.ext (by simp only; omega))
  split at hj
  · have e := Option.some.inj hj
    refine (layout_piece w l k j 1 (by show 1 < 9; decide) _ rfl 4096 (by simp [pieces]) ⟨j.val - 4096, by omega⟩ (by simp only; omega)).trans ?_
    pointwise []
    exact congrArg (fun q => w (ix3 l k q)) (Fin.ext (by simp only; omega))
  split at hj
  · have e := Option.some.inj hj
    refine (layout_piece w l k j 2 (by show 2 < 9; decide) _ rfl 6144 (by simp [pieces]) ⟨j.val - 6144, by omega⟩ (by simp only; omega)).trans ?_
    pointwise []
    exact congrArg (fun q => w (ix3 l k q)) (Fin.ext (by simp only; omega))
  split at hj
  · have e := Option.some.inj hj
    refine (layout_piece w l k j 3 (by show 3 < 9; decide) _ rfl 9216 (by simp [pieces]) ⟨j.val - 9216, by omega⟩ (by simp only; omega)).trans ?_
    exact heads_apply w l k _ j' e
  split at hj
  · have e := Option.some.inj hj
    refine (layout_piece w l k j 4 (by show 4 < 9; decide) _ rfl 12288 (by simp [pieces]) ⟨j.val - 12288, by omega⟩ (by simp only; omega)).trans ?_
    pointwise []
    exact congrArg (fun q => w (ix3 l k q)) (Fin.ext (by simp only; omega))
  split at hj
  · exact absurd hj (by simp)
  split at hj
  · have e := Option.some.inj hj
    refine (layout_piece w l k j 6 (by show 6 < 9; decide) _ rfl 14080 (by simp [pieces]) ⟨j.val - 14080, by omega⟩ (by simp only; omega)).trans ?_
    pointwise []
    exact congrArg (fun q => w (ix3 l k q)) (Fin.ext (by simp only; omega))
  split at hj
  · have e := Option.some.inj hj
    refine (layout_piece w l k j 7 (by show 7 < 9; decide) _ rfl 16640 (by simp [pieces]) ⟨j.val - 16640, by omega⟩ (by simp only; omega)).trans ?_
    pointwise []
    exact congrArg (fun q => w (ix3 l k q)) (Fin.ext (by simp only; omega))
  · exact absurd hj (by simp)

/-- The laid-out weights at a column of zeros. -/
theorem layout_none (w : FVec Ideal S4x1024x16416 .f32) (l : Fin 4) (k : Fin 1024) (j : Fin 16768) (hj : 16672 ≤ j.val) :
    layout (F := Ideal) w (ix3 l k j) = 0 := by
  have hlt := j.isLt
  refine (layout_piece w l k j 8 (by show 8 < 9; decide) _ rfl 16672 (by simp [pieces]) ⟨j.val - 16672, by omega⟩ (by simp only; omega)).trans ?_
  pointwise []

/-- A row of the tokens times a laid-out column is an entry of the projection's columns. -/
theorem sum_columns (h : FVec Ideal S8x2048x1024 .bf16) (w : FVec Ideal S4x1024x16416 .f32) (o n : ℕ) (ho : o + n ≤ 16416) (i : (⟨2, ![16384, n]⟩ : Shape).Idx) (j : Fin 16768)
    (hj : source j.val = some (o + (i 1).val)) :
    ∑ k : Fin 1024, (shapeCast (α := Ideal .bf16) S16384x1024 h shapeCasts_S8x2048x1024_S16384x1024 (ix2 ⟨(i 0).val, (i 0).isLt⟩ k) : EReal) * layout (F := Ideal) w (ix3 0 k j) = columns h w o n ho i := by
  unfold columns proj
  refine Finset.sum_congr rfl fun k _ => ?_
  rw [rows_apply, layout_some w 0 k j ⟨o + (i 1).val, lt_of_lt_of_le (Nat.add_lt_add_left (i 1).isLt o) ho⟩ hj]

/-- The step sizes: the projection's columns from 10752 on in the first 32 columns, zero in the other 96. -/
def stepColumns (h : FVec Ideal S8x2048x1024 .bf16) (w : FVec Ideal S4x1024x16416 .f32) : (⟨2, ![16384, 128]⟩ : Shape).Idx → EReal := fun i =>
  if hi : (i 1).val < 32 then
    proj h w ⟨(i 0).val / 2048, Nat.div_lt_of_lt_mul (i 0).isLt⟩ ⟨(i 0).val % 2048, Nat.mod_lt _ (by omega)⟩ ⟨10752 + (i 1).val, by omega⟩
  else 0

/-- A row of the tokens times one of the last 128 laid-out columns is an entry of the step sizes. -/
theorem sum_stepColumns (h : FVec Ideal S8x2048x1024 .bf16) (w : FVec Ideal S4x1024x16416 .f32) (i : (⟨2, ![16384, 128]⟩ : Shape).Idx) (j : Fin 16768)
    (hj : j.val = 16640 + (i 1).val) :
    ∑ k : Fin 1024, (shapeCast (α := Ideal .bf16) S16384x1024 h shapeCasts_S8x2048x1024_S16384x1024 (ix2 ⟨(i 0).val, (i 0).isLt⟩ k) : EReal) * layout (F := Ideal) w (ix3 0 k j) = stepColumns h w i := by
  unfold stepColumns
  split_ifs with hi
  · unfold proj
    refine Finset.sum_congr rfl fun k _ => ?_
    rw [rows_apply, layout_some w 0 k j ⟨10752 + (i 1).val, by omega⟩ (by
      unfold source
      rw [hj]
      repeat rw [if_neg (by omega)]
      rw [if_pos (by omega)]
      exact congrArg some (by dsimp only; omega))]
  · refine Finset.sum_eq_zero fun k _ => ?_
    rw [layout_none w 0 k j (by omega)]
    exact mul_zero _

/-- The column of the projection at place `j` of the slabs of queries, keys and values. -/
def slabCol (j : ℕ) : ℕ := if j < 3072 then headCol j else j

theorem slabCol_lt (j : ℕ) (hj : j < 4608) : slabCol j < 4608 := by
  unfold slabCol headCol
  split_ifs <;> omega

/-- The slabs of queries, keys and values. -/
def slabs (h : FVec Ideal S8x2048x1024 .bf16) (w : FVec Ideal S4x1024x16416 .f32) : (⟨4, ![8, 36, 2048, 128]⟩ : Shape).Idx → EReal := fun i =>
  proj h w (i 0) (i 2) ⟨slabCol ((i 1).val * 128 + (i 3).val), (slabCol_lt _ (by
    have h1 : (i 1).val < 36 := (i 1).isLt
    have h3 : (i 3).val < 128 := (i 3).isLt
    omega)).trans (by omega)⟩

/-- A row of the tokens times a laid-out column is an entry of the slabs. -/
theorem sum_slabs (h : FVec Ideal S8x2048x1024 .bf16) (w : FVec Ideal S4x1024x16416 .f32) (i : (⟨4, ![8, 36, 2048, 128]⟩ : Shape).Idx) (j : Fin 16768)
    (hj : j.val = 9216 + ((i 1).val * 128 + (i 3).val)) :
    ∑ k : Fin 1024, (h (ix3 (i 0) (i 2) k) : EReal) * layout (F := Ideal) w (ix3 0 k j) = slabs h w i := by
  have h1 : (i 1).val < 36 := (i 1).isLt
  have h3 : (i 3).val < 128 := (i 3).isLt
  unfold slabs proj
  refine Finset.sum_congr rfl fun k _ => ?_
  rw [layout_some w 0 k j ⟨slabCol ((i 1).val * 128 + (i 3).val), (slabCol_lt _ (by omega)).trans (by omega)⟩ (by
    unfold source slabCol
    rw [hj]
    rw [if_neg (by omega), if_neg (by omega), if_neg (by omega)]
    by_cases hq : (i 1).val * 128 + (i 3).val < 3072
    · rw [if_pos (by omega)]
      dsimp only
      rw [if_pos hq]
      exact congrArg some (congrArg headCol (by omega))
    · rw [if_neg (by omega), if_pos (by omega)]
      dsimp only
      rw [if_neg hq]
      exact congrArg some (by omega))]

/-- A row of the tokens times the column at a place of the slabs is an entry of the slabs. -/
theorem slabs_of (h : FVec Ideal S8x2048x1024 .bf16) (w : FVec Ideal S4x1024x16416 .f32) (i : (⟨4, ![8, 36, 2048, 128]⟩ : Shape).Idx) (j : Fin 16416)
    (hj : j.val = slabCol ((i 1).val * 128 + (i 3).val)) :
    ∑ k : Fin 1024, (h (ix3 (i 0) (i 2) k) : EReal) * w (ix3 0 k j) = slabs h w i := by
  unfold slabs proj
  exact Finset.sum_congr rfl fun k _ => congrArg₂ _ rfl (congrArg _ (congrArg _ (Fin.ext hj)))

end Cert.Proj

end

end
-- ==== Proof.P.Z.lean ====
module

public import proofs.«01_k».proof.Proof.P.Layout
public import proofs.«01_k».proof.Proof.Gen.ZKernelIdeal.Value
public import proofs.«01_k».proof.Proof.Gen.ZReferenceIdeal.Run
public import Idealize.ShloMosaic.Adequacy
public import Idealize.ShloMosaic.Init
public import Idealize.ShloMosaic.Lib.ValueLayout
public import Idealize.ShloMosaic.Lib.Pipeline.ValueKit

@[expose] public section

noncomputable section

namespace Cert.ZKernelIdeal.Proj

open Idealize.ShloMosaic Idealize.ShloMosaic.TcCoe Idealize.SL.Sem Idealize.ShloMosaic.StableHlo
open Cert.ZKernelIdeal Cert.ZKernelIdeal.Gen Cert.Proj

variable (m : (ℓ : Loc nD τ sig) → Buf (Elt Ideal) ℓ) (ρ : Dev nD → PrngReg) (c : Dev nD)

/-- The tokens as the region finds them. -/
theorem V_rows : V m c main_v0 = shapeCast S16384x1024 (m ((c : Thread nD τ).loc main_arg0)) shapeCasts_S8x2048x1024_S16384x1024 := by
  unfold_abbrev_sides
  after_results
  all_goals rfl

/-- The weights as the region finds them. -/
theorem V_weights : V m c main_v14 = layout (F := Ideal) (m ((c : Thread nD τ).loc main_arg1)) := by
  unfold_abbrev_sides
  after_results
  all_goals rfl

/-- The product of a block of tokens and a block of columns. -/
theorem pay_apply (a : FVec Ideal S2048x1024 .bf16) (w : FVec Ideal S1x1024x1024 .bf16) (p : Fin 2048) (q : Fin 1024) :
    k0_pay1 (F := Ideal) a w (ix2 p q) = ∑ k : Fin 1024, a (ix2 p k) * w (ix3 0 k q) := by
  pointwise [k0_pay1]

/-- The blocks of the three windows: point `t` takes row block `t / 2` and column block `t % 2`. -/
theorem index_facts : ∀ t : Fin cfg0.N,
    win0_0.index t = ![t.val / 2, 0] ∧ win0_1.index t = ![0, 0, 4 + t.val % 2] ∧ win0_2.index t = ![t.val / 2, t.val % 2] :=
  (by decide +kernel : ∀ t : Fin grid0.N, _)

/-- The array that the call returns. -/
def result : FVec Ideal S16384x2048 .bf16 := columns (m ((c : Thread nD τ).loc main_arg0)) (m ((c : Thread nD τ).loc main_arg1)) 4608 2048 (by omega)

variable (t : Fin cfg0.N)

/-- What a point leaves in the output's block is its block of the columns. -/
theorem outs_apply (y : S2048x1024.Idx) (i : S16384x2048.Idx) (h0 : (i 0).val = t.val / 2 * 2048 + (y 0).val) (h1 : (i 1).val = t.val % 2 * 1024 + (y 1).val) :
    outsAt0 m c t y = result m c i := by
  obtain ⟨p, q, rfl⟩ : ∃ (p : Fin 2048) (q : Fin 1024), y = ix2 p q := ⟨y 0, y 1, eq_ix2 y⟩
  obtain ⟨e0, e1, -⟩ := index_facts t
  have hj : 4096 + (i 1).val < 16768 := by have : (i 1).val < 2048 := (i 1).isLt; omega
  refine Eq.trans ?_ (sum_columns _ _ _ _ _ i ⟨4096 + (i 1).val, hj⟩ (by
    have : (i 1).val < 2048 := (i 1).isLt
    unfold source
    rw [if_neg (by dsimp only; omega), if_pos (by dsimp only; omega)]
    exact congrArg some (by dsimp only; omega)))
  rw [← V_rows, ← V_weights]
  unfold outsAt0
  frame_out
  refine (pay_apply _ _ p q).trans (Finset.sum_congr rfl fun k _ => congrArg₂ _ ?_ ?_)
  · unfold iblk
    show V m c main_v0 (((cfg0.win 0).blk t).view.emb (ix2 p k)) = _
    refine congrArg _ (funext fun a => Fin.ext ?_)
    blk_simp [e0]
    fin_cases a <;> simp [h0]
  · unfold X0_1 Pipeline.Window.fill
    rw [dif_pos (moved0_1 t _)]
    unfold iblk
    show V m c main_v14 (((cfg0.win 1).blk t).view.emb _) = _
    refine congrArg _ (funext fun a => Fin.ext ?_)
    blk_simp [e1]
    fin_cases a <;> simp [h1]
    omega

/-- The array after the last point. -/
theorem out_array : (dats m 0 c).arrAt 2 cfg0.N = result m c := by
  refine (dats m 0 c).arrAt_eq_of_covers 2 _ (by decide +kernel) fun t hf y => ?_
  obtain ⟨-, -, e2⟩ := index_facts t
  blk_simp
  rw [after0_2]
  refine outs_apply m c t y _ ?_ ?_
  · blk_simp [e2]
  · blk_simp [e2]

/-- The call returns the projection's columns and leaves its arguments. -/
theorem run_result : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (out_array m c), (h c).2⟩) (Value.run_blocks m ρ)

end Cert.ZKernelIdeal.Proj

namespace Cert.ZReferenceIdeal.Proj

open Idealize.ShloMosaic Idealize.ShloMosaic.TcCoe Idealize.SL.Sem Idealize.ShloMosaic.StableHlo
open Cert.ZReferenceIdeal Cert.ZReferenceIdeal.Gen Cert.Proj

variable (m : (ℓ : Loc nD τ sig) → Buf (Elt Ideal) ℓ) (ρ : Dev nD → PrngReg)

/-- The reference returns the projection's columns and leaves its arguments. -/
theorem run_result : θ_run defs (onTc (τ := τ) (main (F := Ideal))) ⟨m, fun _ => 0, ρ⟩ fun r => ∀ c : Dev nD,
      r.2.mem ((c : Thread nD τ).loc main_v14) = columns (m ((c : Thread nD τ).loc main_arg0)) (m ((c : Thread nD τ).loc main_arg1)) 4608 2048 (by omega)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Value.run m ρ)
  funext i
  rw [eq_ix2 i]
  pointwise []
  rfl

/-- The reference's arguments end unchanged and its counters at zero. -/
theorem frame : θ_run (defs (F := Ideal)) (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0 :=
  (θ_run defs _ _).mono (fun r h => ⟨fun c => (h c).2, sem_eq_zero_of_no_sems (by decide) r.2⟩) (run_result m ρ)

end Cert.ZReferenceIdeal.Proj

end

end
-- ==== Proof.P.Xbc.lean ====
module

public import proofs.«01_k».proof.Proof.P.Layout
public import proofs.«01_k».proof.Proof.Gen.XbcKernelIdeal.Value
public import proofs.«01_k».proof.Proof.Gen.XbcReferenceIdeal.Run
public import Idealize.ShloMosaic.Adequacy
public import Idealize.ShloMosaic.Init
public import Idealize.ShloMosaic.Lib.ValueLayout
public import Idealize.ShloMosaic.Lib.Pipeline.ValueKit

@[expose] public section

noncomputable section

namespace Cert.XbcKernelIdeal.Proj

open Idealize.ShloMosaic Idealize.ShloMosaic.TcCoe Idealize.SL.Sem Idealize.ShloMosaic.StableHlo
open Cert.XbcKernelIdeal Cert.XbcKernelIdeal.Gen Cert.Proj

variable (m : (ℓ : Loc nD τ sig) → Buf (Elt Ideal) ℓ) (ρ : Dev nD → PrngReg) (c : Dev nD)

/-- The tokens as the region finds them. -/
theorem V_rows : V m c main_v0 = shapeCast S16384x1024 (m ((c : Thread nD τ).loc main_arg0)) shapeCasts_S8x2048x1024_S16384x1024 := by
  unfold_abbrev_sides
  after_results
  all_goals rfl

/-- The weights as the region finds them. -/
theorem V_weights : V m c main_v14 = layout (F := Ideal) (m ((c : Thread nD τ).loc main_arg1)) := by
  unfold_abbrev_sides
  after_results
  all_goals rfl

/-- The product of a block of tokens and a block of columns. -/
theorem pay_apply (a : FVec Ideal S2048x1024 .bf16) (w : FVec Ideal S1x1024x1024 .bf16) (p : Fin 2048) (q : Fin 1024) :
    k0_pay1 (F := Ideal) a w (ix2 p q) = ∑ k : Fin 1024, a (ix2 p k) * w (ix3 0 k q) := by
  pointwise [k0_pay1]

/-- The blocks of the three windows: point `t` takes row block `t / 4` and column block `t % 4`. -/
theorem index_facts : ∀ t : Fin cfg0.N,
    win0_0.index t = ![t.val / 4, 0] ∧ win0_1.index t = ![0, 0, 0 + t.val % 4] ∧ win0_2.index t = ![t.val / 4, t.val % 4] :=
  (by decide +kernel : ∀ t : Fin grid0.N, _)

/-- The array that the call returns. -/
def result : FVec Ideal S16384x4096 .bf16 := columns (m ((c : Thread nD τ).loc main_arg0)) (m ((c : Thread nD τ).loc main_arg1)) 6656 4096 (by omega)

variable (t : Fin cfg0.N)

/-- What a point leaves in the output's block is its block of the columns. -/
theorem outs_apply (y : S2048x1024.Idx) (i : S16384x4096.Idx) (h0 : (i 0).val = t.val / 4 * 2048 + (y 0).val) (h1 : (i 1).val = t.val % 4 * 1024 + (y 1).val) :
    outsAt0 m c t y = result m c i := by
  obtain ⟨p, q, rfl⟩ : ∃ (p : Fin 2048) (q : Fin 1024), y = ix2 p q := ⟨y 0, y 1, eq_ix2 y⟩
  obtain ⟨e0, e1, -⟩ := index_facts t
  have hj : 0 + (i 1).val < 16768 := by have : (i 1).val < 4096 := (i 1).isLt; omega
  refine Eq.trans ?_ (sum_columns _ _ _ _ _ i ⟨0 + (i 1).val, hj⟩ (by
    have : (i 1).val < 4096 := (i 1).isLt
    unfold source
    rw [if_pos (by dsimp only; omega)]
    exact congrArg some (by dsimp only; omega)))
  rw [← V_rows, ← V_weights]
  unfold outsAt0
  frame_out
  refine (pay_apply _ _ p q).trans (Finset.sum_congr rfl fun k _ => congrArg₂ _ ?_ ?_)
  · unfold iblk
    show V m c main_v0 (((cfg0.win 0).blk t).view.emb (ix2 p k)) = _
    refine congrArg _ (funext fun a => Fin.ext ?_)
    blk_simp [e0]
    fin_cases a <;> simp [h0]
  · unfold X0_1 Pipeline.Window.fill
    rw [dif_pos (moved0_1 t _)]
    unfold iblk
    show V m c main_v14 (((cfg0.win 1).blk t).view.emb _) = _
    refine congrArg _ (funext fun a => Fin.ext ?_)
    blk_simp [e1]
    fin_cases a <;> simp [h1]

/-- The array after the last point. -/
theorem out_array : (dats m 0 c).arrAt 2 cfg0.N = result m c := by
  refine (dats m 0 c).arrAt_eq_of_covers 2 _ (by decide +kernel) fun t hf y => ?_
  obtain ⟨-, -, e2⟩ := index_facts t
  blk_simp
  rw [after0_2]
  refine outs_apply m c t y _ ?_ ?_
  · blk_simp [e2]
  · blk_simp [e2]

/-- The call returns the projection's columns and leaves its arguments. -/
theorem run_result : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (out_array m c), (h c).2⟩) (Value.run_blocks m ρ)

end Cert.XbcKernelIdeal.Proj

namespace Cert.XbcReferenceIdeal.Proj

open Idealize.ShloMosaic Idealize.ShloMosaic.TcCoe Idealize.SL.Sem Idealize.ShloMosaic.StableHlo
open Cert.XbcReferenceIdeal Cert.XbcReferenceIdeal.Gen Cert.Proj

variable (m : (ℓ : Loc nD τ sig) → Buf (Elt Ideal) ℓ) (ρ : Dev nD → PrngReg)

/-- The reference returns the projection's columns and leaves its arguments. -/
theorem run_result : θ_run defs (onTc (τ := τ) (main (F := Ideal))) ⟨m, fun _ => 0, ρ⟩ fun r => ∀ c : Dev nD,
      r.2.mem ((c : Thread nD τ).loc main_v14) = columns (m ((c : Thread nD τ).loc main_arg0)) (m ((c : Thread nD τ).loc main_arg1)) 6656 4096 (by omega)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Value.run m ρ)
  funext i
  rw [eq_ix2 i]
  pointwise []
  rfl

/-- The reference's arguments end unchanged and its counters at zero. -/
theorem frame : θ_run (defs (F := Ideal)) (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0 :=
  (θ_run defs _ _).mono (fun r h => ⟨fun c => (h c).2, sem_eq_zero_of_no_sems (by decide) r.2⟩) (run_result m ρ)

end Cert.XbcReferenceIdeal.Proj

end

end
-- ==== Proof.P.Gates.lean ====
module

public import proofs.«01_k».proof.Proof.P.Layout
public import proofs.«01_k».proof.Proof.Gen.GatesKernelIdeal.Value
public import proofs.«01_k».proof.Proof.Gen.GatesReferenceIdeal.Run
public import Idealize.ShloMosaic.Adequacy
public import Idealize.ShloMosaic.Init
public import Idealize.ShloMosaic.Lib.ValueLayout
public import Idealize.ShloMosaic.Lib.Pipeline.ValueKit

@[expose] public section

noncomputable section

namespace Cert.GatesKernelIdeal.Proj

open Idealize.ShloMosaic Idealize.ShloMosaic.TcCoe Idealize.SL.Sem Idealize.ShloMosaic.StableHlo
open Cert.GatesKernelIdeal Cert.GatesKernelIdeal.Gen Cert.Proj

variable (m : (ℓ : Loc nD τ sig) → Buf (Elt Ideal) ℓ) (ρ : Dev nD → PrngReg) (c : Dev nD)

/-- The tokens as the region finds them. -/
theorem V_rows : V m c main_v0 = shapeCast S16384x1024 (m ((c : Thread nD τ).loc main_arg0)) shapeCasts_S8x2048x1024_S16384x1024 := by
  unfold_abbrev_sides
  after_results
  all_goals rfl

/-- The weights as the region finds them. -/
theorem V_weights : V m c main_v14 = layout (F := Ideal) (m ((c : Thread nD τ).loc main_arg1)) := by
  unfold_abbrev_sides
  after_results
  all_goals rfl

/-- The product of a block of tokens and a block of columns. -/
theorem pay_apply (a : FVec Ideal S2048x1024 .bf16) (w : FVec Ideal S1x1024x1024 .bf16) (p : Fin 2048) (q : Fin 1024) :
    k0_pay1 (F := Ideal) a w (ix2 p q) = ∑ k : Fin 1024, a (ix2 p k) * w (ix3 0 k q) := by
  pointwise [k0_pay1]

/-- The blocks of the three windows: point `t` takes row block `t / 3` and column block `t % 3`. -/
theorem index_facts : ∀ t : Fin cfg0.N,
    win0_0.index t = ![t.val / 3, 0] ∧ win0_1.index t = ![0, 0, 6 + t.val % 3] ∧ win0_2.index t = ![t.val / 3, t.val % 3] :=
  (by decide +kernel : ∀ t : Fin grid0.N, _)

/-- The array that the call returns. -/
def result : FVec Ideal S16384x3072 .bf16 := columns (m ((c : Thread nD τ).loc main_arg0)) (m ((c : Thread nD τ).loc main_arg1)) 13344 3072 (by omega)

variable (t : Fin cfg0.N)

/-- What a point leaves in the output's block is its block of the columns. -/
theorem outs_apply (y : S2048x1024.Idx) (i : S16384x3072.Idx) (h0 : (i 0).val = t.val / 3 * 2048 + (y 0).val) (h1 : (i 1).val = t.val % 3 * 1024 + (y 1).val) :
    outsAt0 m c t y = result m c i := by
  obtain ⟨p, q, rfl⟩ : ∃ (p : Fin 2048) (q : Fin 1024), y = ix2 p q := ⟨y 0, y 1, eq_ix2 y⟩
  obtain ⟨e0, e1, -⟩ := index_facts t
  have hj : 6144 + (i 1).val < 16768 := by have : (i 1).val < 3072 := (i 1).isLt; omega
  refine Eq.trans ?_ (sum_columns _ _ _ _ _ i ⟨6144 + (i 1).val, hj⟩ (by
    have : (i 1).val < 3072 := (i 1).isLt
    unfold source
    rw [if_neg (by dsimp only; omega), if_neg (by dsimp only; omega), if_pos (by dsimp only; omega)]
    exact congrArg some (by dsimp only; omega)))
  rw [← V_rows, ← V_weights]
  unfold outsAt0
  frame_out
  refine (pay_apply _ _ p q).trans (Finset.sum_congr rfl fun k _ => congrArg₂ _ ?_ ?_)
  · unfold iblk
    show V m c main_v0 (((cfg0.win 0).blk t).view.emb (ix2 p k)) = _
    refine congrArg _ (funext fun a => Fin.ext ?_)
    blk_simp [e0]
    fin_cases a <;> simp [h0]
  · unfold X0_1 Pipeline.Window.fill
    rw [dif_pos (moved0_1 t _)]
    unfold iblk
    show V m c main_v14 (((cfg0.win 1).blk t).view.emb _) = _
    refine congrArg _ (funext fun a => Fin.ext ?_)
    blk_simp [e1]
    fin_cases a <;> simp [h1]
    omega

/-- The array after the last point. -/
theorem out_array : (dats m 0 c).arrAt 2 cfg0.N = result m c := by
  refine (dats m 0 c).arrAt_eq_of_covers 2 _ (by decide +kernel) fun t hf y => ?_
  obtain ⟨-, -, e2⟩ := index_facts t
  blk_simp
  rw [after0_2]
  refine outs_apply m c t y _ ?_ ?_
  · blk_simp [e2]
  · blk_simp [e2]

/-- The call returns the projection's columns and leaves its arguments. -/
theorem run_result : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (out_array m c), (h c).2⟩) (Value.run_blocks m ρ)

end Cert.GatesKernelIdeal.Proj

namespace Cert.GatesReferenceIdeal.Proj

open Idealize.ShloMosaic Idealize.ShloMosaic.TcCoe Idealize.SL.Sem Idealize.ShloMosaic.StableHlo
open Cert.GatesReferenceIdeal Cert.GatesReferenceIdeal.Gen Cert.Proj

variable (m : (ℓ : Loc nD τ sig) → Buf (Elt Ideal) ℓ) (ρ : Dev nD → PrngReg)

/-- The reference returns the projection's columns and leaves its arguments. -/
theorem run_result : θ_run defs (onTc (τ := τ) (main (F := Ideal))) ⟨m, fun _ => 0, ρ⟩ fun r => ∀ c : Dev nD,
      r.2.mem ((c : Thread nD τ).loc main_v14) = columns (m ((c : Thread nD τ).loc main_arg0)) (m ((c : Thread nD τ).loc main_arg1)) 13344 3072 (by omega)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Value.run m ρ)
  funext i
  rw [eq_ix2 i]
  pointwise []
  rfl

/-- The reference's arguments end unchanged and its counters at zero. -/
theorem frame : θ_run (defs (F := Ideal)) (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0 :=
  (θ_run defs _ _).mono (fun r h => ⟨fun c => (h c).2, sem_eq_zero_of_no_sems (by decide) r.2⟩) (run_result m ρ)

end Cert.GatesReferenceIdeal.Proj

end

end
-- ==== Proof.P.Branch.lean ====
module

public import proofs.«01_k».proof.Proof.P.Layout
public import proofs.«01_k».proof.Proof.Gen.BranchKernelIdeal.Value
public import proofs.«01_k».proof.Proof.Gen.BranchReferenceIdeal.Run
public import Idealize.ShloMosaic.Adequacy
public import Idealize.ShloMosaic.Init
public import Idealize.ShloMosaic.Lib.ValueLayout
public import Idealize.ShloMosaic.Lib.Pipeline.ValueKit

@[expose] public section

noncomputable section

namespace Cert.BranchKernelIdeal.Proj

open Idealize.ShloMosaic Idealize.ShloMosaic.TcCoe Idealize.SL.Sem Idealize.ShloMosaic.StableHlo
open Cert.BranchKernelIdeal Cert.BranchKernelIdeal.Gen Cert.Proj

variable (m : (ℓ : Loc nD τ sig) → Buf (Elt Ideal) ℓ) (ρ : Dev nD → PrngReg) (c : Dev nD)

/-- The tokens as the region finds them. -/
theorem V_rows : V m c main_v0 = shapeCast S16384x1024 (m ((c : Thread nD τ).loc main_arg0)) shapeCasts_S8x2048x1024_S16384x1024 := by
  unfold_abbrev_sides
  after_results
  all_goals rfl

/-- The weights as the region finds them. -/
theorem V_weights : V m c main_v14 = layout (F := Ideal) (m ((c : Thread nD τ).loc main_arg1)) := by
  unfold_abbrev_sides
  after_results
  all_goals rfl

/-- The product of a block of tokens and a block of columns. -/
theorem pay_apply (a : FVec Ideal S2048x1024 .bf16) (w : FVec Ideal S1x1024x1280 .bf16) (p : Fin 2048) (q : Fin 1280) :
    k0_pay1 (F := Ideal) a w (ix2 p q) = ∑ k : Fin 1024, a (ix2 p k) * w (ix3 0 k q) := by
  pointwise [k0_pay1]

/-- The blocks of the three windows: point `t` takes row block `t / 2` and column block `t % 2`. -/
theorem index_facts : ∀ t : Fin cfg0.N,
    win0_0.index t = ![t.val / 2, 0] ∧ win0_1.index t = ![0, 0, 11 + t.val % 2] ∧ win0_2.index t = ![t.val / 2, t.val % 2] :=
  (by decide +kernel : ∀ t : Fin grid0.N, _)

/-- The array that the call returns. -/
def result : FVec Ideal S16384x2560 .bf16 := columns (m ((c : Thread nD τ).loc main_arg0)) (m ((c : Thread nD τ).loc main_arg1)) 10784 2560 (by omega)

variable (t : Fin cfg0.N)

/-- What a point leaves in the output's block is its block of the columns. -/
theorem outs_apply (y : S2048x1280.Idx) (i : S16384x2560.Idx) (h0 : (i 0).val = t.val / 2 * 2048 + (y 0).val) (h1 : (i 1).val = t.val % 2 * 1280 + (y 1).val) :
    outsAt0 m c t y = result m c i := by
  obtain ⟨p, q, rfl⟩ : ∃ (p : Fin 2048) (q : Fin 1280), y = ix2 p q := ⟨y 0, y 1, eq_ix2 y⟩
  obtain ⟨e0, e1, -⟩ := index_facts t
  have hj : 14080 + (i 1).val < 16768 := by have : (i 1).val < 2560 := (i 1).isLt; omega
  refine Eq.trans ?_ (sum_columns _ _ _ _ _ i ⟨14080 + (i 1).val, hj⟩ (by
    have : (i 1).val < 2560 := (i 1).isLt
    unfold source
    rw [if_neg (by dsimp only; omega), if_neg (by dsimp only; omega), if_neg (by dsimp only; omega), if_neg (by dsimp only; omega), if_neg (by dsimp only; omega), if_neg (by dsimp only; omega), if_pos (by dsimp only; omega)]
    exact congrArg some (by dsimp only; omega)))
  rw [← V_rows, ← V_weights]
  unfold outsAt0
  frame_out
  refine (pay_apply _ _ p q).trans (Finset.sum_congr rfl fun k _ => congrArg₂ _ ?_ ?_)
  · unfold iblk
    show V m c main_v0 (((cfg0.win 0).blk t).view.emb (ix2 p k)) = _
    refine congrArg _ (funext fun a => Fin.ext ?_)
    blk_simp [e0]
    fin_cases a <;> simp [h0]
  · unfold X0_1 Pipeline.Window.fill
    rw [dif_pos (moved0_1 t _)]
    unfold iblk
    show V m c main_v14 (((cfg0.win 1).blk t).view.emb _) = _
    refine congrArg _ (funext fun a => Fin.ext ?_)
    blk_simp [e1]
    fin_cases a <;> simp [h1]
    omega

/-- The array after the last point. -/
theorem out_array : (dats m 0 c).arrAt 2 cfg0.N = result m c := by
  refine (dats m 0 c).arrAt_eq_of_covers 2 _ (by decide +kernel) fun t hf y => ?_
  obtain ⟨-, -, e2⟩ := index_facts t
  blk_simp
  rw [after0_2]
  refine outs_apply m c t y _ ?_ ?_
  · blk_simp [e2]
  · blk_simp [e2]

/-- The call returns the projection's columns and leaves its arguments. -/
theorem run_result : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (out_array m c), (h c).2⟩) (Value.run_blocks m ρ)

end Cert.BranchKernelIdeal.Proj

namespace Cert.BranchReferenceIdeal.Proj

open Idealize.ShloMosaic Idealize.ShloMosaic.TcCoe Idealize.SL.Sem Idealize.ShloMosaic.StableHlo
open Cert.BranchReferenceIdeal Cert.BranchReferenceIdeal.Gen Cert.Proj

variable (m : (ℓ : Loc nD τ sig) → Buf (Elt Ideal) ℓ) (ρ : Dev nD → PrngReg)

/-- The reference returns the projection's columns and leaves its arguments. -/
theorem run_result : θ_run defs (onTc (τ := τ) (main (F := Ideal))) ⟨m, fun _ => 0, ρ⟩ fun r => ∀ c : Dev nD,
      r.2.mem ((c : Thread nD τ).loc main_v15) = columns (m ((c : Thread nD τ).loc main_arg0)) (m ((c : Thread nD τ).loc main_arg1)) 10784 2560 (by omega)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Value.run m ρ)
  funext i
  rw [eq_ix2 i]
  pointwise []
  by_cases hi : (i 1).val < 1280
  · exact dif_pos hi
  · refine Eq.trans (dif_neg hi) ?_
    unfold columns proj
    refine Finset.sum_congr rfl fun k _ => congrArg₂ _ rfl (congrArg _ (congrArg _ (Fin.ext ?_)))
    show 12064 + ((i 1).val - 1280) = 10784 + (i 1).val
    omega

/-- The reference's arguments end unchanged and its counters at zero. -/
theorem frame : θ_run (defs (F := Ideal)) (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0 :=
  (θ_run defs _ _).mono (fun r h => ⟨fun c => (h c).2, sem_eq_zero_of_no_sems (by decide) r.2⟩) (run_result m ρ)

end Cert.BranchReferenceIdeal.Proj

end

end
-- ==== Proof.P.Dt.lean ====
module

public import proofs.«01_k».proof.Proof.P.Layout
public import proofs.«01_k».proof.Proof.Gen.DtKernelIdeal.Value
public import proofs.«01_k».proof.Proof.Gen.DtReferenceIdeal.Run
public import Idealize.ShloMosaic.Adequacy
public import Idealize.ShloMosaic.Init
public import Idealize.ShloMosaic.Lib.ValueLayout
public import Idealize.ShloMosaic.Lib.Pipeline.ValueKit

@[expose] public section

noncomputable section

namespace Cert.DtKernelIdeal.Proj

open Idealize.ShloMosaic Idealize.ShloMosaic.TcCoe Idealize.SL.Sem Idealize.ShloMosaic.StableHlo
open Cert.DtKernelIdeal Cert.DtKernelIdeal.Gen Cert.Proj

variable (m : (ℓ : Loc nD τ sig) → Buf (Elt Ideal) ℓ) (ρ : Dev nD → PrngReg) (c : Dev nD)

/-- The tokens as the region finds them. -/
theorem V_rows : V m c main_v0 = shapeCast S16384x1024 (m ((c : Thread nD τ).loc main_arg0)) shapeCasts_S8x2048x1024_S16384x1024 := by
  unfold_abbrev_sides
  after_results
  all_goals rfl

/-- The weights as the region finds them. -/
theorem V_weights : V m c main_v14 = layout (F := Ideal) (m ((c : Thread nD τ).loc main_arg1)) := by
  unfold_abbrev_sides
  after_results
  all_goals rfl

/-- The product of a block of tokens and a block of columns. -/
theorem pay_apply (a : FVec Ideal S2048x1024 .bf16) (w : FVec Ideal S1x1024x128 .bf16) (p : Fin 2048) (q : Fin 128) :
    k0_pay1 (F := Ideal) a w (ix2 p q) = ∑ k : Fin 1024, a (ix2 p k) * w (ix3 0 k q) := by
  pointwise [k0_pay1]

/-- The blocks of the three windows: point `t` takes row block `t` and the last column block. -/
theorem index_facts : ∀ t : Fin cfg0.N,
    win0_0.index t = ![t.val, 0] ∧ win0_1.index t = ![0, 0, 130] ∧ win0_2.index t = ![t.val, 0] :=
  (by decide +kernel : ∀ t : Fin grid0.N, _)

/-- The array that the call returns. -/
def result : FVec Ideal S16384x128 .f32 := stepColumns (m ((c : Thread nD τ).loc main_arg0)) (m ((c : Thread nD τ).loc main_arg1))

variable (t : Fin cfg0.N)

/-- What a point leaves in the output's block is its block of the columns. -/
theorem outs_apply (y : S2048x128.Idx) (i : S16384x128.Idx) (h0 : (i 0).val = t.val * 2048 + (y 0).val) (h1 : (i 1).val = (y 1).val) :
    out0_2 (F := Ideal) (iblk m c 0 t) (iblk m c 1 t) y = result m c i := by
  obtain ⟨p, q, rfl⟩ : ∃ (p : Fin 2048) (q : Fin 128), y = ix2 p q := ⟨y 0, y 1, eq_ix2 y⟩
  obtain ⟨e0, e1, -⟩ := index_facts t
  have hi : (i 1).val < 128 := (i 1).isLt
  have hj : 16640 + (i 1).val < 16768 := by omega
  refine Eq.trans ?_ (sum_stepColumns _ _ i ⟨16640 + (i 1).val, hj⟩ rfl)
  rw [← V_rows, ← V_weights]
  frame_out
  refine (pay_apply _ _ p q).trans (Finset.sum_congr rfl fun k _ => congrArg₂ _ ?_ ?_)
  · unfold iblk
    show V m c main_v0 (((cfg0.win 0).blk t).view.emb (ix2 p k)) = _
    refine congrArg _ (funext fun a => Fin.ext ?_)
    blk_simp [e0]
    fin_cases a <;> simp [h0]
  · unfold iblk
    show V m c main_v14 (((cfg0.win 1).blk t).view.emb _) = _
    refine congrArg _ (funext fun a => Fin.ext ?_)
    blk_simp [e1]
    fin_cases a <;> simp [h1]

/-- The array after the last point. -/
theorem out_array : (dats m 0 c).arrAt 2 cfg0.N = result m c := by
  refine (dats m 0 c).arrAt_eq_of_covers 2 _ (by decide +kernel) fun t hf y => ?_
  obtain ⟨-, -, e2⟩ := index_facts t
  blk_simp
  rw [after0_2]
  refine outs_apply m c t y _ ?_ ?_
  · blk_simp [e2]
  · blk_simp [e2]

/-- The call returns the projection's columns and leaves its arguments. -/
theorem run_result : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (out_array m c), (h c).2⟩) (Value.run_blocks m ρ)

end Cert.DtKernelIdeal.Proj

namespace Cert.DtReferenceIdeal.Proj

open Idealize.ShloMosaic Idealize.ShloMosaic.TcCoe Idealize.SL.Sem Idealize.ShloMosaic.StableHlo
open Cert.DtReferenceIdeal Cert.DtReferenceIdeal.Gen Cert.Proj

variable (m : (ℓ : Loc nD τ sig) → Buf (Elt Ideal) ℓ) (ρ : Dev nD → PrngReg)

/-- The reference returns the projection's columns and leaves its arguments. -/
theorem run_result : θ_run defs (onTc (τ := τ) (main (F := Ideal))) ⟨m, fun _ => 0, ρ⟩ fun r => ∀ c : Dev nD,
      r.2.mem ((c : Thread nD τ).loc main_v14) = stepColumns (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Value.run m ρ)
  funext i
  rw [eq_ix2 i]
  pointwise []
  have hi0 : (i 0).val < 16384 := (i 0).isLt
  unfold stepColumns
  by_cases hi : (i 1).val < 32
  · rw [dif_pos ⟨by omega, by omega, hi⟩]
    refine Eq.trans ?_ (dif_pos hi).symm
    rfl
  · rw [dif_neg fun h => hi h.2.2]
    refine Eq.trans ?_ (dif_neg hi).symm
    show ((((0#32).toInt : ℝ) : EReal)) = 0
    simp

/-- The reference's arguments end unchanged and its counters at zero. -/
theorem frame : θ_run (defs (F := Ideal)) (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0 :=
  (θ_run defs _ _).mono (fun r h => ⟨fun c => (h c).2, sem_eq_zero_of_no_sems (by decide) r.2⟩) (run_result m ρ)

end Cert.DtReferenceIdeal.Proj

end

end
-- ==== Proof.P.Qkv.lean ====
module

public import proofs.«01_k».proof.Proof.P.Layout
public import proofs.«01_k».proof.Proof.Gen.QkvKernelIdeal.Value
public import proofs.«01_k».proof.Proof.Gen.QkvReferenceIdeal.Run
public import Idealize.ShloMosaic.Adequacy
public import Idealize.ShloMosaic.Init
public import Idealize.ShloMosaic.Lib.ValueLayout
public import Idealize.ShloMosaic.Lib.Pipeline.ValueKit

@[expose] public section

noncomputable section

namespace Cert.QkvKernelIdeal.Proj

open Idealize.ShloMosaic Idealize.ShloMosaic.TcCoe Idealize.SL.Sem Idealize.ShloMosaic.StableHlo
open Cert.QkvKernelIdeal Cert.QkvKernelIdeal.Gen Cert.Proj

variable (m : (ℓ : Loc nD τ sig) → Buf (Elt Ideal) ℓ) (ρ : Dev nD → PrngReg) (c : Dev nD)

/-- The weights as the region finds them. -/
theorem V_weights : V m c main_v13 = layout (F := Ideal) (m ((c : Thread nD τ).loc main_arg1)) := by
  unfold_abbrev_sides
  after_results
  all_goals rfl

/-- The product of a block of tokens and a block of columns. -/
theorem pay_apply (a : FVec Ideal S1x2048x1024 .bf16) (w : FVec Ideal S1x1024x1536 .bf16) (p : Fin 2048) (q : Fin 1536) :
    k0_pay2 (F := Ideal) a w (ix2 p q) = ∑ k : Fin 1024, a (ix3 0 p k) * w (ix3 0 k q) := by
  pointwise [k0_pay2]

/-- The blocks of the three windows: point `t` takes sequence `t / 3` and column block `t % 3`. -/
theorem index_facts : ∀ t : Fin cfg0.N,
    win0_0.index t = ![t.val / 3, 0, 0] ∧ win0_1.index t = ![0, 0, 6 + t.val % 3] ∧ win0_2.index t = ![t.val / 3, t.val % 3, 0, 0] :=
  (by decide +kernel : ∀ t : Fin grid0.N, _)

/-- The array that the call returns. -/
def result : FVec Ideal S8x36x2048x128 .bf16 := slabs (m ((c : Thread nD τ).loc main_arg0)) (m ((c : Thread nD τ).loc main_arg1))

variable (t : Fin cfg0.N)

/-- A slab of 128 columns of a product, under two unit axes. -/
theorem slab_apply (v : FVec Ideal S2048x1536 .bf16) (o : ℕ) (hs : S2048x1536.Slices ![0, o] S2048x128) (ho : o + 128 ≤ 1536) (x : S1x1x2048x128.Idx) :
    shapeCast S1x1x2048x128 (extractStridedSlice S2048x128 ![0, o] v hs) shapeCasts_S2048x128_S1x1x2048x128 x
      = v (ix2 (x 2) ⟨o + (x 3).val, (Nat.add_lt_add_left (x 3).isLt o).trans_le ho⟩) := by
  rw [eq_ix4 x]
  pointwise []

/-- An entry of a point's product is an entry of the slabs. -/
theorem product_apply (p : Fin 2048) (q : Fin 1536) (i : S8x36x2048x128.Idx) (h0 : (i 0).val = t.val / 3) (h2 : (i 2).val = p.val)
    (hq : (i 1).val * 128 + (i 3).val = t.val % 3 * 1536 + q.val) :
    k0_pay2 (F := Ideal) (iblk m c 0 t) (X0_1 m c t) (ix2 p q) = result m c i := by
  obtain ⟨e0, e1, -⟩ := index_facts t
  have h1 : (i 1).val < 36 := (i 1).isLt
  have h3 : (i 3).val < 128 := (i 3).isLt
  refine Eq.trans ?_ (sum_slabs _ _ i ⟨9216 + ((i 1).val * 128 + (i 3).val), by omega⟩ rfl)
  rw [← V_weights]
  refine (pay_apply _ _ p q).trans (Finset.sum_congr rfl fun k _ => congrArg₂ _ ?_ ?_)
  · refine Eq.trans ?_ (congrFun (V_main_arg0 m c) _)
    unfold iblk
    show V m c main_arg0 (((cfg0.win 0).blk t).view.emb (ix3 0 p k)) = _
    refine congrArg _ (funext fun a => Fin.ext ?_)
    blk_simp [e0]
    fin_cases a <;> simp [h0, h2]
  · unfold X0_1 Pipeline.Window.fill
    rw [dif_pos (moved0_1 t _)]
    unfold iblk
    show V m c main_v13 (((cfg0.win 1).blk t).view.emb _) = _
    refine congrArg _ (funext fun a => Fin.ext ?_)
    blk_simp [e1]
    fin_cases a <;> simp
    omega

/-- What a point leaves in the output's block is its block of the slabs. -/
theorem outs_apply (y : S1x12x2048x128.Idx) (i : S8x36x2048x128.Idx) (h0 : (i 0).val = t.val / 3) (h1 : (i 1).val = t.val % 3 * 12 + (y 1).val)
    (h2 : (i 2).val = (y 2).val) (h3 : (i 3).val = (y 3).val) :
    outsAt0 m c t y = result m c i := by
  unfold outsAt0
  frame_out
  canon_tiles x g
  all_goals (refine (slab_apply (k0_pay2 (F := Ideal) (iblk m c 0 t) (X0_1 m c t)) _ (by decide) (by norm_num) x).trans (product_apply m c t _ _ i h0 ?_ ?_) <;> dsimp only <;> omega)

/-- The array after the last point. -/
theorem out_array : (dats m 0 c).arrAt 2 cfg0.N = result m c := by
  refine (dats m 0 c).arrAt_eq_of_covers 2 _ (by decide +kernel) fun t hf y => ?_
  obtain ⟨-, -, e2⟩ := index_facts t
  blk_simp
  rw [after0_2]
  have hy : ((y : S1x12x2048x128.Idx) 0).val < 1 := (y 0).isLt
  refine outs_apply m c t y _ ?_ ?_ ?_ ?_
  · blk_simp [e2]; try omega
  · blk_simp [e2]; try omega
  · blk_simp [e2]
  · blk_simp [e2]

/-- The call returns the projection's columns and leaves its arguments. -/
theorem run_result : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (out_array m c), (h c).2⟩) (Value.run_blocks m ρ)

end Cert.QkvKernelIdeal.Proj

namespace Cert.QkvReferenceIdeal.Proj

open Idealize.ShloMosaic Idealize.ShloMosaic.TcCoe Idealize.SL.Sem Idealize.ShloMosaic.StableHlo
open Cert.QkvReferenceIdeal Cert.QkvReferenceIdeal.Gen Cert.Proj

variable (m : (ℓ : Loc nD τ sig) → Buf (Elt Ideal) ℓ) (ρ : Dev nD → PrngReg)

/-- The reference returns the projection's columns and leaves its arguments. -/
theorem run_result : θ_run defs (onTc (τ := τ) (main (F := Ideal))) ⟨m, fun _ => 0, ρ⟩ fun r => ∀ c : Dev nD,
      r.2.mem ((c : Thread nD τ).loc main_v22) = slabs (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Value.run m ρ)
  funext i
  rw [eq_ix4 i]
  pointwise []
  have h1 : (i 1).val < 36 := (i 1).isLt
  have h3 : (i 3).val < 128 := (i 3).isLt
  by_cases hq : (i 1).val < 12
  · refine (dif_pos hq).trans (slabs_of _ _ i _ ?_)
    unfold slabCol headCol
    dsimp only
    rw [if_pos (by omega)]
    omega
  · refine (dif_neg hq).trans ?_
    by_cases hk : (i 1).val - 12 < 12
    · refine (dif_pos hk).trans (slabs_of _ _ i _ ?_)
      unfold slabCol headCol
      dsimp only
      rw [if_pos (by omega)]
      omega
    · refine (dif_neg hk).trans (slabs_of _ _ i _ ?_)
      unfold slabCol
      dsimp only
      rw [if_neg (by omega)]
      omega

/-- The reference's arguments end unchanged and its counters at zero. -/
theorem frame : θ_run (defs (F := Ideal)) (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0 :=
  (θ_run defs _ _).mono (fun r h => ⟨fun c => (h c).2, sem_eq_zero_of_no_sems (by decide) r.2⟩) (run_result m ρ)

end Cert.QkvReferenceIdeal.Proj

end

end
-- ==== Proof.P.Merge.lean ====
module

public import proofs.«01_k».proof.Proof.Alg
public import proofs.«01_k».proof.Proof.Gen.MergeKernelIdeal.Value
public import proofs.«01_k».proof.Proof.Gen.MergeReferenceIdeal.Run
public import Idealize.ShloMosaic.Adequacy
public import Idealize.ShloMosaic.Init
public import Idealize.ShloMosaic.Lib.ValueLayout
public import Idealize.ShloMosaic.Lib.Pipeline.ValueKit

@[expose] public section

noncomputable section

namespace Cert.Proj

open Idealize.ShloMosaic
open Cert.MergeKernelIdeal

/-- The three branches' outputs, each through its own projection and gate, summed. -/
def merged (ya : FVec Ideal S8x2048x512 .bf16) (ys : FVec Ideal S8x2048x2048 .bf16) (yl : FVec Ideal S8x2048x1280 .bf16) (g : FVec Ideal S8x2048x3072 .bf16)
    (wa : FVec Ideal S4x512x1024 .f32) (ws : FVec Ideal S4x2048x1024 .f32) (wl : FVec Ideal S4x1280x1024 .f32) (b : Fin 8) (s : Fin 2048) (d : Fin 1024) : EReal :=
  Ideal.logistic (g (ix3 b s ⟨d.val, by omega⟩)) * (∑ k : Fin 512, ya (ix3 b s k) * wa (ix3 0 k d))
    + Ideal.logistic (g (ix3 b s ⟨1024 + d.val, by omega⟩)) * (∑ k : Fin 2048, ys (ix3 b s k) * ws (ix3 0 k d))
    + Ideal.logistic (g (ix3 b s ⟨2048 + d.val, by omega⟩)) * (∑ k : Fin 1280, yl (ix3 b s k) * wl (ix3 0 k d))

/-- The tokens plus the gated output projection of the merged branches. -/
def mergeOut (x : FVec Ideal S8x2048x1024 .f32) (ya : FVec Ideal S8x2048x512 .bf16) (ys : FVec Ideal S8x2048x2048 .bf16) (yl : FVec Ideal S8x2048x1280 .bf16)
    (g : FVec Ideal S8x2048x3072 .bf16) (g1 : FVec Ideal S8x1024 .f32) (wa : FVec Ideal S4x512x1024 .f32) (ws : FVec Ideal S4x2048x1024 .f32) (wl : FVec Ideal S4x1280x1024 .f32)
    (wo : FVec Ideal S4x1024x1024 .f32) (b : Fin 8) (s : Fin 2048) (e : Fin 1024) : EReal :=
  x (ix3 b s e) + g1 (ix2 b e) * (∑ d : Fin 1024, merged ya ys yl g wa ws wl b s d * wo (ix3 0 d e))

end Cert.Proj

namespace Cert.MergeKernelIdeal.Proj

open Idealize.ShloMosaic Idealize.ShloMosaic.TcCoe Idealize.SL.Sem Idealize.ShloMosaic.StableHlo
open Cert.MergeKernelIdeal Cert.MergeKernelIdeal.Gen Cert.Proj

/-- The gates of a block. -/
theorem pay2_apply (v : FVec Ideal S1x512x3072 .bf16) (p : Fin 512) (j : Fin 3072) :
    k0_pay2 (F := Ideal) v (ix2 p j) = Ideal.logistic (v (ix3 0 p j)) := by
  pointwise [k0_pay2]
  show Ideal.ofBits .f32 0x3F000000#32 * Ideal.tanh (Ideal.ofBits .f32 0x3F000000#32 * v (ix3 0 p j)) + Ideal.ofBits .f32 0x3F000000#32 = _
  rw [Cert.Lru.bits_half, Cert.Lru.half_tanh_half]

/-- The attention and state-space branches of a block, gated and summed. -/
theorem pay3_apply (v0 : FVec Ideal S1x512x3072 .bf16) (v11 : FVec Ideal S1x512x512 .bf16) (v13 : FVec Ideal S1x512x1024 .bf16) (v18 : FVec Ideal S1x512x2048 .bf16)
    (v20 : FVec Ideal S1x2048x1024 .bf16) (p : Fin 512) (d : Fin 1024) :
    k0_pay3 (F := Ideal) v0 v11 v13 v18 v20 (ix2 p d) = k0_pay2 (F := Ideal) v0 (ix2 p ⟨d.val, by omega⟩) * (∑ k : Fin 512, v11 (ix3 0 p k) * v13 (ix3 0 k d))
      + k0_pay2 (F := Ideal) v0 (ix2 p ⟨1024 + d.val, by omega⟩) * (∑ k : Fin 2048, v18 (ix3 0 p k) * v20 (ix3 0 k d)) := by
  pointwise [k0_pay3]

/-- The gate of the recurrent branch of a block. -/
theorem pay4_apply (v0 : FVec Ideal S1x512x3072 .bf16) (p : Fin 512) (d : Fin 1024) :
    k0_pay4 (F := Ideal) v0 (ix2 p d) = k0_pay2 (F := Ideal) v0 (ix2 p ⟨2048 + d.val, by omega⟩) := by
  pointwise [k0_pay4]

/-- The recurrent branch of a block through its projection. -/
theorem pay5_apply (v26 : FVec Ideal S1x512x1280 .bf16) (v28 : FVec Ideal S1x1280x1024 .bf16) (p : Fin 512) (d : Fin 1024) :
    k0_pay5 (F := Ideal) v26 v28 (ix2 p d) = ∑ k : Fin 1280, v26 (ix3 0 p k) * v28 (ix3 0 k d) := by
  pointwise [k0_pay5]

/-- What a point stores, at an index. -/
theorem pay1_apply (v24 v25 v30 : FVec Ideal S512x1024 .f32) (v34 : FVec Ideal S1x1024x1024 .bf16) (v37 : FVec Ideal S1x512x1024 .f32) (v39 : FVec Ideal S1x1x1024 .f32) (p : Fin 512) (e : Fin 1024) :
    k0_pay1 (F := Ideal) v24 v25 v30 v34 v37 v39 (ix3 0 p e)
      = v37 (ix3 0 p e) + v39 (ix3 0 0 e) * (∑ d : Fin 1024, (v24 (ix2 p d) + v25 (ix2 p d) * v30 (ix2 p d)) * v34 (ix3 0 d e)) := by
  pointwise [k0_pay1]

variable (m : (ℓ : Loc nD τ sig) → Buf (Elt Ideal) ℓ) (ρ : Dev nD → PrngReg) (c : Dev nD)

/-- The weights and the residual's scale as the region finds them. -/
theorem V_weights : V m c main_v0 = m ((c : Thread nD τ).loc main_arg6) ∧ V m c main_v1 = m ((c : Thread nD τ).loc main_arg7) ∧ V m c main_v2 = m ((c : Thread nD τ).loc main_arg8)
    ∧ V m c main_v3 = m ((c : Thread nD τ).loc main_arg9) := by
  refine ⟨?_, ?_, ?_, ?_⟩
  all_goals unfold_abbrev_sides
  all_goals after_results
  all_goals rfl

/-- The residual's scale as the region finds it. -/
theorem V_scale (b : Fin 8) (e : Fin 1024) : V m c main_v4 (ix3 b 0 e) = m ((c : Thread nD τ).loc main_arg5) (ix2 b e) := by
  have h : V m c main_v4 = shapeCast S8x1x1024 (m ((c : Thread nD τ).loc main_arg5)) shapeCasts_S8x1024_S8x1x1024 := by
    unfold_abbrev_sides
    after_results
    all_goals rfl
  rw [h]
  pointwise []

/-- The blocks of the windows: point `t` takes tokens `t % 4 * 512 …` of sequence `t / 4`, and the weights whole. -/
theorem index_facts : ∀ t : Fin cfg0.N,
    win0_0.index t = ![t.val / 4, t.val % 4, 0] ∧ win0_1.index t = ![t.val / 4, t.val % 4, 0] ∧ win0_2.index t = ![t.val / 4, t.val % 4, 0] ∧ win0_3.index t = ![t.val / 4, t.val % 4, 0]
    ∧ win0_4.index t = ![t.val / 4, t.val % 4, 0] ∧ win0_5.index t = ![t.val / 4, 0, 0] ∧ win0_6.index t = ![0, 0, 0] ∧ win0_7.index t = ![0, 0, 0] ∧ win0_8.index t = ![0, 0, 0]
    ∧ win0_9.index t = ![0, 0, 0] ∧ win0_10.index t = ![t.val / 4, t.val % 4, 0] :=
  (by decide +kernel : ∀ t : Fin grid0.N, _)

/-- The array that the call returns. -/
def result : FVec Ideal S8x2048x1024 .f32 := fun i =>
  mergeOut (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9)) (i 0) (i 1) (i 2)

variable (t : Fin cfg0.N)

/-- The blocks of the arrays that hold one row for each token. -/
theorem token_blocks (p : Fin 512) (b : Fin 8) (s : Fin 2048) (hb : b.val = t.val / 4) (hs : s.val = t.val % 4 * 512 + p.val) :
    (∀ k : Fin 1024, iblk m c 0 t (ix3 0 p k) = m ((c : Thread nD τ).loc main_arg0) (ix3 b s k))
    ∧ (∀ k : Fin 512, iblk m c 1 t (ix3 0 p k) = m ((c : Thread nD τ).loc main_arg1) (ix3 b s k))
    ∧ (∀ k : Fin 2048, iblk m c 2 t (ix3 0 p k) = m ((c : Thread nD τ).loc main_arg2) (ix3 b s k))
    ∧ (∀ k : Fin 1280, iblk m c 3 t (ix3 0 p k) = m ((c : Thread nD τ).loc main_arg3) (ix3 b s k))
    ∧ (∀ k : Fin 3072, iblk m c 4 t (ix3 0 p k) = m ((c : Thread nD τ).loc main_arg4) (ix3 b s k))
    ∧ (∀ k : Fin 1024, iblk m c 5 t (ix3 0 0 k) = m ((c : Thread nD τ).loc main_arg5) (ix2 b k)) := by
  obtain ⟨e0, e1, e2, e3, e4, e5, -⟩ := index_facts t
  rw [← V_main_arg0 m c, ← V_main_arg1 m c, ← V_main_arg2 m c, ← V_main_arg3 m c, ← V_main_arg4 m c]
  simp only [← V_scale m c]
  refine ⟨fun k => ?_, fun k => ?_, fun k => ?_, fun k => ?_, fun k => ?_, fun k => ?_⟩
  · refine congrArg (V m c main_arg0) (funext fun a => Fin.ext ?_)
    blk_simp [e0]
    fin_cases a <;> simp [hb, hs]
  · refine congrArg (V m c main_arg1) (funext fun a => Fin.ext ?_)
    blk_simp [e1]
    fin_cases a <;> simp [hb, hs]
  · refine congrArg (V m c main_arg2) (funext fun a => Fin.ext ?_)
    blk_simp [e2]
    fin_cases a <;> simp [hb, hs]
  · refine congrArg (V m c main_arg3) (funext fun a => Fin.ext ?_)
    blk_simp [e3]
    fin_cases a <;> simp [hb, hs]
  · refine congrArg (V m c main_arg4) (funext fun a => Fin.ext ?_)
    blk_simp [e4]
    fin_cases a <;> simp [hb, hs]
  · refine congrArg (V m c main_v4) (funext fun a => Fin.ext ?_)
    blk_simp [e5]
    fin_cases a <;> simp [hb, hs]

/-- The blocks of the weights. -/
theorem weight_blocks :
    (∀ (k : Fin 512) (d : Fin 1024), iblk m c 6 t (ix3 0 k d) = m ((c : Thread nD τ).loc main_arg6) (ix3 0 k d))
    ∧ (∀ (k : Fin 2048) (d : Fin 1024), iblk m c 7 t (ix3 0 k d) = m ((c : Thread nD τ).loc main_arg7) (ix3 0 k d))
    ∧ (∀ (k : Fin 1280) (d : Fin 1024), iblk m c 8 t (ix3 0 k d) = m ((c : Thread nD τ).loc main_arg8) (ix3 0 k d))
    ∧ (∀ (k : Fin 1024) (d : Fin 1024), iblk m c 9 t (ix3 0 k d) = m ((c : Thread nD τ).loc main_arg9) (ix3 0 k d)) := by
  obtain ⟨-, -, -, -, -, -, e6, e7, e8, e9, -⟩ := index_facts t
  obtain ⟨v0, v1, v2, v3⟩ := V_weights m c
  refine ⟨fun k d => ?_, fun k d => ?_, fun k d => ?_, fun k d => ?_⟩
  · refine Eq.trans (congrArg (V m c main_v0) (funext fun a => Fin.ext ?_)) (congrFun v0 _)
    blk_simp [e6]
    fin_cases a <;> simp
  · refine Eq.trans (congrArg (V m c main_v1) (funext fun a => Fin.ext ?_)) (congrFun v1 _)
    blk_simp [e7]
    fin_cases a <;> simp
  · refine Eq.trans (congrArg (V m c main_v2) (funext fun a => Fin.ext ?_)) (congrFun v2 _)
    blk_simp [e8]
    fin_cases a <;> simp
  · refine Eq.trans (congrArg (V m c main_v3) (funext fun a => Fin.ext ?_)) (congrFun v3 _)
    blk_simp [e9]
    fin_cases a <;> simp

/-- What a point leaves in the output's block is its block of the result. -/
theorem outs_apply (y : S1x512x1024.Idx) (i : S8x2048x1024.Idx) (h0 : (i 0).val = t.val / 4) (h1 : (i 1).val = t.val % 4 * 512 + (y 1).val) (h2 : (i 2).val = (y 2).val) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) y = result m c i := by
  obtain ⟨o, p, e, rfl⟩ : ∃ (o : Fin 1) (p : Fin 512) (e : Fin 1024), y = ix3 o p e := ⟨y 0, y 1, y 2, eq_ix3 y⟩
  obtain ⟨b, s, e', rfl⟩ : ∃ (b : Fin 8) (s : Fin 2048) (e' : Fin 1024), i = ix3 b s e' := ⟨i 0, i 1, i 2, eq_ix3 i⟩
  obtain rfl : o = 0 := Subsingleton.elim _ _
  obtain rfl : e' = e := Fin.ext h2
  obtain ⟨hx, ha, hss, hl, hg, hg1⟩ := token_blocks m c t p b s h0 h1
  obtain ⟨wa, ws, wl, wo⟩ := weight_blocks m c t
  frame_out
  refine (pay1_apply _ _ _ _ _ _ p e').trans ?_
  simp only [pay3_apply, pay4_apply, pay5_apply, pay2_apply]
  show _ = mergeOut _ _ _ _ _ _ _ _ _ _ b s e'
  unfold mergeOut merged
  refine congrArg₂ _ (hx _) (congrArg₂ _ (hg1 _) (Finset.sum_congr rfl fun d _ => congrArg₂ _ (congrArg₂ _ (congrArg₂ _ ?_ ?_) ?_) (wo _ _)))
  · exact congrArg₂ _ (congrArg _ (hg _)) (Finset.sum_congr rfl fun k _ => congrArg₂ _ (ha _) (wa _ _))
  · exact congrArg₂ _ (congrArg _ (hg _)) (Finset.sum_congr rfl fun k _ => congrArg₂ _ (hss _) (ws _ _))
  · exact congrArg₂ _ (congrArg _ (hg _)) (Finset.sum_congr rfl fun k _ => congrArg₂ _ (hl _) (wl _ _))

/-- The array after the last point. -/
theorem out_array : (dats m 0 c).arrAt 10 cfg0.N = result m c := by
  refine (dats m 0 c).arrAt_eq_of_covers 10 _ (by decide +kernel) fun t hf y => ?_
  obtain ⟨-, -, -, -, -, -, -, -, -, -, e⟩ := index_facts t
  blk_simp
  rw [after0_10]
  have hy : ((y : S1x512x1024.Idx) 0).val < 1 := (y 0).isLt
  refine outs_apply m c t y _ ?_ ?_ ?_
  · blk_simp [e]; try omega
  · blk_simp [e]; try omega
  · blk_simp [e]

/-- The call returns the merged branches and leaves its arguments. -/
theorem run_result : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (out_array m c), (h c).2⟩) (Value.run_blocks m ρ)

end Cert.MergeKernelIdeal.Proj

namespace Cert.MergeReferenceIdeal.Proj

open Idealize.ShloMosaic Idealize.ShloMosaic.TcCoe Idealize.SL.Sem Idealize.ShloMosaic.StableHlo
open Cert.MergeReferenceIdeal Cert.MergeReferenceIdeal.Gen Cert.Proj

variable (m : (ℓ : Loc nD τ sig) → Buf (Elt Ideal) ℓ) (ρ : Dev nD → PrngReg)

/-- The array that the reference returns. -/
def result (c : Dev nD) : FVec Ideal S8x2048x1024 .f32 := fun i =>
  mergeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0) (i 1) (i 2)

/-- The reference returns the merged branches and leaves its arguments. -/
theorem run_result : θ_run defs (onTc (τ := τ) (main (F := Ideal))) ⟨m, fun _ => 0, ρ⟩ fun r => ∀ c : Dev nD,
      r.2.mem ((c : Thread nD τ).loc main_v33) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) := by
  refine (θ_run defs _ _).mono (fun r h c => ⟨(h c).1.trans ?_, (h c).2⟩) (Value.run m ρ)
  clear h
  funext i
  obtain ⟨b, s, e, rfl⟩ : ∃ (b : Fin 8) (s : Fin 2048) (e : Fin 1024), i = ix3 b s e := ⟨i 0, i 1, i 2, eq_ix3 i⟩
  pointwise []
  rfl

/-- The reference's arguments end unchanged and its counters at zero. -/
theorem frame : θ_run (defs (F := Ideal)) (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9))
      ∧ r.2.sem = fun _ => 0 :=
  (θ_run defs _ _).mono (fun r h => ⟨fun c => (h c).2, sem_eq_zero_of_no_sems (by decide) r.2⟩) (run_result m ρ)

end Cert.MergeReferenceIdeal.Proj

end

end
-- ==== Proof.P.Norms.lean ====
module

public import proofs.«01_k».proof.Proof.Gen.LastKernelIdeal.Value
public import proofs.«01_k».proof.Proof.Gen.LastReferenceIdeal.Run
public import proofs.«01_k».proof.Proof.Gen.NormKernelIdeal.Value
public import proofs.«01_k».proof.Proof.Gen.NormReferenceIdeal.Run
public import Idealize.ShloMosaic.Adequacy
public import Idealize.ShloMosaic.Init
public import Idealize.ShloMosaic.Lib.ValueLayout
public import Idealize.ShloMosaic.Lib.Pipeline.ValueKit

@[expose] public section

noncomputable section

namespace Cert.Proj

open Idealize.ShloMosaic
open Cert.LastKernelIdeal

/-- The root-mean-square norm of a token's row, at a column. -/
def normed (x : FVec Ideal S8x2048x1024 .f32) (g : FVec Ideal S1024 .f32) (b : Fin 8) (s : Fin 2048) (d : Fin 1024) : EReal :=
  x (ix3 b s d) * Ideal.rsqrt (Ideal.div (∑ k : Fin 1024, x (ix3 b s k) * x (ix3 b s k)) (Ideal.ofBits .f32 0x44800000#32) + Ideal.ofBits .f32 0x358637BD#32) * g (ix1 d)

end Cert.Proj

namespace Cert.LastKernelIdeal.Proj

open Idealize.ShloMosaic Idealize.ShloMosaic.TcCoe Idealize.SL.Sem Idealize.ShloMosaic.StableHlo
open Cert.LastKernelIdeal Cert.LastKernelIdeal.Gen Cert.Proj

/-- What a point stores, at an index. -/
theorem pay1_apply (v0 : FVec Ideal S1x512x1024 .f32) (v12 : FVec Ideal S1x1024 .f32) (p : Fin 512) (d : Fin 1024) :
    k0_pay1 (F := Ideal) v0 v12 (ix3 0 p d)
      = v0 (ix3 0 p d) * Ideal.rsqrt (Ideal.div (∑ k : Fin 1024, v0 (ix3 0 p k) * v0 (ix3 0 p k)) (Ideal.ofBits .f32 0x44800000#32) + Ideal.ofBits .f32 0x358637BD#32) * v12 (ix2 0 d) := by
  pointwise [k0_pay1]

variable (m : (ℓ : Loc nD τ sig) → Buf (Elt Ideal) ℓ) (ρ : Dev nD → PrngReg) (c : Dev nD)

/-- The gain as the region finds it. -/
theorem V_gain (d : Fin 1024) : V m c main_v0 (ix2 0 d) = m ((c : Thread nD τ).loc main_arg1) (ix1 d) := by
  have h : V m c main_v0 = shapeCast S1x1024 (m ((c : Thread nD τ).loc main_arg1)) shapeCasts_S1024_S1x1024 := by
    unfold_abbrev_sides
    after_results
    all_goals rfl
  rw [h]
  pointwise []

/-- The blocks of the windows: point `t` takes tokens `t % 4 * 512 …` of sequence `t / 4`. -/
theorem index_facts : ∀ t : Fin cfg0.N, win0_0.index t = ![t.val / 4, t.val % 4, 0] ∧ win0_1.index t = ![0, 0] ∧ win0_2.index t = ![t.val / 4, t.val % 4, 0] :=
  (by decide +kernel : ∀ t : Fin grid0.N, _)

/-- The array that the call returns. -/
def result : FVec Ideal S8x2048x1024 .f32 := fun i => normed (m ((c : Thread nD τ).loc main_arg0)) (m ((c : Thread nD τ).loc main_arg1)) (i 0) (i 1) (i 2)

variable (t : Fin cfg0.N)

/-- The blocks that a point reads. -/
theorem blocks (p : Fin 512) (b : Fin 8) (s : Fin 2048) (hb : b.val = t.val / 4) (hs : s.val = t.val % 4 * 512 + p.val) :
    (∀ k : Fin 1024, iblk m c 0 t (ix3 0 p k) = m ((c : Thread nD τ).loc main_arg0) (ix3 b s k))
    ∧ (∀ k : Fin 1024, iblk m c 1 t (ix2 0 k) = m ((c : Thread nD τ).loc main_arg1) (ix1 k)) := by
  obtain ⟨e0, e1, -⟩ := index_facts t
  rw [← V_main_arg0 m c]
  simp only [← V_gain m c]
  refine ⟨fun k => ?_, fun k => ?_⟩
  · refine congrArg (V m c main_arg0) (funext fun a => Fin.ext ?_)
    blk_simp [e0]
    fin_cases a <;> simp [hb, hs]
  · refine congrArg (V m c main_v0) (funext fun a => Fin.ext ?_)
    blk_simp [e1]
    fin_cases a <;> simp

/-- What a point leaves in the output's block is its block of the result. -/
theorem outs_apply (y : S1x512x1024.Idx) (i : S8x2048x1024.Idx) (h0 : (i 0).val = t.val / 4) (h1 : (i 1).val = t.val % 4 * 512 + (y 1).val) (h2 : (i 2).val = (y 2).val) :
    out0_2 (F := Ideal) (iblk m c 0 t) (iblk m c 1 t) y = result m c i := by
  obtain ⟨o, p, e, rfl⟩ : ∃ (o : Fin 1) (p : Fin 512) (e : Fin 1024), y = ix3 o p e := ⟨y 0, y 1, y 2, eq_ix3 y⟩
  obtain ⟨b, s, e', rfl⟩ : ∃ (b : Fin 8) (s : Fin 2048) (e' : Fin 1024), i = ix3 b s e' := ⟨i 0, i 1, i 2, eq_ix3 i⟩
  obtain rfl : o = 0 := Subsingleton.elim _ _
  obtain rfl : e' = e := Fin.ext h2
  obtain ⟨hx, hg⟩ := blocks m c t p b s h0 h1
  frame_out
  refine (pay1_apply _ _ p e').trans ?_
  show _ = normed _ _ b s e'
  unfold normed
  exact congrArg₂ _ (congrArg₂ _ (hx _) (congrArg (fun z => Ideal.rsqrt (Ideal.div z _ + _)) (Finset.sum_congr rfl fun k _ => congrArg₂ _ (hx k) (hx k)))) (hg _)

/-- The array after the last point. -/
theorem out_array : (dats m 0 c).arrAt 2 cfg0.N = result m c := by
  refine (dats m 0 c).arrAt_eq_of_covers 2 _ (by decide +kernel) fun t hf y => ?_
  obtain ⟨-, -, e⟩ := index_facts t
  blk_simp
  rw [after0_2]
  have hy : ((y : S1x512x1024.Idx) 0).val < 1 := (y 0).isLt
  refine outs_apply m c t y _ ?_ ?_ ?_
  · blk_simp [e]; try omega
  · blk_simp [e]; try omega
  · blk_simp [e]

/-- The call returns the normed tokens and leaves its arguments. -/
theorem run_result : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (out_array m c), (h c).2⟩) (Value.run_blocks m ρ)

end Cert.LastKernelIdeal.Proj

namespace Cert.LastReferenceIdeal.Proj

open Idealize.ShloMosaic Idealize.ShloMosaic.TcCoe Idealize.SL.Sem Idealize.ShloMosaic.StableHlo
open Cert.LastReferenceIdeal Cert.LastReferenceIdeal.Gen Cert.Proj

variable (m : (ℓ : Loc nD τ sig) → Buf (Elt Ideal) ℓ) (ρ : Dev nD → PrngReg)

/-- The array that the reference returns. -/
def result (c : Dev nD) : FVec Ideal S8x2048x1024 .f32 := fun i => normed (m ((c : Thread nD τ).loc main_arg0)) (m ((c : Thread nD τ).loc main_arg1)) (i 0) (i 1) (i 2)

/-- The reference returns the normed tokens and leaves its arguments. -/
theorem run_result : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Value.run m ρ)
  clear h
  funext i
  obtain ⟨b, s, e, rfl⟩ : ∃ (b : Fin 8) (s : Fin 2048) (e : Fin 1024), i = ix3 b s e := ⟨i 0, i 1, i 2, eq_ix3 i⟩
  pointwise []
  rfl

/-- The reference's arguments end unchanged and its counters at zero. -/
theorem frame : θ_run (defs (F := Ideal)) (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0 :=
  (θ_run defs _ _).mono (fun r h => ⟨fun c => (h c).2, sem_eq_zero_of_no_sems (by decide) r.2⟩) (run_result m ρ)

end Cert.LastReferenceIdeal.Proj

namespace Cert.Proj

open Idealize.ShloMosaic
open Cert.NormKernelIdeal

/-- The norm, scaled by one plus the conditioning's scale and shifted. -/
def modulated (x : FVec Ideal S8x2048x1024 .f32) (g : FVec Ideal S1024 .f32) (sc sh : FVec Ideal S8x1024 .f32) (b : Fin 8) (s : Fin 2048) (d : Fin 1024) : EReal :=
  normed x g b s d * (1 + sc (ix2 b d)) + sh (ix2 b d)

end Cert.Proj

namespace Cert.NormKernelIdeal.Proj

open Idealize.ShloMosaic Idealize.ShloMosaic.TcCoe Idealize.SL.Sem Idealize.ShloMosaic.StableHlo
open Cert.NormKernelIdeal Cert.NormKernelIdeal.Gen Cert.Proj

/-- What a point stores, at an index. -/
theorem pay1_apply (v0 : FVec Ideal S1x512x1024 .f32) (v12 : FVec Ideal S1x1024 .f32) (v16 v22 : FVec Ideal S1x1x1024 .f32) (p : Fin 512) (d : Fin 1024) :
    k0_pay1 (F := Ideal) v0 v12 v16 v22 (ix3 0 p d)
      = v0 (ix3 0 p d) * Ideal.rsqrt (Ideal.div (∑ k : Fin 1024, v0 (ix3 0 p k) * v0 (ix3 0 p k)) (Ideal.ofBits .f32 0x44800000#32) + Ideal.ofBits .f32 0x358637BD#32) * v12 (ix2 0 d)
        * (1 + v16 (ix3 0 0 d)) + v22 (ix3 0 0 d) := by
  pointwise [k0_pay1]

variable (m : (ℓ : Loc nD τ sig) → Buf (Elt Ideal) ℓ) (ρ : Dev nD → PrngReg) (c : Dev nD)

/-- The gain as the region finds it. -/
theorem V_gain (d : Fin 1024) : V m c main_v0 (ix2 0 d) = m ((c : Thread nD τ).loc main_arg1) (ix1 d) := by
  have h : V m c main_v0 = shapeCast S1x1024 (m ((c : Thread nD τ).loc main_arg1)) shapeCasts_S1024_S1x1024 := by
    unfold_abbrev_sides
    after_results
    all_goals rfl
  rw [h]
  pointwise []

/-- The conditioning's scale as the region finds it. -/
theorem V_scale (b : Fin 8) (d : Fin 1024) : V m c main_v1 (ix3 b 0 d) = m ((c : Thread nD τ).loc main_arg2) (ix2 b d) := by
  have h : V m c main_v1 = shapeCast S8x1x1024 (m ((c : Thread nD τ).loc main_arg2)) shapeCasts_S8x1024_S8x1x1024 := by
    unfold_abbrev_sides
    after_results
    all_goals rfl
  rw [h]
  pointwise []

/-- The conditioning's shift as the region finds it. -/
theorem V_shift (b : Fin 8) (d : Fin 1024) : V m c main_v2 (ix3 b 0 d) = m ((c : Thread nD τ).loc main_arg3) (ix2 b d) := by
  have h : V m c main_v2 = shapeCast S8x1x1024 (m ((c : Thread nD τ).loc main_arg3)) shapeCasts_S8x1024_S8x1x1024 := by
    unfold_abbrev_sides
    after_results
    all_goals rfl
  rw [h]
  pointwise []

/-- The blocks of the windows: point `t` takes tokens `t % 4 * 512 …` of sequence `t / 4`. -/
theorem index_facts : ∀ t : Fin cfg0.N, win0_0.index t = ![t.val / 4, t.val % 4, 0] ∧ win0_1.index t = ![0, 0] ∧ win0_2.index t = ![t.val / 4, 0, 0] ∧ win0_3.index t = ![t.val / 4, 0, 0]
    ∧ win0_4.index t = ![t.val / 4, t.val % 4, 0] :=
  (by decide +kernel : ∀ t : Fin grid0.N, _)

/-- The array that the call returns. -/
def result : FVec Ideal S8x2048x1024 .bf16 := fun i =>
  modulated (m ((c : Thread nD τ).loc main_arg0)) (m ((c : Thread nD τ).loc main_arg1)) (m ((c : Thread nD τ).loc main_arg2)) (m ((c : Thread nD τ).loc main_arg3)) (i 0) (i 1) (i 2)

variable (t : Fin cfg0.N)

/-- The blocks that a point reads. -/
theorem blocks (p : Fin 512) (b : Fin 8) (s : Fin 2048) (hb : b.val = t.val / 4) (hs : s.val = t.val % 4 * 512 + p.val) :
    (∀ k : Fin 1024, iblk m c 0 t (ix3 0 p k) = m ((c : Thread nD τ).loc main_arg0) (ix3 b s k))
    ∧ (∀ k : Fin 1024, iblk m c 1 t (ix2 0 k) = m ((c : Thread nD τ).loc main_arg1) (ix1 k))
    ∧ (∀ k : Fin 1024, iblk m c 2 t (ix3 0 0 k) = m ((c : Thread nD τ).loc main_arg2) (ix2 b k))
    ∧ (∀ k : Fin 1024, iblk m c 3 t (ix3 0 0 k) = m ((c : Thread nD τ).loc main_arg3) (ix2 b k)) := by
  obtain ⟨e0, e1, e2, e3, -⟩ := index_facts t
  rw [← V_main_arg0 m c]
  simp only [← V_gain m c, ← V_scale m c, ← V_shift m c]
  refine ⟨fun k => ?_, fun k => ?_, fun k => ?_, fun k => ?_⟩
  · refine congrArg (V m c main_arg0) (funext fun a => Fin.ext ?_)
    blk_simp [e0]
    fin_cases a <;> simp [hb, hs]
  · refine congrArg (V m c main_v0) (funext fun a => Fin.ext ?_)
    blk_simp [e1]
    fin_cases a <;> simp
  · refine congrArg (V m c main_v1) (funext fun a => Fin.ext ?_)
    blk_simp [e2]
    fin_cases a <;> simp [hb]
  · refine congrArg (V m c main_v2) (funext fun a => Fin.ext ?_)
    blk_simp [e3]
    fin_cases a <;> simp [hb]

/-- What a point leaves in the output's block is its block of the result. -/
theorem outs_apply (y : S1x512x1024.Idx) (i : S8x2048x1024.Idx) (h0 : (i 0).val = t.val / 4) (h1 : (i 1).val = t.val % 4 * 512 + (y 1).val) (h2 : (i 2).val = (y 2).val) :
    out0_4 (F := Ideal) (iblk m c 0 t) (iblk m c 1 t) (iblk m c 2 t) (iblk m c 3 t) y = result m c i := by
  obtain ⟨o, p, e, rfl⟩ : ∃ (o : Fin 1) (p : Fin 512) (e : Fin 1024), y = ix3 o p e := ⟨y 0, y 1, y 2, eq_ix3 y⟩
  obtain ⟨b, s, e', rfl⟩ : ∃ (b : Fin 8) (s : Fin 2048) (e' : Fin 1024), i = ix3 b s e' := ⟨i 0, i 1, i 2, eq_ix3 i⟩
  obtain rfl : o = 0 := Subsingleton.elim _ _
  obtain rfl : e' = e := Fin.ext h2
  obtain ⟨hx, hg, hsc, hsh⟩ := blocks m c t p b s h0 h1
  frame_out
  refine (pay1_apply _ _ _ _ p e').trans ?_
  show _ = modulated _ _ _ _ b s e'
  unfold modulated normed
  refine congrArg₂ _ (congrArg₂ _ ?_ (congrArg _ (hsc _))) (hsh _)
  exact congrArg₂ _ (congrArg₂ _ (hx _) (congrArg (fun z => Ideal.rsqrt (Ideal.div z _ + _)) (Finset.sum_congr rfl fun k _ => congrArg₂ _ (hx k) (hx k)))) (hg _)

/-- The array after the last point. -/
theorem out_array : (dats m 0 c).arrAt 4 cfg0.N = result m c := by
  refine (dats m 0 c).arrAt_eq_of_covers 4 _ (by decide +kernel) fun t hf y => ?_
  obtain ⟨-, -, -, -, e⟩ := index_facts t
  blk_simp
  rw [after0_4]
  have hy : ((y : S1x512x1024.Idx) 0).val < 1 := (y 0).isLt
  refine outs_apply m c t y _ ?_ ?_ ?_
  · blk_simp [e]; try omega
  · blk_simp [e]; try omega
  · blk_simp [e]

/-- The call returns the normed and modulated tokens and leaves its arguments. -/
theorem run_result : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (out_array m c), (h c).2⟩) (Value.run_blocks m ρ)

end Cert.NormKernelIdeal.Proj

namespace Cert.NormReferenceIdeal.Proj

open Idealize.ShloMosaic Idealize.ShloMosaic.TcCoe Idealize.SL.Sem Idealize.ShloMosaic.StableHlo
open Cert.NormReferenceIdeal Cert.NormReferenceIdeal.Gen Cert.Proj

variable (m : (ℓ : Loc nD τ sig) → Buf (Elt Ideal) ℓ) (ρ : Dev nD → PrngReg)

/-- The array that the reference returns. -/
def result (c : Dev nD) : FVec Ideal S8x2048x1024 .bf16 := fun i =>
  modulated (m ((c : Thread nD τ).loc main_arg0)) (m ((c : Thread nD τ).loc main_arg1)) (m ((c : Thread nD τ).loc main_arg2)) (m ((c : Thread nD τ).loc main_arg3)) (i 0) (i 1) (i 2)

/-- The reference returns the normed and modulated tokens and leaves its arguments. -/
theorem run_result : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨(h c).1.trans ?_, (h c).2⟩) (Value.run m ρ)
  clear h
  funext i
  obtain ⟨b, s, e, rfl⟩ : ∃ (b : Fin 8) (s : Fin 2048) (e : Fin 1024), i = ix3 b s e := ⟨i 0, i 1, i 2, eq_ix3 i⟩
  pointwise []
  rfl

/-- The reference's arguments end unchanged and its counters at zero. -/
theorem frame : θ_run (defs (F := Ideal)) (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0 :=
  (θ_run defs _ _).mono (fun r h => ⟨fun c => (h c).2, sem_eq_zero_of_no_sems (by decide) r.2⟩) (run_result m ρ)

end Cert.NormReferenceIdeal.Proj

end

end
-- ==== Proof.P.Cond.lean ====
module

public import proofs.«01_k».proof.Proof.Alg
public import proofs.«01_k».proof.Proof.Gen.CondKernelIdeal.Value
public import proofs.«01_k».proof.Proof.Gen.CondReferenceIdeal.Run
public import Idealize.ShloMosaic.Adequacy
public import Idealize.ShloMosaic.Init
public import Idealize.ShloMosaic.Lib.ValueLayout
public import Idealize.ShloMosaic.Lib.Pipeline.ValueKit

@[expose] public section

noncomputable section

namespace Cert.Proj

open Idealize.ShloMosaic
open Cert.CondKernelIdeal

/-- A layer's conditioning of a batch at a column: the logistic-weighted unit of the batch's vector through the layer's weights, plus the bias. -/
def conditioning (v : FVec Ideal S8x1024 .f32) (w : FVec Ideal S4x1024x6144 .f32) (bias : FVec Ideal S4x6144 .f32) (l : Fin 4) (b : Fin 8) (j : Fin 6144) : EReal :=
  (∑ k : Fin 1024, v (ix2 b k) * Ideal.logistic (v (ix2 b k)) * w (ix3 l k j)) + bias (ix2 l j)

end Cert.Proj

namespace Cert.CondKernelIdeal.Proj

open Idealize.ShloMosaic Idealize.ShloMosaic.TcCoe Idealize.SL.Sem Idealize.ShloMosaic.StableHlo
open Cert.CondKernelIdeal Cert.CondKernelIdeal.Gen Cert.Proj

/-- What a point stores, at an index. -/
theorem pay1_apply (v : FVec Ideal S8x1024 .f32) (w : FVec Ideal S1x1024x2048 .f32) (bias : FVec Ideal S1x1x2048 .f32) (b : Fin 8) (q : Fin 2048) :
    k0_pay1 (F := Ideal) v w bias (ix3 0 b q) = (∑ k : Fin 1024, v (ix2 b k) * Ideal.logistic (v (ix2 b k)) * w (ix3 0 k q)) + bias (ix3 0 0 q) := by
  pointwise [k0_pay1]
  refine congrArg (· + bias (ix3 0 0 q)) (Finset.sum_congr rfl fun k _ => ?_)
  rw [← Cert.Lru.half_tanh_half, ← Cert.Lru.bits_half]

variable (m : (ℓ : Loc nD τ sig) → Buf (Elt Ideal) ℓ) (ρ : Dev nD → PrngReg) (c : Dev nD)

/-- The bias as the region finds it. -/
theorem V_bias (l : Fin 4) (j : Fin 6144) : V m c main_v0 (ix3 l 0 j) = m ((c : Thread nD τ).loc main_arg2) (ix2 l j) := by
  have h : V m c main_v0 = shapeCast S4x1x6144 (m ((c : Thread nD τ).loc main_arg2)) shapeCasts_S4x6144_S4x1x6144 := by
    unfold_abbrev_sides
    after_results
    all_goals rfl
  rw [h]
  generalize m ((c : Thread nD τ).loc main_arg2) = v
  exact shapeCast_apply (s := S4x6144) _ _ _ _ (by
    rw [Shape.rowMajor_val_three, Shape.rowMajor_val_two]
    show l.val * 6144 + j.val = (l.val * 1 + 0) * 6144 + j.val
    omega)

/-- The blocks of the windows: point `t` takes the columns `t % 3 * 2048 …` of layer `t / 3`. -/
theorem index_facts : ∀ t : Fin cfg0.N, win0_0.index t = ![0, 0] ∧ win0_1.index t = ![t.val / 3, 0, t.val % 3] ∧ win0_2.index t = ![t.val / 3, 0, t.val % 3]
    ∧ win0_3.index t = ![t.val / 3, 0, t.val % 3] :=
  (by decide +kernel : ∀ t : Fin grid0.N, _)

/-- The array that the call returns. -/
def result : FVec Ideal S4x8x6144 .f32 := fun i =>
  conditioning (m ((c : Thread nD τ).loc main_arg0)) (m ((c : Thread nD τ).loc main_arg1)) (m ((c : Thread nD τ).loc main_arg2)) (i 0) (i 1) (i 2)

variable (t : Fin cfg0.N)

/-- The blocks that a point reads. -/
theorem blocks (q : Fin 2048) (l : Fin 4) (j : Fin 6144) (hl : l.val = t.val / 3) (hj : j.val = t.val % 3 * 2048 + q.val) :
    (∀ (b : Fin 8) (k : Fin 1024), iblk m c 0 t (ix2 b k) = m ((c : Thread nD τ).loc main_arg0) (ix2 b k))
    ∧ (∀ k : Fin 1024, iblk m c 1 t (ix3 0 k q) = m ((c : Thread nD τ).loc main_arg1) (ix3 l k j))
    ∧ iblk m c 2 t (ix3 0 0 q) = m ((c : Thread nD τ).loc main_arg2) (ix2 l j) := by
  obtain ⟨e0, e1, e2, -⟩ := index_facts t
  rw [← V_main_arg0 m c, ← V_main_arg1 m c, ← V_bias m c]
  refine ⟨fun b k => ?_, fun k => ?_, ?_⟩
  · refine congrArg (V m c main_arg0) (funext fun a => Fin.ext ?_)
    blk_simp [e0]
    fin_cases a <;> simp
  · refine congrArg (V m c main_arg1) (funext fun a => Fin.ext ?_)
    blk_simp [e1]
    fin_cases a <;> simp [hl, hj]
  · refine congrArg (V m c main_v0) (funext fun a => Fin.ext ?_)
    blk_simp [e2]
    fin_cases a <;> simp [hl, hj]

/-- What a point leaves in the output's block is its block of the result. -/
theorem outs_apply (y : S1x8x2048.Idx) (i : S4x8x6144.Idx) (h0 : (i 0).val = t.val / 3) (h1 : (i 1).val = (y 1).val) (h2 : (i 2).val = t.val % 3 * 2048 + (y 2).val) :
    out0_3 (F := Ideal) (iblk m c 0 t) (iblk m c 1 t) (iblk m c 2 t) y = result m c i := by
  obtain ⟨o, b, q, rfl⟩ : ∃ (o : Fin 1) (b : Fin 8) (q : Fin 2048), y = ix3 o b q := ⟨y 0, y 1, y 2, eq_ix3 y⟩
  obtain ⟨l, b', j, rfl⟩ : ∃ (l : Fin 4) (b : Fin 8) (j : Fin 6144), i = ix3 l b j := ⟨i 0, i 1, i 2, eq_ix3 i⟩
  obtain rfl : o = 0 := Subsingleton.elim _ _
  obtain rfl : b' = b := Fin.ext h1
  obtain ⟨hv, hw, hb⟩ := blocks m c t q l j h0 h2
  frame_out
  refine (pay1_apply _ _ _ b' q).trans ?_
  show _ = conditioning _ _ _ l b' j
  unfold conditioning
  exact congrArg₂ _ (Finset.sum_congr rfl fun k _ => congrArg₂ _ (congrArg₂ _ (hv _ k) (congrArg Ideal.logistic (hv _ k))) (hw k)) hb

/-- The array after the last point. -/
theorem out_array : (dats m 0 c).arrAt 3 cfg0.N = result m c := by
  refine (dats m 0 c).arrAt_eq_of_covers 3 _ (by decide +kernel) fun t hf y => ?_
  obtain ⟨-, -, -, e⟩ := index_facts t
  blk_simp
  rw [after0_3]
  have hy : ((y : S1x8x2048.Idx) 0).val < 1 := (y 0).isLt
  refine outs_apply m c t y _ ?_ ?_ ?_
  · blk_simp [e]; try omega
  · blk_simp [e]
  · blk_simp [e]; try omega

/-- The call returns the four layers' conditioning and leaves its arguments. -/
theorem run_result : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (out_array m c), (h c).2⟩) (Value.run_blocks m ρ)

end Cert.CondKernelIdeal.Proj

namespace Cert.CondReferenceIdeal.Proj

open Idealize.ShloMosaic Idealize.ShloMosaic.TcCoe Idealize.SL.Sem Idealize.ShloMosaic.StableHlo
open Cert.CondReferenceIdeal Cert.CondReferenceIdeal.Gen Cert.Proj

variable (m : (ℓ : Loc nD τ sig) → Buf (Elt Ideal) ℓ) (ρ : Dev nD → PrngReg)

/-- The array that the reference returns. -/
def result (c : Dev nD) : FVec Ideal S4x8x6144 .f32 := fun i =>
  conditioning (m ((c : Thread nD τ).loc main_arg0)) (m ((c : Thread nD τ).loc main_arg1)) (m ((c : Thread nD τ).loc main_arg2)) (i 0) (i 1) (i 2)

/-- The reference returns the four layers' conditioning and leaves its arguments. -/
theorem run_result : θ_run defs (onTc (τ := τ) (main (F := Ideal))) ⟨m, fun _ => 0, ρ⟩ fun r => ∀ c : Dev nD,
      r.2.mem ((c : Thread nD τ).loc main_v37) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨(h c).1.trans ?_, (h c).2⟩) (Value.run m ρ)
  clear h
  funext i
  obtain ⟨l, b, j, rfl⟩ : ∃ (l : Fin 4) (b : Fin 8) (j : Fin 6144), i = ix3 l b j := ⟨i 0, i 1, i 2, eq_ix3 i⟩
  fin_cases l
  all_goals pointwise []
  all_goals rfl

/-- The reference's arguments end unchanged and its counters at zero. -/
theorem frame : θ_run (defs (F := Ideal)) (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0 :=
  (θ_run defs _ _).mono (fun r h => ⟨fun c => (h c).2, sem_eq_zero_of_no_sems (by decide) r.2⟩) (run_result m ρ)

end Cert.CondReferenceIdeal.Proj

end
-- ==== Proof.P.Rope.lean ====
module

public import proofs.«01_k».proof.Proof.Alg
public import proofs.«01_k».proof.Proof.Gen.RopeKernelIdeal.Value
public import proofs.«01_k».proof.Proof.Gen.RopeReferenceIdeal.Run
public import Idealize.ShloMosaic.Adequacy
public import Idealize.ShloMosaic.Init
public import Idealize.ShloMosaic.Lib.ValueLayout
public import Idealize.ShloMosaic.Lib.Pipeline.ValueKit

@[expose] public section

noncomputable section

namespace Cert.Proj

open Idealize.ShloMosaic Idealize.ShloMosaic.StableHlo
open Cert.RopeKernelIdeal Cert.RopeKernelIdeal.Gen

/-- The frequencies of a half head: the powers of ten thousand at minus a thirty-second of the index. -/
def freqs : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

/-- The angle of a position at a lane of a slab, whose half heads all have the same frequencies. -/
def angle (v : IVec S8x2048 32) (b : Fin 8) (s : Fin 2048) (l : Fin 128) : EReal :=
  (((v (ix2 b s)).toInt : ℝ) : EReal) * freqs (Idealize.ShloMosaic.ix1 ⟨l.val % 32, by omega⟩)

/-- The sine of a lane, negated in the first half of a slab. -/
def signedSin (v : IVec S8x2048 32) (b : Fin 8) (s : Fin 2048) (l : Fin 128) : EReal :=
  if l.val < 64 then -Ideal.sin (angle v b s l) else Ideal.sin (angle v b s l)

/-- The single-precision word of one denotes one. -/
theorem bits_one : Ideal.ofBits .f32 0x3F800000#32 = 1 := by
  simp [Ideal.ofBits, Ideal.ieee, -EReal.coe_mul]; norm_num

end Cert.Proj

namespace Cert.RopeKernelIdeal.Proj

open Idealize.ShloMosaic Idealize.ShloMosaic.TcCoe Idealize.SL.Sem Idealize.ShloMosaic.StableHlo
open Cert.RopeKernelIdeal Cert.RopeKernelIdeal.Gen Cert.Proj

/-- What a point stores of the cosines, at an index. -/
theorem pay2_apply (x : FVec Ideal S1x512x128 .f32) (f : FVec Ideal S1x128 .f32) (p : Fin 512) (l : Fin 128) :
    k0_pay2 (F := Ideal) x f (ix3 0 p l) = Ideal.cos (x (ix3 0 p l) * f (ix2 0 l)) := by
  pointwise [k0_pay2, k0_pay1]

/-- What a point stores of the sines, at an index. -/
theorem pay3_apply (x : FVec Ideal S1x512x128 .f32) (f g : FVec Ideal S1x128 .f32) (p : Fin 512) (l : Fin 128) :
    k0_pay3 (F := Ideal) x f g (ix3 0 p l) = Ideal.sin (x (ix3 0 p l) * f (ix2 0 l)) * g (ix2 0 l) := by
  pointwise [k0_pay3, k0_pay1]

variable (m : (ℓ : Loc nD τ sig) → Buf (Elt Ideal) ℓ) (ρ : Dev nD → PrngReg) (c : Dev nD)

/-- The positions as the region finds them. -/
theorem V_pos (b : Fin 8) (s : Fin 2048) (l : Fin 128) :
    V m c main_v16 (ix3 b s l) = (((m ((c : Thread nD τ).loc main_arg0) (ix2 b s)).toInt : ℝ) : EReal) := by
  have h : V m c main_v16 = broadcastInDim S8x2048x128 ![0, 1, 2] bcast_S8x2048x1_S8x2048x128_0_1_2
      (broadcastInDim S8x2048x1 ![0, 1] bcast_S8x2048_S8x2048x1_0_1 (sitofp (F := Ideal) .f32 (m ((c : Thread nD τ).loc main_arg0)))) := by
    unfold_abbrev_sides
    after_results
    all_goals rfl
  rw [h]
  pointwise []
  rfl

/-- The frequencies as the region finds them. -/
theorem V_freqs (l : Fin 128) : V m c main_v9 (ix2 0 l) = freqs (Idealize.ShloMosaic.ix1 ⟨l.val % 32, by omega⟩) := by
  have h : V m c main_v9 = shapeCast S1x128 (shapeCast S128 (broadcastInDim S4x32 ![0, 1] bcast_S1x32_S4x32_0_1 (shapeCast S1x32 freqs shapeCasts_S32_S1x32)) shapeCasts_S4x32_S128) shapeCasts_S128_S1x128 := by
    unfold_abbrev_sides
    after_results
    all_goals rfl
  rw [h]
  generalize freqs = f
  pointwise []

/-- The signs as the region finds them. -/
theorem V_signs (l : Fin 128) : V m c main_v17 (ix2 0 l) = (if l.val < 64 then -1 else 1 : EReal) := by
  have h : V m c main_v17 = shapeCast S1x128 (concatenate S128 0 [⟨S64, Host.negf (F := Ideal) (broadcastInDim S64 ![] bcast_S_S64 (constant (F := Ideal) S_ .f32 0x3F800000#32))⟩,
      ⟨S64, broadcastInDim S64 ![] bcast_S_S64 (constant (F := Ideal) S_ .f32 0x3F800000#32)⟩] concatenates_S64_S64_S128_d0) shapeCasts_S128_S1x128 := by
    unfold_abbrev_sides
    after_results
    all_goals rfl
  rw [h]
  pointwise [bits_one]
  rfl

/-- The blocks of the windows: point `t` takes positions `t % 4 * 512 …` of sequence `t / 4`. -/
theorem index_facts : ∀ t : Fin cfg0.N, win0_0.index t = ![t.val / 4, t.val % 4, 0] ∧ win0_1.index t = ![0, 0] ∧ win0_2.index t = ![0, 0] ∧ win0_3.index t = ![t.val / 4, t.val % 4, 0]
    ∧ win0_4.index t = ![t.val / 4, t.val % 4, 0] :=
  (by decide +kernel : ∀ t : Fin grid0.N, _)

/-- The table of cosines that the call returns. -/
def cosines : FVec Ideal S8x2048x128 .f32 := fun i => Ideal.cos (angle (m ((c : Thread nD τ).loc main_arg0)) (i 0) (i 1) (i 2))

/-- The table of sines that the call returns. -/
def sines : FVec Ideal S8x2048x128 .f32 := fun i => signedSin (m ((c : Thread nD τ).loc main_arg0)) (i 0) (i 1) (i 2)

variable (t : Fin cfg0.N)

/-- The blocks that a point reads. -/
theorem blocks (p : Fin 512) (b : Fin 8) (s : Fin 2048) (l : Fin 128) (hb : b.val = t.val / 4) (hs : s.val = t.val % 4 * 512 + p.val) :
    iblk m c 0 t (ix3 0 p l) = (((m ((c : Thread nD τ).loc main_arg0) (ix2 b s)).toInt : ℝ) : EReal)
    ∧ iblk m c 1 t (ix2 0 l) = freqs (Idealize.ShloMosaic.ix1 ⟨l.val % 32, by omega⟩)
    ∧ iblk m c 2 t (ix2 0 l) = (if l.val < 64 then -1 else 1 : EReal) := by
  obtain ⟨e0, e1, e2, -⟩ := index_facts t
  rw [← V_pos m c b s l, ← V_freqs m c, ← V_signs m c]
  refine ⟨?_, ?_, ?_⟩
  · refine congrArg (V m c main_v16) (funext fun a => Fin.ext ?_)
    blk_simp [e0]
    fin_cases a <;> simp [hb, hs]
  · refine congrArg (V m c main_v9) (funext fun a => Fin.ext ?_)
    blk_simp [e1]
    fin_cases a <;> simp
  · refine congrArg (V m c main_v17) (funext fun a => Fin.ext ?_)
    blk_simp [e2]
    fin_cases a <;> simp

/-- What a point leaves in the cosines' block is its block of the cosines. -/
theorem cos_apply (y : S1x512x128.Idx) (i : S8x2048x128.Idx) (h0 : (i 0).val = t.val / 4) (h1 : (i 1).val = t.val % 4 * 512 + (y 1).val) (h2 : (i 2).val = (y 2).val) :
    out0_3 (F := Ideal) (iblk m c 0 t) (iblk m c 1 t) (iblk m c 2 t) y = cosines m c i := by
  obtain ⟨o, p, l, rfl⟩ : ∃ (o : Fin 1) (p : Fin 512) (l : Fin 128), y = ix3 o p l := ⟨y 0, y 1, y 2, eq_ix3 y⟩
  obtain ⟨b, s, l', rfl⟩ : ∃ (b : Fin 8) (s : Fin 2048) (l : Fin 128), i = ix3 b s l := ⟨i 0, i 1, i 2, eq_ix3 i⟩
  obtain rfl : o = 0 := Subsingleton.elim _ _
  obtain rfl : l' = l := Fin.ext h2
  frame_out
  obtain ⟨hp, hf, -⟩ := blocks m c t p b s l' h0 h1
  exact (pay2_apply _ _ p l').trans (congrArg₂ (fun x y : EReal => Ideal.cos (x * y)) hp hf)

/-- What a point leaves in the sines' block is its block of the sines. -/
theorem sin_apply (y : S1x512x128.Idx) (i : S8x2048x128.Idx) (h0 : (i 0).val = t.val / 4) (h1 : (i 1).val = t.val % 4 * 512 + (y 1).val) (h2 : (i 2).val = (y 2).val) :
    out0_4 (F := Ideal) (iblk m c 0 t) (iblk m c 1 t) (iblk m c 2 t) y = sines m c i := by
  obtain ⟨o, p, l, rfl⟩ : ∃ (o : Fin 1) (p : Fin 512) (l : Fin 128), y = ix3 o p l := ⟨y 0, y 1, y 2, eq_ix3 y⟩
  obtain ⟨b, s, l', rfl⟩ : ∃ (b : Fin 8) (s : Fin 2048) (l : Fin 128), i = ix3 b s l := ⟨i 0, i 1, i 2, eq_ix3 i⟩
  obtain rfl : o = 0 := Subsingleton.elim _ _
  obtain rfl : l' = l := Fin.ext h2
  obtain ⟨hp, hf, hg⟩ := blocks m c t p b s l' h0 h1
  frame_out
  refine (pay3_apply _ _ _ p l').trans ((congrArg₂ (fun x y : EReal => Ideal.sin x * y) (congrArg₂ _ hp hf) hg).trans ?_)
  show Ideal.sin (angle _ b s l') * _ = signedSin _ b s l'
  unfold signedSin
  by_cases h : l'.val < 64
  · rw [if_pos h, if_pos h, mul_neg, mul_one]
  · rw [if_neg h, if_neg h, mul_one]

/-- The two arrays after the last point. -/
theorem out_arrays : (dats m 0 c).arrAt 3 cfg0.N = cosines m c ∧ (dats m 0 c).arrAt 4 cfg0.N = sines m c := by
  constructor
  · refine (dats m 0 c).arrAt_eq_of_covers 3 _ (by decide +kernel) fun t hf y => ?_
    obtain ⟨-, -, -, e, -⟩ := index_facts t
    blk_simp
    rw [after0_3]
    have hy : ((y : S1x512x128.Idx) 0).val < 1 := (y 0).isLt
    refine cos_apply m c t y _ ?_ ?_ ?_
    · blk_simp [e]; try omega
    · blk_simp [e]; try omega
    · blk_simp [e]
  · refine (dats m 0 c).arrAt_eq_of_covers 4 _ (by decide +kernel) fun t hf y => ?_
    obtain ⟨-, -, -, -, e⟩ := index_facts t
    blk_simp
    rw [after0_4]
    have hy : ((y : S1x512x128.Idx) 0).val < 1 := (y 0).isLt
    refine sin_apply m c t y _ ?_ ?_ ?_
    · blk_simp [e]; try omega
    · blk_simp [e]; try omega
    · blk_simp [e]

/-- The call returns the two tables and leaves its argument. -/
theorem run_result : θ_run defs (onTc (τ := τ) (main (F := Ideal))) ⟨m, fun _ => 0, ρ⟩ fun r => ∀ c : Dev nD,
      r.2.mem ((c : Thread nD τ).loc main_v18_0) = cosines m c
      ∧ r.2.mem ((c : Thread nD τ).loc main_v18_1) = sines m c
      ∧ r.2.mem ((c : Thread nD τ).loc main_arg0) = m ((c : Thread nD τ).loc main_arg0) :=
  (θ_run defs _ _).mono (fun r h c => ⟨(h c).1.trans (out_arrays m c).1, (h c).2.1.trans (out_arrays m c).2, (h c).2.2⟩) (Value.run_blocks m ρ)

end Cert.RopeKernelIdeal.Proj

namespace Cert.RopeReferenceIdeal.Proj

open Idealize.ShloMosaic Idealize.ShloMosaic.TcCoe Idealize.SL.Sem Idealize.ShloMosaic.StableHlo
open Cert.RopeReferenceIdeal Cert.RopeReferenceIdeal.Gen Cert.Proj

variable (m : (ℓ : Loc nD τ sig) → Buf (Elt Ideal) ℓ) (ρ : Dev nD → PrngReg)

/-- The table of cosines that the reference returns. -/
def cosines (c : Dev nD) : FVec Ideal S8x2048x128 .f32 := fun i => Ideal.cos (angle (m ((c : Thread nD τ).loc main_arg0)) (i 0) (i 1) (i 2))

/-- The table of sines that the reference returns. -/
def sines (c : Dev nD) : FVec Ideal S8x2048x128 .f32 := fun i => signedSin (m ((c : Thread nD τ).loc main_arg0)) (i 0) (i 1) (i 2)

/-- The angles of the reference. -/
def angles (v : IVec S8x2048 32) : FVec Ideal S8x2048x32 .f32 :=
  mulf (broadcastInDim S8x2048x32 ![0, 1, 2] bcast_S8x2048x1_S8x2048x32_0_1_2 (broadcastInDim S8x2048x1 ![0, 1] bcast_S8x2048_S8x2048x1_0_1 (sitofp .f32 v)))
    (broadcastInDim S8x2048x32 ![0, 1, 2] bcast_S1x1x32_S8x2048x32_0_1_2 (broadcastInDim S1x1x32 ![2] bcast_S32_S1x1x32_2 freqs))

/-- The angles of the reference at a lane. -/
theorem angles_apply (v : IVec S8x2048 32) (b : Fin 8) (s : Fin 2048) (l : Fin 128) (f : Fin 32) (hf : f.val = l.val % 32) : angles v (ix3 b s f) = angle v b s l := by
  rw [show f = ⟨l.val % 32, by omega⟩ from Fin.ext hf]
  unfold angles angle
  generalize freqs = g
  pointwise []
  rfl

/-- Four blocks of lanes side by side, at a lane. -/
theorem side_by_side (x : Fin 4 → FVec Ideal S8x2048x32 .f32) (h : Shape.Concatenates [S8x2048x32, S8x2048x32, S8x2048x32, S8x2048x32] S8x2048x128 2)
    (b : Fin 8) (s : Fin 2048) (l : Fin 128) :
    concatenate S8x2048x128 2 [⟨S8x2048x32, x 0⟩, ⟨S8x2048x32, x 1⟩, ⟨S8x2048x32, x 2⟩, ⟨S8x2048x32, x 3⟩] h (ix3 b s l)
      = x ⟨l.val / 32, by omega⟩ (ix3 b s ⟨l.val % 32, by omega⟩) := by
  have hl : l.val / 32 < 4 := by omega
  refine concatenate_apply_piece 2 [⟨S8x2048x32, x 0⟩, ⟨S8x2048x32, x 1⟩, ⟨S8x2048x32, x 2⟩, ⟨S8x2048x32, x 3⟩] h (ix3 b s l) (l.val / 32) hl S8x2048x32 _ ?_ rfl (l.val / 32 * 32) ?_ _ (fun a ha => ?_) ?_
  · exact (fun n (hn : n < 4) => by interval_cases n <;> rfl : ∀ (n : ℕ) (hn : n < 4),
      ([⟨S8x2048x32, x 0⟩, ⟨S8x2048x32, x 1⟩, ⟨S8x2048x32, x 2⟩, ⟨S8x2048x32, x 3⟩] : List ((s : Shape) × (s.Idx → EReal)))[n]'hn = ⟨S8x2048x32, x ⟨n, hn⟩⟩) _ hl
  · generalize l.val / 32 = n at hl
    interval_cases n <;> rfl
  · fin_cases a
    · rfl
    · rfl
    · exact absurd rfl ha
  · show l.val / 32 * 32 + l.val % 32 = l.val
    omega

/-- The reference returns the two tables and leaves its argument. -/
theorem run_result : θ_run defs (onTc (τ := τ) (main (F := Ideal))) ⟨m, fun _ => 0, ρ⟩ fun r => ∀ c : Dev nD,
      r.2.mem ((c : Thread nD τ).loc main_v14) = cosines m c
      ∧ r.2.mem ((c : Thread nD τ).loc main_v17) = sines m c
      ∧ r.2.mem ((c : Thread nD τ).loc main_arg0) = m ((c : Thread nD τ).loc main_arg0) := by
  refine (θ_run defs _ _).mono (fun r h c => ⟨(h c).1.trans ?_, (h c).2.1.trans ?_, (h c).2.2⟩) (Value.run m ρ)
  all_goals
    clear h
    funext i
    obtain ⟨b, s, l, rfl⟩ : ∃ (b : Fin 8) (s : Fin 2048) (l : Fin 128), i = ix3 b s l := ⟨i 0, i 1, i 2, eq_ix3 i⟩
  · refine (side_by_side (fun _ => Host.cos (angles (m ((c : Thread nD τ).loc main_arg0)))) _ b s l).trans ?_
    exact congrArg Ideal.cos (angles_apply _ b s l _ rfl)
  · refine (side_by_side ![Host.negf (Host.sin (angles (m ((c : Thread nD τ).loc main_arg0)))), Host.negf (Host.sin (angles (m ((c : Thread nD τ).loc main_arg0)))),
      Host.sin (angles (m ((c : Thread nD τ).loc main_arg0))), Host.sin (angles (m ((c : Thread nD τ).loc main_arg0)))] _ b s l).trans ?_
    show _ = signedSin _ b s l
    unfold signedSin
    rw [← angles_apply _ b s l ⟨l.val % 32, by omega⟩ rfl]
    have hl : l.val / 32 < 4 := by omega
    by_cases q : l.val < 64
    · rw [if_pos q]
      rcases (by omega : l.val / 32 = 0 ∨ l.val / 32 = 1) with e | e
      · rw [show (⟨l.val / 32, hl⟩ : Fin 4) = 0 from Fin.ext e]; rfl
      · rw [show (⟨l.val / 32, hl⟩ : Fin 4) = 1 from Fin.ext e]; rfl
    · rw [if_neg q]
      rcases (by omega : l.val / 32 = 2 ∨ l.val / 32 = 3) with e | e
      · rw [show (⟨l.val / 32, hl⟩ : Fin 4) = 2 from Fin.ext e]; rfl
      · rw [show (⟨l.val / 32, hl⟩ : Fin 4) = 3 from Fin.ext e]; rfl

/-- The reference's argument ends unchanged and its counters at zero. -/
theorem frame : θ_run (defs (F := Ideal)) (onTc (τ := τ) (main (F := Ideal))) ⟨m, fun _ => 0, ρ⟩ fun r => (∀ c : Dev nD,
      r.2.mem ((c : Thread nD τ).loc main_arg0) = m ((c : Thread nD τ).loc main_arg0))
      ∧ r.2.sem = fun _ => 0 :=
  (θ_run defs _ _).mono (fun r h => ⟨fun c => (h c).2.2, sem_eq_zero_of_no_sems (by decide) r.2⟩) (run_result m ρ)

end Cert.RopeReferenceIdeal.Proj

end
-- ==== Proof.E.BodyIdeal.lean ====
module

public import proofs.«01_k».proof.Proof.Gen.ExpertsKernelIdeal.Launch
public import proofs.«01_k».proof.Proof.Gen.ExpertsKernelIdeal.Skeleton
public import Idealize.ShloMosaic.Lib.Pipeline.Kit
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.ExpertsKernelIdeal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ExpertsKernelIdeal Cert.ExpertsKernelIdeal.Gen

variable {F : FTy → Type} [FloatOps F]

local notation "𝕄" => MT nD τ sig Unit (Elt F) ℕ (UR sig nD τ) ℕ

/-- The table of the blocks' experts and the table of the one count, as the body is handed them. -/
abbrev beM : Memref sig .tc .smem S96 .i32 := Memref.whole main_arg1
abbrev nbM : Memref sig .tc .smem S1 .i32 := Memref.whole main_arg2
/-- The three buffers of the kernel's own that hold an expert's weights between points. -/
abbrev wgM : Memref sig .tc .vmem S1024x512 .bf16 := Memref.whole cc0_scratch0
abbrev wuM : Memref sig .tc .vmem S1024x512 .bf16 := Memref.whole cc0_scratch1
abbrev wdM : Memref sig .tc .vmem S512x1024 .bf16 := Memref.whole cc0_scratch2

/-- A table's contents on a core, and the half of it that the body reads. -/
abbrev Tab (c : Dev nD) {S : Shape} (M : Memref sig .tc .smem S .i32) : Type := Buf (Elt F) (M.view.loc (c : Thread nD τ))
abbrev half (c : Dev nD) {S : Shape} (M : Memref sig .tc .smem S .i32) (f : Tab (F := F) c M) : sProp 𝕄 :=
  M.view.loc (c : Thread nD τ) ↦{fullShare.right} f

/-- The words that the body reads: the block's expert, the expert of the block before, and the count. -/
abbrev wordHere (c : Dev nD) (i : grid0.Coords) (T : Tab (F := F) c beM) : BitVec 32 :=
  beM.view.readAt (Elt F) (Rect.unit (s := S96) (k0_off1 i) S1.size (k0_off1_inb i)).toLoadRect T (Shape.Idx.first (numel1_S1.symm ▸ Nat.one_pos))
abbrev wordBefore (c : Dev nD) (i : grid0.Coords) (T : Tab (F := F) c beM) : BitVec 32 :=
  beM.view.readAt (Elt F) (Rect.unit (s := S96) (k0_off2 i) S1.size (k0_off2_inb i)).toLoadRect T (Shape.Idx.first (numel1_S1.symm ▸ Nat.one_pos))
abbrev wordCount (c : Dev nD) (T : Tab (F := F) c nbM) : BitVec 32 :=
  nbM.view.readAt (Elt F) (Rect.unit (s := S1) ![0] S1.size inb_S1_S1_0).toLoadRect T (Shape.Idx.first (numel1_S1.symm ▸ Nat.one_pos))

/-- The point loads its expert's weights: it is the first, or its expert is not the one before. -/
abbrev loads (c : Dev nD) (i : grid0.Coords) (T : Tab (F := F) c beM) : Prop :=
  Scalar.cmpi .ne (Scalar.extui (Scalar.ori (Scalar.cmpi .eq (BitVec.ofNat 32 (i 0).val) 0#32) (Scalar.cmpi .ne (wordHere c i T) (wordBefore c i T)))) 0#32 = 1#1
/-- The point's block is one of the used ones. -/
abbrev used (c : Dev nD) (i : grid0.Coords) (T : Tab (F := F) c nbM) : Prop := k0_cond2 i (wordCount c T) = 1#1

/-- The two conditions on the count exclude each other, and one of them holds. -/
theorem cond3_iff (i : grid0.Coords) (w : BitVec 32) : k0_cond3 i w = 1#1 ↔ ¬ k0_cond2 i w = 1#1 := by
  unfold k0_cond3 k0_cond2
  dsimp only
  generalize BitVec.ofNat 32 (i 0).val = a
  have h : IntOp.cmpi .sge a w = ~~~ (IntOp.cmpi .slt a w) := by
    simp only [IntOp.cmpi, BitVec.sle_eq_not_slt]
    cases BitVec.slt a w <;> rfl
  show (Scalar.cmpi .ne (Scalar.extui (IntOp.cmpi .sge a w)) 0#32 = 1#1) ↔ ¬ (Scalar.cmpi .ne (Scalar.extui (IntOp.cmpi .slt a w)) 0#32 = 1#1)
  rw [h]
  generalize IntOp.cmpi .slt a w = b
  revert b
  decide

/-- The feed-forward of equal blocks by equal weights. -/
theorem pay4_congr {x x' : Vec F S512x1024 .f32} {g g' u u' : Vec F S1024x512 .bf16} {d d' : Vec F S512x1024 .bf16} (hx : x = x') (hg : g = g') (hu : u = u') (hd : d = d') :
    k0_pay4 x g u d = k0_pay4 x' g' u' d' := by
  rw [hx, hg, hu, hd]

set_option maxHeartbeats 1000000 in
/-- THE BODY at any point: the weights' buffers end at the point's weights where it loads them and as they were otherwise, and the output block at the
    experts' feed-forward of the block, by the weights then held, or at zero. -/
theorem body_run (c : Dev nD) (i : grid0.Coords) (arg3 : Memref sig .tc .vmem S512x1024 .f32) (harg3 : arg3.IsWhole) (arg4 : Memref sig .tc .vmem S1x1x1024x512 .f32) (harg4 : arg4.IsWhole)
    (arg5 : Memref sig .tc .vmem S1x1x1024x512 .f32) (harg5 : arg5.IsWhole) (arg6 : Memref sig .tc .vmem S1x1x512x1024 .f32) (harg6 : arg6.IsWhole) (arg7 : Memref sig .tc .vmem S512x1024 .f32) (harg7 : arg7.IsWhole)
    (x0 : Vec F S512x1024 .f32) (x1 : Vec F S1x1x1024x512 .f32) (x2 : Vec F S1x1x1024x512 .f32) (x3 : Vec F S1x1x512x1024 .f32)
    (g u : Vec F S1024x512 .bf16) (d : Vec F S512x1024 .bf16) (g' u' : Vec F S1024x512 .bf16) (d' : Vec F S512x1024 .bf16) (o : Vec F S512x1024 .f32)
    (T0 : Tab (F := F) c beM) (T1 : Tab (F := F) c nbM)
    (hg : loads c i T0 → g' = k0_pay1 x1) (hu : loads c i T0 → u' = k0_pay2 x2) (hd : loads c i T0 → d' = k0_pay3 x3)
    (hk : ¬ loads c i T0 → g' = g ∧ u' = u ∧ d' = d)
    (ho : used c i T1 → o = k0_pay4 x0 g' u' d') (hz : ¬ used c i T1 → o = k0_pay5) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ y, owns (c : Thread nD τ) arg7 fullShare y) ∗ owns (c : Thread nD τ) wgM fullShare g ∗ owns (c : Thread nD τ) wuM fullShare u ∗ owns (c : Thread nD τ) wdM fullShare d
        ∗ half c beM T0 ∗ half c nbM T1
        ∗ (iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare o ∗ owns (c : Thread nD τ) wgM fullShare g' ∗ owns (c : Thread nD τ) wuM fullShare u' ∗ owns (c : Thread nD τ) wdM fullShare d'
          ∗ half c beM T0 ∗ half c nbM T1) -∗ K ⟨⟩))
      ⊢ wp frame (wpE (defs₀ (F := F)) Variants.none c none) E
          (cc0_moe_experts i beM (Memref.isWhole_whole _) nbM (Memref.isWhole_whole _) arg3 harg3 arg4 harg4 arg5 harg5 arg6 harg6 arg7 harg7 wgM (Memref.isWhole_whole _) wuM (Memref.isWhole_whole _) wdM (Memref.isWhole_whole _)) K := by
  have hS0 : wgM.IsWhole := Memref.isWhole_whole _
  have hS1 : wuM.IsWhole := Memref.isWhole_whole _
  have hS2 : wdM.IsWhole := Memref.isWhole_whole _
  rw [cc0_moe_experts_eq_skeleton]; unfold cc0_moe_experts_skel
  have e2 : used c i T1 → ¬ k0_cond3 i (wordCount c T1) = 1#1 := fun h h' => (cond3_iff i _).mp h' h
  have e3 : ¬ used c i T1 → k0_cond3 i (wordCount c T1) = 1#1 := (cond3_iff i _).mpr
  rw [owns_eq_rep (c : Thread nD τ) arg3, owns_eq_rep (c : Thread nD τ) arg4, owns_eq_rep (c : Thread nD τ) arg5, owns_eq_rep (c : Thread nD τ) arg6,
    owns_eq_rep (c : Thread nD τ) wgM _ g, owns_eq_rep (c : Thread nD τ) wuM _ u, owns_eq_rep (c : Thread nD τ) wdM _ d]
  unfold owns
  iintro ⟨H0, H1, H2, H3, ⟨%y, %f4, -, H4⟩, HS0, HS1, HS2, HT0, HT1, Hk⟩
  by_cases hc0 : loads c i T0 <;> by_cases hc1 : used c i T1
  all_goals
    first
      | (have hc : loads c i T0 := hc0; have q := hg hc; have q' := hu hc; have q'' := hd hc; subst q q' q'')
      | (have q := hk hc0; obtain ⟨q, q', q''⟩ := q; subst q q' q'')
  all_goals
    first
      | (have hc : used c i T1 := hc1; have q := ho hc; subst q; have hc2 := e2 hc1)
      | (have q := hz hc1; subst q; have hc2 := e3 hc1)
  all_goals
    clear e2 e3 ho hz hg hu hd hk
    sl_exec (disch := first | sl_exact hc0 | sl_exact hc1 | sl_exact hc2)
    sl_step
    iapply Hk
    isplitl [H0]; · iexact H0
    isplitl [H1]; · iexact H1
    isplitl [H2]; · iexact H2
    isplitl [H3]; · iexact H3
    isplitl [H4]
    · iexists _; isplitr; swap; · iexact H4
      ipureintro
      refine (View.read_writes_full _ _ _ _ _).trans ?_
      first
        | (have hc' : ¬ used c i T1 := hc1; exact rfl)
        | (have hc' : ¬ loads c i T0 := hc0
           exact pay4_congr (View.readAt_rep_full _ _ _) (View.readAt_rep_full _ _ _) (View.readAt_rep_full _ _ _) (View.readAt_rep_full _ _ _))
        | exact pay4_congr (View.readAt_rep_full _ _ _) ((View.readCov_full _ _ _ _ _).trans (congrArg k0_pay1 (View.readAt_rep_full _ _ _)))
            ((View.readCov_full _ _ _ _ _).trans (congrArg k0_pay2 (View.readAt_rep_full _ _ _))) ((View.readCov_full _ _ _ _ _).trans (congrArg k0_pay3 (View.readAt_rep_full _ _ _)))
    isplitl [HS0]
    · iexists _; isplitr; swap; · iexact HS0
      ipureintro
      first
        | (have hc' : ¬ loads c i T0 := hc0; exact View.read_rep _ _)
        | exact (View.read_writes_full _ _ _ _ _).trans (congrArg k0_pay1 (View.readAt_rep_full _ _ _))
    isplitl [HS1]
    · iexists _; isplitr; swap; · iexact HS1
      ipureintro
      first
        | (have hc' : ¬ loads c i T0 := hc0; exact View.read_rep _ _)
        | exact (View.read_writes_full _ _ _ _ _).trans (congrArg k0_pay2 (View.readAt_rep_full _ _ _))
    isplitl [HS2]
    · iexists _; isplitr; swap; · iexact HS2
      ipureintro
      first
        | (have hc' : ¬ loads c i T0 := hc0; exact View.read_rep _ _)
        | exact (View.read_writes_full _ _ _ _ _).trans (congrArg k0_pay3 (View.readAt_rep_full _ _ _))
    isplitl [HT0]; · iexact HT0
    iexact HT1

end Cert.ExpertsKernelIdeal.Exp

end
-- ==== Proof.E.RunIdeal.lean ====
module

public import proofs.«01_k».proof.Proof.E.BodyIdeal
public import Idealize.ShloMosaic.Lib.Pipeline.Covers
public import Idealize.ShloMosaic.Lib.Pipeline.ValueKit
public import Idealize.ShloMosaic.Lib.Claim
public import Idealize.ShloMosaic.Lib.ValueLayout

@[expose] public section

set_option maxRecDepth 16384

noncomputable section

namespace Cert.ExpertsKernelIdeal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation)
open Cert.ExpertsKernelIdeal Cert.ExpertsKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core's buffers when the region is entered: as launched. -/
abbrev V (c : Dev nD) (b : Ref sig .tc) : Buf (Elt F) ((c : Thread nD τ).loc b) := m ((c : Thread nD τ).loc b)

set_option maxHeartbeats 800000 in
/-- The program is the region alone. -/
theorem main_region (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents, on every device those of the one there is. -/
def tbl : pre0.Contents (Elt F) := fun j => V m (0 : Dev nD) (pre0.ref j)
theorem tbl_eq (c : Dev nD) (j : Fin 2) : V m c (pre0.ref j) = tbl m j := by
  obtain rfl : c = 0 := Subsingleton.elim _ _; rfl

/-- The blocks that the tables name lie inside the weights' arrays. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The halves of the tables that the body is handed. -/
theorem tables_eq (c : Dev nD) : (Pipeline.ΦT pre0 (tbl m) c : sProp 𝕄) = iprop(half c beM (tbl m 0) ∗ half c nbM (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The kernel's own buffers at any contents. -/
theorem own_eq (c : Dev nD) :
    (Pipeline.ΦA spec0 c : sProp 𝕄)
      = iprop(iprop((∃ d, owns (c : Thread nD τ) wgM fullShare d) ∗ (∃ d, owns (c : Thread nD τ) wuM fullShare d) ∗ (∃ d, owns (c : Thread nD τ) wdM fullShare d)) ∗ (∃ r, prngReg c r)) := by
  unfold Pipeline.ΦA; rw [scopedRest0_eq]; simp only [wgM, wuM, wdM, owns_whole]; try rfl

/-- A window's block at a point. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## The words of the tables -/

/-- The expert of block `n`. -/
def be (n : Fin 96) : BitVec 32 := tbl m 0 (Idealize.ShloMosaic.ix1 n)
/-- The count of used blocks. -/
def nb : BitVec 32 := tbl m 1 (Idealize.ShloMosaic.ix1 (0 : Fin 1))

theorem off_facts : ∀ t : Fin grid0.N, k0_off1 (grid0.coords t) 0 = t.val ∧ k0_off2 (grid0.coords t) 0 = t.val - 1 ∧ BitVec.ofNat 32 (grid0.coords t 0).val = BitVec.ofNat 32 t.val ∧ (BitVec.ofNat 32 t.val).toNat = t.val := by
  decide +kernel

theorem wordHere_eq (c : Dev nD) (t : Fin grid0.N) (n : Fin 96) (hn : n.val = t.val) : wordHere c (grid0.coords t) (tbl m 0) = be m n := by
  refine congrArg (tbl m 0) (funext fun a => Fin.ext ?_)
  match a with
  | ⟨0, _⟩ =>
    show k0_off1 (grid0.coords t) 0 + 0 * 1 = n.val
    rw [(off_facts t).1, hn]; rfl

theorem wordBefore_eq (c : Dev nD) (t : Fin grid0.N) (n : Fin 96) (hn : n.val = t.val - 1) : wordBefore c (grid0.coords t) (tbl m 0) = be m n := by
  refine congrArg (tbl m 0) (funext fun a => Fin.ext ?_)
  match a with
  | ⟨0, _⟩ =>
    show k0_off2 (grid0.coords t) 0 + 0 * 1 = n.val
    rw [(off_facts t).2.1, hn]; rfl

theorem wordCount_eq (c : Dev nD) : wordCount c (tbl m 1) = nb m := by
  refine congrArg (tbl m 1) (funext fun a => Fin.ext ?_)
  match a with
  | ⟨0, _⟩ => rfl

/-- The weights' block index at a point: the layer's, and the block's expert. -/
theorem weight_index (t : Fin grid0.N) (n : Fin 96) (hn : n.val = t.val) :
    cc0_transform_1 k0_off1_inb numel1_S1 (tbl m) (grid0.coords t) = ![0, (be m n).toNat, 0, 0]
    ∧ cc0_transform_2 k0_off1_inb numel1_S1 (tbl m) (grid0.coords t) = ![0, (be m n).toNat, 0, 0]
    ∧ cc0_transform_3 k0_off1_inb numel1_S1 (tbl m) (grid0.coords t) = ![0, (be m n).toNat, 0, 0] := by
  have e : (tbl m).at 0 (Rect.unit (s := S96) ![(Scalar.indexCast (BitVec.ofNat 32 (grid0.coords t 0).val)).toNat] S1.size (k0_off1_inb (grid0.coords t))) numel1_S1 = be m n :=
    wordHere_eq m 0 t n hn
  refine ⟨?_, ?_, ?_⟩
  · unfold cc0_transform_1; dsimp only; rw [e]; rfl
  · unfold cc0_transform_2; dsimp only; rw [e]; rfl
  · unfold cc0_transform_3; dsimp only; rw [e]; rfl

/-- The tables are admissible where each block's expert is one of the 32. -/
theorem ok_of_lt (h : ∀ n, (be m n).toNat < 32) : Ok m := by
  unfold Ok ok0
  refine ⟨fun i => ?_, fun i => ?_, fun i => ?_⟩
  all_goals
    obtain ⟨t, rfl⟩ := (Pipeline.Grid.coords_surjective grid0) i
    have hN : t.val < 96 := lt_of_lt_of_eq t.isLt N_0
    obtain ⟨e1, e2, e3⟩ := weight_index m t ⟨t.val, hN⟩ rfl
    have hb := h ⟨t.val, hN⟩
    generalize be m ⟨t.val, hN⟩ = b at hb e1 e2 e3
    refine ⟨fun a => ?_, Or.inl rfl⟩
    first | rw [e1] | rw [e2] | rw [e3]
    fin_cases a <;> simp <;> omega

/-- A point that does not load is not the first, and its expert is that of the block before. -/
theorem keeps (c : Dev nD) (t : Fin grid0.N) (h : ¬ loads c (grid0.coords t) (tbl m 0)) (n k : Fin 96) (hn : n.val = t.val) (hk : k.val = t.val - 1) : t.val ≠ 0 ∧ be m n = be m k := by
  have e := (off_facts t).2.2
  simp only [loads] at h
  rw [wordHere_eq m c t n hn, wordBefore_eq m c t k hk, e.1] at h
  by_cases h0 : BitVec.ofNat 32 t.val = 0#32
  · refine absurd ?_ h
    rw [h0]
    simp only [Scalar.cmpi, Scalar.extui, Scalar.ori, IntOp.cmpi]
    cases (be m n != be m k) <;> rfl
  · refine ⟨fun hz => h0 (by rw [hz]), ?_⟩
    by_contra hne
    refine h ?_
    have hb : (be m n != be m k) = true := by simp [hne]
    simp only [Scalar.cmpi, Scalar.extui, Scalar.ori, IntOp.cmpi]
    rw [hb]
    cases (BitVec.ofNat 32 t.val == 0#32) <;> rfl

/-! ## The proof data -/

/-- The current staging memref of each window at a point, whole. -/
abbrev ms0 (hO : Ok m) (t : Fin (cfgM m hO).N) := spec0_0.stage ((cfgM m hO).slots t 0)
abbrev ms1 (hO : Ok m) (t : Fin (cfgM m hO).N) := spec0_1.stage ((cfgM m hO).slots t 1)
abbrev ms2 (hO : Ok m) (t : Fin (cfgM m hO).N) := spec0_2.stage ((cfgM m hO).slots t 2)
abbrev ms3 (hO : Ok m) (t : Fin (cfgM m hO).N) := spec0_3.stage ((cfgM m hO).slots t 3)
abbrev ms4 (hO : Ok m) (t : Fin (cfgM m hO).N) := spec0_4.stage ((cfgM m hO).slots t 4)
abbrev hs0 (hO : Ok m) (t : Fin (cfgM m hO).N) := hstage0_0 (((cfgM m hO).slots t 0).cast nbuf0_0)
abbrev hs1 (hO : Ok m) (t : Fin (cfgM m hO).N) := hstage0_1 (((cfgM m hO).slots t 1).cast nbuf0_1)
abbrev hs2 (hO : Ok m) (t : Fin (cfgM m hO).N) := hstage0_2 (((cfgM m hO).slots t 2).cast nbuf0_2)
abbrev hs3 (hO : Ok m) (t : Fin (cfgM m hO).N) := hstage0_3 (((cfgM m hO).slots t 3).cast nbuf0_3)
abbrev hs4 (hO : Ok m) (t : Fin (cfgM m hO).N) := hstage0_4 (((cfgM m hO).slots t 4).cast nbuf0_4)

/-- The body at a point, on what the pipeline calls it with. -/
abbrev bodyAt (hO : Ok m) (t : Fin (cfgM m hO).N) : Prog (TpuEff nD τ sig (Elt F) Λ₀ .tc) PUnit :=
  cc0_moe_experts (grid0.coords t) beM (Memref.isWhole_whole _) nbM (Memref.isWhole_whole _) (ms0 m hO t) (hs0 m hO t) (ms1 m hO t) (hs1 m hO t) (ms2 m hO t) (hs2 m hO t) (ms3 m hO t) (hs3 m hO t) (ms4 m hO t) (hs4 m hO t)
    wgM (Memref.isWhole_whole _) wuM (Memref.isWhole_whole _) wdM (Memref.isWhole_whole _)

/-- The weights held after a point: the point's own expert's. -/
def wgAt (hO : Ok m) (c : Dev nD) (t : Fin (cfgM m hO).N) : Vec F S1024x512 .bf16 := k0_pay1 (iblk m hO c 1 t)
def wuAt (hO : Ok m) (c : Dev nD) (t : Fin (cfgM m hO).N) : Vec F S1024x512 .bf16 := k0_pay2 (iblk m hO c 2 t)
def wdAt (hO : Ok m) (c : Dev nD) (t : Fin (cfgM m hO).N) : Vec F S512x1024 .bf16 := k0_pay3 (iblk m hO c 3 t)

/-- The block that a point leaves: its expert's feed-forward where the block is used, zero where it is not. -/
def outAt (hO : Ok m) (c : Dev nD) (t : Fin (cfgM m hO).N) : Vec F S512x1024 .f32 :=
  if used c (grid0.coords t) (tbl m 1) then k0_pay4 (iblk m hO c 0 t) (wgAt m hO c t) (wuAt m hO c t) (wdAt m hO c t) else k0_pay5

/-- The invariant before point `n`: the kernel's own buffers at the weights that the point before left, and the tables. -/
def inv (hO : Ok m) (c : Dev nD) : (n : ℕ) → n ≤ (cfgM m hO).N → sProp 𝕄
  | 0, _ => iprop(Pipeline.ΦA spec0 c ∗ Pipeline.ΦT pre0 (tbl m) c)
  | n + 1, h => iprop(iprop(iprop(owns (c : Thread nD τ) wgM fullShare (wgAt m hO c ⟨n, h⟩) ∗ owns (c : Thread nD τ) wuM fullShare (wuAt m hO c ⟨n, h⟩) ∗ owns (c : Thread nD τ) wdM fullShare (wdAt m hO c ⟨n, h⟩)) ∗ (∃ r, prngReg c r)) ∗ Pipeline.ΦT pre0 (tbl m) c)

theorem inv_zero (hO : Ok m) (c : Dev nD) (n : ℕ) (h : n ≤ (cfgM m hO).N) (hz : n = 0) : inv m hO c n h = iprop(Pipeline.ΦA spec0 c ∗ Pipeline.ΦT pre0 (tbl m) c) := by
  subst hz; rfl
theorem inv_succ (hO : Ok m) (c : Dev nD) (n : ℕ) (h : n + 1 ≤ (cfgM m hO).N) (t : Fin (cfgM m hO).N) (ht : t.val = n) :
    inv m hO c (n + 1) h = iprop(iprop(iprop(owns (c : Thread nD τ) wgM fullShare (wgAt m hO c t) ∗ owns (c : Thread nD τ) wuM fullShare (wuAt m hO c t) ∗ owns (c : Thread nD τ) wdM fullShare (wdAt m hO c t)) ∗ (∃ r, prngReg c r)) ∗ Pipeline.ΦT pre0 (tbl m) c) := by
  subst ht; rfl

/-- The proof data: the arrays as the region finds them, each input's buffer at its block, the output's at what the point leaves. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ t := inv m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]
theorem inv_castSucc (hO : Ok m) (c : Dev nD) (t : Fin (cfgM m hO).N) : (dats m hO 0 c).Φ t.castSucc = inv m hO c t.val (Nat.le_of_lt t.isLt) := by
  dsimp only [dats]; exact Pipeline.Dat.Φ_castSucc (inv m hO c) t

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = outAt m hO c t := by dsimp only [dats]; try rfl

/-- Each input's buffer holds its block at every point, fetched there or not. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- The weights' blocks are equal at two points of one expert. -/
theorem same_1 (hO : Ok m) (c : Dev nD) (t t' : Fin (cfgM m hO).N) (n n' : Fin 96) (hn : n.val = t.val) (hn' : n'.val = t'.val) (h : be m n = be m n') : iblk m hO c 1 t = iblk m hO c 1 t' := by
  have q : (dats m hO 0 c).fetched 1 t (iblk m hO c 1 t) = (dats m hO 0 c).fetched 1 t' (iblk m hO c 1 t) :=
    (dats m hO 0 c).fetched_congr 1 (((weight_index m t n hn).1.trans (by rw [h])).trans (weight_index m t' n' hn').1.symm) rfl _
  have e : ∀ s d, (dats m hO 0 c).fetched 1 s d = iblk m hO c 1 s := fun s d => by
    unfold Dat.fetched Dat.blockOf iblk; rw [A_eq]; try rfl
  rw [e, e] at q; exact q
theorem same_2 (hO : Ok m) (c : Dev nD) (t t' : Fin (cfgM m hO).N) (n n' : Fin 96) (hn : n.val = t.val) (hn' : n'.val = t'.val) (h : be m n = be m n') : iblk m hO c 2 t = iblk m hO c 2 t' := by
  have q : (dats m hO 0 c).fetched 2 t (iblk m hO c 2 t) = (dats m hO 0 c).fetched 2 t' (iblk m hO c 2 t) :=
    (dats m hO 0 c).fetched_congr 2 (((weight_index m t n hn).2.1.trans (by rw [h])).trans (weight_index m t' n' hn').2.1.symm) rfl _
  have e : ∀ s d, (dats m hO 0 c).fetched 2 s d = iblk m hO c 2 s := fun s d => by
    unfold Dat.fetched Dat.blockOf iblk; rw [A_eq]; try rfl
  rw [e, e] at q; exact q
theorem same_3 (hO : Ok m) (c : Dev nD) (t t' : Fin (cfgM m hO).N) (n n' : Fin 96) (hn : n.val = t.val) (hn' : n'.val = t'.val) (h : be m n = be m n') : iblk m hO c 3 t = iblk m hO c 3 t' := by
  have q : (dats m hO 0 c).fetched 3 t (iblk m hO c 3 t) = (dats m hO 0 c).fetched 3 t' (iblk m hO c 3 t) :=
    (dats m hO 0 c).fetched_congr 3 (((weight_index m t n hn).2.2.trans (by rw [h])).trans (weight_index m t' n' hn').2.2.symm) rfl _
  have e : ∀ s d, (dats m hO 0 c).fetched 3 s d = iblk m hO c 3 s := fun s d => by
    unfold Dat.fetched Dat.blockOf iblk; rw [A_eq]; try rfl
  rw [e, e] at q; exact q

/-! ## The body at a point -/

/-- What the body is called with at a point, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t))

set_option maxHeartbeats 1000000 in
/-- The body's triple at a point, from what the kernel's own buffers hold before it. -/
theorem body_step (hO : Ok m) (c : Dev nD) (t : Fin (cfgM m hO).N) (g u : Vec F S1024x512 .bf16) (d : Vec F S512x1024 .bf16)
    (hk : ¬ loads c (grid0.coords t) (tbl m 0) → wgAt m hO c t = g ∧ wuAt m hO c t = u ∧ wdAt m hO c t = d) :
    iprop(iprop(iprop(owns (c : Thread nD τ) wgM fullShare g ∗ owns (c : Thread nD τ) wuM fullShare u ∗ owns (c : Thread nD τ) wdM fullShare d) ∗ (∃ r, prngReg c r)) ∗ Pipeline.ΦT pre0 (tbl m) c
        ∗ (dats m hO 0 c).owesAt () t.castSucc
        ∗ owns (c : Thread nD τ) (ms0 m hO t) fullShare (iblk m hO c 0 t) ∗ owns (c : Thread nD τ) (ms1 m hO t) fullShare (iblk m hO c 1 t)
        ∗ owns (c : Thread nD τ) (ms2 m hO t) fullShare (iblk m hO c 2 t) ∗ owns (c : Thread nD τ) (ms3 m hO t) fullShare (iblk m hO c 3 t)
        ∗ (∃ y, owns (c : Thread nD τ) (ms4 m hO t) fullShare y))
      ⊢ wp frame (wpE (defs₀ (F := F)) Variants.none c none) Set.univ (bodyAt m hO t) (fun _ => bodyPost m hO c t) := by
  unfold bodyPost
  rw [show (dats m hO 0 c).owesAt () t.succ = (dats m hO 0 c).owesAt () t.castSucc from rfl, after_0, after_1, after_2, after_3, after_4,
    show (dats m hO 0 c).Φ t.succ = inv m hO c (t.val + 1) t.isLt from rfl, inv_succ m hO c t.val t.isLt t rfl, tables_eq]
  iintro ⟨⟨⟨HS0, HS1, HS2⟩, Hp⟩, ⟨HT0, HT1⟩, Ho, H0, H1, H2, H3, H4⟩
  iapply (body_run c (grid0.coords t) (ms0 m hO t) (hs0 m hO t) (ms1 m hO t) (hs1 m hO t) (ms2 m hO t) (hs2 m hO t) (ms3 m hO t) (hs3 m hO t) (ms4 m hO t) (hs4 m hO t)
    (iblk m hO c 0 t) (iblk m hO c 1 t) (iblk m hO c 2 t) (iblk m hO c 3 t) g u d (wgAt m hO c t) (wuAt m hO c t) (wdAt m hO c t) (outAt m hO c t) (tbl m 0) (tbl m 1)
    (fun _ => rfl) (fun _ => rfl) (fun _ => rfl) hk (fun h => if_pos h) (fun h => if_neg h) Set.univ (fun _ => _))
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HT0]; · iexact HT0
  isplitl [HT1]; · iexact HT1
  iintro ⟨H0, H1, H2, H3, H4, HS0, HS1, HS2, HT0, HT1⟩
  isplitl [HS0 HS1 HS2 Hp HT0 HT1]
  · isplitl [HS0 HS1 HS2 Hp]
    · isplitl [HS0 HS1 HS2]
      · isplitl [HS0]; · iexact HS0
        isplitl [HS1]; · iexact HS1
        iexact HS2
      iexact Hp
    isplitl [HT0]; · iexact HT0
    iexact HT1
  isplitl [Ho]; · iexact Ho
  isplitl [H0]; · iexact H0
  isplitl [H1]; · iexact H1
  isplitl [H2]; · iexact H2
  isplitl [H3]; · iexact H3
  iexact H4

set_option maxHeartbeats 1000000 in
/-- The body at any point: at the first it loads, whatever its own buffers hold; at a later one that does not load they hold its expert's weights already. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre
  simp only [before_0, before_1, before_2, before_3]
  have hN : t.val < 96 := lt_of_lt_of_eq t.isLt (show (cfgM m hO).N = 96 from N_0)
  rw [inv_castSucc m hO c t]
  by_cases hz : t.val = 0
  · rw [inv_zero m hO c _ _ hz, own_eq]
    iintro ⟨⟨⟨⟨⟨%g, HS0⟩, ⟨%u, HS1⟩, ⟨%d, HS2⟩⟩, Hp⟩, HT⟩, Ho, ⟨%_, H0⟩, ⟨%_, H1⟩, ⟨%_, H2⟩, ⟨%_, H3⟩, ⟨%y, H4⟩⟩
    iapply (body_step m hO c t g u d (fun h => absurd hz (keeps m c t h ⟨t.val, hN⟩ ⟨t.val - 1, by omega⟩ rfl rfl).1))
    isplitl [HS0 HS1 HS2 Hp]
    · isplitl [HS0 HS1 HS2]
      · isplitl [HS0]; · iexact HS0
        isplitl [HS1]; · iexact HS1
        iexact HS2
      iexact Hp
    isplitl [HT]; · iexact HT
    isplitl [Ho]; · iexact Ho
    isplitl [H0]; · iexact H0
    isplitl [H1]; · iexact H1
    isplitl [H2]; · iexact H2
    isplitl [H3]; · iexact H3
    iexists _; iexact H4
  · obtain ⟨k, hk⟩ : ∃ k, t.val = k + 1 := ⟨t.val - 1, by omega⟩
    have hkN : k < (cfgM m hO).N := by have := t.isLt; omega
    rw [show inv m hO c t.val (Nat.le_of_lt t.isLt) = inv m hO c (k + 1) (hk ▸ Nat.le_of_lt t.isLt) from by congr 1, inv_succ m hO c k _ ⟨k, hkN⟩ rfl]
    iintro ⟨⟨⟨⟨HS0, HS1, HS2⟩, Hp⟩, HT⟩, Ho, ⟨%_, H0⟩, ⟨%_, H1⟩, ⟨%_, H2⟩, ⟨%_, H3⟩, ⟨%y, H4⟩⟩
    iapply (body_step m hO c t (wgAt m hO c ⟨k, hkN⟩) (wuAt m hO c ⟨k, hkN⟩) (wdAt m hO c ⟨k, hkN⟩) (fun h => by
      have e := (keeps m c t h ⟨t.val, hN⟩ ⟨k, by omega⟩ rfl (by simp only; omega)).2
      exact ⟨congrArg k0_pay1 (same_1 m hO c t ⟨k, hkN⟩ _ _ rfl rfl e), congrArg k0_pay2 (same_2 m hO c t ⟨k, hkN⟩ _ _ rfl rfl e), congrArg k0_pay3 (same_3 m hO c t ⟨k, hkN⟩ _ _ rfl rfl e)⟩))
    isplitl [HS0 HS1 HS2 Hp]
    · isplitl [HS0 HS1 HS2]
      · isplitl [HS0]; · iexact HS0
        isplitl [HS1]; · iexact HS1
        iexact HS2
      iexact Hp
    isplitl [HT]; · iexact HT
    isplitl [Ho]; · iexact Ho
    isplitl [H0]; · iexact H0
    isplitl [H1]; · iexact H1
    isplitl [H2]; · iexact H2
    isplitl [H3]; · iexact H3
    iexists _; iexact H4

/-- The body table's row at a point is the body as spelt here. -/
theorem defs_row (hO : Ok m) (t : Fin (cfgM m hO).N) : defs₀ (F := F) .tc (cfgM m hO).body ((cfgM m hO).bodyArgs t ((cfgM m hO).slots t)) = bodyAt m hO t := by
  unfold defs₀; rw [Defs.onTc_tc]

/-- The output's block is stored at every point: one of the two conditions on the count holds. -/
theorem stored (hO : Ok m) (t : Fin (cfgM m hO).N) : (cfgM m hO).idle 4 ((cfgM m hO).grid.coords t) = false := by
  show (!(k0_cond2 (grid0.coords t) ((tbl m).atD 1 ![0]) == 1#1) && !(k0_cond3 (grid0.coords t) ((tbl m).atD 1 ![0]) == 1#1)) = false
  by_cases h : k0_cond2 (grid0.coords t) ((tbl m).atD 1 ![0]) = 1#1
  · rw [h]; rfl
  · rw [(cond3_iff _ _).mpr h]; simp

/-- The pipeline's obligation of the body, at every point. -/
theorem body_obligation (hO : Ok m) (c : Dev nD) : BodyObligation (dats (F := F) m hO 0 c) (defs₀ (F := F)) Variants.none () Set.univ := fun t => by
  rw [bigSep_W0, bigSep_W0, defs_row m hO]
  refine triple_restated (sound_body m hO c t) rfl .rfl fun _ => ?_
  have e : idle0 (tbl m) 4 ((pcfg0.gridAt (tbl m)).coords t) = false := stored m hO t
  simp only [e]
  exact .rfl

/-! ## The launch -/

/-- What the launch hands the region is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = inv m hO c 0 (Nat.zero_le _) from rfl, inv_zero m hO c 0 _ rfl]

/-- After the last point the kernel's own buffers are given back at any contents. -/
theorem hout (hO : Ok m) (c : Dev nD) : (dats m hO 0 c).Φ (Fin.last (cfgM m hO).N) ⊢ Pipeline.ΦA spec0 c := by
  have hN : (cfgM m hO).N = 95 + 1 := N_0
  rw [show (dats m hO 0 c).Φ (Fin.last (cfgM m hO).N) = inv m hO c (95 + 1) (le_of_eq hN.symm) from by
      dsimp only [dats]; congr 1, inv_succ m hO c 95 _ ⟨95, by omega⟩ rfl, own_eq]
  iintro ⟨⟨⟨HS0, HS1, HS2⟩, Hp⟩, -⟩
  isplitl [HS0 HS1 HS2]
  · isplitl [HS0]
    · iexists _; iexact HS0
    isplitl [HS1]
    · iexists _; iexact HS1
    iexists _; iexact HS2
  iexact Hp

set_option backward.isDefEq.respectTransparency.types false in
/-- The launch: every fair execution ends, with the arrays as the proof data says and every counter at zero. -/
theorem run_all (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := main_region m Variants.none) (hA := A_eq m hO) (hpf := tbl_eq m)
    (hin := hin m hO) (hout := hout m hO)

/-- The arguments end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 0).trans (((dats m hO 0 c).arrAt_in 0 rfl _).trans (A_eq m hO c 0)),
      (h.1 c).2 main_arg1 (by decide : main_arg1 ∈ Pipeline.restRefs sig spec0),
      (h.1 c).2 main_arg2 (by decide : main_arg2 ∈ Pipeline.restRefs sig spec0),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3))⟩) (run_all m ρ hO)

/-- The frame: every fair execution ends with the arguments unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_all m ρ hO))

end Cert.ExpertsKernelIdeal.Exp

end
-- ==== Proof.E.Spec.lean ====
module

public import proofs.«01_k».proof.Proof.Alg

@[expose] public section

noncomputable section

namespace Cert.Experts

open Idealize.ShloMosaic

/-- The inner product of a token's row with a weight's column. -/
def through {K J : ℕ} (x : Fin K → EReal) (w : Fin K → Fin J → EReal) (j : Fin J) : EReal := ∑ k : Fin K, x k * w k j

/-- An expert on a token's row, at a column: the gate's half through the logistic-weighted unit, times the other half, through the last weight. -/
def expert (x : Fin 1024 → EReal) (wg wu : Fin 1024 → Fin 512 → EReal) (wd : Fin 512 → Fin 1024 → EReal) (d : Fin 1024) : EReal :=
  ∑ f : Fin 512, through x wg f * Ideal.logistic (through x wg f) * through x wu f * wd f d

/-- The expert that a word of the table names. -/
def named (b : BitVec 32) : Fin 32 := ⟨min b.toInt.toNat 31, by omega⟩

/-- A word below the count of the experts names the expert of its number. -/
theorem named_val (b : BitVec 32) (h : b.toNat < 32) : (named b).val = b.toNat := by
  have e : b.toInt = (b.toNat : ℤ) := BitVec.toInt_eq_toNat_of_lt (by omega)
  show min b.toInt.toNat 31 = _
  rw [e, Int.toNat_natCast]
  omega

/-- The block of a row. -/
def blockOf (r : Fin 49152) : Fin 96 := ⟨r.val / 512, by omega⟩

/-- The call's output: a row of a used block through the block's expert, and zero in the others. -/
def ffn (x : Fin 49152 → Fin 1024 → EReal) (be : Fin 96 → BitVec 32) (nb : BitVec 32) (wg wu : Fin 32 → Fin 1024 → Fin 512 → EReal) (wd : Fin 32 → Fin 512 → Fin 1024 → EReal)
    (r : Fin 49152) (d : Fin 1024) : EReal :=
  if IntOp.cmpi .slt (BitVec.ofNat 32 (blockOf r).val) nb = 1#1 then expert (x r) (wg (named (be (blockOf r)))) (wu (named (be (blockOf r)))) (wd (named (be (blockOf r)))) d else 0

end Cert.Experts

end
-- ==== Proof.E.Value.lean ====
module

public import proofs.«01_k».proof.Proof.E.RunIdeal
public import proofs.«01_k».proof.Proof.E.Spec

@[expose] public section

noncomputable section

namespace Cert.ExpertsKernelIdeal.Exp

open Idealize.ShloMosaic Idealize.ShloMosaic.TcCoe Idealize.SL.Sem Idealize.ShloMosaic.StableHlo
open Cert.ExpertsKernelIdeal Cert.ExpertsKernelIdeal.Gen Cert.Experts

/-- The weights that a point keeps are those of its blocks. -/
theorem pay1_apply (v : FVec Ideal S1x1x1024x512 .f32) (k : Fin 1024) (f : Fin 512) : k0_pay1 (F := Ideal) v (ix2 k f) = v (ix4 0 0 k f) := by
  pointwise [k0_pay1]
/-- The up weights as the scratch holds them. -/
theorem pay2_apply (v : FVec Ideal S1x1x1024x512 .f32) (k : Fin 1024) (f : Fin 512) : k0_pay2 (F := Ideal) v (ix2 k f) = v (ix4 0 0 k f) := by
  pointwise [k0_pay2]
/-- The down weights as the scratch holds them. -/
theorem pay3_apply (v : FVec Ideal S1x1x512x1024 .f32) (f : Fin 512) (d : Fin 1024) : k0_pay3 (F := Ideal) v (ix2 f d) = v (ix4 0 0 f d) := by
  pointwise [k0_pay3]

/-- What a used point stores, at an index. -/
theorem pay4_apply (x : FVec Ideal S512x1024 .f32) (wg wu : FVec Ideal S1024x512 .bf16) (wd : FVec Ideal S512x1024 .bf16) (p : Fin 512) (d : Fin 1024) :
    k0_pay4 (F := Ideal) x wg wu wd (ix2 p d)
      = expert (fun k => x (ix2 p k)) (fun k f => wg (ix2 k f)) (fun k f => wu (ix2 k f)) (fun f d => wd (ix2 f d)) d := by
  pointwise [k0_pay4]
  refine Finset.sum_congr rfl fun f _ => ?_
  refine congrArg (· * wd (ix2 f d)) ?_
  refine congrArg₂ _ (congrArg₂ _ rfl ?_) rfl
  rw [← Cert.Lru.half_tanh_half, ← Cert.Lru.bits_half]
  rfl

/-- What an unused point stores. -/
theorem pay5_apply (p : Fin 512) (d : Fin 1024) : k0_pay5 (F := Ideal) (ix2 p d) = 0 := by
  pointwise [k0_pay5]

variable (m : (ℓ : Loc nD τ sig) → Buf (Elt Ideal) ℓ) (ρ : Dev nD → PrngReg) (hO : Ok m) (c : Dev nD)

/-- The blocks of the tokens and of the output: point `t` takes the rows of block `t`. -/
theorem token_index : ∀ t : Fin grid0.N, cc0_transform_0 (grid0.coords t) = ![t.val, 0] ∧ cc0_transform_4 (grid0.coords t) = ![t.val, 0] := by
  decide +kernel

/-- The tokens' block that a point reads. -/
theorem block_tokens (t : Fin (cfgM m hO).N) (p : Fin 512) (k : Fin 1024) (r : Fin 49152) (hr : r.val = t.val * 512 + p.val) :
    iblk m hO c 0 t (ix2 p k) = m ((c : Thread nD τ).loc main_arg0) (ix2 r k) := by
  have e : ((cfgM m hO).win 0).index t = ![t.val, 0] := (token_index t).1
  refine congrArg (V m c main_arg0) (funext fun a => Fin.ext ?_)
  blk_simp [e]
  fin_cases a <;> simp [hr]

/-- The weights' blocks that a point reads: those of the block's expert, of the first layer. -/
theorem block_gate (t : Fin (cfgM m hO).N) (n : Fin 96) (hn : n.val = t.val) (e : Fin 32) (he : e.val = (be m n).toNat) (k : Fin 1024) (f : Fin 512) :
    iblk m hO c 1 t (ix4 0 0 k f) = m ((c : Thread nD τ).loc main_arg3) (ix4 0 e k f) := by
  have q : ((cfgM m hO).win 1).index t = ![0, (be m n).toNat, 0, 0] := (weight_index m t n hn).1
  refine congrArg (V m c main_arg3) (funext fun a => Fin.ext ?_)
  rw [← he] at q
  blk_simp [q]
  fin_cases a <;> simp
/-- A block of the up weights is the matrix of the expert that the table names. -/
theorem block_up (t : Fin (cfgM m hO).N) (n : Fin 96) (hn : n.val = t.val) (e : Fin 32) (he : e.val = (be m n).toNat) (k : Fin 1024) (f : Fin 512) :
    iblk m hO c 2 t (ix4 0 0 k f) = m ((c : Thread nD τ).loc main_arg4) (ix4 0 e k f) := by
  have q : ((cfgM m hO).win 2).index t = ![0, (be m n).toNat, 0, 0] := (weight_index m t n hn).2.1
  refine congrArg (V m c main_arg4) (funext fun a => Fin.ext ?_)
  rw [← he] at q
  blk_simp [q]
  fin_cases a <;> simp
/-- A block of the down weights is the matrix of the expert that the table names. -/
theorem block_down (t : Fin (cfgM m hO).N) (n : Fin 96) (hn : n.val = t.val) (e : Fin 32) (he : e.val = (be m n).toNat) (f : Fin 512) (d : Fin 1024) :
    iblk m hO c 3 t (ix4 0 0 f d) = m ((c : Thread nD τ).loc main_arg5) (ix4 0 e f d) := by
  have q : ((cfgM m hO).win 3).index t = ![0, (be m n).toNat, 0, 0] := (weight_index m t n hn).2.2
  refine congrArg (V m c main_arg5) (funext fun a => Fin.ext ?_)
  rw [← he] at q
  blk_simp [q]
  fin_cases a <;> simp

/-- The array that the call returns: a used block's tokens through the block's expert, and zero elsewhere. -/
def result : FVec Ideal S49152x1024 .f32 := fun i =>
  ffn (fun r k => m ((c : Thread nD τ).loc main_arg0) (ix2 r k)) (fun n => m ((c : Thread nD τ).loc main_arg1) (Idealize.ShloMosaic.ix1 n)) (m ((c : Thread nD τ).loc main_arg2) (Idealize.ShloMosaic.ix1 0))
    (fun e k f => m ((c : Thread nD τ).loc main_arg3) (ix4 0 e k f)) (fun e k f => m ((c : Thread nD τ).loc main_arg4) (ix4 0 e k f)) (fun e f d => m ((c : Thread nD τ).loc main_arg5) (ix4 0 e f d)) (i 0) (i 1)

/-- What a point stores is its block of the result. -/
theorem out_apply (h : ∀ n, (be m n).toNat < 32) (t : Fin (cfgM m hO).N) (y : S512x1024.Idx) (i : S49152x1024.Idx) (h0 : (i 0).val = t.val * 512 + (y 0).val) (h1 : (i 1).val = (y 1).val) :
    outAt m hO c t y = result m c i := by
  obtain ⟨p, d, rfl⟩ : ∃ (p : Fin 512) (d : Fin 1024), y = ix2 p d := ⟨y 0, y 1, eq_ix2 y⟩
  obtain ⟨r, d', rfl⟩ : ∃ (r : Fin 49152) (d' : Fin 1024), i = ix2 r d' := ⟨i 0, i 1, eq_ix2 i⟩
  obtain rfl : d' = d := Fin.ext h1
  obtain rfl : c = 0 := Subsingleton.elim _ _
  have hr : r.val = t.val * 512 + p.val := h0
  have hp : p.val < 512 := p.isLt
  have hn : (blockOf r).val = t.val := by show r.val / 512 = _; omega
  have hb : m (((0 : Dev nD) : Thread nD τ).loc main_arg1) (Idealize.ShloMosaic.ix1 (blockOf r)) = be m (blockOf r) := rfl
  have hc : m (((0 : Dev nD) : Thread nD τ).loc main_arg2) (Idealize.ShloMosaic.ix1 0) = nb m := rfl
  have he := named_val (be m (blockOf r)) (h _)
  show _ = ffn _ _ _ _ _ _ r d'
  unfold ffn
  beta_reduce
  rw [hb, hc, hn]
  have hu : used 0 (grid0.coords t) (tbl m 1) ↔ IntOp.cmpi .slt (BitVec.ofNat 32 t.val) (nb m) = 1#1 := by
    unfold used
    rw [wordCount_eq]
    unfold k0_cond2
    dsimp only
    rw [(off_facts t).2.2.1]
    generalize BitVec.ofNat 32 t.val = a
    generalize nb m = b
    show IntOp.cmpi .ne (Scalar.extui (IntOp.cmpi .slt a b)) 0#32 = 1#1 ↔ _
    generalize IntOp.cmpi .slt a b = q
    revert q
    decide
  unfold outAt
  by_cases hq : used 0 (grid0.coords t) (tbl m 1)
  · rw [if_pos hq, if_pos (hu.mp hq)]
    have e0 : (fun k => iblk m hO 0 0 t (ix2 p k)) = fun k => m (((0 : Dev nD) : Thread nD τ).loc main_arg0) (ix2 r k) := funext fun k => block_tokens m hO 0 t p k r hr
    have e1 : (fun k f => wgAt m hO 0 t (ix2 k f)) = fun k f => m (((0 : Dev nD) : Thread nD τ).loc main_arg3) (ix4 0 (named (be m (blockOf r))) k f) :=
      funext fun k => funext fun f => (pay1_apply _ k f).trans (block_gate m hO 0 t _ hn _ he k f)
    have e2 : (fun k f => wuAt m hO 0 t (ix2 k f)) = fun k f => m (((0 : Dev nD) : Thread nD τ).loc main_arg4) (ix4 0 (named (be m (blockOf r))) k f) :=
      funext fun k => funext fun f => (pay2_apply _ k f).trans (block_up m hO 0 t _ hn _ he k f)
    have e3 : (fun f d => wdAt m hO 0 t (ix2 f d)) = fun f d => m (((0 : Dev nD) : Thread nD τ).loc main_arg5) (ix4 0 (named (be m (blockOf r))) f d) :=
      funext fun f => funext fun d => (pay3_apply _ f d).trans (block_down m hO 0 t _ hn _ he f d)
    exact (pay4_apply (iblk m hO 0 0 t) _ _ _ p d').trans (congrFun (congr (congr (congr (congrArg expert e0) e1) e2) e3) d')
  · rw [if_neg hq, if_neg (fun h' => hq (hu.mpr h')), pay5_apply]

/-- The output is written back at every point, -/
theorem flush_out (t : Fin (cfgM m hO).N) : ((cfgM m hO).win 4).flush t = true :=
  (Pipeline.Window.flushOf_reads cc0_transform_4 reads0_4 hreads0_4 0 (by decide) (by decide) (Pipeline.Window.sep_of_coord cc0_transform_4 0 0 (fun _ => rfl) (by decide)) (P := 1) (m := 0)
    (by decide) rfl t).mpr (Nat.mod_one _)

/-- and its blocks cover the array. -/
theorem covers_out : ((cfgM m hO).win 4).Covers := by
  have n0 : ((cfgM m hO).win 4).nblk (0 : Fin 2) = 96 := by
    show (49152 + 512 - 1) / 512 = 96
    norm_num
  have n1 : ((cfgM m hO).win 4).nblk (1 : Fin 2) = 1 := by
    show (1024 + 1024 - 1) / 1024 = 1
    norm_num
  refine ⟨fun a => ?_, fun β => ?_⟩
  · match a with
    | ⟨0, _⟩ => exact (by decide : 0 < 512)
    | ⟨1, _⟩ => exact (by decide : 0 < 1024)
  have h0 : (β (0 : Fin 2)).val < 96 := lt_of_lt_of_eq (β (0 : Fin 2)).isLt n0
  have h1 : (β (1 : Fin 2)).val < 1 := lt_of_lt_of_eq (β (1 : Fin 2)).isLt n1
  have e : ((cfgM m hO).win 4).index (⟨(β (0 : Fin 2)).val, h0⟩ : Fin grid0.N) = ![(β (0 : Fin 2)).val, 0] := (token_index ⟨(β (0 : Fin 2)).val, h0⟩).2
  refine ⟨(⟨(β (0 : Fin 2)).val, h0⟩ : Fin grid0.N), flush_out m hO _, fun a => ⟨(congrFun e a).trans ?_, Or.inl rfl⟩⟩
  match a with
  | ⟨0, _⟩ => rfl
  | ⟨1, _⟩ => exact (Nat.lt_one_iff.mp h1).symm

/-- The array after the last point. -/
theorem out_array (h : ∀ n, (be m n).toNat < 32) : (dats m hO 0 c).arrAt 4 (cfgM m hO).N = result m c := by
  refine (dats m hO 0 c).arrAt_eq_of_covers 4 _ (covers_out m hO) fun t hf y => ?_
  have e : ((cfgM m hO).win 4).index t = ![t.val, 0] := (token_index t).2
  blk_simp
  rw [after_4]
  refine out_apply m hO c h t y _ ?_ ?_
  · blk_simp [e]
  · blk_simp [e]

/-- The call returns the used blocks' tokens through their experts and leaves its arguments. -/
theorem run_result (h : ∀ n, (be m n).toNat < 32) : θ_run defs (onTc (τ := τ) (main (F := Ideal))) ⟨m, fun _ => 0, ρ⟩ fun r => ∀ c : Dev nD,
      r.2.mem ((c : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r q c => ⟨((q.1.1 c).1 4).trans (out_array m (ok_of_lt m h) c h), q.2 c⟩)
    (θ_run_and (run_all m ρ (ok_of_lt m h)) (unchanged m ρ (ok_of_lt m h)))

end Cert.ExpertsKernelIdeal.Exp

end
-- ==== Proof.E.Ref.lean ====
module

public import proofs.«01_k».proof.Proof.Gen.ExpertsReferenceIdeal.Run
public import proofs.«01_k».proof.Proof.E.Spec
public import Idealize.ShloMosaic.Adequacy
public import Idealize.ShloMosaic.Init
public import Idealize.ShloMosaic.Lib.ValueLayout
public import Idealize.ShloMosaic.Lib.Pipeline.ValueKit

@[expose] public section

noncomputable section

namespace Cert.ExpertsReferenceIdeal.Exp

open Idealize.ShloMosaic Idealize.ShloMosaic.TcCoe Idealize.SL.Sem Idealize.ShloMosaic.StableHlo
open Cert.ExpertsReferenceIdeal Cert.ExpertsReferenceIdeal.Gen Cert.Experts

/-- The slice of an expert's weight, as the gather reads it: of its start index only the expert moves the slice, since the slice is whole along the other axes. -/
theorem gather_up {α : Type} (x : S32x1024x512.Idx → α) (idx : IVec S96x3 32) (n : Fin 96) (k : Fin 1024) (f : Fin 512) :
    Host.gather gather_S32x1024x512_S96x3_S96x1x1024x512_123_n_n_n_012_1_11024512 x idx (ix4 n 0 k f) = x (ix3 (named (idx (ix2 n 0))) k f) := by
  unfold Host.gather
  refine congrArg x (funext fun a => Fin.ext ?_)
  show GatherDims.start _ _ idx a + GatherDims.batchCoord _ _ a + GatherDims.offCoord _ _ a = _
  rw [GatherDims.batchCoord_eq_zero _ _ _ (fun h => by simp [gather_S32x1024x512_S96x3_S96x1x1024x512_123_n_n_n_012_1_11024512] at h)]
  have ha : a = 0 ∨ a = 1 ∨ a = 2 := by
    match a with
    | ⟨0, _⟩ => exact .inl rfl
    | ⟨1, _⟩ => exact .inr (.inl rfl)
    | ⟨2, _⟩ => exact .inr (.inr rfl)
  unfold GatherDims.start
  rcases ha with rfl | rfl | rfl
  · rw [dif_pos (by decide)]
    have e : GatherDims.siIdx gather_S32x1024x512_S96x3_S96x1x1024x512_123_n_n_n_012_1_11024512 (ix4 n 0 k f) ⟨List.idxOf 0 _, List.idxOf_lt_length_iff.2 (by decide : (0 : Fin 3) ∈ ([0, 1, 2] : List (Fin 3)))⟩ = ix2 n 0 :=
      funext fun b => Fin.ext (match b with | ⟨0, _⟩ => rfl | ⟨1, _⟩ => rfl)
    exact congrArg (fun q => min (BitVec.toInt (idx q)).toNat 31) e
  · rw [dif_pos (by decide)]
    exact (congrArg (· + 0 + k.val) (Nat.min_zero _)).trans (by show 0 + 0 + k.val = k.val; omega)
  · rw [dif_pos (by decide)]
    exact (congrArg (· + 0 + f.val) (Nat.min_zero _)).trans (by show 0 + 0 + f.val = f.val; omega)
/-- The same of the last weight. -/
theorem gather_down {α : Type} (x : S32x512x1024.Idx → α) (idx : IVec S96x3 32) (n : Fin 96) (f : Fin 512) (d : Fin 1024) :
    Host.gather gather_S32x512x1024_S96x3_S96x1x512x1024_123_n_n_n_012_1_15121024 x idx (ix4 n 0 f d) = x (ix3 (named (idx (ix2 n 0))) f d) := by
  unfold Host.gather
  refine congrArg x (funext fun a => Fin.ext ?_)
  show GatherDims.start _ _ idx a + GatherDims.batchCoord _ _ a + GatherDims.offCoord _ _ a = _
  rw [GatherDims.batchCoord_eq_zero _ _ _ (fun h => by simp [gather_S32x512x1024_S96x3_S96x1x512x1024_123_n_n_n_012_1_15121024] at h)]
  have ha : a = 0 ∨ a = 1 ∨ a = 2 := by
    match a with
    | ⟨0, _⟩ => exact .inl rfl
    | ⟨1, _⟩ => exact .inr (.inl rfl)
    | ⟨2, _⟩ => exact .inr (.inr rfl)
  unfold GatherDims.start
  rcases ha with rfl | rfl | rfl
  · rw [dif_pos (by decide)]
    have e : GatherDims.siIdx gather_S32x512x1024_S96x3_S96x1x512x1024_123_n_n_n_012_1_15121024 (ix4 n 0 f d) ⟨List.idxOf 0 _, List.idxOf_lt_length_iff.2 (by decide : (0 : Fin 3) ∈ ([0, 1, 2] : List (Fin 3)))⟩ = ix2 n 0 :=
      funext fun b => Fin.ext (match b with | ⟨0, _⟩ => rfl | ⟨1, _⟩ => rfl)
    exact congrArg (fun q => min (BitVec.toInt (idx q)).toNat 31) e
  · rw [dif_pos (by decide)]
    exact (congrArg (· + 0 + f.val) (Nat.min_zero _)).trans (by show 0 + 0 + f.val = f.val; omega)
  · rw [dif_pos (by decide)]
    exact (congrArg (· + 0 + d.val) (Nat.min_zero _)).trans (by show 0 + 0 + d.val = d.val; omega)

/-- The start indices of the blocks' slices: the words of the table, and zeros. -/
def starts (be : IVec S96 32) (a b : BitVec 32) : IVec S96x3 32 :=
  concatenate S96x3 1
    [⟨S96x1, (broadcastInDim S96x1 ![0] bcast_S96_S96x1_0 (select (cmpi .slt be (broadcastInDim S96 ![] bcast_S_S96 (constantI S_ 32 0#32))) (addi be (broadcastInDim S96 ![] bcast_S_S96 (constantI S_ 32 32#32))) be))⟩,
     ⟨S96x1, (broadcastInDim S96x1 ![] bcast_S_S96x1 (select (cmpi .slt (constantI S_ 32 0#32) (constantI S_ 32 0#32)) (addi (constantI S_ 32 0#32) (constantI S_ 32 a)) (constantI S_ 32 0#32)))⟩,
     ⟨S96x1, (broadcastInDim S96x1 ![] bcast_S_S96x1 (select (cmpi .slt (constantI S_ 32 0#32) (constantI S_ 32 0#32)) (addi (constantI S_ 32 0#32) (constantI S_ 32 b)) (constantI S_ 32 0#32)))⟩]
    concatenates_S96x1_S96x1_S96x1_S96x3_d1

/-- A block's start index is its word of the table, where that names an expert. -/
theorem starts_apply (be : IVec S96 32) (a b : BitVec 32) (n : Fin 96) (h : (be (Idealize.ShloMosaic.ix1 n)).toNat < 32) : starts be a b (ix2 n 0) = be (Idealize.ShloMosaic.ix1 n) := by
  pointwise [starts]
  have e : (be (Idealize.ShloMosaic.ix1 n)).toInt = ((be (Idealize.ShloMosaic.ix1 n)).toNat : ℤ) := BitVec.toInt_eq_toNat_of_lt (by omega)
  have q : IntOp.cmpi .slt (be (Idealize.ShloMosaic.ix1 n)) 0#32 = 0#1 := by
    show BitVec.ofBool (decide ((be (Idealize.ShloMosaic.ix1 n)).toInt < (0#32).toInt)) = 0#1
    rw [e, decide_eq_false (by simp)]
    rfl
  rw [q]
  rfl

/-- The blocks' slices of a weight of the gate's shape. -/
def ups (w : FVec Ideal S4x32x1024x512 .f32) (be : IVec S96 32) : FVec Ideal S96x1024x512 .f32 :=
  shapeCast _ (Host.gather gather_S32x1024x512_S96x3_S96x1x1024x512_123_n_n_n_012_1_11024512
    (shapeCast _ (extractStridedSlice S1x32x1024x512 ![0, 0, 0, 0] w slices_S4x32x1024x512_S1x32x1024x512_0_0_0_0) shapeCasts_S1x32x1024x512_S32x1024x512) (starts be 1024#32 512#32)) shapeCasts_S96x1x1024x512_S96x1024x512

/-- A block's up weights are its expert's. -/
theorem ups_apply (w : FVec Ideal S4x32x1024x512 .f32) (be : IVec S96 32) (n : Fin 96) (h : (be (Idealize.ShloMosaic.ix1 n)).toNat < 32) (k : Fin 1024) (f : Fin 512) :
    ups w be (ix3 n k f) = w (ix4 0 (named (be (Idealize.ShloMosaic.ix1 n))) k f) := by
  unfold ups
  refine (shapeCast_apply _ _ (ix3 n k f) (ix4 n 0 k f) (by
    rw [Shape.rowMajor_val_three, Shape.rowMajor_val_four]
    show ((n.val * 1 + 0) * 1024 + k.val) * 512 + f.val = (n.val * 1024 + k.val) * 512 + f.val
    omega)).trans ?_
  rw [gather_up, starts_apply _ _ _ _ h]
  pointwise []

/-- The blocks' slices of the last weight. -/
def downs (w : FVec Ideal S4x32x512x1024 .f32) (be : IVec S96 32) : FVec Ideal S96x512x1024 .f32 :=
  shapeCast _ (Host.gather gather_S32x512x1024_S96x3_S96x1x512x1024_123_n_n_n_012_1_15121024
    (shapeCast _ (extractStridedSlice S1x32x512x1024 ![0, 0, 0, 0] w slices_S4x32x512x1024_S1x32x512x1024_0_0_0_0) shapeCasts_S1x32x512x1024_S32x512x1024) (starts be 512#32 1024#32)) shapeCasts_S96x1x512x1024_S96x512x1024

/-- A block's down weights are its expert's. -/
theorem downs_apply (w : FVec Ideal S4x32x512x1024 .f32) (be : IVec S96 32) (n : Fin 96) (h : (be (Idealize.ShloMosaic.ix1 n)).toNat < 32) (f : Fin 512) (d : Fin 1024) :
    downs w be (ix3 n f d) = w (ix4 0 (named (be (Idealize.ShloMosaic.ix1 n))) f d) := by
  unfold downs
  refine (shapeCast_apply _ _ (ix3 n f d) (ix4 n 0 f d) (by
    rw [Shape.rowMajor_val_three, Shape.rowMajor_val_four]
    show ((n.val * 1 + 0) * 512 + f.val) * 1024 + d.val = (n.val * 512 + f.val) * 1024 + d.val
    omega)).trans ?_
  rw [gather_down, starts_apply _ _ _ _ h]
  pointwise []

/-- The call's output from the blocks' weights. -/
def body (x : FVec Ideal S49152x1024 .f32) (nb : IVec S1 32) (U U' : FVec Ideal S96x1024x512 .f32) (D : FVec Ideal S96x512x1024 .f32) : FVec Ideal S49152x1024 .f32 :=
  shapeCast _ (select (broadcastInDim S96x512x1024 ![0, 1, 2] bcast_S96x1x1_S96x512x1024_0_1_2 (cmpi .slt (broadcastInDim S96x1x1 ![0] bcast_S96_S96x1x1_0 (iotaInDim S96 32 0)) (broadcastInDim S96x1x1 ![] bcast_S_S96x1x1 (shapeCast _ nb shapeCasts_S1_S_))))
    (Host.dotGeneral dot_S96x512x512_S96x512x1024_S96x512x1024_2_1_1_2_0_0 none
      (mulf (mulf (Host.dotGeneral dot_S96x512x1024_S96x1024x512_S96x512x512_2_1_1_2_0_0 none (shapeCast _ x shapeCasts_S49152x1024_S96x512x1024) U)
        (Host.divf (broadcastInDim S96x512x512 ![] bcast_S_S96x512x512 (constant S_ .f32 0x3F800000#32)) (addf (broadcastInDim S96x512x512 ![] bcast_S_S96x512x512 (constant S_ .f32 0x3F800000#32)) (Host.exp (Host.negf (Host.dotGeneral dot_S96x512x1024_S96x1024x512_S96x512x512_2_1_1_2_0_0 none (shapeCast _ x shapeCasts_S49152x1024_S96x512x1024) U))))))
        (Host.dotGeneral dot_S96x512x1024_S96x1024x512_S96x512x512_2_1_1_2_0_0 none (shapeCast _ x shapeCasts_S49152x1024_S96x512x1024) U')) D)
    (broadcastInDim S96x512x1024 ![] bcast_S_S96x512x1024 (id (constant S_ .f32 0x00000000#32)))) shapeCasts_S96x512x1024_S49152x1024

/-- A row of a block, of the tokens. -/
theorem tokens_apply (x : FVec Ideal S49152x1024 .f32) (r : Fin 49152) (p : Fin 512) (hp : p.val = r.val % 512) (k : Fin 1024) :
    shapeCast S96x512x1024 x shapeCasts_S49152x1024_S96x512x1024 (ix3 (blockOf r) p k) = x (ix2 r k) :=
  shapeCast_apply _ _ _ _ (by
    rw [Shape.rowMajor_val_three, Shape.rowMajor_val_two]
    show r.val * 1024 + k.val = (r.val / 512 * 512 + p.val) * 1024 + k.val
    omega)

/-- The output, at an index. -/
theorem body_apply (x : FVec Ideal S49152x1024 .f32) (nb : IVec S1 32) (U U' : FVec Ideal S96x1024x512 .f32) (D : FVec Ideal S96x512x1024 .f32) (r : Fin 49152) (d : Fin 1024) :
    body x nb U U' D (ix2 r d) = if IntOp.cmpi .slt (BitVec.ofNat 32 (blockOf r).val) (nb (Idealize.ShloMosaic.ix1 0)) = 1#1
      then expert (fun k => x (ix2 r k)) (fun k f => U (ix3 (blockOf r) k f)) (fun k f => U' (ix3 (blockOf r) k f)) (fun f d => D (ix3 (blockOf r) f d)) d else 0 := by
  unfold body
  have hp : (⟨r.val % 512, Nat.mod_lt _ (by decide)⟩ : Fin 512).val = r.val % 512 := rfl
  generalize (⟨r.val % 512, Nat.mod_lt _ (by decide)⟩ : Fin 512) = p at hp
  refine (shapeCast_apply _ _ (ix2 r d) (ix3 (blockOf r) p d) (by
    rw [Shape.rowMajor_val_three, Shape.rowMajor_val_two]
    show (r.val / 512 * 512 + p.val) * 1024 + d.val = r.val * 1024 + d.val
    omega)).trans ?_
  have hx := tokens_apply x r p hp
  generalize shapeCast S96x512x1024 x shapeCasts_S49152x1024_S96x512x1024 = X at hx
  pointwise []
  simp only [hx]
  have hz : id (constant (F := Ideal) S_ FTy.f32 0#32) Idealize.ShloMosaic.ix0 = 0 := by
    show constant (F := Ideal) S_ FTy.f32 0#32 Idealize.ShloMosaic.ix0 = 0
    pointwise []
  rw [hz]
  rfl

variable (m : (ℓ : Loc nD τ sig) → Buf (Elt Ideal) ℓ) (ρ : Dev nD → PrngReg)

/-- The array that the reference returns: a used block's tokens through the block's expert, and zero elsewhere. -/
def result (c : Dev nD) : FVec Ideal S49152x1024 .f32 := fun i =>
  ffn (fun r k => m ((c : Thread nD τ).loc main_arg0) (ix2 r k)) (fun n => m ((c : Thread nD τ).loc main_arg1) (Idealize.ShloMosaic.ix1 n)) (m ((c : Thread nD τ).loc main_arg2) (Idealize.ShloMosaic.ix1 0))
    (fun e k f => m ((c : Thread nD τ).loc main_arg3) (ix4 0 e k f)) (fun e k f => m ((c : Thread nD τ).loc main_arg4) (ix4 0 e k f)) (fun e f d => m ((c : Thread nD τ).loc main_arg5) (ix4 0 e f d)) (i 0) (i 1)

/-- The reference's value, where the table names experts. -/
theorem value_eq (c : Dev nD) (h : ∀ n : Fin 96, BitVec.toNat (m ((c : Thread nD τ).loc main_arg1) (Idealize.ShloMosaic.ix1 n)) < 32) : Value.res_main_v69 m c = result m c := by
  have e : Value.res_main_v69 m c = body (m ((c : Thread nD τ).loc main_arg0)) (m ((c : Thread nD τ).loc main_arg2)) (ups (m ((c : Thread nD τ).loc main_arg3)) (m ((c : Thread nD τ).loc main_arg1)))
      (ups (m ((c : Thread nD τ).loc main_arg4)) (m ((c : Thread nD τ).loc main_arg1))) (downs (m ((c : Thread nD τ).loc main_arg5)) (m ((c : Thread nD τ).loc main_arg1))) := rfl
  rw [e]
  funext i
  obtain ⟨r, d, rfl⟩ : ∃ (r : Fin 49152) (d : Fin 1024), i = ix2 r d := ⟨i 0, i 1, eq_ix2 i⟩
  refine (body_apply _ _ _ _ _ r d).trans ?_
  simp only [ups_apply _ _ _ (h _), downs_apply _ _ _ (h _)]
  rfl

/-- The reference returns the used blocks' tokens through their experts and leaves its arguments. -/
theorem run_result (h : ∀ (c : Dev nD) (n : Fin 96), BitVec.toNat (m ((c : Thread nD τ).loc main_arg1) (Idealize.ShloMosaic.ix1 n)) < 32) :
    θ_run defs (onTc (τ := τ) (main (F := Ideal))) ⟨m, fun _ => 0, ρ⟩ fun r => ∀ c : Dev nD,
      r.2.mem ((c : Thread nD τ).loc main_v69) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r q c => ⟨(q c).1.trans (value_eq m c (h c)), (q c).2⟩) (Value.run m ρ)

/-- The reference's arguments end unchanged and its counters at zero. -/
theorem frame : θ_run (defs (F := Ideal)) (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0 :=
  (θ_run defs _ _).mono (fun r h => ⟨fun c => (h c).2, sem_eq_zero_of_no_sems (by decide) r.2⟩) (Value.run m ρ)

end Cert.ExpertsReferenceIdeal.Exp

end
-- ==== Proof.E.Pre.lean ====
module

public import proofs.«01_k».proof.Proof.Gen.Pre_experts_named
public import Idealize.ShloMosaic.Lib.Pipeline.ValueKit

@[expose] public section

noncomputable section

namespace Cert.Experts

open Idealize.ShloMosaic

/-- A word that is, as a signed number, at least zero and less than the count of the experts is below that count. -/
theorem word_lt (b : BitVec 32) (h : IntOp.andi (IntOp.cmpi .sge b 0#32) (IntOp.cmpi .slt b 32#32) = 1#1) : b.toNat < 32 := by
  have h' : BitVec.ofBool (decide ((0#32 : BitVec 32).toInt ≤ b.toInt)) &&& BitVec.ofBool (decide (b.toInt < (32#32 : BitVec 32).toInt)) = 1#1 := h
  by_cases p : (0#32 : BitVec 32).toInt ≤ b.toInt
  · by_cases q : b.toInt < (32#32 : BitVec 32).toInt
    · have p' : (0 : ℤ) ≤ b.toInt := p
      have q' : b.toInt < (32 : ℤ) := q
      rw [BitVec.toInt_eq_toNat_cond] at p' q'
      have := b.isLt
      split at p' <;> omega
    · rw [decide_eq_false q] at h'
      refine absurd h' ?_
      generalize BitVec.ofBool (decide ((0#32 : BitVec 32).toInt ≤ b.toInt)) = a
      revert a
      decide
  · rw [decide_eq_false p] at h'
    refine absurd h' ?_
    generalize BitVec.ofBool (decide (b.toInt < (32#32 : BitVec 32).toInt)) = a
    revert a
    decide

/-- The precondition: every word of the table names an expert. -/
theorem words_lt {F : FTy → Type} [FloatOps F] (a0 : FVec F Pre_experts_named.S49152x1024 .f32) (a1 : IVec Pre_experts_named.S96 32) (a2 : IVec Pre_experts_named.S1 32)
    (a3 a4 : FVec F Pre_experts_named.S4x32x1024x512 .f32) (a5 : FVec F Pre_experts_named.S4x32x512x1024 .f32)
    (h : Pre_experts_named.fn (F := F) a0 a1 a2 a3 a4 a5 = fun _ => 1#1) (n : Fin 96) : (a1 (ix1 n)).toNat < 32 :=
  word_lt _ (congrFun h (ix1 n))

end Cert.Experts

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.ZKernel.Frame
public import proofs.«01_k».proof.Proof.Gen.ZKernelIdeal.Frame
public import proofs.«01_k».proof.Proof.Gen.ZKernelIdeal.Value
public import proofs.«01_k».proof.Proof.Gen.ZReferenceIdeal.Run
public import proofs.«01_k».proof.Proof.Gen.XbcKernel.Frame
public import proofs.«01_k».proof.Proof.Gen.XbcKernelIdeal.Frame
public import proofs.«01_k».proof.Proof.Gen.XbcKernelIdeal.Value
public import proofs.«01_k».proof.Proof.Gen.XbcReferenceIdeal.Run
public import proofs.«01_k».proof.Proof.Gen.GatesKernel.Frame
public import proofs.«01_k».proof.Proof.Gen.GatesKernelIdeal.Frame
public import proofs.«01_k».proof.Proof.Gen.GatesKernelIdeal.Value
public import proofs.«01_k».proof.Proof.Gen.GatesReferenceIdeal.Run
public import proofs.«01_k».proof.Proof.Gen.BranchKernel.Frame
public import proofs.«01_k».proof.Proof.Gen.BranchKernelIdeal.Frame
public import proofs.«01_k».proof.Proof.Gen.BranchKernelIdeal.Value
public import proofs.«01_k».proof.Proof.Gen.BranchReferenceIdeal.Run
public import proofs.«01_k».proof.Proof.Gen.DtKernel.Frame
public import proofs.«01_k».proof.Proof.Gen.DtKernelIdeal.Frame
public import proofs.«01_k».proof.Proof.Gen.DtKernelIdeal.Value
public import proofs.«01_k».proof.Proof.Gen.DtReferenceIdeal.Run
public import proofs.«01_k».proof.Proof.Gen.QkvKernel.Frame
public import proofs.«01_k».proof.Proof.Gen.QkvKernelIdeal.Frame
public import proofs.«01_k».proof.Proof.Gen.QkvKernelIdeal.Value
public import proofs.«01_k».proof.Proof.Gen.QkvReferenceIdeal.Run
public import proofs.«01_k».proof.Proof.Gen.MergeKernel.Frame
public import proofs.«01_k».proof.Proof.Gen.MergeKernelIdeal.Frame
public import proofs.«01_k».proof.Proof.Gen.MergeKernelIdeal.Value
public import proofs.«01_k».proof.Proof.Gen.MergeReferenceIdeal.Run
public import proofs.«01_k».proof.Proof.Gen.LastKernel.Frame
public import proofs.«01_k».proof.Proof.Gen.LastKernelIdeal.Frame
public import proofs.«01_k».proof.Proof.Gen.LastKernelIdeal.Value
public import proofs.«01_k».proof.Proof.Gen.LastReferenceIdeal.Run
public import proofs.«01_k».proof.Proof.Gen.NormKernel.Frame
public import proofs.«01_k».proof.Proof.Gen.NormKernelIdeal.Frame
public import proofs.«01_k».proof.Proof.Gen.NormKernelIdeal.Value
public import proofs.«01_k».proof.Proof.Gen.NormReferenceIdeal.Run
public import proofs.«01_k».proof.Proof.Gen.CondKernel.Frame
public import proofs.«01_k».proof.Proof.Gen.CondKernelIdeal.Frame
public import proofs.«01_k».proof.Proof.Gen.CondKernelIdeal.Value
public import proofs.«01_k».proof.Proof.Gen.CondReferenceIdeal.Run
public import proofs.«01_k».proof.Proof.Gen.RopeKernel.Frame
public import proofs.«01_k».proof.Proof.Gen.RopeKernelIdeal.Frame
public import proofs.«01_k».proof.Proof.Gen.RopeKernelIdeal.Value
public import proofs.«01_k».proof.Proof.Gen.RopeReferenceIdeal.Run
public import proofs.«01_k».proof.Proof.K.Body
public import proofs.«01_k».proof.Proof.KI.Result
public import proofs.«01_k».proof.Proof.R.Result
public import proofs.«01_k».proof.Proof.P.Z
public import proofs.«01_k».proof.Proof.P.Xbc
public import proofs.«01_k».proof.Proof.P.Gates
public import proofs.«01_k».proof.Proof.P.Branch
public import proofs.«01_k».proof.Proof.P.Dt
public import proofs.«01_k».proof.Proof.P.Qkv
public import proofs.«01_k».proof.Proof.P.Merge
public import proofs.«01_k».proof.Proof.P.Norms
public import proofs.«01_k».proof.Proof.Gen.ExpertsKernel.Skeleton
public import proofs.«01_k».proof.Proof.Gen.ExpertsKernel.Launch
public import proofs.«01_k».proof.Proof.Gen.ExpertsKernelIdeal.Skeleton
public import proofs.«01_k».proof.Proof.Gen.ExpertsKernelIdeal.Launch
public import proofs.«01_k».proof.Proof.Gen.ExpertsReferenceIdeal.Run
public import proofs.«01_k».proof.Proof.Gen.Pre_experts_named
public import proofs.«01_k».proof.Proof.P.Cond
public import proofs.«01_k».proof.Proof.P.Rope
public import proofs.«01_k».proof.Proof.E.Run
public import proofs.«01_k».proof.Proof.E.Value
public import proofs.«01_k».proof.Proof.E.Ref
public import proofs.«01_k».proof.Proof.E.Pre
public import Idealize.ShloMosaic.Adequacy
public import Idealize.ShloMosaic.Init

@[expose] public section

noncomputable section

namespace Cert.Proof

open Idealize.ShloMosaic Idealize.SL.Sem

/-- With equal arguments the kernel's result and the reference's are one array. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Lru.result m' c = Cert.KernelIdeal.Lru.result m c := by
  obtain ⟨h0, h1, h2, h3, h4, h5, h6, h7⟩ := h0
  unfold Cert.ReferenceIdeal.Lru.result
  rw [h0, h1, h2, h3, h4, h5, h6, h7]
  rfl

/-- The kernel and the reference end with one array. -/
theorem algebraic : Cert.algebraic_KernelIdeal_ReferenceIdeal := by
  intro m g m' g' _ h
  refine ⟨fun c => Cert.KernelIdeal.Lru.result m c, Cert.KernelIdeal.Lru.run_result m g, ?_⟩
  exact (θ_run Cert.ReferenceIdeal.defs _ _).mono (fun r hr c => ⟨(hr c).1.trans (result_eq m m' c (h c)), (hr c).2⟩) (Cert.ReferenceIdeal.Lru.run_result m' g')

/-- The columns that gate the state-space branch: the kernel and the reference end with one array. -/
theorem algebraicZ : Cert.algebraic_ZKernelIdeal_ZReferenceIdeal := by
  intro m g m' g' _ h
  refine ⟨fun c => Cert.ZKernelIdeal.Proj.result m c, Cert.ZKernelIdeal.Proj.run_result m g, ?_⟩
  refine (θ_run Cert.ZReferenceIdeal.defs _ _).mono (fun r hr c => ⟨(hr c).1.trans ?_, (hr c).2⟩) (Cert.ZReferenceIdeal.Proj.run_result m' g')
  rw [(h c).1, (h c).2]
  rfl

/-- The columns that feed the state-space branch. -/
theorem algebraicXbc : Cert.algebraic_XbcKernelIdeal_XbcReferenceIdeal := by
  intro m g m' g' _ h
  refine ⟨fun c => Cert.XbcKernelIdeal.Proj.result m c, Cert.XbcKernelIdeal.Proj.run_result m g, ?_⟩
  refine (θ_run Cert.XbcReferenceIdeal.defs _ _).mono (fun r hr c => ⟨(hr c).1.trans ?_, (hr c).2⟩) (Cert.XbcReferenceIdeal.Proj.run_result m' g')
  rw [(h c).1, (h c).2]
  rfl

/-- The columns of the merge gates. -/
theorem algebraicGates : Cert.algebraic_GatesKernelIdeal_GatesReferenceIdeal := by
  intro m g m' g' _ h
  refine ⟨fun c => Cert.GatesKernelIdeal.Proj.result m c, Cert.GatesKernelIdeal.Proj.run_result m g, ?_⟩
  refine (θ_run Cert.GatesReferenceIdeal.defs _ _).mono (fun r hr c => ⟨(hr c).1.trans ?_, (hr c).2⟩) (Cert.GatesReferenceIdeal.Proj.run_result m' g')
  rw [(h c).1, (h c).2]
  rfl

/-- The columns of the recurrent branch. -/
theorem algebraicBranch : Cert.algebraic_BranchKernelIdeal_BranchReferenceIdeal := by
  intro m g m' g' _ h
  refine ⟨fun c => Cert.BranchKernelIdeal.Proj.result m c, Cert.BranchKernelIdeal.Proj.run_result m g, ?_⟩
  refine (θ_run Cert.BranchReferenceIdeal.defs _ _).mono (fun r hr c => ⟨(hr c).1.trans ?_, (hr c).2⟩) (Cert.BranchReferenceIdeal.Proj.run_result m' g')
  rw [(h c).1, (h c).2]
  rfl

/-- The columns of the step sizes. -/
theorem algebraicDt : Cert.algebraic_DtKernelIdeal_DtReferenceIdeal := by
  intro m g m' g' _ h
  refine ⟨fun c => Cert.DtKernelIdeal.Proj.result m c, Cert.DtKernelIdeal.Proj.run_result m g, ?_⟩
  refine (θ_run Cert.DtReferenceIdeal.defs _ _).mono (fun r hr c => ⟨(hr c).1.trans ?_, (hr c).2⟩) (Cert.DtReferenceIdeal.Proj.run_result m' g')
  rw [(h c).1, (h c).2]
  rfl

/-- The queries, keys and values. -/
theorem algebraicQkv : Cert.algebraic_QkvKernelIdeal_QkvReferenceIdeal := by
  intro m g m' g' _ h
  refine ⟨fun c => Cert.QkvKernelIdeal.Proj.result m c, Cert.QkvKernelIdeal.Proj.run_result m g, ?_⟩
  refine (θ_run Cert.QkvReferenceIdeal.defs _ _).mono (fun r hr c => ⟨(hr c).1.trans ?_, (hr c).2⟩) (Cert.QkvReferenceIdeal.Proj.run_result m' g')
  rw [(h c).1, (h c).2]
  rfl

/-- The merged branches. -/
theorem algebraicMerge : Cert.algebraic_MergeKernelIdeal_MergeReferenceIdeal := by
  intro m g m' g' _ h
  refine ⟨fun c => Cert.MergeKernelIdeal.Proj.result m c, Cert.MergeKernelIdeal.Proj.run_result m g, ?_⟩
  refine (θ_run Cert.MergeReferenceIdeal.defs _ _).mono (fun r hr c => ⟨(hr c).1.trans ?_, (hr c).2⟩) (Cert.MergeReferenceIdeal.Proj.run_result m' g')
  obtain ⟨h0, h1, h2, h3, h4, h5, h6, h7, h8, h9⟩ := h c
  unfold Cert.MergeReferenceIdeal.Proj.result
  rw [h0, h1, h2, h3, h4, h5, h6, h7, h8, h9]
  rfl

/-- The last norm. -/
theorem algebraicLast : Cert.algebraic_LastKernelIdeal_LastReferenceIdeal := by
  intro m g m' g' _ h
  refine ⟨fun c => Cert.LastKernelIdeal.Proj.result m c, Cert.LastKernelIdeal.Proj.run_result m g, ?_⟩
  refine (θ_run Cert.LastReferenceIdeal.defs _ _).mono (fun r hr c => ⟨(hr c).1.trans ?_, (hr c).2⟩) (Cert.LastReferenceIdeal.Proj.run_result m' g')
  obtain ⟨h0, h1⟩ := h c
  unfold Cert.LastReferenceIdeal.Proj.result
  rw [h0, h1]
  rfl

/-- The norm with its modulation. -/
theorem algebraicNorm : Cert.algebraic_NormKernelIdeal_NormReferenceIdeal := by
  intro m g m' g' _ h
  refine ⟨fun c => Cert.NormKernelIdeal.Proj.result m c, Cert.NormKernelIdeal.Proj.run_result m g, ?_⟩
  refine (θ_run Cert.NormReferenceIdeal.defs _ _).mono (fun r hr c => ⟨(hr c).1.trans ?_, (hr c).2⟩) (Cert.NormReferenceIdeal.Proj.run_result m' g')
  obtain ⟨h0, h1, h2, h3⟩ := h c
  unfold Cert.NormReferenceIdeal.Proj.result
  rw [h0, h1, h2, h3]
  rfl

/-- The experts' feed-forward. -/
theorem algebraicExperts : Cert.algebraic_ExpertsKernelIdeal_ExpertsReferenceIdeal := by
  intro m g m' g' p h
  have hb : ∀ n, (Cert.ExpertsKernelIdeal.Exp.be m n).toNat < 32 := fun n => Cert.Experts.words_lt _ _ _ _ _ _ (p 0) n
  refine ⟨fun c => Cert.ExpertsKernelIdeal.Exp.result m c, Cert.ExpertsKernelIdeal.Exp.run_result m g hb, ?_⟩
  refine (θ_run Cert.ExpertsReferenceIdeal.defs _ _).mono (fun r hr c => ⟨(hr c).1.trans ?_, (hr c).2⟩)
    (Cert.ExpertsReferenceIdeal.Exp.run_result m' g' fun c n => ?_)
  · rw [(h c).2.1]
    exact Cert.Experts.words_lt _ _ _ _ _ _ (p c) n
  · obtain ⟨h0, h1, h2, h3, h4, h5⟩ := h c
    unfold Cert.ExpertsReferenceIdeal.Exp.result
    rw [h0, h1, h2, h3, h4, h5]
    rfl

/-- The conditioning of the four layers. -/
theorem algebraicCond : Cert.algebraic_CondKernelIdeal_CondReferenceIdeal := by
  intro m g m' g' _ h
  refine ⟨fun c => Cert.CondKernelIdeal.Proj.result m c, Cert.CondKernelIdeal.Proj.run_result m g, ?_⟩
  refine (θ_run Cert.CondReferenceIdeal.defs _ _).mono (fun r hr c => ⟨(hr c).1.trans ?_, (hr c).2⟩) (Cert.CondReferenceIdeal.Proj.run_result m' g')
  obtain ⟨h0, h1, h2⟩ := h c
  unfold Cert.CondReferenceIdeal.Proj.result
  rw [h0, h1, h2]
  rfl

/-- The tables of the rotary embedding. -/
theorem algebraicRope : Cert.algebraic_RopeKernelIdeal_RopeReferenceIdeal := by
  intro m g m' g' _ h
  refine ⟨fun c => Cert.RopeKernelIdeal.Proj.cosines m c, fun c => Cert.RopeKernelIdeal.Proj.sines m c, Cert.RopeKernelIdeal.Proj.run_result m g, ?_⟩
  refine (θ_run Cert.RopeReferenceIdeal.defs _ _).mono (fun r hr c => ⟨(hr c).1.trans ?_, (hr c).2.1.trans ?_, (hr c).2.2⟩) (Cert.RopeReferenceIdeal.Proj.run_result m' g')
  · unfold Cert.RopeReferenceIdeal.Proj.cosines
    rw [h c]
    rfl
  · unfold Cert.RopeReferenceIdeal.Proj.sines
    rw [h c]
    rfl

/-- Every claim of the certificate. -/
theorem claim : Cert.Claim :=
  ⟨Cert.Kernel.Gen.facts,
    Cert.KernelIdeal.Gen.facts,
    Cert.ReferenceIdeal.Gen.facts,
    Cert.ZKernel.Gen.facts,
    Cert.ZKernelIdeal.Gen.facts,
    Cert.ZReferenceIdeal.Gen.facts,
    Cert.XbcKernel.Gen.facts,
    Cert.XbcKernelIdeal.Gen.facts,
    Cert.XbcReferenceIdeal.Gen.facts,
    Cert.GatesKernel.Gen.facts,
    Cert.GatesKernelIdeal.Gen.facts,
    Cert.GatesReferenceIdeal.Gen.facts,
    Cert.BranchKernel.Gen.facts,
    Cert.BranchKernelIdeal.Gen.facts,
    Cert.BranchReferenceIdeal.Gen.facts,
    Cert.DtKernel.Gen.facts,
    Cert.DtKernelIdeal.Gen.facts,
    Cert.DtReferenceIdeal.Gen.facts,
    Cert.QkvKernel.Gen.facts,
    Cert.QkvKernelIdeal.Gen.facts,
    Cert.QkvReferenceIdeal.Gen.facts,
    Cert.MergeKernel.Gen.facts,
    Cert.MergeKernelIdeal.Gen.facts,
    Cert.MergeReferenceIdeal.Gen.facts,
    Cert.LastKernel.Gen.facts,
    Cert.LastKernelIdeal.Gen.facts,
    Cert.LastReferenceIdeal.Gen.facts,
    Cert.NormKernel.Gen.facts,
    Cert.NormKernelIdeal.Gen.facts,
    Cert.NormReferenceIdeal.Gen.facts,
    Cert.ExpertsKernel.Gen.facts,
    Cert.ExpertsKernelIdeal.Gen.facts,
    Cert.ExpertsReferenceIdeal.Gen.facts,
    Cert.CondKernel.Gen.facts,
    Cert.CondKernelIdeal.Gen.facts,
    Cert.CondReferenceIdeal.Gen.facts,
    Cert.RopeKernel.Gen.facts,
    Cert.RopeKernelIdeal.Gen.facts,
    Cert.RopeReferenceIdeal.Gen.facts,
    Cert.Pre_experts_named.Gen.facts,
    fun m ρ _ => Cert.Kernel.Lru.frame m ρ,
    fun m ρ _ => Cert.KernelIdeal.Lru.frame m ρ,
    fun m ρ _ => Cert.ReferenceIdeal.Lru.frame m ρ,
    fun m ρ _ => Cert.ZKernel.Gen.frame m ρ,
    fun m ρ _ => Cert.ZKernelIdeal.Gen.frame m ρ,
    fun m ρ _ => Cert.ZReferenceIdeal.Proj.frame m ρ,
    fun m ρ _ => Cert.XbcKernel.Gen.frame m ρ,
    fun m ρ _ => Cert.XbcKernelIdeal.Gen.frame m ρ,
    fun m ρ _ => Cert.XbcReferenceIdeal.Proj.frame m ρ,
    fun m ρ _ => Cert.GatesKernel.Gen.frame m ρ,
    fun m ρ _ => Cert.GatesKernelIdeal.Gen.frame m ρ,
    fun m ρ _ => Cert.GatesReferenceIdeal.Proj.frame m ρ,
    fun m ρ _ => Cert.BranchKernel.Gen.frame m ρ,
    fun m ρ _ => Cert.BranchKernelIdeal.Gen.frame m ρ,
    fun m ρ _ => Cert.BranchReferenceIdeal.Proj.frame m ρ,
    fun m ρ _ => Cert.DtKernel.Gen.frame m ρ,
    fun m ρ _ => Cert.DtKernelIdeal.Gen.frame m ρ,
    fun m ρ _ => Cert.DtReferenceIdeal.Proj.frame m ρ,
    fun m ρ _ => Cert.QkvKernel.Gen.frame m ρ,
    fun m ρ _ => Cert.QkvKernelIdeal.Gen.frame m ρ,
    fun m ρ _ => Cert.QkvReferenceIdeal.Proj.frame m ρ,
    fun m ρ _ => Cert.MergeKernel.Gen.frame m ρ,
    fun m ρ _ => Cert.MergeKernelIdeal.Gen.frame m ρ,
    fun m ρ _ => Cert.MergeReferenceIdeal.Proj.frame m ρ,
    fun m ρ _ => Cert.LastKernel.Gen.frame m ρ,
    fun m ρ _ => Cert.LastKernelIdeal.Gen.frame m ρ,
    fun m ρ _ => Cert.LastReferenceIdeal.Proj.frame m ρ,
    fun m ρ _ => Cert.NormKernel.Gen.frame m ρ,
    fun m ρ _ => Cert.NormKernelIdeal.Gen.frame m ρ,
    fun m ρ _ => Cert.NormReferenceIdeal.Proj.frame m ρ,
    fun m ρ p => Cert.ExpertsKernel.Exp.frame m ρ (Cert.ExpertsKernel.Exp.ok_of_lt m fun n => Cert.Experts.words_lt _ _ _ _ _ _ (p 0) n),
    fun m ρ p => Cert.ExpertsKernelIdeal.Exp.frame m ρ (Cert.ExpertsKernelIdeal.Exp.ok_of_lt m fun n => Cert.Experts.words_lt _ _ _ _ _ _ (p 0) n),
    fun m ρ _ => Cert.ExpertsReferenceIdeal.Exp.frame m ρ,
    fun m ρ _ => Cert.ExpertsReferenceIdeal.Exp.frame m ρ,
    fun m ρ _ => Cert.CondKernel.Gen.frame m ρ,
    fun m ρ _ => Cert.CondKernelIdeal.Gen.frame m ρ,
    fun m ρ _ => Cert.CondReferenceIdeal.Proj.frame m ρ,
    fun m ρ _ => Cert.RopeKernel.Gen.frame m ρ,
    fun m ρ _ => Cert.RopeKernelIdeal.Gen.frame m ρ,
    fun m ρ _ => Cert.RopeReferenceIdeal.Proj.frame m ρ,
    trivial, algebraic,
    trivial, algebraicZ,
    trivial, algebraicXbc,
    trivial, algebraicGates,
    trivial, algebraicBranch,
    trivial, algebraicDt,
    trivial, algebraicQkv,
    trivial, algebraicMerge,
    trivial, algebraicLast,
    trivial, algebraicNorm,
    trivial, algebraicExperts,
    trivial, algebraicCond,
    trivial, algebraicRope⟩

end Cert.Proof

end
